-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v49)) (v1 : (c : Dev Cert.KernelIdeal.nD) → Buf (Elt Ideal) ((c.tc : Thread Cert.KernelIdeal.nD Cert.KernelIdeal.τ).loc Cert.KernelIdeal.main_v52)) (v2 : (c : Dev Cert.KernelIdeal.nD) → Buf (Elt Ideal) ((c.tc : Thread Cert.KernelIdeal.nD Cert.KernelIdeal.τ).loc Cert.KernelIdeal.main_v46_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_v52) = v1 c
          ∧ r.2.mem ((c.tc : Thread Cert.KernelIdeal.nD Cert.KernelIdeal.τ).loc Cert.KernelIdeal.main_v46_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_v58) = v1 c
          ∧ r.2.mem ((c.tc : Thread Cert.ReferenceIdeal.nD Cert.ReferenceIdeal.τ).loc Cert.ReferenceIdeal.main_v41) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v15) = v0 c
          ∧ r.2.mem ((c.tc : Thread Cert.Reference2Ideal.nD Cert.Reference2Ideal.τ).loc Cert.Reference2Ideal.main_v13) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v16) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v5) = v0 c
          ∧ r.2.mem ((c.tc : Thread Cert.Reference9Ideal.nD Cert.Reference9Ideal.τ).loc Cert.Reference9Ideal.main_v18) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v18) = v0 c
          ∧ r.2.mem ((c.tc : Thread Cert.Reference10Ideal.nD Cert.Reference10Ideal.τ).loc Cert.Reference10Ideal.main_v19) = v1 c
          ∧ r.2.mem ((c.tc : Thread Cert.Reference10Ideal.nD Cert.Reference10Ideal.τ).loc Cert.Reference10Ideal.main_v20) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v3) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
-- ==== Pre_finite.lean ====
abbrev S8x8192x192 : Shape := ⟨3, ![8, 8192, 192]⟩
abbrev S8x8192x128 : Shape := ⟨3, ![8, 8192, 128]⟩
abbrev S_ : Shape := ⟨0, ![]⟩

class Facts : Prop where
  bcast_S_S8x8192x192 : S_.BroadcastsInDim S8x8192x192 (![] : Fin 0 → Fin S8x8192x192.rank)
  reducesTo_S8x8192x192_S_d0_1_2 : S8x8192x192.ReducesTo [0, 1, 2] S_
  h_S_ : 0 < S_.numel
  bcast_S_S8x8192x128 : S_.BroadcastsInDim S8x8192x128 (![] : Fin 0 → Fin S8x8192x128.rank)
  reducesTo_S8x8192x128_S_d0_1_2 : S8x8192x128.ReducesTo [0, 1, 2] S_

variable [Facts]

def fn_part1 {F : FTy → Type} [FloatOps F] (main_v13 : IVec S_ 1) (main_v16 : IVec S8x8192x128 1) : IVec S_ 1 :=
  let main_c_5 : IVec S_ 1 := constantI S_ 1 1#1
  let main_v17 : IVec S_ 1 := (fun x v => Host.reduce IntOp.andi x v reducesTo_S8x8192x128_S_d0_1_2 h_S_) main_v16 main_c_5
  let main_v18 : IVec S_ 1 := andi main_v13 main_v17
  main_v18

def fn {F : FTy → Type} [FloatOps F] (main_arg0 : FVec F S8x8192x192 .f32) (main_arg1 : FVec F S8x8192x192 .f32) (main_arg2 : FVec F S8x8192x128 .f32) (main_arg3 : FVec F S8x8192x128 .f32) : IVec S_ 1 :=
  let main_v0 : FVec F S8x8192x192 .f32 := Host.absf main_arg0
  let main_cst : FVec F S_ .f32 := constant S_ .f32 0x7F800000#32
  let main_v1 : FVec F S8x8192x192 .f32 := broadcastInDim S8x8192x192 ![] bcast_S_S8x8192x192 main_cst
  let main_v2 : IVec S8x8192x192 1 := cmpf .olt main_v0 main_v1
  let main_c : IVec S_ 1 := constantI S_ 1 1#1
  let main_v3 : IVec S_ 1 := (fun x v => Host.reduce IntOp.andi x v reducesTo_S8x8192x192_S_d0_1_2 h_S_) main_v2 main_c
  let main_v4 : FVec F S8x8192x192 .f32 := Host.absf main_arg1
  let main_cst_0 : FVec F S_ .f32 := constant S_ .f32 0x7F800000#32
  let main_v5 : FVec F S8x8192x192 .f32 := broadcastInDim S8x8192x192 ![] bcast_S_S8x8192x192 main_cst_0
  let main_v6 : IVec S8x8192x192 1 := cmpf .olt main_v4 main_v5
  let main_c_1 : IVec S_ 1 := constantI S_ 1 1#1
  let main_v7 : IVec S_ 1 := (fun x v => Host.reduce IntOp.andi x v reducesTo_S8x8192x192_S_d0_1_2 h_S_) main_v6 main_c_1
  let main_v8 : IVec S_ 1 := andi main_v3 main_v7
  let main_v9 : FVec F S8x8192x128 .f32 := Host.absf main_arg2
  let main_cst_2 : FVec F S_ .f32 := constant S_ .f32 0x7F800000#32
  let main_v10 : FVec F S8x8192x128 .f32 := broadcastInDim S8x8192x128 ![] bcast_S_S8x8192x128 main_cst_2
  let main_v11 : IVec S8x8192x128 1 := cmpf .olt main_v9 main_v10
  let main_c_3 : IVec S_ 1 := constantI S_ 1 1#1
  let main_v12 : IVec S_ 1 := (fun x v => Host.reduce IntOp.andi x v reducesTo_S8x8192x128_S_d0_1_2 h_S_) main_v11 main_c_3
  let main_v13 : IVec S_ 1 := andi main_v8 main_v12
  let main_v14 : FVec F S8x8192x128 .f32 := Host.absf main_arg3
  let main_cst_4 : FVec F S_ .f32 := constant S_ .f32 0x7F800000#32
  let main_v15 : FVec F S8x8192x128 .f32 := broadcastInDim S8x8192x128 ![] bcast_S_S8x8192x128 main_cst_4
  let main_v16 : IVec S8x8192x128 1 := cmpf .olt main_v14 main_v15
  fn_part1 (F := F) main_v13 main_v16
-- ==== Pre_finite2.lean ====
abbrev S8192x1024 : Shape := ⟨2, ![8192, 1024]⟩
abbrev S8192x2816 : Shape := ⟨2, ![8192, 2816]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bitsLt_bf16_f32 : FTy.bits .bf16 < FTy.bits .f32
  bcast_S_S8192x2816 : S_.BroadcastsInDim S8192x2816 (![] : Fin 0 → Fin S8192x2816.rank)
  reducesTo_S8192x2816_S_d0_1 : S8192x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn {F : FTy → Type} [FloatOps F] (main_arg0 : FVec F S8192x1024 .f32) (main_arg1 : FVec F S8192x2816 .bf16) (main_arg2 : FVec F S8192x2816 .bf16) (main_arg3 : FVec F S2816x1024 .bf16) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x2816 .f32 := (extf .f32 · bitsLt_bf16_f32) main_arg2
  let main_v5 : FVec F S8192x2816 .f32 := Host.absf main_v4
  let main_cst_0 : FVec F S_ .f32 := constant S_ .f32 0x7F800000#32
  let main_v6 : FVec F S8192x2816 .f32 := broadcastInDim S8192x2816 ![] bcast_S_S8192x2816 main_cst_0
  let main_v7 : IVec S8192x2816 1 := cmpf .olt main_v5 main_v6
  let main_c_1 : IVec S_ 1 := constantI S_ 1 1#1
  let main_v8 : IVec S_ 1 := (fun x v => Host.reduce IntOp.andi x v reducesTo_S8192x2816_S_d0_1 h_S_) main_v7 main_c_1
  let main_v9 : IVec S_ 1 := andi main_v3 main_v8
  let main_v10 : FVec F S2816x1024 .f32 := (extf .f32 · bitsLt_bf16_f32) main_arg3
  let main_v11 : FVec F S2816x1024 .f32 := Host.absf main_v10
  let main_cst_2 : FVec F S_ .f32 := constant S_ .f32 0x7F800000#32
  let main_v12 : FVec F S2816x1024 .f32 := broadcastInDim S2816x1024 ![] bcast_S_S2816x1024 main_cst_2
  let main_v13 : IVec S2816x1024 1 := cmpf .olt main_v11 main_v12
  let main_c_3 : IVec S_ 1 := constantI S_ 1 1#1
  let main_v14 : IVec S_ 1 := (fun x v => Host.reduce IntOp.andi x v reducesTo_S2816x1024_S_d0_1 h_S_) main_v13 main_c_3
  let main_v15 : IVec S_ 1 := andi main_v9 main_v14
  main_v15
-- ==== Kernel.lean ====
abbrev S8x8192x192 : Shape := ⟨3, ![8, 8192, 192]⟩
abbrev S8x8192x128 : Shape := ⟨3, ![8, 8192, 128]⟩
abbrev S10 : Shape := ⟨1, ![10]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8x8192x8192 : Shape := ⟨3, ![8, 8192, 8192]⟩
abbrev S8x8192 : Shape := ⟨2, ![8, 8192]⟩
abbrev S8x8192x1 : Shape := ⟨3, ![8, 8192, 1]⟩
abbrev S8x8192x256 : Shape := ⟨3, ![8, 8192, 256]⟩
abbrev S8x8192x126 : Shape := ⟨3, ![8, 8192, 126]⟩
abbrev S1x2048x256 : Shape := ⟨3, ![1, 2048, 256]⟩
abbrev S1 : Shape := ⟨1, ![1]⟩
abbrev S1x2048x128 : Shape := ⟨3, ![1, 2048, 128]⟩
abbrev S1x8192x256 : Shape := ⟨3, ![1, 8192, 256]⟩
abbrev S8192x256 : Shape := ⟨2, ![8192, 256]⟩
abbrev S2048x256 : Shape := ⟨2, ![2048, 256]⟩
abbrev S2048x128 : Shape := ⟨2, ![2048, 128]⟩
abbrev S1x256x256 : Shape := ⟨3, ![1, 256, 256]⟩
abbrev S256x256 : Shape := ⟨2, ![256, 256]⟩
abbrev S256x2048 : Shape := ⟨2, ![256, 2048]⟩
abbrev S1x256x128 : Shape := ⟨3, ![1, 256, 128]⟩
abbrev S256x128 : Shape := ⟨2, ![256, 128]⟩
abbrev S1x512x256 : Shape := ⟨3, ![1, 512, 256]⟩
abbrev S512x256 : Shape := ⟨2, ![512, 256]⟩
abbrev S256x512 : Shape := ⟨2, ![256, 512]⟩
abbrev S1x512x128 : Shape := ⟨3, ![1, 512, 128]⟩
abbrev S512x128 : Shape := ⟨2, ![512, 128]⟩
abbrev S1x768x256 : Shape := ⟨3, ![1, 768, 256]⟩
abbrev S768x256 : Shape := ⟨2, ![768, 256]⟩
abbrev S256x768 : Shape := ⟨2, ![256, 768]⟩
abbrev S1x768x128 : Shape := ⟨3, ![1, 768, 128]⟩
abbrev S768x128 : Shape := ⟨2, ![768, 128]⟩
abbrev S1x1024x256 : Shape := ⟨3, ![1, 1024, 256]⟩
abbrev S1024x256 : Shape := ⟨2, ![1024, 256]⟩
abbrev S256x1024 : Shape := ⟨2, ![256, 1024]⟩
abbrev S1x1024x128 : Shape := ⟨3, ![1, 1024, 128]⟩
abbrev S1024x128 : Shape := ⟨2, ![1024, 128]⟩
abbrev S1x1280x256 : Shape := ⟨3, ![1, 1280, 256]⟩
abbrev S1280x256 : Shape := ⟨2, ![1280, 256]⟩
abbrev S256x1280 : Shape := ⟨2, ![256, 1280]⟩
abbrev S1x1280x128 : Shape := ⟨3, ![1, 1280, 128]⟩
abbrev S1280x128 : Shape := ⟨2, ![1280, 128]⟩
abbrev S1x1536x256 : Shape := ⟨3, ![1, 1536, 256]⟩
abbrev S1536x256 : Shape := ⟨2, ![1536, 256]⟩
abbrev S256x1536 : Shape := ⟨2, ![256, 1536]⟩
abbrev S1x1536x128 : Shape := ⟨3, ![1, 1536, 128]⟩
abbrev S1536x128 : Shape := ⟨2, ![1536, 128]⟩
abbrev S1x1792x256 : Shape := ⟨3, ![1, 1792, 256]⟩
abbrev S1792x256 : Shape := ⟨2, ![1792, 256]⟩
abbrev S256x1792 : Shape := ⟨2, ![256, 1792]⟩
abbrev S1x1792x128 : Shape := ⟨3, ![1, 1792, 128]⟩
abbrev S1792x128 : Shape := ⟨2, ![1792, 128]⟩

abbrev nBuf : Space → Nat
  | .hbm => 93
  | .vmem => 16
  | .smem => 2
  | _ => 0

abbrev bufTy : (tb : Table) → Fin (tcTables nBuf tb) → BufTy
  | .hbm, ⟨0, _⟩ => ⟨S8x8192x192, .f32⟩
  | .hbm, ⟨1, _⟩ => ⟨S8x8192x192, .f32⟩
  | .hbm, ⟨2, _⟩ => ⟨S8x8192x128, .f32⟩
  | .hbm, ⟨3, _⟩ => ⟨S8x8192x128, .f32⟩
  | .hbm, ⟨4, _⟩ => ⟨S_, .f32⟩
  | .hbm, ⟨5, _⟩ => ⟨S_, .f32⟩
  | .hbm, ⟨6, _⟩ => ⟨S8192, .i32⟩
  | .hbm, ⟨7, _⟩ => ⟨S_, .i32⟩
  | .hbm, ⟨8, _⟩ => ⟨S_, .i32⟩
  | .hbm, ⟨9, _⟩ => ⟨S8192, .i32⟩
  | .hbm, ⟨10, _⟩ => ⟨S8192, .i32⟩
  | .hbm, ⟨11, _⟩ => ⟨S8192, .i32⟩
  | .hbm, ⟨12, _⟩ => ⟨S_, .i32⟩
  | .hbm, ⟨13, _⟩ => ⟨S8192, .i32⟩
  | .hbm, ⟨14, _⟩ => ⟨S8192, .i1⟩
  | .hbm, ⟨15, _⟩ => ⟨S8192, .i32⟩
  | .hbm, ⟨16, _⟩ => ⟨S8192, .i32⟩
  | .hbm, ⟨17, _⟩ => ⟨S_, .i32⟩
  | .hbm, ⟨18, _⟩ => ⟨S8192, .i32⟩
  | .hbm, ⟨19, _⟩ => ⟨S8192, .i1⟩
  | .hbm, ⟨20, _⟩ => ⟨S8192, .i1⟩
  | .hbm, ⟨21, _⟩ => ⟨S_, .i32⟩
  | .hbm, ⟨22, _⟩ => ⟨S8192, .i32⟩
  | .hbm, ⟨23, _⟩ => ⟨S8192, .i32⟩
  | .hbm, ⟨24, _⟩ => ⟨S8192, .i32⟩
  | .hbm, ⟨25, _⟩ => ⟨S1x8192, .i32⟩
  | .hbm, ⟨26, _⟩ => ⟨S8192x1, .i32⟩
  | .hbm, ⟨27, _⟩ => ⟨S8192x8192, .i32⟩
  | .hbm, ⟨28, _⟩ => ⟨S8192x8192, .i32⟩
  | .hbm, ⟨29, _⟩ => ⟨S8192x8192, .i1⟩
  | .hbm, ⟨30, _⟩ => ⟨S8x8192x8192, .f32⟩
  | .hbm, ⟨31, _⟩ => ⟨S_, .f32⟩
  | .hbm, ⟨32, _⟩ => ⟨S8x8192x8192, .f32⟩
  | .hbm, ⟨33, _⟩ => ⟨S8x8192x8192, .f32⟩
  | .hbm, ⟨34, _⟩ => ⟨S_, .f32⟩
  | .hbm, ⟨35, _⟩ => ⟨S_, .f32⟩
  | .hbm, ⟨36, _⟩ => ⟨S8x8192x8192, .i1⟩
  | .hbm, ⟨37, _⟩ => ⟨S8x8192x8192, .f32⟩
  | .hbm, ⟨38, _⟩ => ⟨S8x8192x8192, .f32⟩
  | .hbm, ⟨39, _⟩ => ⟨S_, .f32⟩
  | .hbm, ⟨40, _⟩ => ⟨S8x8192, .f32⟩
  | .hbm, ⟨41, _⟩ => ⟨S8x8192x1, .f32⟩
  | .hbm, ⟨42, _⟩ => ⟨S8x8192x8192, .f32⟩
  | .hbm, ⟨43, _⟩ => ⟨S8x8192x8192, .f32⟩
  | .hbm, ⟨44, _⟩ => ⟨S8x8192x8192, .f32⟩
  | .hbm, ⟨45, _⟩ => ⟨S_, .f32⟩
  | .hbm, ⟨46, _⟩ => ⟨S8x8192, .f32⟩
  | .hbm, ⟨47, _⟩ => ⟨S8x8192x1, .f32⟩
  | .hbm, ⟨48, _⟩ => ⟨S8x8192x8192, .f32⟩
  | .hbm, ⟨49, _⟩ => ⟨S8x8192x8192, .f32⟩
  | .hbm, ⟨50, _⟩ => ⟨S8x8192x128, .f32⟩
  | .hbm, ⟨51, _⟩ => ⟨S8x8192x1, .f32⟩
  | .hbm, ⟨52, _⟩ => ⟨S8x8192x1, .f32⟩
  | .hbm, ⟨53, _⟩ => ⟨S8x8192x1, .f32⟩
  | .hbm, ⟨54, _⟩ => ⟨S8x8192x1, .f32⟩
  | .hbm, ⟨55, _⟩ => ⟨S8x8192x128, .f32⟩
  | .hbm, ⟨56, _⟩ => ⟨S_, .f32⟩
  | .hbm, ⟨57, _⟩ => ⟨S8x8192, .f32⟩
  | .hbm, ⟨58, _⟩ => ⟨S8x8192x1, .f32⟩
  | .hbm, ⟨59, _⟩ => ⟨S_, .f32⟩
  | .hbm, ⟨60, _⟩ => ⟨S_, .f32⟩
  | .hbm, ⟨61, _⟩ => ⟨S8x8192x192, .f32⟩
  | .hbm, ⟨62, _⟩ => ⟨S8x8192x192, .f32⟩
  | .hbm, ⟨63, _⟩ => ⟨S_, .i32⟩
  | .hbm, ⟨64, _⟩ => ⟨S_, .f32⟩
  | .hbm, ⟨65, _⟩ => ⟨S8x8192x256, .f32⟩
  | .hbm, ⟨66, _⟩ => ⟨S8x8192x256, .bf16⟩
  | .hbm, ⟨67, _⟩ => ⟨S_, .i32⟩
  | .hbm, ⟨68, _⟩ => ⟨S_, .f32⟩
  | .hbm, ⟨69, _⟩ => ⟨S8x8192x256, .f32⟩
  | .hbm, ⟨70, _⟩ => ⟨S8x8192x256, .bf16⟩
  | .hbm, ⟨71, _⟩ => ⟨S_, .f32⟩
  | .hbm, ⟨72, _⟩ => ⟨S8x8192x128, .f32⟩
  | .hbm, ⟨73, _⟩ => ⟨S8x8192x256, .f32⟩
  | .hbm, ⟨74, _⟩ => ⟨S8x8192x256, .bf16⟩
  | .hbm, ⟨75, _⟩ => ⟨S8x8192x1, .bf16⟩
  | .hbm, ⟨76, _⟩ => ⟨S8x8192x1, .f32⟩
  | .hbm, ⟨77, _⟩ => ⟨S8x8192x1, .f32⟩
  | .hbm, ⟨78, _⟩ => ⟨S_, .f32⟩
  | .hbm, ⟨79, _⟩ => ⟨S8x8192x126, .f32⟩
  | .hbm, ⟨80, _⟩ => ⟨S8x8192x256, .f32⟩
  | .hbm, ⟨81, _⟩ => ⟨S8x8192x256, .bf16⟩
  | .hbm, ⟨82, _⟩ => ⟨S8x8192x128, .f32⟩
  | .hbm, ⟨83, _⟩ => ⟨S8x8192x256, .f32⟩
  | .hbm, ⟨84, _⟩ => ⟨S8x8192x256, .f32⟩
  | .hbm, ⟨85, _⟩ => ⟨S8x8192x128, .f32⟩
  | .hbm, ⟨86, _⟩ => ⟨S8x8192x192, .f32⟩
  | .hbm, ⟨87, _⟩ => ⟨S_, .f32⟩
  | .hbm, ⟨88, _⟩ => ⟨S8x8192x192, .f32⟩
  | .hbm, ⟨89, _⟩ => ⟨S8x8192x192, .f32⟩
  | .hbm, ⟨90, _⟩ => ⟨S8x8192x192, .f32⟩
  | .hbm, ⟨91, _⟩ => ⟨S8x8192x192, .f32⟩
  | .hbm, ⟨92, _⟩ => ⟨S8x8192x192, .f32⟩
  | .local _ .vmem, ⟨0, _⟩ => ⟨S1x2048x256, .bf16⟩
  | .local _ .vmem, ⟨1, _⟩ => ⟨S1x2048x256, .bf16⟩
  | .local _ .vmem, ⟨2, _⟩ => ⟨S1x2048x256, .bf16⟩
  | .local _ .vmem, ⟨3, _⟩ => ⟨S1x2048x256, .bf16⟩
  | .local _ .vmem, ⟨4, _⟩ => ⟨S1x2048x256, .bf16⟩
  | .local _ .vmem, ⟨5, _⟩ => ⟨S1x2048x256, .bf16⟩
  | .local _ .vmem, ⟨6, _⟩ => ⟨S1x2048x128, .f32⟩
  | .local _ .vmem, ⟨7, _⟩ => ⟨S1x2048x128, .f32⟩
  | .local _ .vmem, ⟨8, _⟩ => ⟨S1x2048x256, .bf16⟩
  | .local _ .vmem, ⟨9, _⟩ => ⟨S1x2048x256, .bf16⟩
  | .local _ .vmem, ⟨10, _⟩ => ⟨S1x8192x256, .f32⟩
  | .local _ .vmem, ⟨11, _⟩ => ⟨S1x8192x256, .f32⟩
  | .local _ .vmem, ⟨12, _⟩ => ⟨S1x2048x256, .f32⟩
  | .local _ .vmem, ⟨13, _⟩ => ⟨S1x2048x256, .f32⟩
  | .local _ .vmem, ⟨14, _⟩ => ⟨S1x2048x128, .f32⟩
  | .local _ .vmem, ⟨15, _⟩ => ⟨S1x2048x128, .f32⟩
  | .local _ .smem, ⟨0, _⟩ => ⟨S10, .i32⟩
  | .local _ .smem, ⟨1, _⟩ => ⟨S10, .i32⟩
  | _, _ => ⟨S8x8192x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_c_1 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_c : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_0 : Ref sig .tc := ⟨.hbm, 21, rfl⟩
abbrev main_call0_v12 : Ref sig .tc := ⟨.hbm, 22, rfl⟩
abbrev main_call0_v13 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_cst_2 : Ref sig .tc := ⟨.hbm, 31, rfl⟩
abbrev main_v9 : Ref sig .tc := ⟨.hbm, 32, rfl⟩
abbrev main_v10 : Ref sig .tc := ⟨.hbm, 33, rfl⟩
abbrev main_cst_3 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_v11 : Ref sig .tc := ⟨.hbm, 38, rfl⟩
abbrev main_cst_4 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_cst_5 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_cst_6 : Ref sig .tc := ⟨.hbm, 56, rfl⟩
abbrev main_v27 : Ref sig .tc := ⟨.hbm, 57, rfl⟩
abbrev main_v28 : Ref sig .tc := ⟨.hbm, 58, rfl⟩
abbrev main_cst_7 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_c_8 : Ref sig .tc := ⟨.hbm, 63, rfl⟩
abbrev main_call2_v0 : Ref sig .tc := ⟨.hbm, 64, rfl⟩
abbrev main_v32 : Ref sig .tc := ⟨.hbm, 65, rfl⟩
abbrev main_v33 : Ref sig .tc := ⟨.hbm, 66, rfl⟩
abbrev main_c_9 : Ref sig .tc := ⟨.hbm, 67, rfl⟩
abbrev main_call3_v0 : Ref sig .tc := ⟨.hbm, 68, rfl⟩
abbrev main_v34 : Ref sig .tc := ⟨.hbm, 69, rfl⟩
abbrev main_v35 : Ref sig .tc := ⟨.hbm, 70, rfl⟩
abbrev main_cst_10 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_cst_11 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46_0 : Ref sig .tc := ⟨.hbm, 83, rfl⟩
abbrev main_v46_1 : Ref sig .tc := ⟨.hbm, 84, rfl⟩
abbrev main_v46_2 : Ref sig .tc := ⟨.hbm, 85, rfl⟩
abbrev main_v47 : Ref sig .tc := ⟨.hbm, 86, rfl⟩
abbrev main_cst_12 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 10], ![false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_mult1 (v1 : BitVec 32) : BitVec 32 :=
  let c2048_i32 : BitVec 32 := 2048#32
  let v50 : BitVec 32 := Scalar.muli v1 c2048_i32
  let c0_i32_36 : BitVec 32 := 0#32
  let v51 : BitVec 32 := Scalar.addi v50 c0_i32_36
  v51
def k0_cond3 (v1 : BitVec 32) (v3 : BitVec 32) : BitVec 1 :=
  let v10 : BitVec 1 := Scalar.cmpi .slt v3 v1
  let v11 : BitVec 32 := Scalar.extui v10
  let c0_i32_2 : BitVec 32 := 0#32
  let v12 : BitVec 1 := Scalar.cmpi .ne v11 c0_i32_2
  v12

def k0_off2 (v1 : BitVec 32) (c0_i32_36 : BitVec 32) : Fin 3 → Nat :=
  let c0_37 : Index := 0#32
  let c2048_i32 : BitVec 32 := 2048#32
  let v50 : BitVec 32 := Scalar.muli v1 c2048_i32
  let v51 : BitVec 32 := Scalar.addi v50 c0_i32_36
  let v52 : BitVec 32 := v51
  let v53 : Index := Scalar.indexCast v52
  let c0_38 : Index := 0#32
  ![0, v53.toNat, 0]
def k0_mult2 (v1 : BitVec 32) : BitVec 32 :=
  let c2048_i32_75 : BitVec 32 := 2048#32
  let v96 : BitVec 32 := Scalar.muli v1 c2048_i32_75
  let c256_i32 : BitVec 32 := 256#32
  let v97 : BitVec 32 := Scalar.addi v96 c256_i32
  v97
def k0_mult3 (v1 : BitVec 32) : BitVec 32 :=
  let c2048_i32_114 : BitVec 32 := 2048#32
  let v142 : BitVec 32 := Scalar.muli v1 c2048_i32_114
  let c512_i32 : BitVec 32 := 512#32
  let v143 : BitVec 32 := Scalar.addi v142 c512_i32
  v143
def k0_mult4 (v1 : BitVec 32) : BitVec 32 :=
  let c2048_i32_153 : BitVec 32 := 2048#32
  let v188 : BitVec 32 := Scalar.muli v1 c2048_i32_153
  let c768_i32 : BitVec 32 := 768#32
  let v189 : BitVec 32 := Scalar.addi v188 c768_i32
  v189
def k0_mult5 (v1 : BitVec 32) : BitVec 32 :=
  let c2048_i32_192 : BitVec 32 := 2048#32
  let v234 : BitVec 32 := Scalar.muli v1 c2048_i32_192
  let c1024_i32 : BitVec 32 := 1024#32
  let v235 : BitVec 32 := Scalar.addi v234 c1024_i32
  v235
def k0_mult6 (v1 : BitVec 32) : BitVec 32 :=
  let c2048_i32_231 : BitVec 32 := 2048#32
  let v280 : BitVec 32 := Scalar.muli v1 c2048_i32_231
  let c1280_i32 : BitVec 32 := 1280#32
  let v281 : BitVec 32 := Scalar.addi v280 c1280_i32
  v281
def k0_mult7 (v1 : BitVec 32) : BitVec 32 :=
  let c2048_i32_270 : BitVec 32 := 2048#32
  let v326 : BitVec 32 := Scalar.muli v1 c2048_i32_270
  let c1536_i32 : BitVec 32 := 1536#32
  let v327 : BitVec 32 := Scalar.addi v326 c1536_i32
  v327
def k0_mult8 (v1 : BitVec 32) : BitVec 32 :=
  let c2048_i32_309 : BitVec 32 := 2048#32
  let v372 : BitVec 32 := Scalar.muli v1 c2048_i32_309
  let c1792_i32 : BitVec 32 := 1792#32
  let v373 : BitVec 32 := Scalar.addi v372 c1792_i32
  v373
def k0_mult9 (v1 : BitVec 32) : BitVec 32 :=
  let c2048_i32 : BitVec 32 := 2048#32
  let v61 : BitVec 32 := Scalar.muli v1 c2048_i32
  let c0_i32_39 : BitVec 32 := 0#32
  let v62 : BitVec 32 := Scalar.addi v61 c0_i32_39
  v62
def k0_cond4 (v1 : BitVec 32) (v3 : BitVec 32) : BitVec 1 :=
  let v13 : BitVec 1 := Scalar.cmpi .eq v3 v1
  let v14 : BitVec 32 := Scalar.extui v13
  let c0_i32_3 : BitVec 32 := 0#32
  let v15 : BitVec 1 := Scalar.cmpi .ne v14 c0_i32_3
  v15

def k0_off3 (v1 : BitVec 32) (c0_i32_39 : BitVec 32) : Fin 3 → Nat :=
  let c0_40 : Index := 0#32
  let c2048_i32 : BitVec 32 := 2048#32
  let v61 : BitVec 32 := Scalar.muli v1 c2048_i32
  let v62 : BitVec 32 := Scalar.addi v61 c0_i32_39
  let v63 : BitVec 32 := v62
  let v64 : Index := Scalar.indexCast v63
  let c0_41 : Index := 0#32
  ![0, v64.toNat, 0]
def k0_mult10 (v1 : BitVec 32) : BitVec 32 :=
  let c2048_i32_81 : BitVec 32 := 2048#32
  let v118 : BitVec 32 := Scalar.muli v1 c2048_i32_81
  let c256_i32_82 : BitVec 32 := 256#32
  let v119 : BitVec 32 := Scalar.addi v118 c256_i32_82
  v119
def k0_mult11 (v1 : BitVec 32) : BitVec 32 :=
  let c2048_i32_124 : BitVec 32 := 2048#32
  let v175 : BitVec 32 := Scalar.muli v1 c2048_i32_124
  let c512_i32_125 : BitVec 32 := 512#32
  let v176 : BitVec 32 := Scalar.addi v175 c512_i32_125
  v176
def k0_mult12 (v1 : BitVec 32) : BitVec 32 :=
  let c2048_i32_167 : BitVec 32 := 2048#32
  let v232 : BitVec 32 := Scalar.muli v1 c2048_i32_167
  let c768_i32_168 : BitVec 32 := 768#32
  let v233 : BitVec 32 := Scalar.addi v232 c768_i32_168
  v233
def k0_mult13 (v1 : BitVec 32) : BitVec 32 :=
  let c2048_i32_210 : BitVec 32 := 2048#32
  let v289 : BitVec 32 := Scalar.muli v1 c2048_i32_210
  let c1024_i32_211 : BitVec 32 := 1024#32
  let v290 : BitVec 32 := Scalar.addi v289 c1024_i32_211
  v290
def k0_mult14 (v1 : BitVec 32) : BitVec 32 :=
  let c2048_i32_253 : BitVec 32 := 2048#32
  let v346 : BitVec 32 := Scalar.muli v1 c2048_i32_253
  let c1280_i32_254 : BitVec 32 := 1280#32
  let v347 : BitVec 32 := Scalar.addi v346 c1280_i32_254
  v347
def k0_mult15 (v1 : BitVec 32) : BitVec 32 :=
  let c2048_i32_296 : BitVec 32 := 2048#32
  let v403 : BitVec 32 := Scalar.muli v1 c2048_i32_296
  let c1536_i32_297 : BitVec 32 := 1536#32
  let v404 : BitVec 32 := Scalar.addi v403 c1536_i32_297
  v404
def k0_mult16 (v1 : BitVec 32) : BitVec 32 :=
  let c2048_i32_339 : BitVec 32 := 2048#32
  let v460 : BitVec 32 := Scalar.muli v1 c2048_i32_339
  let c1792_i32_340 : BitVec 32 := 1792#32
  let v461 : BitVec 32 := Scalar.addi v460 c1792_i32_340
  v461

def k0_chk1 (v1 : BitVec 32) (v3 : BitVec 32) : Prop :=
  (∀ (k0_h3 : k0_cond3 v1 v3 = 1#1), 256 ∣ (k0_mult1 v1).toNat) ∧
  (∀ (k0_h3 : k0_cond3 v1 v3 = 1#1), ∀ (r : Fin 8), ∀ a, (k0_off2 v1 (BitVec.ofNat 32 (256 * r.val))) a + S1x256x256.size a ≤ S1x8192x256.size a) ∧
  (∀ (k0_h3 : k0_cond3 v1 v3 = 1#1), 256 ∣ (k0_mult2 v1).toNat) ∧
  (∀ (k0_h3 : k0_cond3 v1 v3 = 1#1), 256 ∣ (k0_mult3 v1).toNat) ∧
  (∀ (k0_h3 : k0_cond3 v1 v3 = 1#1), 256 ∣ (k0_mult4 v1).toNat) ∧
  (∀ (k0_h3 : k0_cond3 v1 v3 = 1#1), 256 ∣ (k0_mult5 v1).toNat) ∧
  (∀ (k0_h3 : k0_cond3 v1 v3 = 1#1), 256 ∣ (k0_mult6 v1).toNat) ∧
  (∀ (k0_h3 : k0_cond3 v1 v3 = 1#1), 256 ∣ (k0_mult7 v1).toNat) ∧
  (∀ (k0_h3 : k0_cond3 v1 v3 = 1#1), 256 ∣ (k0_mult8 v1).toNat) ∧
  (∀ (k0_h4 : k0_cond4 v1 v3 = 1#1), 256 ∣ (k0_mult9 v1).toNat) ∧
  (∀ (k0_h4 : k0_cond4 v1 v3 = 1#1), ∀ (r : Fin 8), ∀ a, (k0_off3 v1 (BitVec.ofNat 32 (256 * r.val))) a + S1x256x256.size a ≤ S1x8192x256.size a) ∧
  (∀ (k0_h4 : k0_cond4 v1 v3 = 1#1), 256 ∣ (k0_mult10 v1).toNat) ∧
  (∀ (k0_h4 : k0_cond4 v1 v3 = 1#1), 256 ∣ (k0_mult11 v1).toNat) ∧
  (∀ (k0_h4 : k0_cond4 v1 v3 = 1#1), 256 ∣ (k0_mult12 v1).toNat) ∧
  (∀ (k0_h4 : k0_cond4 v1 v3 = 1#1), 256 ∣ (k0_mult13 v1).toNat) ∧
  (∀ (k0_h4 : k0_cond4 v1 v3 = 1#1), 256 ∣ (k0_mult14 v1).toNat) ∧
  (∀ (k0_h4 : k0_cond4 v1 v3 = 1#1), 256 ∣ (k0_mult15 v1).toNat) ∧
  (∀ (k0_h4 : k0_cond4 v1 v3 = 1#1), 256 ∣ (k0_mult16 v1).toNat)
theorem k0_mult1_dvd : ∀ (v1 : BitVec 32) (v3 : BitVec 32) (k0_hw1 : k0_chk1 v1 v3), ∀ (k0_h3 : k0_cond3 v1 v3 = 1#1), 256 ∣ (k0_mult1 v1).toNat := fun v1 v3 k0_hw1 k0_h3 => k0_hw1.1 k0_h3
theorem k0_off2_inb : ∀ (v1 : BitVec 32) (v3 : BitVec 32) (k0_hw1 : k0_chk1 v1 v3), ∀ (k0_h3 : k0_cond3 v1 v3 = 1#1), ∀ (r : Fin 8), ∀ a, (k0_off2 v1 (BitVec.ofNat 32 (256 * r.val))) a + S1x256x256.size a ≤ S1x8192x256.size a := fun v1 v3 k0_hw1 k0_h3 r => k0_hw1.2.1 k0_h3 r
theorem k0_mult2_dvd : ∀ (v1 : BitVec 32) (v3 : BitVec 32) (k0_hw1 : k0_chk1 v1 v3), ∀ (k0_h3 : k0_cond3 v1 v3 = 1#1), 256 ∣ (k0_mult2 v1).toNat := fun v1 v3 k0_hw1 k0_h3 => k0_hw1.2.2.1 k0_h3
theorem k0_mult3_dvd : ∀ (v1 : BitVec 32) (v3 : BitVec 32) (k0_hw1 : k0_chk1 v1 v3), ∀ (k0_h3 : k0_cond3 v1 v3 = 1#1), 256 ∣ (k0_mult3 v1).toNat := fun v1 v3 k0_hw1 k0_h3 => k0_hw1.2.2.2.1 k0_h3
theorem k0_mult4_dvd : ∀ (v1 : BitVec 32) (v3 : BitVec 32) (k0_hw1 : k0_chk1 v1 v3), ∀ (k0_h3 : k0_cond3 v1 v3 = 1#1), 256 ∣ (k0_mult4 v1).toNat := fun v1 v3 k0_hw1 k0_h3 => k0_hw1.2.2.2.2.1 k0_h3
theorem k0_mult5_dvd : ∀ (v1 : BitVec 32) (v3 : BitVec 32) (k0_hw1 : k0_chk1 v1 v3), ∀ (k0_h3 : k0_cond3 v1 v3 = 1#1), 256 ∣ (k0_mult5 v1).toNat := fun v1 v3 k0_hw1 k0_h3 => k0_hw1.2.2.2.2.2.1 k0_h3
theorem k0_mult6_dvd : ∀ (v1 : BitVec 32) (v3 : BitVec 32) (k0_hw1 : k0_chk1 v1 v3), ∀ (k0_h3 : k0_cond3 v1 v3 = 1#1), 256 ∣ (k0_mult6 v1).toNat := fun v1 v3 k0_hw1 k0_h3 => k0_hw1.2.2.2.2.2.2.1 k0_h3
theorem k0_mult7_dvd : ∀ (v1 : BitVec 32) (v3 : BitVec 32) (k0_hw1 : k0_chk1 v1 v3), ∀ (k0_h3 : k0_cond3 v1 v3 = 1#1), 256 ∣ (k0_mult7 v1).toNat := fun v1 v3 k0_hw1 k0_h3 => k0_hw1.2.2.2.2.2.2.2.1 k0_h3
theorem k0_mult8_dvd : ∀ (v1 : BitVec 32) (v3 : BitVec 32) (k0_hw1 : k0_chk1 v1 v3), ∀ (k0_h3 : k0_cond3 v1 v3 = 1#1), 256 ∣ (k0_mult8 v1).toNat := fun v1 v3 k0_hw1 k0_h3 => k0_hw1.2.2.2.2.2.2.2.2.1 k0_h3
theorem k0_mult9_dvd : ∀ (v1 : BitVec 32) (v3 : BitVec 32) (k0_hw1 : k0_chk1 v1 v3), ∀ (k0_h4 : k0_cond4 v1 v3 = 1#1), 256 ∣ (k0_mult9 v1).toNat := fun v1 v3 k0_hw1 k0_h4 => k0_hw1.2.2.2.2.2.2.2.2.2.1 k0_h4
theorem k0_off3_inb : ∀ (v1 : BitVec 32) (v3 : BitVec 32) (k0_hw1 : k0_chk1 v1 v3), ∀ (k0_h4 : k0_cond4 v1 v3 = 1#1), ∀ (r : Fin 8), ∀ a, (k0_off3 v1 (BitVec.ofNat 32 (256 * r.val))) a + S1x256x256.size a ≤ S1x8192x256.size a := fun v1 v3 k0_hw1 k0_h4 r => k0_hw1.2.2.2.2.2.2.2.2.2.2.1 k0_h4 r
theorem k0_mult10_dvd : ∀ (v1 : BitVec 32) (v3 : BitVec 32) (k0_hw1 : k0_chk1 v1 v3), ∀ (k0_h4 : k0_cond4 v1 v3 = 1#1), 256 ∣ (k0_mult10 v1).toNat := fun v1 v3 k0_hw1 k0_h4 => k0_hw1.2.2.2.2.2.2.2.2.2.2.2.1 k0_h4
theorem k0_mult11_dvd : ∀ (v1 : BitVec 32) (v3 : BitVec 32) (k0_hw1 : k0_chk1 v1 v3), ∀ (k0_h4 : k0_cond4 v1 v3 = 1#1), 256 ∣ (k0_mult11 v1).toNat := fun v1 v3 k0_hw1 k0_h4 => k0_hw1.2.2.2.2.2.2.2.2.2.2.2.2.1 k0_h4
theorem k0_mult12_dvd : ∀ (v1 : BitVec 32) (v3 : BitVec 32) (k0_hw1 : k0_chk1 v1 v3), ∀ (k0_h4 : k0_cond4 v1 v3 = 1#1), 256 ∣ (k0_mult12 v1).toNat := fun v1 v3 k0_hw1 k0_h4 => k0_hw1.2.2.2.2.2.2.2.2.2.2.2.2.2.1 k0_h4
theorem k0_mult13_dvd : ∀ (v1 : BitVec 32) (v3 : BitVec 32) (k0_hw1 : k0_chk1 v1 v3), ∀ (k0_h4 : k0_cond4 v1 v3 = 1#1), 256 ∣ (k0_mult13 v1).toNat := fun v1 v3 k0_hw1 k0_h4 => k0_hw1.2.2.2.2.2.2.2.2.2.2.2.2.2.2.1 k0_h4
theorem k0_mult14_dvd : ∀ (v1 : BitVec 32) (v3 : BitVec 32) (k0_hw1 : k0_chk1 v1 v3), ∀ (k0_h4 : k0_cond4 v1 v3 = 1#1), 256 ∣ (k0_mult14 v1).toNat := fun v1 v3 k0_hw1 k0_h4 => k0_hw1.2.2.2.2.2.2.2.2.2.2.2.2.2.2.2.1 k0_h4
theorem k0_mult15_dvd : ∀ (v1 : BitVec 32) (v3 : BitVec 32) (k0_hw1 : k0_chk1 v1 v3), ∀ (k0_h4 : k0_cond4 v1 v3 = 1#1), 256 ∣ (k0_mult15 v1).toNat := fun v1 v3 k0_hw1 k0_h4 => k0_hw1.2.2.2.2.2.2.2.2.2.2.2.2.2.2.2.2.1 k0_h4
theorem k0_mult16_dvd : ∀ (v1 : BitVec 32) (v3 : BitVec 32) (k0_hw1 : k0_chk1 v1 v3), ∀ (k0_h4 : k0_cond4 v1 v3 = 1#1), 256 ∣ (k0_mult16 v1).toNat := fun v1 v3 k0_hw1 k0_h4 => k0_hw1.2.2.2.2.2.2.2.2.2.2.2.2.2.2.2.2.2 k0_h4

def k0_cond1 (i : grid0.Coords) : BitVec 1 :=
  let arg1 : BitVec 32 := BitVec.ofNat 32 (i 1).val
  let c0_i32 : BitVec 32 := 0#32
  let v4 : BitVec 1 := Scalar.cmpi .eq arg1 c0_i32
  let v5 : BitVec 32 := Scalar.extui v4
  let c0_i32_0 : BitVec 32 := 0#32
  let v6 : BitVec 1 := Scalar.cmpi .ne v5 c0_i32_0
  v6

def k0_cond2 (v1 : BitVec 32) (v3 : BitVec 32) : BitVec 1 :=
  let v7 : BitVec 1 := Scalar.cmpi .eq v1 v3
  let v8 : BitVec 32 := Scalar.extui v7
  let c0_i32_1 : BitVec 32 := 0#32
  let v9 : BitVec 1 := Scalar.cmpi .ne v8 c0_i32_1
  v9

def cc0_transform_0 (k0_off1_inb : ∀ i : grid0.Coords, ∀ a, (k0_off1 i) a + S1.size a ≤ S10.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S10) ![v0.toNat] S1.size (k0_off1_inb i)) numel1_S1
  let c0_i32 : BitVec 32 := 0#32
  let c0_i32_0 : BitVec 32 := 0#32
  ![arg0.toNat, v1.toNat, c0_i32.toNat]

def cc0_transform_1 (k0_off1_inb : ∀ i : grid0.Coords, ∀ a, (k0_off1 i) a + S1.size a ≤ S10.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S10) ![v0.toNat] S1.size (k0_off1_inb i)) numel1_S1
  let c0_i32 : BitVec 32 := 0#32
  let c0_i32_0 : BitVec 32 := 0#32
  ![arg0.toNat, v1.toNat, c0_i32.toNat]

def cc0_transform_2 (k0_off1_inb : ∀ i : grid0.Coords, ∀ a, (k0_off1 i) a + S1.size a ≤ S10.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S10) ![v0.toNat] S1.size (k0_off1_inb i)) numel1_S1
  let c0_i32 : BitVec 32 := 0#32
  let c0_i32_0 : BitVec 32 := 0#32
  ![arg0.toNat, v1.toNat, c0_i32.toNat]

def cc0_transform_3 (k0_off1_inb : ∀ i : grid0.Coords, ∀ a, (k0_off1 i) a + S1.size a ≤ S10.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S10) ![v0.toNat] S1.size (k0_off1_inb i)) numel1_S1
  let c0_i32 : BitVec 32 := 0#32
  let c0_i32_0 : BitVec 32 := 0#32
  ![arg0.toNat, v1.toNat, c0_i32.toNat]

def cc0_transform_4 (k0_off1_inb : ∀ i : grid0.Coords, ∀ a, (k0_off1 i) a + S1.size a ≤ S10.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S10) ![v0.toNat] S1.size (k0_off1_inb i)) numel1_S1
  let c0_i32 : BitVec 32 := 0#32
  let c0_i32_0 : BitVec 32 := 0#32
  ![arg0.toNat, v1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (k0_off1_inb : ∀ i : grid0.Coords, ∀ a, (k0_off1 i) a + S1.size a ≤ S10.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S10) ![v0.toNat] S1.size (k0_off1_inb i)) numel1_S1
  let c0_i32 : BitVec 32 := 0#32
  let c0_i32_0 : BitVec 32 := 0#32
  ![arg0.toNat, v1.toNat, c0_i32.toNat]

def cc0_transform_7 (k0_off1_inb : ∀ i : grid0.Coords, ∀ a, (k0_off1 i) a + S1.size a ≤ S10.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S10) ![v0.toNat] S1.size (k0_off1_inb i)) numel1_S1
  let c0_i32 : BitVec 32 := 0#32
  let c0_i32_0 : BitVec 32 := 0#32
  ![arg0.toNat, v1.toNat, c0_i32.toNat]

abbrev stage0_0 : Fin 2 → Memref sig .tc .vmem S1x2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8192x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x2048x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceIdeal.lean ====
abbrev S8x8192x192 : Shape := ⟨3, ![8, 8192, 192]⟩
abbrev S8x8192x128 : Shape := ⟨3, ![8, 8192, 128]⟩
abbrev S8192 : Shape := ⟨1, ![8192]⟩
abbrev S_ : Shape := ⟨0, ![]⟩
abbrev S1x8192 : Shape := ⟨2, ![1, 8192]⟩
abbrev S8192x1 : Shape := ⟨2, ![8192, 1]⟩
abbrev S8192x8192 : Shape := ⟨2, ![8192, 8192]⟩
abbrev S8x8192x8192 : Shape := ⟨3, ![8, 8192, 8192]⟩
abbrev S8x8192 : Shape := ⟨2, ![8, 8192]⟩
abbrev S8x8192x1 : Shape := ⟨3, ![8, 8192, 1]⟩
abbrev S8x128x8192 : Shape := ⟨3, ![8, 128, 8192]⟩

abbrev nBuf : Space → Nat
  | .hbm => 103
  | .vmem => 0
  | .smem => 0
  | _ => 0

abbrev bufTy : (tb : Table) → Fin (tcTables nBuf tb) → BufTy
  | .hbm, ⟨0, _⟩ => ⟨S8x8192x192, .f32⟩
  | .hbm, ⟨1, _⟩ => ⟨S8x8192x192, .f32⟩
  | .hbm, ⟨2, _⟩ => ⟨S8x8192x128, .f32⟩
  | .hbm, ⟨3, _⟩ => ⟨S8x8192x128, .f32⟩
  | .hbm, ⟨4, _⟩ => ⟨S8192, .i32⟩
  | .hbm, ⟨5, _⟩ => ⟨S_, .i32⟩
  | .hbm, ⟨6, _⟩ => ⟨S_, .i32⟩
  | .hbm, ⟨7, _⟩ => ⟨S8192, .i32⟩
  | .hbm, ⟨8, _⟩ => ⟨S8192, .i32⟩
  | .hbm, ⟨9, _⟩ => ⟨S8192, .i32⟩
  | .hbm, ⟨10, _⟩ => ⟨S_, .i32⟩
  | .hbm, ⟨11, _⟩ => ⟨S8192, .i32⟩
  | .hbm, ⟨12, _⟩ => ⟨S8192, .i1⟩
  | .hbm, ⟨13, _⟩ => ⟨S8192, .i32⟩
  | .hbm, ⟨14, _⟩ => ⟨S8192, .i32⟩
  | .hbm, ⟨15, _⟩ => ⟨S_, .i32⟩
  | .hbm, ⟨16, _⟩ => ⟨S8192, .i32⟩
  | .hbm, ⟨17, _⟩ => ⟨S8192, .i1⟩
  | .hbm, ⟨18, _⟩ => ⟨S8192, .i1⟩
  | .hbm, ⟨19, _⟩ => ⟨S_, .i32⟩
  | .hbm, ⟨20, _⟩ => ⟨S8192, .i32⟩
  | .hbm, ⟨21, _⟩ => ⟨S8192, .i32⟩
  | .hbm, ⟨22, _⟩ => ⟨S8192, .i32⟩
  | .hbm, ⟨23, _⟩ => ⟨S1x8192, .i32⟩
  | .hbm, ⟨24, _⟩ => ⟨S8192x1, .i32⟩
  | .hbm, ⟨25, _⟩ => ⟨S8192x8192, .i32⟩
  | .hbm, ⟨26, _⟩ => ⟨S8192x8192, .i32⟩
  | .hbm, ⟨27, _⟩ => ⟨S8192x8192, .i1⟩
  | .hbm, ⟨28, _⟩ => ⟨S8x8192x8192, .f32⟩
  | .hbm, ⟨29, _⟩ => ⟨S_, .f32⟩
  | .hbm, ⟨30, _⟩ => ⟨S8x8192x8192, .f32⟩
  | .hbm, ⟨31, _⟩ => ⟨S8x8192x8192, .f32⟩
  | .hbm, ⟨32, _⟩ => ⟨S_, .f32⟩
  | .hbm, ⟨33, _⟩ => ⟨S_, .f32⟩
  | .hbm, ⟨34, _⟩ => ⟨S8x8192x8192, .i1⟩
  | .hbm, ⟨35, _⟩ => ⟨S8x8192x8192, .f32⟩
  | .hbm, ⟨36, _⟩ => ⟨S8x8192x8192, .f32⟩
  | .hbm, ⟨37, _⟩ => ⟨S_, .f32⟩
  | .hbm, ⟨38, _⟩ => ⟨S8x8192x8192, .f32⟩
  | .hbm, ⟨39, _⟩ => ⟨S_, .f32⟩
  | .hbm, ⟨40, _⟩ => ⟨S8x8192, .f32⟩
  | .hbm, ⟨41, _⟩ => ⟨S8x8192x1, .f32⟩
  | .hbm, ⟨42, _⟩ => ⟨S8x8192x8192, .f32⟩
  | .hbm, ⟨43, _⟩ => ⟨S8x8192x8192, .i1⟩
  | .hbm, ⟨44, _⟩ => ⟨S8x8192x8192, .f32⟩
  | .hbm, ⟨45, _⟩ => ⟨S_, .f32⟩
  | .hbm, ⟨46, _⟩ => ⟨S8x8192, .f32⟩
  | .hbm, ⟨47, _⟩ => ⟨S_, .f32⟩
  | .hbm, ⟨48, _⟩ => ⟨S8x8192, .f32⟩
  | .hbm, ⟨49, _⟩ => ⟨S8x8192, .f32⟩
  | .hbm, ⟨50, _⟩ => ⟨S_, .f32⟩
  | .hbm, ⟨51, _⟩ => ⟨S8x8192, .f32⟩
  | .hbm, ⟨52, _⟩ => ⟨S8x8192, .i1⟩
  | .hbm, ⟨53, _⟩ => ⟨S_, .f32⟩
  | .hbm, ⟨54, _⟩ => ⟨S8x8192, .f32⟩
  | .hbm, ⟨55, _⟩ => ⟨S8x8192, .i1⟩
  | .hbm, ⟨56, _⟩ => ⟨S_, .f32⟩
  | .hbm, ⟨57, _⟩ => ⟨S8x8192, .f32⟩
  | .hbm, ⟨58, _⟩ => ⟨S_, .f32⟩
  | .hbm, ⟨59, _⟩ => ⟨S8x8192, .f32⟩
  | .hbm, ⟨60, _⟩ => ⟨S_, .f32⟩
  | .hbm, ⟨61, _⟩ => ⟨S8x8192, .f32⟩
  | .hbm, ⟨62, _⟩ => ⟨S8x8192, .f32⟩
  | .hbm, ⟨63, _⟩ => ⟨S8x8192, .f32⟩
  | .hbm, ⟨64, _⟩ => ⟨S8x8192x1, .f32⟩
  | .hbm, ⟨65, _⟩ => ⟨S8x8192x8192, .f32⟩
  | .hbm, ⟨66, _⟩ => ⟨S8x8192x8192, .f32⟩
  | .hbm, ⟨67, _⟩ => ⟨S8x8192x8192, .f32⟩
  | .hbm, ⟨68, _⟩ => ⟨S_, .f32⟩
  | .hbm, ⟨69, _⟩ => ⟨S8x8192, .f32⟩
  | .hbm, ⟨70, _⟩ => ⟨S8x8192x1, .f32⟩
  | .hbm, ⟨71, _⟩ => ⟨S8x8192x8192, .f32⟩
  | .hbm, ⟨72, _⟩ => ⟨S8x8192x8192, .f32⟩
  | .hbm, ⟨73, _⟩ => ⟨S8x8192x1, .f32⟩
  | .hbm, ⟨74, _⟩ => ⟨S_, .f32⟩
  | .hbm, ⟨75, _⟩ => ⟨S8x8192x1, .f32⟩
  | .hbm, ⟨76, _⟩ => ⟨S8x8192x1, .f32⟩
  | .hbm, ⟨77, _⟩ => ⟨S8x8192x128, .f32⟩
  | .hbm, ⟨78, _⟩ => ⟨S8x128x8192, .f32⟩
  | .hbm, ⟨79, _⟩ => ⟨S8x8192x128, .f32⟩
  | .hbm, ⟨80, _⟩ => ⟨S8x8192x8192, .f32⟩
  | .hbm, ⟨81, _⟩ => ⟨S8x8192x8192, .f32⟩
  | .hbm, ⟨82, _⟩ => ⟨S8x8192x8192, .f32⟩
  | .hbm, ⟨83, _⟩ => ⟨S8x8192x8192, .f32⟩
  | .hbm, ⟨84, _⟩ => ⟨S_, .f32⟩
  | .hbm, ⟨85, _⟩ => ⟨S8x8192, .f32⟩
  | .hbm, ⟨86, _⟩ => ⟨S8x8192x1, .f32⟩
  | .hbm, ⟨87, _⟩ => ⟨S8x8192x1, .f32⟩
  | .hbm, ⟨88, _⟩ => ⟨S8x8192x8192, .f32⟩
  | .hbm, ⟨89, _⟩ => ⟨S8x8192x8192, .f32⟩
  | .hbm, ⟨90, _⟩ => ⟨S_, .f32⟩
  | .hbm, ⟨91, _⟩ => ⟨S8x8192, .f32⟩
  | .hbm, ⟨92, _⟩ => ⟨S8x8192x8192, .f32⟩
  | .hbm, ⟨93, _⟩ => ⟨S8x8192x8192, .f32⟩
  | .hbm, ⟨94, _⟩ => ⟨S8x8192x8192, .f32⟩
  | .hbm, ⟨95, _⟩ => ⟨S_, .f32⟩
  | .hbm, ⟨96, _⟩ => ⟨S8x8192x8192, .f32⟩
  | .hbm, ⟨97, _⟩ => ⟨S8x8192x8192, .f32⟩
  | .hbm, ⟨98, _⟩ => ⟨S_, .f32⟩
  | .hbm, ⟨99, _⟩ => ⟨S8x8192x8192, .f32⟩
  | .hbm, ⟨100, _⟩ => ⟨S8x8192x8192, .f32⟩
  | .hbm, ⟨101, _⟩ => ⟨S8x8192x192, .f32⟩
  | .hbm, ⟨102, _⟩ => ⟨S8x8192x192, .f32⟩
  | _, _ => ⟨S8x8192x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_c : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_0 : Ref sig .tc := ⟨.hbm, 19, rfl⟩
abbrev main_call0_v12 : Ref sig .tc := ⟨.hbm, 20, rfl⟩
abbrev main_call0_v13 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_cst : Ref sig .tc := ⟨.hbm, 29, rfl⟩
abbrev main_v8 : Ref sig .tc := ⟨.hbm, 30, rfl⟩
abbrev main_v9 : Ref sig .tc := ⟨.hbm, 31, rfl⟩
abbrev main_cst_0 : Ref sig .tc := ⟨.hbm, 32, rfl⟩
abbrev main_call1_v0 : Ref sig .tc := ⟨.hbm, 33, rfl⟩
abbrev main_v10_1 : Ref sig .tc := ⟨.hbm, 34, rfl⟩
abbrev main_call1_v2 : Ref sig .tc := ⟨.hbm, 35, rfl⟩
abbrev main_v10_0 : Ref sig .tc := ⟨.hbm, 36, rfl⟩
abbrev main_call1_cst : Ref sig .tc := ⟨.hbm, 37, rfl⟩
abbrev main_v10_2 : Ref sig .tc := ⟨.hbm, 38, rfl⟩
abbrev main_cst_1 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_cst_2 : Ref sig .tc := ⟨.hbm, 45, rfl⟩
abbrev main_v16 : Ref sig .tc := ⟨.hbm, 46, rfl⟩
abbrev main_cst_3 : Ref sig .tc := ⟨.hbm, 47, rfl⟩
abbrev main_v17 : Ref sig .tc := ⟨.hbm, 48, rfl⟩
abbrev main_v18 : Ref sig .tc := ⟨.hbm, 49, rfl⟩
abbrev main_cst_4 : Ref sig .tc := ⟨.hbm, 50, rfl⟩
abbrev main_v19 : Ref sig .tc := ⟨.hbm, 51, rfl⟩
abbrev main_v20 : Ref sig .tc := ⟨.hbm, 52, rfl⟩
abbrev main_cst_5 : Ref sig .tc := ⟨.hbm, 53, rfl⟩
abbrev main_v21 : Ref sig .tc := ⟨.hbm, 54, rfl⟩
abbrev main_v22 : Ref sig .tc := ⟨.hbm, 55, rfl⟩
abbrev main_cst_6 : Ref sig .tc := ⟨.hbm, 56, rfl⟩
abbrev main_v23 : Ref sig .tc := ⟨.hbm, 57, rfl⟩
abbrev main_cst_7 : Ref sig .tc := ⟨.hbm, 58, rfl⟩
abbrev main_v24 : Ref sig .tc := ⟨.hbm, 59, rfl⟩
abbrev main_cst_8 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_cst_9 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_cst_10 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_cst_11 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_cst_12 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_call2_cst : Ref sig .tc := ⟨.hbm, 95, rfl⟩
abbrev main_call2_v0 : Ref sig .tc := ⟨.hbm, 96, rfl⟩
abbrev main_v55 : Ref sig .tc := ⟨.hbm, 97, rfl⟩
abbrev main_cst_13 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩

abbrev nD : Nat := 1
abbrev τ : Topo := Topo.v7x

variable {F : FTy → Type} [FloatOps F]
-- ==== Kernel2.lean ====
abbrev S8192x1024 : Shape := ⟨2, ![8192, 1024]⟩
abbrev S8192x2816 : Shape := ⟨2, ![8192, 2816]⟩
abbrev S2816x1024 : Shape := ⟨2, ![2816, 1024]⟩
abbrev S512x1024 : Shape := ⟨2, ![512, 1024]⟩
abbrev S512x2816 : Shape := ⟨2, ![512, 2816]⟩
abbrev S256x1024 : Shape := ⟨2, ![256, 1024]⟩
abbrev S512x256 : Shape := ⟨2, ![512, 256]⟩

abbrev nBuf : Space → Nat
  | .hbm => 6
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S8192x2816, .bf16⟩
  | .hbm, ⟨2, _⟩ => ⟨S8192x2816, .bf16⟩
  | .hbm, ⟨3, _⟩ => ⟨S2816x1024, .bf16⟩
  | .hbm, ⟨4, _⟩ => ⟨S8192x2816, .bf16⟩
  | .hbm, ⟨5, _⟩ => ⟨S8192x2816, .bf16⟩
  | .local _ .vmem, ⟨0, _⟩ => ⟨S512x1024, .f32⟩
  | .local _ .vmem, ⟨1, _⟩ => ⟨S512x1024, .f32⟩
  | .local _ .vmem, ⟨2, _⟩ => ⟨S512x2816, .bf16⟩
  | .local _ .vmem, ⟨3, _⟩ => ⟨S512x2816, .bf16⟩
  | .local _ .vmem, ⟨4, _⟩ => ⟨S512x2816, .bf16⟩
  | .local _ .vmem, ⟨5, _⟩ => ⟨S512x2816, .bf16⟩
  | .local _ .vmem, ⟨6, _⟩ => ⟨S2816x1024, .bf16⟩
  | .local _ .vmem, ⟨7, _⟩ => ⟨S512x2816, .bf16⟩
  | .local _ .vmem, ⟨8, _⟩ => ⟨S512x2816, .bf16⟩
  | .local _ .vmem, ⟨9, _⟩ => ⟨S512x2816, .bf16⟩
  | .local _ .vmem, ⟨10, _⟩ => ⟨S512x2816, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S8192x1024 : Shape := ⟨2, ![8192, 1024]⟩
abbrev S8192x2816 : Shape := ⟨2, ![8192, 2816]⟩
abbrev S2816x1024 : Shape := ⟨2, ![2816, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2816, .bf16⟩
  | .hbm, ⟨2, _⟩ => ⟨S8192x2816, .bf16⟩
  | .hbm, ⟨3, _⟩ => ⟨S2816x1024, .bf16⟩
  | .hbm, ⟨4, _⟩ => ⟨S8192x2816, .f32⟩
  | .hbm, ⟨5, _⟩ => ⟨S8192x2816, .f32⟩
  | .hbm, ⟨6, _⟩ => ⟨S8192x2816, .f32⟩
  | .hbm, ⟨7, _⟩ => ⟨S_, .f32⟩
  | .hbm, ⟨8, _⟩ => ⟨S8192x2816, .f32⟩
  | .hbm, ⟨9, _⟩ => ⟨S8192x2816, .f32⟩
  | .hbm, ⟨10, _⟩ => ⟨S_, .f32⟩
  | .hbm, ⟨11, _⟩ => ⟨S8192x2816, .f32⟩
  | .hbm, ⟨12, _⟩ => ⟨S8192x2816, .f32⟩
  | .hbm, ⟨13, _⟩ => ⟨S_, .f32⟩
  | .hbm, ⟨14, _⟩ => ⟨S8192x2816, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S2816x1024, .f32⟩
  | .hbm, ⟨21, _⟩ => ⟨S8192x1024, .f32⟩
  | .hbm, ⟨22, _⟩ => ⟨S_, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S8192x2816, .f32⟩
  | .hbm, ⟨29, _⟩ => ⟨S8192x2816, .f32⟩
  | .hbm, ⟨30, _⟩ => ⟨S8192x2816, .f32⟩
  | .hbm, ⟨31, _⟩ => ⟨S8192x2816, .bf16⟩
  | .hbm, ⟨32, _⟩ => ⟨S8192x2816, .f32⟩
  | .hbm, ⟨33, _⟩ => ⟨S8192x2816, .f32⟩
  | .hbm, ⟨34, _⟩ => ⟨S8192x2816, .f32⟩
  | .hbm, ⟨35, _⟩ => ⟨S8192x2816, .f32⟩
  | .hbm, ⟨36, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v1_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v1_1 : Ref sig .tc := ⟨.hbm, 16, rfl⟩
abbrev main_v1_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_cst : Ref sig .tc := ⟨.hbm, 22, rfl⟩
abbrev main_v6 : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_v14 : Ref sig .tc := ⟨.hbm, 35, rfl⟩
abbrev main_v15 : Ref sig .tc := ⟨.hbm, 36, rfl⟩

abbrev nD : Nat := 1
abbrev τ : Topo := Topo.v7x

variable {F : FTy → Type} [FloatOps F]
-- ==== Kernel3.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference3Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel4.lean ====
abbrev S8192x1024 : Shape := ⟨2, ![8192, 1024]⟩
abbrev S8192x2816 : Shape := ⟨2, ![8192, 2816]⟩
abbrev S4x1024x1408 : Shape := ⟨3, ![4, 1024, 1408]⟩
abbrev S2048x1024 : Shape := ⟨2, ![2048, 1024]⟩
abbrev S2048x1408 : Shape := ⟨2, ![2048, 1408]⟩
abbrev S1x1024x1408 : Shape := ⟨3, ![1, 1024, 1408]⟩
abbrev S1024x1408 : Shape := ⟨2, ![1024, 1408]⟩

abbrev nBuf : Space → Nat
  | .hbm => 5
  | .vmem => 12
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S8192x2816, .bf16⟩
  | .hbm, ⟨3, _⟩ => ⟨S4x1024x1408, .f32⟩
  | .hbm, ⟨4, _⟩ => ⟨S4x1024x1408, .f32⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1x1024x1408, .f32⟩
  | .local _ .vmem, ⟨5, _⟩ => ⟨S1x1024x1408, .f32⟩
  | .local _ .vmem, ⟨6, _⟩ => ⟨S2048x1024, .bf16⟩
  | .local _ .vmem, ⟨7, _⟩ => ⟨S2048x1024, .bf16⟩
  | .local _ .vmem, ⟨8, _⟩ => ⟨S2048x1408, .bf16⟩
  | .local _ .vmem, ⟨9, _⟩ => ⟨S2048x1408, .bf16⟩
  | .local _ .vmem, ⟨10, _⟩ => ⟨S1x1024x1408, .f32⟩
  | .local _ .vmem, ⟨11, _⟩ => ⟨S1x1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨3, ![1, 2, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![v0.toNat, arg0.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![1, 2, 4], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  let c0_i32_0 : BitVec 32 := 0#32
  ![v0.toNat, arg0.toNat, c0_i32.toNat]

abbrev stage1_0 : Fin 2 → Memref sig .tc .vmem S2048x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S2048x1408 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x1024x1408 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]
-- ==== Reference4Ideal.lean ====
abbrev S8192x1024 : Shape := ⟨2, ![8192, 1024]⟩
abbrev S8192x2816 : Shape := ⟨2, ![8192, 2816]⟩
abbrev S_ : Shape := ⟨0, ![]⟩
abbrev S1024x2816 : Shape := ⟨2, ![1024, 2816]⟩
abbrev S2816x1024 : Shape := ⟨2, ![2816, 1024]⟩
abbrev S1024x2x1408 : Shape := ⟨3, ![1024, 2, 1408]⟩
abbrev S2x1024x1408 : Shape := ⟨3, ![2, 1024, 1408]⟩
abbrev S4x1024x1408 : Shape := ⟨3, ![4, 1024, 1408]⟩

abbrev nBuf : Space → Nat
  | .hbm => 22
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S8192x2816, .bf16⟩
  | .hbm, ⟨3, _⟩ => ⟨S_, .f32⟩
  | .hbm, ⟨4, _⟩ => ⟨S1024x2816, .f32⟩
  | .hbm, ⟨5, _⟩ => ⟨S8192x1024, .f32⟩
  | .hbm, ⟨6, _⟩ => ⟨S8192x2816, .f32⟩
  | .hbm, ⟨7, _⟩ => ⟨S8192x2816, .f32⟩
  | .hbm, ⟨8, _⟩ => ⟨S2816x1024, .f32⟩
  | .hbm, ⟨9, _⟩ => ⟨S1024x2816, .f32⟩
  | .hbm, ⟨10, _⟩ => ⟨S1024x2x1408, .f32⟩
  | .hbm, ⟨11, _⟩ => ⟨S2x1024x1408, .f32⟩
  | .hbm, ⟨12, _⟩ => ⟨S_, .f32⟩
  | .hbm, ⟨13, _⟩ => ⟨S1024x2816, .f32⟩
  | .hbm, ⟨14, _⟩ => ⟨S8192x1024, .f32⟩
  | .hbm, ⟨15, _⟩ => ⟨S8192x2816, .f32⟩
  | .hbm, ⟨16, _⟩ => ⟨S8192x2816, .f32⟩
  | .hbm, ⟨17, _⟩ => ⟨S2816x1024, .f32⟩
  | .hbm, ⟨18, _⟩ => ⟨S1024x2816, .f32⟩
  | .hbm, ⟨19, _⟩ => ⟨S1024x2x1408, .f32⟩
  | .hbm, ⟨20, _⟩ => ⟨S2x1024x1408, .f32⟩
  | .hbm, ⟨21, _⟩ => ⟨S4x1024x1408, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩

abbrev nD : Nat := 1
abbrev τ : Topo := Topo.v7x

variable {F : FTy → Type} [FloatOps F]
-- ==== Kernel5.lean ====
abbrev S8192x1024 : Shape := ⟨2, ![8192, 1024]⟩
abbrev S1024x4800 : Shape := ⟨2, ![1024, 4800]⟩
abbrev S1024x4096 : Shape := ⟨2, ![1024, 4096]⟩
abbrev S8192x4096 : Shape := ⟨2, ![8192, 4096]⟩
abbrev S512x1024 : Shape := ⟨2, ![512, 1024]⟩
abbrev S512x4096 : Shape := ⟨2, ![512, 4096]⟩
abbrev S1024x512 : Shape := ⟨2, ![1024, 512]⟩
abbrev S512x512 : Shape := ⟨2, ![512, 512]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x4800, .bf16⟩
  | .hbm, ⟨2, _⟩ => ⟨S1024x4096, .bf16⟩
  | .hbm, ⟨3, _⟩ => ⟨S8192x4096, .bf16⟩
  | .local _ .vmem, ⟨0, _⟩ => ⟨S512x1024, .bf16⟩
  | .local _ .vmem, ⟨1, _⟩ => ⟨S512x1024, .bf16⟩
  | .local _ .vmem, ⟨2, _⟩ => ⟨S1024x4096, .bf16⟩
  | .local _ .vmem, ⟨3, _⟩ => ⟨S512x4096, .bf16⟩
  | .local _ .vmem, ⟨4, _⟩ => ⟨S512x4096, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference5Ideal.lean ====
abbrev S8192x1024 : Shape := ⟨2, ![8192, 1024]⟩
abbrev S1024x4800 : Shape := ⟨2, ![1024, 4800]⟩
abbrev S8192x4800 : Shape := ⟨2, ![8192, 4800]⟩
abbrev S8192x4096 : Shape := ⟨2, ![8192, 4096]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x4800, .bf16⟩
  | .hbm, ⟨2, _⟩ => ⟨S8192x1024, .f32⟩
  | .hbm, ⟨3, _⟩ => ⟨S1024x4800, .f32⟩
  | .hbm, ⟨4, _⟩ => ⟨S8192x4800, .f32⟩
  | .hbm, ⟨5, _⟩ => ⟨S8192x4096, .f32⟩
  | .hbm, ⟨6, _⟩ => ⟨S8192x4096, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel6.lean ====
abbrev S8192x1024 : Shape := ⟨2, ![8192, 1024]⟩
abbrev S1024x1024 : Shape := ⟨2, ![1024, 1024]⟩
abbrev S512x1024 : Shape := ⟨2, ![512, 1024]⟩
abbrev S1024x512 : Shape := ⟨2, ![1024, 512]⟩
abbrev S512x512 : Shape := ⟨2, ![512, 512]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference6Ideal.lean ====
abbrev S8192x1024 : Shape := ⟨2, ![8192, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S8192x1024, .f32⟩
  | .hbm, ⟨5, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel7.lean ====
abbrev S8192x1024 : Shape := ⟨2, ![8192, 1024]⟩
abbrev S1024x1024 : Shape := ⟨2, ![1024, 1024]⟩
abbrev S512x1024 : Shape := ⟨2, ![512, 1024]⟩
abbrev S512x512 : Shape := ⟨2, ![512, 512]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference7Ideal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S_, .bf16⟩
  | .hbm, ⟨3, _⟩ => ⟨S8192x1024, .bf16⟩
  | .hbm, ⟨4, _⟩ => ⟨S8192x1024, .f32⟩
  | .hbm, ⟨5, _⟩ => ⟨S1024x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel9.lean ====
abbrev S8192x2816 : Shape := ⟨2, ![8192, 2816]⟩
abbrev S8192x1024 : Shape := ⟨2, ![8192, 1024]⟩
abbrev S2816x1024 : Shape := ⟨2, ![2816, 1024]⟩
abbrev S1x1024 : Shape := ⟨2, ![1, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S2816x1024, .bf16⟩
  | .hbm, ⟨3, _⟩ => ⟨S1x1024, .f32⟩
  | .hbm, ⟨4, _⟩ => ⟨S8192x1024, .f32⟩
  | .hbm, ⟨5, _⟩ => ⟨S8192x1024, .bf16⟩
  | .local _ .vmem, ⟨0, _⟩ => ⟨S512x2816, .bf16⟩
  | .local _ .vmem, ⟨1, _⟩ => ⟨S512x2816, .bf16⟩
  | .local _ .vmem, ⟨2, _⟩ => ⟨S512x1024, .f32⟩
  | .local _ .vmem, ⟨3, _⟩ => ⟨S512x1024, .f32⟩
  | .local _ .vmem, ⟨4, _⟩ => ⟨S2816x1024, .bf16⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference9Ideal.lean ====
abbrev S8192x2816 : Shape := ⟨2, ![8192, 2816]⟩
abbrev S8192x1024 : Shape := ⟨2, ![8192, 1024]⟩
abbrev S2816x1024 : Shape := ⟨2, ![2816, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 27
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S2816x1024, .bf16⟩
  | .hbm, ⟨3, _⟩ => ⟨S1x1024, .f32⟩
  | .hbm, ⟨4, _⟩ => ⟨S8192x2816, .f32⟩
  | .hbm, ⟨5, _⟩ => ⟨S2816x1024, .f32⟩
  | .hbm, ⟨6, _⟩ => ⟨S8192x1024, .f32⟩
  | .hbm, ⟨7, _⟩ => ⟨S_, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Kernel10.lean ====
abbrev S8192x1024 : Shape := ⟨2, ![8192, 1024]⟩
abbrev S1024x2048 : Shape := ⟨2, ![1024, 2048]⟩
abbrev S1x2048 : Shape := ⟨2, ![1, 2048]⟩
abbrev S512x1024 : Shape := ⟨2, ![512, 1024]⟩
abbrev S1024x512 : Shape := ⟨2, ![1024, 512]⟩
abbrev S512x512 : Shape := ⟨2, ![512, 512]⟩
abbrev S1x512 : Shape := ⟨2, ![1, 512]⟩

abbrev nBuf : Space → Nat
  | .hbm => 8
  | .vmem => 14
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S1x2048, .f32⟩
  | .hbm, ⟨3, _⟩ => ⟨S8192x1024, .bf16⟩
  | .hbm, ⟨4, _⟩ => ⟨S8192x1024, .bf16⟩
  | .hbm, ⟨5, _⟩ => ⟨S8192x1024, .bf16⟩
  | .hbm, ⟨6, _⟩ => ⟨S8192x1024, .bf16⟩
  | .hbm, ⟨7, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S1024x2048, .bf16⟩
  | .local _ .vmem, ⟨7, _⟩ => ⟨S1x2048, .f32⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference10Ideal.lean ====
abbrev S8192x1024 : Shape := ⟨2, ![8192, 1024]⟩
abbrev S1024x2048 : Shape := ⟨2, ![1024, 2048]⟩
abbrev S1x2048 : Shape := ⟨2, ![1, 2048]⟩
abbrev S8192x2048 : Shape := ⟨2, ![8192, 2048]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S1x2048, .f32⟩
  | .hbm, ⟨3, _⟩ => ⟨S8192x1024, .bf16⟩
  | .hbm, ⟨4, _⟩ => ⟨S8192x1024, .bf16⟩
  | .hbm, ⟨5, _⟩ => ⟨S8192x1024, .f32⟩
  | .hbm, ⟨6, _⟩ => ⟨S1024x2048, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S_, .f32⟩
  | .hbm, ⟨13, _⟩ => ⟨S8192x2048, .f32⟩
  | .hbm, ⟨14, _⟩ => ⟨S8192x2048, .f32⟩
  | .hbm, ⟨15, _⟩ => ⟨S_, .f32⟩
  | .hbm, ⟨16, _⟩ => ⟨S8192x2048, .f32⟩
  | .hbm, ⟨17, _⟩ => ⟨S8192x2048, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .bf16⟩
  | .hbm, ⟨26, _⟩ => ⟨S8192x1024, .bf16⟩
  | .hbm, ⟨27, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== Kernel11.lean ====
abbrev S8192x1024 : Shape := ⟨2, ![8192, 1024]⟩
abbrev S1024x1024 : Shape := ⟨2, ![1024, 1024]⟩
abbrev S512x1024 : Shape := ⟨2, ![512, 1024]⟩
abbrev S1024x512 : Shape := ⟨2, ![1024, 512]⟩
abbrev S512x512 : Shape := ⟨2, ![512, 512]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1024x1024, .bf16⟩
  | .hbm, ⟨3, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1024x1024, .bf16⟩
  | .local _ .vmem, ⟨5, _⟩ => ⟨S512x1024, .f32⟩
  | .local _ .vmem, ⟨6, _⟩ => ⟨S512x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference11Ideal.lean ====
abbrev S8192x1024 : Shape := ⟨2, ![8192, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1024x1024, .bf16⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Proof.Flash.Steps.lean ====
/-
  Loads and stores by the VALUES a block holds: a block owned at contents `X` answers a load of a rectangle with
  `rd r X`, and a store of a payload into the rectangle leaves it owned at `X` overlaid with the payload. Stated with
  the six input blocks and the three result blocks of the kernel held together (`blocks`), so that a stretch of the
  kernel's body is run one access at a time on one hypothesis.
-/
module

public import proofs.«01_k».proof.Proof.Gen.KernelIdeal.Launch
public import proofs.«01_k».proof.Proof.Gen.KernelIdeal.Skeleton
public import Idealize.ShloMosaic.Lib.Pipeline.FrameSuffix
public import Idealize.ShloMosaic.Lib.Tactic

@[expose] public section

noncomputable section

namespace Cert.Flash

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- What a load of the rectangle `r` reads of a block holding `X`. -/
def rd {s : Shape} {α : Type} (r : Rect s) (X : s.Idx → α) : r.shape.Idx → α := fun i => X (r.emb i)

/-- The weakest precondition of a stretch of the kernel's body on core `c`. -/
abbrev run (c : Dev nD) {α : Type} (p : Prog (TpuEff nD τ sig (Elt F) Λ₀ .tc) α) (Q : α → sProp 𝕄) : sProp 𝕄 :=
  wp frame (wpE (defs₀ (F := F)) Variants.none (c : Thread nD τ) none) Set.univ p Q

theorem run_bind (c : Dev nD) {α β : Type} (p : Prog (TpuEff nD τ sig (Elt F) Λ₀ .tc) α) (k : α → Prog (TpuEff nD τ sig (Elt F) Λ₀ .tc) β)
    (Q : β → sProp 𝕄) : run c (p >>= k) Q = run c p (fun x => run c (k x) Q) := wp_bind _ _ _ p k Q

theorem run_pure (c : Dev nD) {α : Type} (a : α) (Q : α → sProp 𝕄) :
    run c (pure a) Q = iprop(|={Set.univ}[frame]=> Q a) := wp_pure _ _ _ a Q

theorem run_ret (c : Dev nD) {α : Type} (a : α) (Q : α → sProp 𝕄) :
    run c (Prog.ret a) Q = iprop(|={Set.univ}[frame]=> Q a) := wp_ret _ _ _ a Q

theorem load_rd (c : Dev nD) {cs : CoreSpace} {s : Shape} {e : EltTy} {m : Memref sig .tc cs s e} (r : Rect s)
    (hl : m.view.LoadsAt r.toLoadRect) {q : PosShare TreeShare} (X : s.Idx → Elt F e) (Q : (r.shape.Idx → Elt F e) → sProp 𝕄) :
    iprop(owns (c : Thread nD τ) m q X ∗ (owns (c : Thread nD τ) m q X -∗ Q (rd r X)))
      ⊢ run c (Prog.lift (.load m r.toLoadRect hl)) Q := by
  unfold owns
  iintro ⟨⟨%f, %hf, H⟩, HQ⟩
  have hrd : rd r X = (m.access r).read (Elt F) f := by
    subst hf; rfl
  rw [hrd]
  iapply (wp_load_rect Variants.none (c : Thread nD τ) none Set.univ (r := r) (hl := hl) (m.view.set_slice_subset r)) $$ H
  iintro H
  rw [wp_ret]
  imodintro
  iapply HQ
  iexists f
  isplitr; · ipureintro; exact hf
  iexact H

theorem store_rd (c : Dev nD) {cs : CoreSpace} {s : Shape} {e : EltTy} {m : Memref sig .tc cs s e} (r : Rect s)
    (w : r.shape.Idx → Elt F e) (hx : (m.access r).Stores Finset.univ) (hm : (Finset.univ : Finset r.shape.Idx) = Finset.univ ∨ ∀ a, r.stride a = 1)
    (X : s.Idx → Elt F e) (Q : PUnit → sProp 𝕄) :
    iprop(owns (c : Thread nD τ) m fullShare X ∗ (owns (c : Thread nD τ) m fullShare (r.overlay X w) -∗ Q ⟨⟩))
      ⊢ run c (Prog.lift (.store m r w Finset.univ hx hm)) Q := by
  unfold owns
  iintro ⟨⟨%f, %hf, H⟩, HQ⟩
  have hwr : m.view.read (Elt F) ((m.access r).write (Elt F) f w Finset.univ) = r.overlay X w := by
    subst hf
    funext y
    by_cases hy : y ∈ r.set
    · rw [← Rect.map_emb_univ] at hy
      obtain ⟨x, -, rfl⟩ := Finset.mem_map.1 hy
      rw [Rect.overlay_emb]
      exact View.read_slice_write_emb r f w (Finset.mem_univ x)
    · rw [Rect.overlay_of_not_mem r _ w hy]
      exact View.read_slice_write_of_not_mem r f w _ (by rwa [Rect.map_emb_univ])
  iapply (wp_store Variants.none (c : Thread nD τ) none Set.univ (r := r) (hx := hx) (hm := hm) (S := m.view.set) (m.view.set_slice_subset r)) $$ H
  iintro H
  rw [wp_ret]
  imodintro
  iapply HQ
  iexists _
  isplitr; · ipureintro; exact hwr
  iexact H

/-- A word of a table: the element the unit rectangle names. -/
def word {s : Shape} {α : Type} (r : Rect s) (h1 : r.shape.numel = 1) (X : s.Idx → α) : α :=
  rd r X (Shape.Idx.first (h1.symm ▸ Nat.one_pos))

theorem load_word (c : Dev nD) {s : Shape} {e : EltTy} {m : Memref sig .tc .smem s e} (r : Rect s) (h1 : r.shape.numel = 1)
    (hp : e.packing = 1) {q : PosShare TreeShare} (X : s.Idx → Elt F e) (Q : Elt F e → sProp 𝕄) :
    iprop(owns (c : Thread nD τ) m q X ∗ (owns (c : Thread nD τ) m q X -∗ Q (word r h1 X)))
      ⊢ run c (smemLoad m r h1 hp) Q := by
  have e : run c (smemLoad m r h1 hp) Q
      = run c (Prog.lift (.load m r.toLoadRect (View.loadsAt_rect (View.loads_smem_one hp h1))) >>= fun f =>
          pure (f (Shape.Idx.first (h1.symm ▸ Nat.one_pos)))) Q := rfl
  unfold word
  rw [e, run_bind]
  iintro ⟨H, HQ⟩
  iapply (load_rd c r _ X)
  isplitl [H]; · iexact H
  iintro H
  rw [run_pure]
  imodintro
  iapply HQ
  iexact H

/-- The same with the word known. -/
theorem load_word_of (c : Dev nD) {s : Shape} {e : EltTy} {m : Memref sig .tc .smem s e} {r : Rect s} {h1 : r.shape.numel = 1}
    {hp : e.packing = 1} {q : PosShare TreeShare} {X : s.Idx → Elt F e} {v : Elt F e} (hv : word r h1 X = v) (Q : Elt F e → sProp 𝕄) :
    iprop(owns (c : Thread nD τ) m q X ∗ (owns (c : Thread nD τ) m q X -∗ Q v))
      ⊢ run c (smemLoad m r h1 hp) Q := by
  subst hv
  exact load_word c r h1 hp X Q

/-- The contents of the five input blocks at a grid point: queries, keys, values, log-sums, output gradients. -/
structure Ins (F : FTy → Type) where
  q : S1x2048x256.Idx → Elt F .bf16
  k : S1x2048x256.Idx → Elt F .bf16
  v : S1x2048x256.Idx → Elt F .bf16
  l : S1x2048x128.Idx → Elt F .f32
  d : S1x2048x256.Idx → Elt F .bf16

variable (c : Dev nD)
  {arg4 : Memref sig .tc .vmem S1x2048x256 .bf16}
  {arg5 : Memref sig .tc .vmem S1x2048x256 .bf16}
  {arg6 : Memref sig .tc .vmem S1x2048x256 .bf16}
  {arg7 : Memref sig .tc .vmem S1x2048x128 .f32}
  {arg8 : Memref sig .tc .vmem S1x2048x256 .bf16}
  {arg9 : Memref sig .tc .vmem S1x8192x256 .f32}
  {arg10 : Memref sig .tc .vmem S1x2048x256 .f32}
  {arg11 : Memref sig .tc .vmem S1x2048x128 .f32}
  {X9 : S1x8192x256.Idx → Elt F .f32}  {X10 : S1x2048x256.Idx → Elt F .f32}  {X11 : S1x2048x128.Idx → Elt F .f32}
  {I : Ins F}

/-- The eight blocks held together: the inputs at `I`, the three results at `X9`, `X10`, `X11`. -/
def blocks (arg4 : Memref sig .tc .vmem S1x2048x256 .bf16) (arg5 : Memref sig .tc .vmem S1x2048x256 .bf16) (arg6 : Memref sig .tc .vmem S1x2048x256 .bf16) (arg7 : Memref sig .tc .vmem S1x2048x128 .f32) (arg8 : Memref sig .tc .vmem S1x2048x256 .bf16) (arg9 : Memref sig .tc .vmem S1x8192x256 .f32) (arg10 : Memref sig .tc .vmem S1x2048x256 .f32) (arg11 : Memref sig .tc .vmem S1x2048x128 .f32)
    (I : Ins F) (X9 : S1x8192x256.Idx → Elt F .f32) (X10 : S1x2048x256.Idx → Elt F .f32) (X11 : S1x2048x128.Idx → Elt F .f32) : sProp 𝕄 :=
  iprop(owns (c : Thread nD τ) arg4 fullShare I.q ∗ owns (c : Thread nD τ) arg5 fullShare I.k ∗ owns (c : Thread nD τ) arg6 fullShare I.v ∗ owns (c : Thread nD τ) arg7 fullShare I.l ∗ owns (c : Thread nD τ) arg8 fullShare I.d ∗ owns (c : Thread nD τ) arg9 fullShare X9 ∗ owns (c : Thread nD τ) arg10 fullShare X10 ∗ owns (c : Thread nD τ) arg11 fullShare X11)

theorem ld4 {r : Rect S1x2048x256} {hl : arg4.view.LoadsAt r.toLoadRect} (Q : (r.shape.Idx → Elt F .bf16) → sProp 𝕄) :
    iprop(blocks c arg4 arg5 arg6 arg7 arg8 arg9 arg10 arg11 I X9 X10 X11 ∗ (blocks c arg4 arg5 arg6 arg7 arg8 arg9 arg10 arg11 I X9 X10 X11 -∗ Q (rd r I.q)))
      ⊢ run c (Prog.lift (.load arg4 r.toLoadRect hl)) Q := by
  unfold blocks
  iintro ⟨⟨H4, H5, H6, H7, H8, H9, H10, H11⟩, HQ⟩
  iapply (load_rd c r hl)
  isplitl [H4]; · iexact H4
  iintro H4
  iapply HQ
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem ld5 {r : Rect S1x2048x256} {hl : arg5.view.LoadsAt r.toLoadRect} (Q : (r.shape.Idx → Elt F .bf16) → sProp 𝕄) :
    iprop(blocks c arg4 arg5 arg6 arg7 arg8 arg9 arg10 arg11 I X9 X10 X11 ∗ (blocks c arg4 arg5 arg6 arg7 arg8 arg9 arg10 arg11 I X9 X10 X11 -∗ Q (rd r I.k)))
      ⊢ run c (Prog.lift (.load arg5 r.toLoadRect hl)) Q := by
  unfold blocks
  iintro ⟨⟨H4, H5, H6, H7, H8, H9, H10, H11⟩, HQ⟩
  iapply (load_rd c r hl)
  isplitl [H5]; · iexact H5
  iintro H5
  iapply HQ
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem ld6 {r : Rect S1x2048x256} {hl : arg6.view.LoadsAt r.toLoadRect} (Q : (r.shape.Idx → Elt F .bf16) → sProp 𝕄) :
    iprop(blocks c arg4 arg5 arg6 arg7 arg8 arg9 arg10 arg11 I X9 X10 X11 ∗ (blocks c arg4 arg5 arg6 arg7 arg8 arg9 arg10 arg11 I X9 X10 X11 -∗ Q (rd r I.v)))
      ⊢ run c (Prog.lift (.load arg6 r.toLoadRect hl)) Q := by
  unfold blocks
  iintro ⟨⟨H4, H5, H6, H7, H8, H9, H10, H11⟩, HQ⟩
  iapply (load_rd c r hl)
  isplitl [H6]; · iexact H6
  iintro H6
  iapply HQ
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem ld7 {r : Rect S1x2048x128} {hl : arg7.view.LoadsAt r.toLoadRect} (Q : (r.shape.Idx → Elt F .f32) → sProp 𝕄) :
    iprop(blocks c arg4 arg5 arg6 arg7 arg8 arg9 arg10 arg11 I X9 X10 X11 ∗ (blocks c arg4 arg5 arg6 arg7 arg8 arg9 arg10 arg11 I X9 X10 X11 -∗ Q (rd r I.l)))
      ⊢ run c (Prog.lift (.load arg7 r.toLoadRect hl)) Q := by
  unfold blocks
  iintro ⟨⟨H4, H5, H6, H7, H8, H9, H10, H11⟩, HQ⟩
  iapply (load_rd c r hl)
  isplitl [H7]; · iexact H7
  iintro H7
  iapply HQ
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem ld8 {r : Rect S1x2048x256} {hl : arg8.view.LoadsAt r.toLoadRect} (Q : (r.shape.Idx → Elt F .bf16) → sProp 𝕄) :
    iprop(blocks c arg4 arg5 arg6 arg7 arg8 arg9 arg10 arg11 I X9 X10 X11 ∗ (blocks c arg4 arg5 arg6 arg7 arg8 arg9 arg10 arg11 I X9 X10 X11 -∗ Q (rd r I.d)))
      ⊢ run c (Prog.lift (.load arg8 r.toLoadRect hl)) Q := by
  unfold blocks
  iintro ⟨⟨H4, H5, H6, H7, H8, H9, H10, H11⟩, HQ⟩
  iapply (load_rd c r hl)
  isplitl [H8]; · iexact H8
  iintro H8
  iapply HQ
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem ld9 {r : Rect S1x8192x256} {hl : arg9.view.LoadsAt r.toLoadRect} (Q : (r.shape.Idx → Elt F .f32) → sProp 𝕄) :
    iprop(blocks c arg4 arg5 arg6 arg7 arg8 arg9 arg10 arg11 I X9 X10 X11 ∗ (blocks c arg4 arg5 arg6 arg7 arg8 arg9 arg10 arg11 I X9 X10 X11 -∗ Q (rd r X9)))
      ⊢ run c (Prog.lift (.load arg9 r.toLoadRect hl)) Q := by
  unfold blocks
  iintro ⟨⟨H4, H5, H6, H7, H8, H9, H10, H11⟩, HQ⟩
  iapply (load_rd c r hl)
  isplitl [H9]; · iexact H9
  iintro H9
  iapply HQ
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem ld10 {r : Rect S1x2048x256} {hl : arg10.view.LoadsAt r.toLoadRect} (Q : (r.shape.Idx → Elt F .f32) → sProp 𝕄) :
    iprop(blocks c arg4 arg5 arg6 arg7 arg8 arg9 arg10 arg11 I X9 X10 X11 ∗ (blocks c arg4 arg5 arg6 arg7 arg8 arg9 arg10 arg11 I X9 X10 X11 -∗ Q (rd r X10)))
      ⊢ run c (Prog.lift (.load arg10 r.toLoadRect hl)) Q := by
  unfold blocks
  iintro ⟨⟨H4, H5, H6, H7, H8, H9, H10, H11⟩, HQ⟩
  iapply (load_rd c r hl)
  isplitl [H10]; · iexact H10
  iintro H10
  iapply HQ
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem ld11 {r : Rect S1x2048x128} {hl : arg11.view.LoadsAt r.toLoadRect} (Q : (r.shape.Idx → Elt F .f32) → sProp 𝕄) :
    iprop(blocks c arg4 arg5 arg6 arg7 arg8 arg9 arg10 arg11 I X9 X10 X11 ∗ (blocks c arg4 arg5 arg6 arg7 arg8 arg9 arg10 arg11 I X9 X10 X11 -∗ Q (rd r X11)))
      ⊢ run c (Prog.lift (.load arg11 r.toLoadRect hl)) Q := by
  unfold blocks
  iintro ⟨⟨H4, H5, H6, H7, H8, H9, H10, H11⟩, HQ⟩
  iapply (load_rd c r hl)
  isplitl [H11]; · iexact H11
  iintro H11
  iapply HQ
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem st9 {r : Rect S1x8192x256} {w : r.shape.Idx → Elt F .f32} {hx : (arg9.access r).Stores Finset.univ}
    {hm : (Finset.univ : Finset r.shape.Idx) = Finset.univ ∨ ∀ a, r.stride a = 1} (Q : PUnit → sProp 𝕄) :
    iprop(blocks c arg4 arg5 arg6 arg7 arg8 arg9 arg10 arg11 I X9 X10 X11 ∗ (blocks c arg4 arg5 arg6 arg7 arg8 arg9 arg10 arg11 I (r.overlay X9 w) X10 X11 -∗ Q ⟨⟩))
      ⊢ run c (Prog.lift (.store arg9 r w Finset.univ hx hm)) Q := by
  unfold blocks
  iintro ⟨⟨H4, H5, H6, H7, H8, H9, H10, H11⟩, HQ⟩
  iapply (store_rd c r w hx hm)
  isplitl [H9]; · iexact H9
  iintro H9
  iapply HQ
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem st10 {r : Rect S1x2048x256} {w : r.shape.Idx → Elt F .f32} {hx : (arg10.access r).Stores Finset.univ}
    {hm : (Finset.univ : Finset r.shape.Idx) = Finset.univ ∨ ∀ a, r.stride a = 1} (Q : PUnit → sProp 𝕄) :
    iprop(blocks c arg4 arg5 arg6 arg7 arg8 arg9 arg10 arg11 I X9 X10 X11 ∗ (blocks c arg4 arg5 arg6 arg7 arg8 arg9 arg10 arg11 I X9 (r.overlay X10 w) X11 -∗ Q ⟨⟩))
      ⊢ run c (Prog.lift (.store arg10 r w Finset.univ hx hm)) Q := by
  unfold blocks
  iintro ⟨⟨H4, H5, H6, H7, H8, H9, H10, H11⟩, HQ⟩
  iapply (store_rd c r w hx hm)
  isplitl [H10]; · iexact H10
  iintro H10
  iapply HQ
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem st11 {r : Rect S1x2048x128} {w : r.shape.Idx → Elt F .f32} {hx : (arg11.access r).Stores Finset.univ}
    {hm : (Finset.univ : Finset r.shape.Idx) = Finset.univ ∨ ∀ a, r.stride a = 1} (Q : PUnit → sProp 𝕄) :
    iprop(blocks c arg4 arg5 arg6 arg7 arg8 arg9 arg10 arg11 I X9 X10 X11 ∗ (blocks c arg4 arg5 arg6 arg7 arg8 arg9 arg10 arg11 I X9 X10 (r.overlay X11 w) -∗ Q ⟨⟩))
      ⊢ run c (Prog.lift (.store arg11 r w Finset.univ hx hm)) Q := by
  unfold blocks
  iintro ⟨⟨H4, H5, H6, H7, H8, H9, H10, H11⟩, HQ⟩
  iapply (store_rd c r w hx hm)
  isplitl [H11]; · iexact H11
  iintro H11
  iapply HQ
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-! The same accesses at the head of a longer stretch. -/

variable {α : Type}

theorem ldb4 {r : Rect S1x2048x256} {hl : arg4.view.LoadsAt r.toLoadRect} {k : (r.shape.Idx → Elt F .bf16) → Prog (TpuEff nD τ sig (Elt F) Λ₀ .tc) α} (Q : α → sProp 𝕄) :
    iprop(blocks c arg4 arg5 arg6 arg7 arg8 arg9 arg10 arg11 I X9 X10 X11 ∗ (blocks c arg4 arg5 arg6 arg7 arg8 arg9 arg10 arg11 I X9 X10 X11 -∗ run c (k (rd r I.q)) Q))
      ⊢ run c (Prog.lift (.load arg4 r.toLoadRect hl) >>= k) Q := by
  rw [run_bind]
  exact ld4 c (fun x => run c (k x) Q)

theorem ldb5 {r : Rect S1x2048x256} {hl : arg5.view.LoadsAt r.toLoadRect} {k : (r.shape.Idx → Elt F .bf16) → Prog (TpuEff nD τ sig (Elt F) Λ₀ .tc) α} (Q : α → sProp 𝕄) :
    iprop(blocks c arg4 arg5 arg6 arg7 arg8 arg9 arg10 arg11 I X9 X10 X11 ∗ (blocks c arg4 arg5 arg6 arg7 arg8 arg9 arg10 arg11 I X9 X10 X11 -∗ run c (k (rd r I.k)) Q))
      ⊢ run c (Prog.lift (.load arg5 r.toLoadRect hl) >>= k) Q := by
  rw [run_bind]
  exact ld5 c (fun x => run c (k x) Q)

theorem ldb6 {r : Rect S1x2048x256} {hl : arg6.view.LoadsAt r.toLoadRect} {k : (r.shape.Idx → Elt F .bf16) → Prog (TpuEff nD τ sig (Elt F) Λ₀ .tc) α} (Q : α → sProp 𝕄) :
    iprop(blocks c arg4 arg5 arg6 arg7 arg8 arg9 arg10 arg11 I X9 X10 X11 ∗ (blocks c arg4 arg5 arg6 arg7 arg8 arg9 arg10 arg11 I X9 X10 X11 -∗ run c (k (rd r I.v)) Q))
      ⊢ run c (Prog.lift (.load arg6 r.toLoadRect hl) >>= k) Q := by
  rw [run_bind]
  exact ld6 c (fun x => run c (k x) Q)

theorem ldb7 {r : Rect S1x2048x128} {hl : arg7.view.LoadsAt r.toLoadRect} {k : (r.shape.Idx → Elt F .f32) → Prog (TpuEff nD τ sig (Elt F) Λ₀ .tc) α} (Q : α → sProp 𝕄) :
    iprop(blocks c arg4 arg5 arg6 arg7 arg8 arg9 arg10 arg11 I X9 X10 X11 ∗ (blocks c arg4 arg5 arg6 arg7 arg8 arg9 arg10 arg11 I X9 X10 X11 -∗ run c (k (rd r I.l)) Q))
      ⊢ run c (Prog.lift (.load arg7 r.toLoadRect hl) >>= k) Q := by
  rw [run_bind]
  exact ld7 c (fun x => run c (k x) Q)

theorem ldb8 {r : Rect S1x2048x256} {hl : arg8.view.LoadsAt r.toLoadRect} {k : (r.shape.Idx → Elt F .bf16) → Prog (TpuEff nD τ sig (Elt F) Λ₀ .tc) α} (Q : α → sProp 𝕄) :
    iprop(blocks c arg4 arg5 arg6 arg7 arg8 arg9 arg10 arg11 I X9 X10 X11 ∗ (blocks c arg4 arg5 arg6 arg7 arg8 arg9 arg10 arg11 I X9 X10 X11 -∗ run c (k (rd r I.d)) Q))
      ⊢ run c (Prog.lift (.load arg8 r.toLoadRect hl) >>= k) Q := by
  rw [run_bind]
  exact ld8 c (fun x => run c (k x) Q)

theorem ldb9 {r : Rect S1x8192x256} {hl : arg9.view.LoadsAt r.toLoadRect} {k : (r.shape.Idx → Elt F .f32) → Prog (TpuEff nD τ sig (Elt F) Λ₀ .tc) α} (Q : α → sProp 𝕄) :
    iprop(blocks c arg4 arg5 arg6 arg7 arg8 arg9 arg10 arg11 I X9 X10 X11 ∗ (blocks c arg4 arg5 arg6 arg7 arg8 arg9 arg10 arg11 I X9 X10 X11 -∗ run c (k (rd r X9)) Q))
      ⊢ run c (Prog.lift (.load arg9 r.toLoadRect hl) >>= k) Q := by
  rw [run_bind]
  exact ld9 c (fun x => run c (k x) Q)

theorem ldb10 {r : Rect S1x2048x256} {hl : arg10.view.LoadsAt r.toLoadRect} {k : (r.shape.Idx → Elt F .f32) → Prog (TpuEff nD τ sig (Elt F) Λ₀ .tc) α} (Q : α → sProp 𝕄) :
    iprop(blocks c arg4 arg5 arg6 arg7 arg8 arg9 arg10 arg11 I X9 X10 X11 ∗ (blocks c arg4 arg5 arg6 arg7 arg8 arg9 arg10 arg11 I X9 X10 X11 -∗ run c (k (rd r X10)) Q))
      ⊢ run c (Prog.lift (.load arg10 r.toLoadRect hl) >>= k) Q := by
  rw [run_bind]
  exact ld10 c (fun x => run c (k x) Q)

theorem ldb11 {r : Rect S1x2048x128} {hl : arg11.view.LoadsAt r.toLoadRect} {k : (r.shape.Idx → Elt F .f32) → Prog (TpuEff nD τ sig (Elt F) Λ₀ .tc) α} (Q : α → sProp 𝕄) :
    iprop(blocks c arg4 arg5 arg6 arg7 arg8 arg9 arg10 arg11 I X9 X10 X11 ∗ (blocks c arg4 arg5 arg6 arg7 arg8 arg9 arg10 arg11 I X9 X10 X11 -∗ run c (k (rd r X11)) Q))
      ⊢ run c (Prog.lift (.load arg11 r.toLoadRect hl) >>= k) Q := by
  rw [run_bind]
  exact ld11 c (fun x => run c (k x) Q)

theorem stb9 {r : Rect S1x8192x256} {w : r.shape.Idx → Elt F .f32} {hx : (arg9.access r).Stores Finset.univ}
    {hm : (Finset.univ : Finset r.shape.Idx) = Finset.univ ∨ ∀ a, r.stride a = 1} {k : PUnit → Prog (TpuEff nD τ sig (Elt F) Λ₀ .tc) α} (Q : α → sProp 𝕄) :
    iprop(blocks c arg4 arg5 arg6 arg7 arg8 arg9 arg10 arg11 I X9 X10 X11 ∗ (blocks c arg4 arg5 arg6 arg7 arg8 arg9 arg10 arg11 I (r.overlay X9 w) X10 X11 -∗ run c (k ⟨⟩) Q))
      ⊢ run c (Prog.lift (.store arg9 r w Finset.univ hx hm) >>= k) Q := by
  rw [run_bind]
  exact st9 c (fun x => run c (k x) Q)

theorem stb10 {r : Rect S1x2048x256} {w : r.shape.Idx → Elt F .f32} {hx : (arg10.access r).Stores Finset.univ}
    {hm : (Finset.univ : Finset r.shape.Idx) = Finset.univ ∨ ∀ a, r.stride a = 1} {k : PUnit → Prog (TpuEff nD τ sig (Elt F) Λ₀ .tc) α} (Q : α → sProp 𝕄) :
    iprop(blocks c arg4 arg5 arg6 arg7 arg8 arg9 arg10 arg11 I X9 X10 X11 ∗ (blocks c arg4 arg5 arg6 arg7 arg8 arg9 arg10 arg11 I X9 (r.overlay X10 w) X11 -∗ run c (k ⟨⟩) Q))
      ⊢ run c (Prog.lift (.store arg10 r w Finset.univ hx hm) >>= k) Q := by
  rw [run_bind]
  exact st10 c (fun x => run c (k x) Q)

theorem stb11 {r : Rect S1x2048x128} {w : r.shape.Idx → Elt F .f32} {hx : (arg11.access r).Stores Finset.univ}
    {hm : (Finset.univ : Finset r.shape.Idx) = Finset.univ ∨ ∀ a, r.stride a = 1} {k : PUnit → Prog (TpuEff nD τ sig (Elt F) Λ₀ .tc) α} (Q : α → sProp 𝕄) :
    iprop(blocks c arg4 arg5 arg6 arg7 arg8 arg9 arg10 arg11 I X9 X10 X11 ∗ (blocks c arg4 arg5 arg6 arg7 arg8 arg9 arg10 arg11 I X9 X10 (r.overlay X11 w) -∗ run c (k ⟨⟩) Q))
      ⊢ run c (Prog.lift (.store arg11 r w Finset.univ hx hm) >>= k) Q := by
  rw [run_bind]
  exact st11 c (fun x => run c (k x) Q)

/-- A check that holds. -/
theorem check_b {P : Prop} {d : Decidable P} (h : P) {k : PLift P → Prog (TpuEff nD τ sig (Elt F) Λ₀ .tc) α} (Q : α → sProp 𝕄) :
    run c (k ⟨h⟩) Q ⊢ run c (Prog.lift (.assume P d) >>= k) Q :=
  wp_assume Variants.none (c : Thread nD τ) none Set.univ (k := k) h

/-- The end of a stretch: what it returns is what the rest takes. -/
theorem ret_done {a : α} (Q : α → sProp 𝕄) : Q a ⊢ run c (pure a) Q := by
  rw [run_pure]
  iintro H
  imodintro
  iexact H

end Cert.Flash
-- ==== Proof.Flash.BelowVal.lean ====
/-
  The values at a grid point below the diagonal: the value each stretch of the body hands to the next, as a function of the
  input blocks, and one definition per update of a result block.
-/
module

public import proofs.«01_k».proof.Proof.Flash.Steps

@[expose] public section

noncomputable section

namespace Cert.Flash

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- Sub-block 0 of the rows below the diagonal: `dv` with its contribution added. -/
def dvB0 (I : Ins F) (X11 : S1x2048x128.Idx → Elt F .f32) : S1x2048x128.Idx → Elt F .f32 :=
  Rect.overlay (Rect.unit (s := S1x2048x128) ![0, 0, 0] S1x2048x128.size inb_S1x2048x128_S1x2048x128_0_0_0) X11
    (k0_pay8 (rd (Rect.unit (s := S1x2048x256) ![0, 0, 0] S1x256x256.size inb_S1x2048x256_S1x256x256_0_0_0) I.q) (rd (Rect.unit (s := S1x2048x256) ![0, 0, 0] S1x2048x256.size inb_S1x2048x256_S1x2048x256_0_0_0) I.k) (rd (Rect.unit (s := S1x2048x128) ![0, 0, 0] S1x256x128.size inb_S1x2048x128_S1x256x128_0_0_0) I.l) (rd (Rect.unit (s := S1x2048x128) ![0, 0, 0] S1x2048x128.size inb_S1x2048x128_S1x2048x128_0_0_0) X11) (rd (Rect.unit (s := S1x2048x256) ![0, 0, 0] S1x256x128.size inb_S1x2048x256_S1x256x128_0_0_0) I.d))

def v17B (I : Ins F) : FVec F S256x256 .bf16 :=
  k0_pay4 (rd (Rect.unit (s := S1x2048x256) ![0, 0, 0] S1x256x256.size inb_S1x2048x256_S1x256x256_0_0_0) I.q)

def v19B (I : Ins F) : FVec F S2048x256 .bf16 :=
  k0_pay5 (rd (Rect.unit (s := S1x2048x256) ![0, 0, 0] S1x2048x256.size inb_S1x2048x256_S1x2048x256_0_0_0) I.k)

def v32B (I : Ins F) : FVec F S256x2048 .bf16 :=
  k0_pay7 (rd (Rect.unit (s := S1x2048x256) ![0, 0, 0] S1x256x256.size inb_S1x2048x256_S1x256x256_0_0_0) I.q) (rd (Rect.unit (s := S1x2048x256) ![0, 0, 0] S1x2048x256.size inb_S1x2048x256_S1x2048x256_0_0_0) I.k) (rd (Rect.unit (s := S1x2048x128) ![0, 0, 0] S1x256x128.size inb_S1x2048x128_S1x256x128_0_0_0) I.l) (rd (Rect.unit (s := S1x2048x256) ![0, 0, 0] S1x256x256.size inb_S1x2048x256_S1x256x256_0_0_0) I.d) (rd (Rect.unit (s := S1x2048x256) ![0, 0, 0] S1x2048x256.size inb_S1x2048x256_S1x2048x256_0_0_0) I.v)

def v44B (I : Ins F) (X10 : S1x2048x256.Idx → Elt F .f32) : FVec F S2048x256 .f32 :=
  k0_pay9 (rd (Rect.unit (s := S1x2048x256) ![0, 0, 0] S1x2048x256.size inb_S1x2048x256_S1x2048x256_0_0_0) X10)

/-- Sub-block 0 of the rows below the diagonal: `dk` with its contribution added. -/
def dkB0 (I : Ins F) (X10 : S1x2048x256.Idx → Elt F .f32) : S1x2048x256.Idx → Elt F .f32 :=
  Rect.overlay (Rect.unit (s := S1x2048x256) ![0, 0, 0] S1x2048x256.size inb_S1x2048x256_S1x2048x256_0_0_0) X10
    (k0_pay10 (v17B I) (v32B I) (v44B I X10))

/-- Sub-block 0 of the rows below the diagonal: `dq` with its contribution added. -/
def dqB0 (I : Ins F) (v1 v3 : Elt F .i32) (k0_hw1 : k0_chk1 v1 v3) (k0_h3 : k0_cond3 v1 v3 = 1#1) (X9 : S1x8192x256.Idx → Elt F .f32) : S1x8192x256.Idx → Elt F .f32 :=
  Rect.overlay (Rect.unit (s := S1x8192x256) (k0_off2 v1 0#32) S1x256x256.size (k0_off2_inb v1 v3 k0_hw1 k0_h3 0)) X9
    (k0_pay11 (v19B I) (v32B I) (rd (Rect.unit (s := S1x8192x256) (k0_off2 v1 0#32) S1x256x256.size (k0_off2_inb v1 v3 k0_hw1 k0_h3 0)) X9))

def v63B (I : Ins F) : FVec F S256x256 .bf16 :=
  k0_pay12 (rd (Rect.unit (s := S1x2048x256) ![0, 256, 0] S1x256x256.size inb_S1x2048x256_S1x256x256_0_256_0) I.q)

def v65B (I : Ins F) : FVec F S2048x256 .bf16 :=
  k0_pay13 (rd (Rect.unit (s := S1x2048x256) ![0, 0, 0] S1x2048x256.size inb_S1x2048x256_S1x2048x256_0_0_0) I.k)

def v71B (I : Ins F) : FVec F S256x2048 .f32 :=
  k0_pay14 (rd (Rect.unit (s := S1x2048x256) ![0, 256, 0] S1x256x256.size inb_S1x2048x256_S1x256x256_0_256_0) I.q) (rd (Rect.unit (s := S1x2048x256) ![0, 0, 0] S1x2048x256.size inb_S1x2048x256_S1x2048x256_0_0_0) I.k) (rd (Rect.unit (s := S1x2048x128) ![0, 256, 0] S1x256x128.size inb_S1x2048x128_S1x256x128_0_256_0) I.l)

def v73B (I : Ins F) : FVec F S256x256 .bf16 :=
  k0_pay15 (rd (Rect.unit (s := S1x2048x256) ![0, 256, 0] S1x256x256.size inb_S1x2048x256_S1x256x256_0_256_0) I.d)

def v75B (I : Ins F) : FVec F S2048x256 .bf16 :=
  k0_pay16 (rd (Rect.unit (s := S1x2048x256) ![0, 0, 0] S1x2048x256.size inb_S1x2048x256_S1x2048x256_0_0_0) I.v)

/-- Sub-block 1 of the rows below the diagonal: `dv` with its contribution added. -/
def dvB1 (I : Ins F) (X11 : S1x2048x128.Idx → Elt F .f32) : S1x2048x128.Idx → Elt F .f32 :=
  Rect.overlay (Rect.unit (s := S1x2048x128) ![0, 0, 0] S1x2048x128.size inb_S1x2048x128_S1x2048x128_0_0_0) X11
    (k0_pay18 (v71B I) (rd (Rect.unit (s := S1x2048x128) ![0, 0, 0] S1x2048x128.size inb_S1x2048x128_S1x2048x128_0_0_0) X11) (rd (Rect.unit (s := S1x2048x256) ![0, 256, 0] S1x256x128.size inb_S1x2048x256_S1x256x128_0_256_0) I.d))

/-- Sub-block 1 of the rows below the diagonal: `dk` with its contribution added. -/
def dkB1 (I : Ins F) (X10 : S1x2048x256.Idx → Elt F .f32) : S1x2048x256.Idx → Elt F .f32 :=
  Rect.overlay (Rect.unit (s := S1x2048x256) ![0, 0, 0] S1x2048x256.size inb_S1x2048x256_S1x2048x256_0_0_0) X10
    (k0_pay19 (v63B I) (v71B I) (v73B I) (v75B I) (rd (Rect.unit (s := S1x2048x256) ![0, 0, 0] S1x2048x256.size inb_S1x2048x256_S1x2048x256_0_0_0) X10))

/-- Sub-block 1 of the rows below the diagonal: `dq` with its contribution added. -/
def dqB1 (I : Ins F) (v1 v3 : Elt F .i32) (k0_hw1 : k0_chk1 v1 v3) (k0_h3 : k0_cond3 v1 v3 = 1#1) (X9 : S1x8192x256.Idx → Elt F .f32) : S1x8192x256.Idx → Elt F .f32 :=
  Rect.overlay (Rect.unit (s := S1x8192x256) (k0_off2 v1 256#32) S1x256x256.size (k0_off2_inb v1 v3 k0_hw1 k0_h3 1)) X9
    (k0_pay20 (v65B I) (v71B I) (v73B I) (v75B I) (rd (Rect.unit (s := S1x8192x256) (k0_off2 v1 256#32) S1x256x256.size (k0_off2_inb v1 v3 k0_hw1 k0_h3 1)) X9))

/-- Sub-block 2 of the rows below the diagonal: `dv` with its contribution added. -/
def dvB2 (I : Ins F) (X11 : S1x2048x128.Idx → Elt F .f32) : S1x2048x128.Idx → Elt F .f32 :=
  Rect.overlay (Rect.unit (s := S1x2048x128) ![0, 0, 0] S1x2048x128.size inb_S1x2048x128_S1x2048x128_0_0_0) X11
    (k0_pay25 (rd (Rect.unit (s := S1x2048x256) ![0, 512, 0] S1x256x256.size inb_S1x2048x256_S1x256x256_0_512_0) I.q) (rd (Rect.unit (s := S1x2048x256) ![0, 0, 0] S1x2048x256.size inb_S1x2048x256_S1x2048x256_0_0_0) I.k) (rd (Rect.unit (s := S1x2048x128) ![0, 512, 0] S1x256x128.size inb_S1x2048x128_S1x256x128_0_512_0) I.l) (rd (Rect.unit (s := S1x2048x128) ![0, 0, 0] S1x2048x128.size inb_S1x2048x128_S1x2048x128_0_0_0) X11) (rd (Rect.unit (s := S1x2048x256) ![0, 512, 0] S1x256x128.size inb_S1x2048x256_S1x256x128_0_512_0) I.d))

def v109B (I : Ins F) : FVec F S256x256 .bf16 :=
  k0_pay21 (rd (Rect.unit (s := S1x2048x256) ![0, 512, 0] S1x256x256.size inb_S1x2048x256_S1x256x256_0_512_0) I.q)

def v111B (I : Ins F) : FVec F S2048x256 .bf16 :=
  k0_pay22 (rd (Rect.unit (s := S1x2048x256) ![0, 0, 0] S1x2048x256.size inb_S1x2048x256_S1x2048x256_0_0_0) I.k)

def v124B (I : Ins F) : FVec F S256x2048 .bf16 :=
  k0_pay24 (rd (Rect.unit (s := S1x2048x256) ![0, 512, 0] S1x256x256.size inb_S1x2048x256_S1x256x256_0_512_0) I.q) (rd (Rect.unit (s := S1x2048x256) ![0, 0, 0] S1x2048x256.size inb_S1x2048x256_S1x2048x256_0_0_0) I.k) (rd (Rect.unit (s := S1x2048x128) ![0, 512, 0] S1x256x128.size inb_S1x2048x128_S1x256x128_0_512_0) I.l) (rd (Rect.unit (s := S1x2048x256) ![0, 512, 0] S1x256x256.size inb_S1x2048x256_S1x256x256_0_512_0) I.d) (rd (Rect.unit (s := S1x2048x256) ![0, 0, 0] S1x2048x256.size inb_S1x2048x256_S1x2048x256_0_0_0) I.v)

def v136B (I : Ins F) (X10 : S1x2048x256.Idx → Elt F .f32) : FVec F S2048x256 .f32 :=
  k0_pay26 (rd (Rect.unit (s := S1x2048x256) ![0, 0, 0] S1x2048x256.size inb_S1x2048x256_S1x2048x256_0_0_0) X10)

/-- Sub-block 2 of the rows below the diagonal: `dk` with its contribution added. -/
def dkB2 (I : Ins F) (X10 : S1x2048x256.Idx → Elt F .f32) : S1x2048x256.Idx → Elt F .f32 :=
  Rect.overlay (Rect.unit (s := S1x2048x256) ![0, 0, 0] S1x2048x256.size inb_S1x2048x256_S1x2048x256_0_0_0) X10
    (k0_pay27 (v109B I) (v124B I) (v136B I X10))

/-- Sub-block 2 of the rows below the diagonal: `dq` with its contribution added. -/
def dqB2 (I : Ins F) (v1 v3 : Elt F .i32) (k0_hw1 : k0_chk1 v1 v3) (k0_h3 : k0_cond3 v1 v3 = 1#1) (X9 : S1x8192x256.Idx → Elt F .f32) : S1x8192x256.Idx → Elt F .f32 :=
  Rect.overlay (Rect.unit (s := S1x8192x256) (k0_off2 v1 512#32) S1x256x256.size (k0_off2_inb v1 v3 k0_hw1 k0_h3 2)) X9
    (k0_pay28 (v111B I) (v124B I) (rd (Rect.unit (s := S1x8192x256) (k0_off2 v1 512#32) S1x256x256.size (k0_off2_inb v1 v3 k0_hw1 k0_h3 2)) X9))

def v155B (I : Ins F) : FVec F S256x256 .bf16 :=
  k0_pay29 (rd (Rect.unit (s := S1x2048x256) ![0, 768, 0] S1x256x256.size inb_S1x2048x256_S1x256x256_0_768_0) I.q)

def v157B (I : Ins F) : FVec F S2048x256 .bf16 :=
  k0_pay30 (rd (Rect.unit (s := S1x2048x256) ![0, 0, 0] S1x2048x256.size inb_S1x2048x256_S1x2048x256_0_0_0) I.k)

def v163B (I : Ins F) : FVec F S256x2048 .f32 :=
  k0_pay31 (rd (Rect.unit (s := S1x2048x256) ![0, 768, 0] S1x256x256.size inb_S1x2048x256_S1x256x256_0_768_0) I.q) (rd (Rect.unit (s := S1x2048x256) ![0, 0, 0] S1x2048x256.size inb_S1x2048x256_S1x2048x256_0_0_0) I.k) (rd (Rect.unit (s := S1x2048x128) ![0, 768, 0] S1x256x128.size inb_S1x2048x128_S1x256x128_0_768_0) I.l)

def v165B (I : Ins F) : FVec F S256x256 .bf16 :=
  k0_pay32 (rd (Rect.unit (s := S1x2048x256) ![0, 768, 0] S1x256x256.size inb_S1x2048x256_S1x256x256_0_768_0) I.d)

def v167B (I : Ins F) : FVec F S2048x256 .bf16 :=
  k0_pay33 (rd (Rect.unit (s := S1x2048x256) ![0, 0, 0] S1x2048x256.size inb_S1x2048x256_S1x2048x256_0_0_0) I.v)

/-- Sub-block 3 of the rows below the diagonal: `dv` with its contribution added. -/
def dvB3 (I : Ins F) (X11 : S1x2048x128.Idx → Elt F .f32) : S1x2048x128.Idx → Elt F .f32 :=
  Rect.overlay (Rect.unit (s := S1x2048x128) ![0, 0, 0] S1x2048x128.size inb_S1x2048x128_S1x2048x128_0_0_0) X11
    (k0_pay35 (v163B I) (rd (Rect.unit (s := S1x2048x128) ![0, 0, 0] S1x2048x128.size inb_S1x2048x128_S1x2048x128_0_0_0) X11) (rd (Rect.unit (s := S1x2048x256) ![0, 768, 0] S1x256x128.size inb_S1x2048x256_S1x256x128_0_768_0) I.d))

/-- Sub-block 3 of the rows below the diagonal: `dk` with its contribution added. -/
def dkB3 (I : Ins F) (X10 : S1x2048x256.Idx → Elt F .f32) : S1x2048x256.Idx → Elt F .f32 :=
  Rect.overlay (Rect.unit (s := S1x2048x256) ![0, 0, 0] S1x2048x256.size inb_S1x2048x256_S1x2048x256_0_0_0) X10
    (k0_pay36 (v155B I) (v163B I) (v165B I) (v167B I) (rd (Rect.unit (s := S1x2048x256) ![0, 0, 0] S1x2048x256.size inb_S1x2048x256_S1x2048x256_0_0_0) X10))

/-- Sub-block 3 of the rows below the diagonal: `dq` with its contribution added. -/
def dqB3 (I : Ins F) (v1 v3 : Elt F .i32) (k0_hw1 : k0_chk1 v1 v3) (k0_h3 : k0_cond3 v1 v3 = 1#1) (X9 : S1x8192x256.Idx → Elt F .f32) : S1x8192x256.Idx → Elt F .f32 :=
  Rect.overlay (Rect.unit (s := S1x8192x256) (k0_off2 v1 768#32) S1x256x256.size (k0_off2_inb v1 v3 k0_hw1 k0_h3 3)) X9
    (k0_pay37 (v157B I) (v163B I) (v165B I) (v167B I) (rd (Rect.unit (s := S1x8192x256) (k0_off2 v1 768#32) S1x256x256.size (k0_off2_inb v1 v3 k0_hw1 k0_h3 3)) X9))

/-- Sub-block 4 of the rows below the diagonal: `dv` with its contribution added. -/
def dvB4 (I : Ins F) (X11 : S1x2048x128.Idx → Elt F .f32) : S1x2048x128.Idx → Elt F .f32 :=
  Rect.overlay (Rect.unit (s := S1x2048x128) ![0, 0, 0] S1x2048x128.size inb_S1x2048x128_S1x2048x128_0_0_0) X11
    (k0_pay42 (rd (Rect.unit (s := S1x2048x256) ![0, 1024, 0] S1x256x256.size inb_S1x2048x256_S1x256x256_0_1024_0) I.q) (rd (Rect.unit (s := S1x2048x256) ![0, 0, 0] S1x2048x256.size inb_S1x2048x256_S1x2048x256_0_0_0) I.k) (rd (Rect.unit (s := S1x2048x128) ![0, 1024, 0] S1x256x128.size inb_S1x2048x128_S1x256x128_0_1024_0) I.l) (rd (Rect.unit (s := S1x2048x128) ![0, 0, 0] S1x2048x128.size inb_S1x2048x128_S1x2048x128_0_0_0) X11) (rd (Rect.unit (s := S1x2048x256) ![0, 1024, 0] S1x256x128.size inb_S1x2048x256_S1x256x128_0_1024_0) I.d))

def v201B (I : Ins F) : FVec F S256x256 .bf16 :=
  k0_pay38 (rd (Rect.unit (s := S1x2048x256) ![0, 1024, 0] S1x256x256.size inb_S1x2048x256_S1x256x256_0_1024_0) I.q)

def v203B (I : Ins F) : FVec F S2048x256 .bf16 :=
  k0_pay39 (rd (Rect.unit (s := S1x2048x256) ![0, 0, 0] S1x2048x256.size inb_S1x2048x256_S1x2048x256_0_0_0) I.k)

def v216B (I : Ins F) : FVec F S256x2048 .bf16 :=
  k0_pay41 (rd (Rect.unit (s := S1x2048x256) ![0, 1024, 0] S1x256x256.size inb_S1x2048x256_S1x256x256_0_1024_0) I.q) (rd (Rect.unit (s := S1x2048x256) ![0, 0, 0] S1x2048x256.size inb_S1x2048x256_S1x2048x256_0_0_0) I.k) (rd (Rect.unit (s := S1x2048x128) ![0, 1024, 0] S1x256x128.size inb_S1x2048x128_S1x256x128_0_1024_0) I.l) (rd (Rect.unit (s := S1x2048x256) ![0, 1024, 0] S1x256x256.size inb_S1x2048x256_S1x256x256_0_1024_0) I.d) (rd (Rect.unit (s := S1x2048x256) ![0, 0, 0] S1x2048x256.size inb_S1x2048x256_S1x2048x256_0_0_0) I.v)

def v228B (I : Ins F) (X10 : S1x2048x256.Idx → Elt F .f32) : FVec F S2048x256 .f32 :=
  k0_pay43 (rd (Rect.unit (s := S1x2048x256) ![0, 0, 0] S1x2048x256.size inb_S1x2048x256_S1x2048x256_0_0_0) X10)

/-- Sub-block 4 of the rows below the diagonal: `dk` with its contribution added. -/
def dkB4 (I : Ins F) (X10 : S1x2048x256.Idx → Elt F .f32) : S1x2048x256.Idx → Elt F .f32 :=
  Rect.overlay (Rect.unit (s := S1x2048x256) ![0, 0, 0] S1x2048x256.size inb_S1x2048x256_S1x2048x256_0_0_0) X10
    (k0_pay44 (v201B I) (v216B I) (v228B I X10))

/-- Sub-block 4 of the rows below the diagonal: `dq` with its contribution added. -/
def dqB4 (I : Ins F) (v1 v3 : Elt F .i32) (k0_hw1 : k0_chk1 v1 v3) (k0_h3 : k0_cond3 v1 v3 = 1#1) (X9 : S1x8192x256.Idx → Elt F .f32) : S1x8192x256.Idx → Elt F .f32 :=
  Rect.overlay (Rect.unit (s := S1x8192x256) (k0_off2 v1 1024#32) S1x256x256.size (k0_off2_inb v1 v3 k0_hw1 k0_h3 4)) X9
    (k0_pay45 (v203B I) (v216B I) (rd (Rect.unit (s := S1x8192x256) (k0_off2 v1 1024#32) S1x256x256.size (k0_off2_inb v1 v3 k0_hw1 k0_h3 4)) X9))

def v247B (I : Ins F) : FVec F S256x256 .bf16 :=
  k0_pay46 (rd (Rect.unit (s := S1x2048x256) ![0, 1280, 0] S1x256x256.size inb_S1x2048x256_S1x256x256_0_1280_0) I.q)

def v249B (I : Ins F) : FVec F S2048x256 .bf16 :=
  k0_pay47 (rd (Rect.unit (s := S1x2048x256) ![0, 0, 0] S1x2048x256.size inb_S1x2048x256_S1x2048x256_0_0_0) I.k)

def v255B (I : Ins F) : FVec F S256x2048 .f32 :=
  k0_pay48 (rd (Rect.unit (s := S1x2048x256) ![0, 1280, 0] S1x256x256.size inb_S1x2048x256_S1x256x256_0_1280_0) I.q) (rd (Rect.unit (s := S1x2048x256) ![0, 0, 0] S1x2048x256.size inb_S1x2048x256_S1x2048x256_0_0_0) I.k) (rd (Rect.unit (s := S1x2048x128) ![0, 1280, 0] S1x256x128.size inb_S1x2048x128_S1x256x128_0_1280_0) I.l)

def v257B (I : Ins F) : FVec F S256x256 .bf16 :=
  k0_pay49 (rd (Rect.unit (s := S1x2048x256) ![0, 1280, 0] S1x256x256.size inb_S1x2048x256_S1x256x256_0_1280_0) I.d)

def v259B (I : Ins F) : FVec F S2048x256 .bf16 :=
  k0_pay50 (rd (Rect.unit (s := S1x2048x256) ![0, 0, 0] S1x2048x256.size inb_S1x2048x256_S1x2048x256_0_0_0) I.v)

/-- Sub-block 5 of the rows below the diagonal: `dv` with its contribution added. -/
def dvB5 (I : Ins F) (X11 : S1x2048x128.Idx → Elt F .f32) : S1x2048x128.Idx → Elt F .f32 :=
  Rect.overlay (Rect.unit (s := S1x2048x128) ![0, 0, 0] S1x2048x128.size inb_S1x2048x128_S1x2048x128_0_0_0) X11
    (k0_pay52 (v255B I) (rd (Rect.unit (s := S1x2048x128) ![0, 0, 0] S1x2048x128.size inb_S1x2048x128_S1x2048x128_0_0_0) X11) (rd (Rect.unit (s := S1x2048x256) ![0, 1280, 0] S1x256x128.size inb_S1x2048x256_S1x256x128_0_1280_0) I.d))

/-- Sub-block 5 of the rows below the diagonal: `dk` with its contribution added. -/
def dkB5 (I : Ins F) (X10 : S1x2048x256.Idx → Elt F .f32) : S1x2048x256.Idx → Elt F .f32 :=
  Rect.overlay (Rect.unit (s := S1x2048x256) ![0, 0, 0] S1x2048x256.size inb_S1x2048x256_S1x2048x256_0_0_0) X10
    (k0_pay53 (v247B I) (v255B I) (v257B I) (v259B I) (rd (Rect.unit (s := S1x2048x256) ![0, 0, 0] S1x2048x256.size inb_S1x2048x256_S1x2048x256_0_0_0) X10))

/-- Sub-block 5 of the rows below the diagonal: `dq` with its contribution added. -/
def dqB5 (I : Ins F) (v1 v3 : Elt F .i32) (k0_hw1 : k0_chk1 v1 v3) (k0_h3 : k0_cond3 v1 v3 = 1#1) (X9 : S1x8192x256.Idx → Elt F .f32) : S1x8192x256.Idx → Elt F .f32 :=
  Rect.overlay (Rect.unit (s := S1x8192x256) (k0_off2 v1 1280#32) S1x256x256.size (k0_off2_inb v1 v3 k0_hw1 k0_h3 5)) X9
    (k0_pay54 (v249B I) (v255B I) (v257B I) (v259B I) (rd (Rect.unit (s := S1x8192x256) (k0_off2 v1 1280#32) S1x256x256.size (k0_off2_inb v1 v3 k0_hw1 k0_h3 5)) X9))

/-- Sub-block 6 of the rows below the diagonal: `dv` with its contribution added. -/
def dvB6 (I : Ins F) (X11 : S1x2048x128.Idx → Elt F .f32) : S1x2048x128.Idx → Elt F .f32 :=
  Rect.overlay (Rect.unit (s := S1x2048x128) ![0, 0, 0] S1x2048x128.size inb_S1x2048x128_S1x2048x128_0_0_0) X11
    (k0_pay59 (rd (Rect.unit (s := S1x2048x256) ![0, 1536, 0] S1x256x256.size inb_S1x2048x256_S1x256x256_0_1536_0) I.q) (rd (Rect.unit (s := S1x2048x256) ![0, 0, 0] S1x2048x256.size inb_S1x2048x256_S1x2048x256_0_0_0) I.k) (rd (Rect.unit (s := S1x2048x128) ![0, 1536, 0] S1x256x128.size inb_S1x2048x128_S1x256x128_0_1536_0) I.l) (rd (Rect.unit (s := S1x2048x128) ![0, 0, 0] S1x2048x128.size inb_S1x2048x128_S1x2048x128_0_0_0) X11) (rd (Rect.unit (s := S1x2048x256) ![0, 1536, 0] S1x256x128.size inb_S1x2048x256_S1x256x128_0_1536_0) I.d))

def v293B (I : Ins F) : FVec F S256x256 .bf16 :=
  k0_pay55 (rd (Rect.unit (s := S1x2048x256) ![0, 1536, 0] S1x256x256.size inb_S1x2048x256_S1x256x256_0_1536_0) I.q)

def v295B (I : Ins F) : FVec F S2048x256 .bf16 :=
  k0_pay56 (rd (Rect.unit (s := S1x2048x256) ![0, 0, 0] S1x2048x256.size inb_S1x2048x256_S1x2048x256_0_0_0) I.k)

def v308B (I : Ins F) : FVec F S256x2048 .bf16 :=
  k0_pay58 (rd (Rect.unit (s := S1x2048x256) ![0, 1536, 0] S1x256x256.size inb_S1x2048x256_S1x256x256_0_1536_0) I.q) (rd (Rect.unit (s := S1x2048x256) ![0, 0, 0] S1x2048x256.size inb_S1x2048x256_S1x2048x256_0_0_0) I.k) (rd (Rect.unit (s := S1x2048x128) ![0, 1536, 0] S1x256x128.size inb_S1x2048x128_S1x256x128_0_1536_0) I.l) (rd (Rect.unit (s := S1x2048x256) ![0, 1536, 0] S1x256x256.size inb_S1x2048x256_S1x256x256_0_1536_0) I.d) (rd (Rect.unit (s := S1x2048x256) ![0, 0, 0] S1x2048x256.size inb_S1x2048x256_S1x2048x256_0_0_0) I.v)

def v320B (I : Ins F) (X10 : S1x2048x256.Idx → Elt F .f32) : FVec F S2048x256 .f32 :=
  k0_pay60 (rd (Rect.unit (s := S1x2048x256) ![0, 0, 0] S1x2048x256.size inb_S1x2048x256_S1x2048x256_0_0_0) X10)

/-- Sub-block 6 of the rows below the diagonal: `dk` with its contribution added. -/
def dkB6 (I : Ins F) (X10 : S1x2048x256.Idx → Elt F .f32) : S1x2048x256.Idx → Elt F .f32 :=
  Rect.overlay (Rect.unit (s := S1x2048x256) ![0, 0, 0] S1x2048x256.size inb_S1x2048x256_S1x2048x256_0_0_0) X10
    (k0_pay61 (v293B I) (v308B I) (v320B I X10))

/-- Sub-block 6 of the rows below the diagonal: `dq` with its contribution added. -/
def dqB6 (I : Ins F) (v1 v3 : Elt F .i32) (k0_hw1 : k0_chk1 v1 v3) (k0_h3 : k0_cond3 v1 v3 = 1#1) (X9 : S1x8192x256.Idx → Elt F .f32) : S1x8192x256.Idx → Elt F .f32 :=
  Rect.overlay (Rect.unit (s := S1x8192x256) (k0_off2 v1 1536#32) S1x256x256.size (k0_off2_inb v1 v3 k0_hw1 k0_h3 6)) X9
    (k0_pay62 (v295B I) (v308B I) (rd (Rect.unit (s := S1x8192x256) (k0_off2 v1 1536#32) S1x256x256.size (k0_off2_inb v1 v3 k0_hw1 k0_h3 6)) X9))

def v339B (I : Ins F) : FVec F S256x256 .bf16 :=
  k0_pay63 (rd (Rect.unit (s := S1x2048x256) ![0, 1792, 0] S1x256x256.size inb_S1x2048x256_S1x256x256_0_1792_0) I.q)

def v341B (I : Ins F) : FVec F S2048x256 .bf16 :=
  k0_pay64 (rd (Rect.unit (s := S1x2048x256) ![0, 0, 0] S1x2048x256.size inb_S1x2048x256_S1x2048x256_0_0_0) I.k)

def v347B (I : Ins F) : FVec F S256x2048 .f32 :=
  k0_pay65 (rd (Rect.unit (s := S1x2048x256) ![0, 1792, 0] S1x256x256.size inb_S1x2048x256_S1x256x256_0_1792_0) I.q) (rd (Rect.unit (s := S1x2048x256) ![0, 0, 0] S1x2048x256.size inb_S1x2048x256_S1x2048x256_0_0_0) I.k) (rd (Rect.unit (s := S1x2048x128) ![0, 1792, 0] S1x256x128.size inb_S1x2048x128_S1x256x128_0_1792_0) I.l)

def v349B (I : Ins F) : FVec F S256x256 .bf16 :=
  k0_pay66 (rd (Rect.unit (s := S1x2048x256) ![0, 1792, 0] S1x256x256.size inb_S1x2048x256_S1x256x256_0_1792_0) I.d)

def v351B (I : Ins F) : FVec F S2048x256 .bf16 :=
  k0_pay67 (rd (Rect.unit (s := S1x2048x256) ![0, 0, 0] S1x2048x256.size inb_S1x2048x256_S1x2048x256_0_0_0) I.v)

/-- Sub-block 7 of the rows below the diagonal: `dv` with its contribution added. -/
def dvB7 (I : Ins F) (X11 : S1x2048x128.Idx → Elt F .f32) : S1x2048x128.Idx → Elt F .f32 :=
  Rect.overlay (Rect.unit (s := S1x2048x128) ![0, 0, 0] S1x2048x128.size inb_S1x2048x128_S1x2048x128_0_0_0) X11
    (k0_pay69 (v347B I) (rd (Rect.unit (s := S1x2048x128) ![0, 0, 0] S1x2048x128.size inb_S1x2048x128_S1x2048x128_0_0_0) X11) (rd (Rect.unit (s := S1x2048x256) ![0, 1792, 0] S1x256x128.size inb_S1x2048x256_S1x256x128_0_1792_0) I.d))

/-- Sub-block 7 of the rows below the diagonal: `dk` with its contribution added. -/
def dkB7 (I : Ins F) (X10 : S1x2048x256.Idx → Elt F .f32) : S1x2048x256.Idx → Elt F .f32 :=
  Rect.overlay (Rect.unit (s := S1x2048x256) ![0, 0, 0] S1x2048x256.size inb_S1x2048x256_S1x2048x256_0_0_0) X10
    (k0_pay70 (v339B I) (v347B I) (v349B I) (v351B I) (rd (Rect.unit (s := S1x2048x256) ![0, 0, 0] S1x2048x256.size inb_S1x2048x256_S1x2048x256_0_0_0) X10))

/-- Sub-block 7 of the rows below the diagonal: `dq` with its contribution added. -/
def dqB7 (I : Ins F) (v1 v3 : Elt F .i32) (k0_hw1 : k0_chk1 v1 v3) (k0_h3 : k0_cond3 v1 v3 = 1#1) (X9 : S1x8192x256.Idx → Elt F .f32) : S1x8192x256.Idx → Elt F .f32 :=
  Rect.overlay (Rect.unit (s := S1x8192x256) (k0_off2 v1 1792#32) S1x256x256.size (k0_off2_inb v1 v3 k0_hw1 k0_h3 7)) X9
    (k0_pay71 (v341B I) (v347B I) (v349B I) (v351B I) (rd (Rect.unit (s := S1x8192x256) (k0_off2 v1 1792#32) S1x256x256.size (k0_off2_inb v1 v3 k0_hw1 k0_h3 7)) X9))

end Cert.Flash
-- ==== Proof.Flash.Below.lean ====
/-
  The stretches of the body at a grid point below the diagonal, one access after another: what each leaves in the result
  blocks and returns (`BelowVal.lean`).
-/
module

public import proofs.«01_k».proof.Proof.Flash.BelowVal

@[expose] public section

noncomputable section

namespace Cert.Flash

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (c : Dev nD) (i : grid0.Coords)
  (arg2 : Memref sig .tc .smem S10 .i32) (harg2 : arg2.IsWhole)
  (arg3 : Memref sig .tc .smem S10 .i32) (harg3 : arg3.IsWhole)
  (arg4 : Memref sig .tc .vmem S1x2048x256 .bf16) (harg4 : arg4.IsWhole)
  (arg5 : Memref sig .tc .vmem S1x2048x256 .bf16) (harg5 : arg5.IsWhole)
  (arg6 : Memref sig .tc .vmem S1x2048x256 .bf16) (harg6 : arg6.IsWhole)
  (arg7 : Memref sig .tc .vmem S1x2048x128 .f32) (harg7 : arg7.IsWhole)
  (arg8 : Memref sig .tc .vmem S1x2048x256 .bf16) (harg8 : arg8.IsWhole)
  (arg9 : Memref sig .tc .vmem S1x8192x256 .f32) (harg9 : arg9.IsWhole)
  (arg10 : Memref sig .tc .vmem S1x2048x256 .f32) (harg10 : arg10.IsWhole)
  (arg11 : Memref sig .tc .vmem S1x2048x128 .f32) (harg11 : arg11.IsWhole)
  (I : Ins F) (X9 : S1x8192x256.Idx → Elt F .f32) (X10 : S1x2048x256.Idx → Elt F .f32) (X11 : S1x2048x128.Idx → Elt F .f32)

theorem part1 (Q : _ → sProp 𝕄) :
    iprop(blocks c arg4 arg5 arg6 arg7 arg8 arg9 arg10 arg11 I X9 X10 X11 ∗ (blocks c arg4 arg5 arg6 arg7 arg8 arg9 arg10 arg11 I X9 X10 (dvB0 I X11) -∗ Q ⟨(v17B I), (v19B I), (v32B I), (v44B I X10)⟩))
      ⊢ run c (k0_part1 (F := F) i arg2 harg2 arg3 harg3 arg4 harg4 arg5 harg5 arg6 harg6 arg7 harg7 arg8 harg8 arg9 harg9 arg10 harg10 arg11 harg11 ) Q := by
  unfold dvB0 v17B v19B v32B v44B
  rw [k0_part1_eq_skeleton]
  unfold k0_part1_skel
  iintro ⟨H, HQ⟩
  iapply (ldb4 c)
  isplitl [H]; · iexact H
  iintro H
  iapply (ldb5 c)
  isplitl [H]; · iexact H
  iintro H
  iapply (ldb7 c)
  isplitl [H]; · iexact H
  iintro H
  iapply (ldb8 c)
  isplitl [H]; · iexact H
  iintro H
  iapply (ldb6 c)
  isplitl [H]; · iexact H
  iintro H
  iapply (ldb11 c)
  isplitl [H]; · iexact H
  iintro H
  iapply (ldb8 c)
  isplitl [H]; · iexact H
  iintro H
  iapply (ldb11 c)
  isplitl [H]; · iexact H
  iintro H
  iapply (stb11 c)
  isplitl [H]; · iexact H
  iintro H
  iapply (ldb10 c)
  isplitl [H]; · iexact H
  iintro H
  iapply (ret_done c)
  iapply HQ
  iexact H

theorem part2 (v1 v3 : Elt F .i32) (k0_hw1 : k0_chk1 v1 v3) (k0_h3 : k0_cond3 v1 v3 = 1#1)  (Q : _ → sProp 𝕄) :
    iprop(blocks c arg4 arg5 arg6 arg7 arg8 arg9 arg10 arg11 I X9 X10 X11 ∗ (blocks c arg4 arg5 arg6 arg7 arg8 arg9 arg10 arg11 I (dqB0 I v1 v3 k0_hw1 k0_h3 X9) (dkB0 I X10) X11 -∗ Q ⟨(v63B I), (v65B I), (v71B I), (v73B I), (v75B I)⟩))
      ⊢ run c (k0_part2 (F := F) i arg2 harg2 arg3 harg3 arg4 harg4 arg5 harg5 arg6 harg6 arg7 harg7 arg8 harg8 arg9 harg9 arg10 harg10 arg11 harg11 v1 v3 k0_hw1 k0_h3 (v17B I) (v19B I) (v32B I) (v44B I X10)) Q := by
  unfold dkB0 dqB0 v63B v65B v71B v73B v75B
  rw [k0_part2_eq_skeleton]
  unfold k0_part2_skel
  iintro ⟨H, HQ⟩
  iapply (ldb10 c)
  isplitl [H]; · iexact H
  iintro H
  iapply (stb10 c)
  isplitl [H]; · iexact H
  iintro H
  iapply (ldb9 c)
  isplitl [H]; · iexact H
  iintro H
  iapply (ldb9 c)
  isplitl [H]; · iexact H
  iintro H
  iapply (stb9 c)
  isplitl [H]; · iexact H
  iintro H
  iapply (ldb4 c)
  isplitl [H]; · iexact H
  iintro H
  iapply (ldb5 c)
  isplitl [H]; · iexact H
  iintro H
  iapply (ldb7 c)
  isplitl [H]; · iexact H
  iintro H
  iapply (ldb8 c)
  isplitl [H]; · iexact H
  iintro H
  iapply (ldb6 c)
  isplitl [H]; · iexact H
  iintro H
  iapply (ret_done c)
  iapply HQ
  iexact H

theorem part3 (v1 v3 : Elt F .i32) (k0_hw1 : k0_chk1 v1 v3) (k0_h3 : k0_cond3 v1 v3 = 1#1)  (Q : _ → sProp 𝕄) :
    iprop(blocks c arg4 arg5 arg6 arg7 arg8 arg9 arg10 arg11 I X9 X10 X11 ∗ (blocks c arg4 arg5 arg6 arg7 arg8 arg9 arg10 arg11 I (dqB1 I v1 v3 k0_hw1 k0_h3 X9) (dkB1 I X10) (dvB1 I X11) -∗ Q ⟨⟩))
      ⊢ run c (k0_part3 (F := F) i arg2 harg2 arg3 harg3 arg4 harg4 arg5 harg5 arg6 harg6 arg7 harg7 arg8 harg8 arg9 harg9 arg10 harg10 arg11 harg11 v1 v3 k0_hw1 k0_h3 (v63B I) (v65B I) (v71B I) (v73B I) (v75B I)) Q := by
  unfold dvB1 dkB1 dqB1
  rw [k0_part3_eq_skeleton]
  unfold k0_part3_skel
  iintro ⟨H, HQ⟩
  iapply (ldb11 c)
  isplitl [H]; · iexact H
  iintro H
  iapply (ldb8 c)
  isplitl [H]; · iexact H
  iintro H
  iapply (ldb11 c)
  isplitl [H]; · iexact H
  iintro H
  iapply (stb11 c)
  isplitl [H]; · iexact H
  iintro H
  iapply (ldb10 c)
  isplitl [H]; · iexact H
  iintro H
  iapply (ldb10 c)
  isplitl [H]; · iexact H
  iintro H
  iapply (stb10 c)
  isplitl [H]; · iexact H
  iintro H
  iapply (ldb9 c)
  isplitl [H]; · iexact H
  iintro H
  iapply (ldb9 c)
  isplitl [H]; · iexact H
  iintro H
  iapply (stb9 c)
  isplitl [H]; · iexact H
  iintro H
  iapply (ret_done c)
  iapply HQ
  iexact H

theorem part4 (Q : _ → sProp 𝕄) :
    iprop(blocks c arg4 arg5 arg6 arg7 arg8 arg9 arg10 arg11 I X9 X10 X11 ∗ (blocks c arg4 arg5 arg6 arg7 arg8 arg9 arg10 arg11 I X9 X10 (dvB2 I X11) -∗ Q ⟨(v109B I), (v111B I), (v124B I), (v136B I X10)⟩))
      ⊢ run c (k0_part4 (F := F) i arg2 harg2 arg3 harg3 arg4 harg4 arg5 harg5 arg6 harg6 arg7 harg7 arg8 harg8 arg9 harg9 arg10 harg10 arg11 harg11 ) Q := by
  unfold dvB2 v109B v111B v124B v136B
  rw [k0_part4_eq_skeleton]
  unfold k0_part4_skel
  iintro ⟨H, HQ⟩
  iapply (ldb4 c)
  isplitl [H]; · iexact H
  iintro H
  iapply (ldb5 c)
  isplitl [H]; · iexact H
  iintro H
  iapply (ldb7 c)
  isplitl [H]; · iexact H
  iintro H
  iapply (ldb8 c)
  isplitl [H]; · iexact H
  iintro H
  iapply (ldb6 c)
  isplitl [H]; · iexact H
  iintro H
  iapply (ldb11 c)
  isplitl [H]; · iexact H
  iintro H
  iapply (ldb8 c)
  isplitl [H]; · iexact H
  iintro H
  iapply (ldb11 c)
  isplitl [H]; · iexact H
  iintro H
  iapply (stb11 c)
  isplitl [H]; · iexact H
  iintro H
  iapply (ldb10 c)
  isplitl [H]; · iexact H
  iintro H
  iapply (ret_done c)
  iapply HQ
  iexact H

theorem part5 (v1 v3 : Elt F .i32) (k0_hw1 : k0_chk1 v1 v3) (k0_h3 : k0_cond3 v1 v3 = 1#1)  (Q : _ → sProp 𝕄) :
    iprop(blocks c arg4 arg5 arg6 arg7 arg8 arg9 arg10 arg11 I X9 X10 X11 ∗ (blocks c arg4 arg5 arg6 arg7 arg8 arg9 arg10 arg11 I (dqB2 I v1 v3 k0_hw1 k0_h3 X9) (dkB2 I X10) X11 -∗ Q ⟨(v155B I), (v157B I), (v163B I), (v165B I), (v167B I)⟩))
      ⊢ run c (k0_part5 (F := F) i arg2 harg2 arg3 harg3 arg4 harg4 arg5 harg5 arg6 harg6 arg7 harg7 arg8 harg8 arg9 harg9 arg10 harg10 arg11 harg11 v1 v3 k0_hw1 k0_h3 (v109B I) (v111B I) (v124B I) (v136B I X10)) Q := by
  unfold dkB2 dqB2 v155B v157B v163B v165B v167B
  rw [k0_part5_eq_skeleton]
  unfold k0_part5_skel
  iintro ⟨H, HQ⟩
  iapply (ldb10 c)
  isplitl [H]; · iexact H
  iintro H
  iapply (stb10 c)
  isplitl [H]; · iexact H
  iintro H
  iapply (ldb9 c)
  isplitl [H]; · iexact H
  iintro H
  iapply (ldb9 c)
  isplitl [H]; · iexact H
  iintro H
  iapply (stb9 c)
  isplitl [H]; · iexact H
  iintro H
  iapply (ldb4 c)
  isplitl [H]; · iexact H
  iintro H
  iapply (ldb5 c)
  isplitl [H]; · iexact H
  iintro H
  iapply (ldb7 c)
  isplitl [H]; · iexact H
  iintro H
  iapply (ldb8 c)
  isplitl [H]; · iexact H
  iintro H
  iapply (ldb6 c)
  isplitl [H]; · iexact H
  iintro H
  iapply (ret_done c)
  iapply HQ
  iexact H

theorem part6 (v1 v3 : Elt F .i32) (k0_hw1 : k0_chk1 v1 v3) (k0_h3 : k0_cond3 v1 v3 = 1#1)  (Q : _ → sProp 𝕄) :
    iprop(blocks c arg4 arg5 arg6 arg7 arg8 arg9 arg10 arg11 I X9 X10 X11 ∗ (blocks c arg4 arg5 arg6 arg7 arg8 arg9 arg10 arg11 I (dqB3 I v1 v3 k0_hw1 k0_h3 X9) (dkB3 I X10) (dvB3 I X11) -∗ Q ⟨⟩))
      ⊢ run c (k0_part6 (F := F) i arg2 harg2 arg3 harg3 arg4 harg4 arg5 harg5 arg6 harg6 arg7 harg7 arg8 harg8 arg9 harg9 arg10 harg10 arg11 harg11 v1 v3 k0_hw1 k0_h3 (v155B I) (v157B I) (v163B I) (v165B I) (v167B I)) Q := by
  unfold dvB3 dkB3 dqB3
  rw [k0_part6_eq_skeleton]
  unfold k0_part6_skel
  iintro ⟨H, HQ⟩
  iapply (ldb11 c)
  isplitl [H]; · iexact H
  iintro H
  iapply (ldb8 c)
  isplitl [H]; · iexact H
  iintro H
  iapply (ldb11 c)
  isplitl [H]; · iexact H
  iintro H
  iapply (stb11 c)
  isplitl [H]; · iexact H
  iintro H
  iapply (ldb10 c)
  isplitl [H]; · iexact H
  iintro H
  iapply (ldb10 c)
  isplitl [H]; · iexact H
  iintro H
  iapply (stb10 c)
  isplitl [H]; · iexact H
  iintro H
  iapply (ldb9 c)
  isplitl [H]; · iexact H
  iintro H
  iapply (ldb9 c)
  isplitl [H]; · iexact H
  iintro H
  iapply (stb9 c)
  isplitl [H]; · iexact H
  iintro H
  iapply (ret_done c)
  iapply HQ
  iexact H

theorem part7 (Q : _ → sProp 𝕄) :
    iprop(blocks c arg4 arg5 arg6 arg7 arg8 arg9 arg10 arg11 I X9 X10 X11 ∗ (blocks c arg4 arg5 arg6 arg7 arg8 arg9 arg10 arg11 I X9 X10 (dvB4 I X11) -∗ Q ⟨(v201B I), (v203B I), (v216B I), (v228B I X10)⟩))
      ⊢ run c (k0_part7 (F := F) i arg2 harg2 arg3 harg3 arg4 harg4 arg5 harg5 arg6 harg6 arg7 harg7 arg8 harg8 arg9 harg9 arg10 harg10 arg11 harg11 ) Q := by
  unfold dvB4 v201B v203B v216B v228B
  rw [k0_part7_eq_skeleton]
  unfold k0_part7_skel
  iintro ⟨H, HQ⟩
  iapply (ldb4 c)
  isplitl [H]; · iexact H
  iintro H
  iapply (ldb5 c)
  isplitl [H]; · iexact H
  iintro H
  iapply (ldb7 c)
  isplitl [H]; · iexact H
  iintro H
  iapply (ldb8 c)
  isplitl [H]; · iexact H
  iintro H
  iapply (ldb6 c)
  isplitl [H]; · iexact H
  iintro H
  iapply (ldb11 c)
  isplitl [H]; · iexact H
  iintro H
  iapply (ldb8 c)
  isplitl [H]; · iexact H
  iintro H
  iapply (ldb11 c)
  isplitl [H]; · iexact H
  iintro H
  iapply (stb11 c)
  isplitl [H]; · iexact H
  iintro H
  iapply (ldb10 c)
  isplitl [H]; · iexact H
  iintro H
  iapply (ret_done c)
  iapply HQ
  iexact H

theorem part8 (v1 v3 : Elt F .i32) (k0_hw1 : k0_chk1 v1 v3) (k0_h3 : k0_cond3 v1 v3 = 1#1)  (Q : _ → sProp 𝕄) :
    iprop(blocks c arg4 arg5 arg6 arg7 arg8 arg9 arg10 arg11 I X9 X10 X11 ∗ (blocks c arg4 arg5 arg6 arg7 arg8 arg9 arg10 arg11 I (dqB4 I v1 v3 k0_hw1 k0_h3 X9) (dkB4 I X10) X11 -∗ Q ⟨(v247B I), (v249B I), (v255B I), (v257B I), (v259B I)⟩))
      ⊢ run c (k0_part8 (F := F) i arg2 harg2 arg3 harg3 arg4 harg4 arg5 harg5 arg6 harg6 arg7 harg7 arg8 harg8 arg9 harg9 arg10 harg10 arg11 harg11 v1 v3 k0_hw1 k0_h3 (v201B I) (v203B I) (v216B I) (v228B I X10)) Q := by
  unfold dkB4 dqB4 v247B v249B v255B v257B v259B
  rw [k0_part8_eq_skeleton]
  unfold k0_part8_skel
  iintro ⟨H, HQ⟩
  iapply (ldb10 c)
  isplitl [H]; · iexact H
  iintro H
  iapply (stb10 c)
  isplitl [H]; · iexact H
  iintro H
  iapply (ldb9 c)
  isplitl [H]; · iexact H
  iintro H
  iapply (ldb9 c)
  isplitl [H]; · iexact H
  iintro H
  iapply (stb9 c)
  isplitl [H]; · iexact H
  iintro H
  iapply (ldb4 c)
  isplitl [H]; · iexact H
  iintro H
  iapply (ldb5 c)
  isplitl [H]; · iexact H
  iintro H
  iapply (ldb7 c)
  isplitl [H]; · iexact H
  iintro H
  iapply (ldb8 c)
  isplitl [H]; · iexact H
  iintro H
  iapply (ldb6 c)
  isplitl [H]; · iexact H
  iintro H
  iapply (ret_done c)
  iapply HQ
  iexact H

theorem part9 (v1 v3 : Elt F .i32) (k0_hw1 : k0_chk1 v1 v3) (k0_h3 : k0_cond3 v1 v3 = 1#1)  (Q : _ → sProp 𝕄) :
    iprop(blocks c arg4 arg5 arg6 arg7 arg8 arg9 arg10 arg11 I X9 X10 X11 ∗ (blocks c arg4 arg5 arg6 arg7 arg8 arg9 arg10 arg11 I (dqB5 I v1 v3 k0_hw1 k0_h3 X9) (dkB5 I X10) (dvB5 I X11) -∗ Q ⟨⟩))
      ⊢ run c (k0_part9 (F := F) i arg2 harg2 arg3 harg3 arg4 harg4 arg5 harg5 arg6 harg6 arg7 harg7 arg8 harg8 arg9 harg9 arg10 harg10 arg11 harg11 v1 v3 k0_hw1 k0_h3 (v247B I) (v249B I) (v255B I) (v257B I) (v259B I)) Q := by
  unfold dvB5 dkB5 dqB5
  rw [k0_part9_eq_skeleton]
  unfold k0_part9_skel
  iintro ⟨H, HQ⟩
  iapply (ldb11 c)
  isplitl [H]; · iexact H
  iintro H
  iapply (ldb8 c)
  isplitl [H]; · iexact H
  iintro H
  iapply (ldb11 c)
  isplitl [H]; · iexact H
  iintro H
  iapply (stb11 c)
  isplitl [H]; · iexact H
  iintro H
  iapply (ldb10 c)
  isplitl [H]; · iexact H
  iintro H
  iapply (ldb10 c)
  isplitl [H]; · iexact H
  iintro H
  iapply (stb10 c)
  isplitl [H]; · iexact H
  iintro H
  iapply (ldb9 c)
  isplitl [H]; · iexact H
  iintro H
  iapply (ldb9 c)
  isplitl [H]; · iexact H
  iintro H
  iapply (stb9 c)
  isplitl [H]; · iexact H
  iintro H
  iapply (ret_done c)
  iapply HQ
  iexact H

theorem part10 (Q : _ → sProp 𝕄) :
    iprop(blocks c arg4 arg5 arg6 arg7 arg8 arg9 arg10 arg11 I X9 X10 X11 ∗ (blocks c arg4 arg5 arg6 arg7 arg8 arg9 arg10 arg11 I X9 X10 (dvB6 I X11) -∗ Q ⟨(v293B I), (v295B I), (v308B I), (v320B I X10)⟩))
      ⊢ run c (k0_part10 (F := F) i arg2 harg2 arg3 harg3 arg4 harg4 arg5 harg5 arg6 harg6 arg7 harg7 arg8 harg8 arg9 harg9 arg10 harg10 arg11 harg11 ) Q := by
  unfold dvB6 v293B v295B v308B v320B
  rw [k0_part10_eq_skeleton]
  unfold k0_part10_skel
  iintro ⟨H, HQ⟩
  iapply (ldb4 c)
  isplitl [H]; · iexact H
  iintro H
  iapply (ldb5 c)
  isplitl [H]; · iexact H
  iintro H
  iapply (ldb7 c)
  isplitl [H]; · iexact H
  iintro H
  iapply (ldb8 c)
  isplitl [H]; · iexact H
  iintro H
  iapply (ldb6 c)
  isplitl [H]; · iexact H
  iintro H
  iapply (ldb11 c)
  isplitl [H]; · iexact H
  iintro H
  iapply (ldb8 c)
  isplitl [H]; · iexact H
  iintro H
  iapply (ldb11 c)
  isplitl [H]; · iexact H
  iintro H
  iapply (stb11 c)
  isplitl [H]; · iexact H
  iintro H
  iapply (ldb10 c)
  isplitl [H]; · iexact H
  iintro H
  iapply (ret_done c)
  iapply HQ
  iexact H

theorem part11 (v1 v3 : Elt F .i32) (k0_hw1 : k0_chk1 v1 v3) (k0_h3 : k0_cond3 v1 v3 = 1#1)  (Q : _ → sProp 𝕄) :
    iprop(blocks c arg4 arg5 arg6 arg7 arg8 arg9 arg10 arg11 I X9 X10 X11 ∗ (blocks c arg4 arg5 arg6 arg7 arg8 arg9 arg10 arg11 I (dqB6 I v1 v3 k0_hw1 k0_h3 X9) (dkB6 I X10) X11 -∗ Q ⟨(v339B I), (v341B I), (v347B I), (v349B I), (v351B I)⟩))
      ⊢ run c (k0_part11 (F := F) i arg2 harg2 arg3 harg3 arg4 harg4 arg5 harg5 arg6 harg6 arg7 harg7 arg8 harg8 arg9 harg9 arg10 harg10 arg11 harg11 v1 v3 k0_hw1 k0_h3 (v293B I) (v295B I) (v308B I) (v320B I X10)) Q := by
  unfold dkB6 dqB6 v339B v341B v347B v349B v351B
  rw [k0_part11_eq_skeleton]
  unfold k0_part11_skel
  iintro ⟨H, HQ⟩
  iapply (ldb10 c)
  isplitl [H]; · iexact H
  iintro H
  iapply (stb10 c)
  isplitl [H]; · iexact H
  iintro H
  iapply (ldb9 c)
  isplitl [H]; · iexact H
  iintro H
  iapply (ldb9 c)
  isplitl [H]; · iexact H
  iintro H
  iapply (stb9 c)
  isplitl [H]; · iexact H
  iintro H
  iapply (ldb4 c)
  isplitl [H]; · iexact H
  iintro H
  iapply (ldb5 c)
  isplitl [H]; · iexact H
  iintro H
  iapply (ldb7 c)
  isplitl [H]; · iexact H
  iintro H
  iapply (ldb8 c)
  isplitl [H]; · iexact H
  iintro H
  iapply (ldb6 c)
  isplitl [H]; · iexact H
  iintro H
  iapply (ret_done c)
  iapply HQ
  iexact H

theorem part12 (v1 v3 : Elt F .i32) (k0_hw1 : k0_chk1 v1 v3) (k0_h3 : k0_cond3 v1 v3 = 1#1)  (Q : _ → sProp 𝕄) :
    iprop(blocks c arg4 arg5 arg6 arg7 arg8 arg9 arg10 arg11 I X9 X10 X11 ∗ (blocks c arg4 arg5 arg6 arg7 arg8 arg9 arg10 arg11 I (dqB7 I v1 v3 k0_hw1 k0_h3 X9) (dkB7 I X10) (dvB7 I X11) -∗ Q ⟨⟩))
      ⊢ run c (k0_part12 (F := F) i arg2 harg2 arg3 harg3 arg4 harg4 arg5 harg5 arg6 harg6 arg7 harg7 arg8 harg8 arg9 harg9 arg10 harg10 arg11 harg11 v1 v3 k0_hw1 k0_h3 (v339B I) (v341B I) (v347B I) (v349B I) (v351B I)) Q := by
  unfold dvB7 dkB7 dqB7
  rw [k0_part12_eq_skeleton]
  unfold k0_part12_skel
  iintro ⟨H, HQ⟩
  iapply (ldb11 c)
  isplitl [H]; · iexact H
  iintro H
  iapply (ldb8 c)
  isplitl [H]; · iexact H
  iintro H
  iapply (ldb11 c)
  isplitl [H]; · iexact H
  iintro H
  iapply (stb11 c)
  isplitl [H]; · iexact H
  iintro H
  iapply (ldb10 c)
  isplitl [H]; · iexact H
  iintro H
  iapply (ldb10 c)
  isplitl [H]; · iexact H
  iintro H
  iapply (stb10 c)
  isplitl [H]; · iexact H
  iintro H
  iapply (ldb9 c)
  isplitl [H]; · iexact H
  iintro H
  iapply (ldb9 c)
  isplitl [H]; · iexact H
  iintro H
  iapply (stb9 c)
  isplitl [H]; · iexact H
  iintro H
  iapply (ret_done c)
  iapply HQ
  iexact H

end Cert.Flash
-- ==== Proof.Flash.DiagVal.lean ====
/-
  The values at a grid point on the diagonal: the value each stretch of the body hands to the next, as a function of the
  input blocks, and one definition per update of a result block.
-/
module

public import proofs.«01_k».proof.Proof.Flash.Steps

@[expose] public section

noncomputable section

namespace Cert.Flash

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

def v17D (I : Ins F) : FVec F S256x256 .bf16 :=
  k0_pay72 (rd (Rect.unit (s := S1x2048x256) ![0, 0, 0] S1x256x256.size inb_S1x2048x256_S1x256x256_0_0_0) I.q)

def v19D (I : Ins F) : FVec F S256x256 .bf16 :=
  k0_pay73 (rd (Rect.unit (s := S1x2048x256) ![0, 0, 0] S1x256x256.size inb_S1x2048x256_S1x256x256_0_0_0) I.k)

def v43D (I : Ins F) : FVec F S256x256 .bf16 :=
  k0_pay75 (rd (Rect.unit (s := S1x2048x256) ![0, 0, 0] S1x256x256.size inb_S1x2048x256_S1x256x256_0_0_0) I.q) (rd (Rect.unit (s := S1x2048x256) ![0, 0, 0] S1x256x256.size inb_S1x2048x256_S1x256x256_0_0_0) I.k) (rd (Rect.unit (s := S1x2048x128) ![0, 0, 0] S1x256x128.size inb_S1x2048x128_S1x256x128_0_0_0) I.l) (rd (Rect.unit (s := S1x2048x256) ![0, 0, 0] S1x256x256.size inb_S1x2048x256_S1x256x256_0_0_0) I.d) (rd (Rect.unit (s := S1x2048x256) ![0, 0, 0] S1x256x256.size inb_S1x2048x256_S1x256x256_0_0_0) I.v)

def v45D (I : Ins F) (X11 : S1x2048x128.Idx → Elt F .f32) : FVec F S256x128 .f32 :=
  k0_pay76 (rd (Rect.unit (s := S1x2048x128) ![0, 0, 0] S1x256x128.size inb_S1x2048x128_S1x256x128_0_0_0) X11)

def v46D (I : Ins F) : FVec F S256x256 .bf16 :=
  k0_pay77 (rd (Rect.unit (s := S1x2048x256) ![0, 0, 0] S1x256x256.size inb_S1x2048x256_S1x256x256_0_0_0) I.q) (rd (Rect.unit (s := S1x2048x256) ![0, 0, 0] S1x256x256.size inb_S1x2048x256_S1x256x256_0_0_0) I.k) (rd (Rect.unit (s := S1x2048x128) ![0, 0, 0] S1x256x128.size inb_S1x2048x128_S1x256x128_0_0_0) I.l)

def v48D (I : Ins F) : FVec F S256x128 .bf16 :=
  k0_pay78 (rd (Rect.unit (s := S1x2048x256) ![0, 0, 0] S1x256x128.size inb_S1x2048x256_S1x256x128_0_0_0) I.d)

/-- Sub-block 0 of the diagonal block: `dv` with its contribution added. -/
def dvD0 (I : Ins F) (X11 : S1x2048x128.Idx → Elt F .f32) : S1x2048x128.Idx → Elt F .f32 :=
  Rect.overlay (Rect.unit (s := S1x2048x128) ![0, 0, 0] S1x256x128.size inb_S1x2048x128_S1x256x128_0_0_0) X11
    (k0_pay79 (v45D I X11) (v46D I) (v48D I))

/-- Sub-block 0 of the diagonal block: `dk` with its contribution added. -/
def dkD0 (I : Ins F) (X10 : S1x2048x256.Idx → Elt F .f32) : S1x2048x256.Idx → Elt F .f32 :=
  Rect.overlay (Rect.unit (s := S1x2048x256) ![0, 0, 0] S1x256x256.size inb_S1x2048x256_S1x256x256_0_0_0) X10
    (k0_pay80 (v17D I) (v43D I) (rd (Rect.unit (s := S1x2048x256) ![0, 0, 0] S1x256x256.size inb_S1x2048x256_S1x256x256_0_0_0) X10))

/-- Sub-block 0 of the diagonal block: `dq` with its contribution added. -/
def dqD0 (I : Ins F) (v1 v3 : Elt F .i32) (k0_hw1 : k0_chk1 v1 v3) (k0_h4 : k0_cond4 v1 v3 = 1#1) (X9 : S1x8192x256.Idx → Elt F .f32) : S1x8192x256.Idx → Elt F .f32 :=
  Rect.overlay (Rect.unit (s := S1x8192x256) (k0_off3 v1 0#32) S1x256x256.size (k0_off3_inb v1 v3 k0_hw1 k0_h4 0)) X9
    (k0_pay81 (v19D I) (v43D I) (rd (Rect.unit (s := S1x8192x256) (k0_off3 v1 0#32) S1x256x256.size (k0_off3_inb v1 v3 k0_hw1 k0_h4 0)) X9))

def v74D (I : Ins F) : FVec F S256x256 .bf16 :=
  k0_pay82 (rd (Rect.unit (s := S1x2048x256) ![0, 256, 0] S1x256x256.size inb_S1x2048x256_S1x256x256_0_256_0) I.q)

def v76D (I : Ins F) : FVec F S512x256 .bf16 :=
  k0_pay83 (rd (Rect.unit (s := S1x2048x256) ![0, 0, 0] S1x512x256.size inb_S1x2048x256_S1x512x256_0_0_0) I.k)

def v77D (I : Ins F) : FVec F S256x512 .f32 :=
  k0_pay84 (rd (Rect.unit (s := S1x2048x256) ![0, 256, 0] S1x256x256.size inb_S1x2048x256_S1x256x256_0_256_0) I.q) (rd (Rect.unit (s := S1x2048x256) ![0, 0, 0] S1x512x256.size inb_S1x2048x256_S1x512x256_0_0_0) I.k)

/-- Sub-block 1 of the diagonal block: `dv` with its contribution added. -/
def dvD1 (I : Ins F) (X11 : S1x2048x128.Idx → Elt F .f32) : S1x2048x128.Idx → Elt F .f32 :=
  Rect.overlay (Rect.unit (s := S1x2048x128) ![0, 0, 0] S1x512x128.size inb_S1x2048x128_S1x512x128_0_0_0) X11
    (k0_pay87 (v77D I) (rd (Rect.unit (s := S1x2048x128) ![0, 256, 0] S1x256x128.size inb_S1x2048x128_S1x256x128_0_256_0) I.l) (rd (Rect.unit (s := S1x2048x128) ![0, 0, 0] S1x512x128.size inb_S1x2048x128_S1x512x128_0_0_0) X11) (rd (Rect.unit (s := S1x2048x256) ![0, 256, 0] S1x256x128.size inb_S1x2048x256_S1x256x128_0_256_0) I.d))

def v100D (I : Ins F) : FVec F S256x512 .bf16 :=
  k0_pay86 (v77D I) (rd (Rect.unit (s := S1x2048x128) ![0, 256, 0] S1x256x128.size inb_S1x2048x128_S1x256x128_0_256_0) I.l) (rd (Rect.unit (s := S1x2048x256) ![0, 256, 0] S1x256x256.size inb_S1x2048x256_S1x256x256_0_256_0) I.d) (rd (Rect.unit (s := S1x2048x256) ![0, 0, 0] S1x512x256.size inb_S1x2048x256_S1x512x256_0_0_0) I.v)

def v112D (I : Ins F) (X10 : S1x2048x256.Idx → Elt F .f32) : FVec F S512x256 .f32 :=
  k0_pay88 (rd (Rect.unit (s := S1x2048x256) ![0, 0, 0] S1x512x256.size inb_S1x2048x256_S1x512x256_0_0_0) X10)

/-- Sub-block 1 of the diagonal block: `dk` with its contribution added. -/
def dkD1 (I : Ins F) (X10 : S1x2048x256.Idx → Elt F .f32) : S1x2048x256.Idx → Elt F .f32 :=
  Rect.overlay (Rect.unit (s := S1x2048x256) ![0, 0, 0] S1x512x256.size inb_S1x2048x256_S1x512x256_0_0_0) X10
    (k0_pay89 (v74D I) (v100D I) (v112D I X10))

/-- Sub-block 1 of the diagonal block: `dq` with its contribution added. -/
def dqD1 (I : Ins F) (v1 v3 : Elt F .i32) (k0_hw1 : k0_chk1 v1 v3) (k0_h4 : k0_cond4 v1 v3 = 1#1) (X9 : S1x8192x256.Idx → Elt F .f32) : S1x8192x256.Idx → Elt F .f32 :=
  Rect.overlay (Rect.unit (s := S1x8192x256) (k0_off3 v1 256#32) S1x256x256.size (k0_off3_inb v1 v3 k0_hw1 k0_h4 1)) X9
    (k0_pay90 (v76D I) (v100D I) (rd (Rect.unit (s := S1x8192x256) (k0_off3 v1 256#32) S1x256x256.size (k0_off3_inb v1 v3 k0_hw1 k0_h4 1)) X9))

def v131D (I : Ins F) : FVec F S256x256 .bf16 :=
  k0_pay91 (rd (Rect.unit (s := S1x2048x256) ![0, 512, 0] S1x256x256.size inb_S1x2048x256_S1x256x256_0_512_0) I.q)

def v133D (I : Ins F) : FVec F S768x256 .bf16 :=
  k0_pay92 (rd (Rect.unit (s := S1x2048x256) ![0, 0, 0] S1x768x256.size inb_S1x2048x256_S1x768x256_0_0_0) I.k)

def v139D (I : Ins F) : FVec F S256x768 .f32 :=
  k0_pay93 (rd (Rect.unit (s := S1x2048x256) ![0, 512, 0] S1x256x256.size inb_S1x2048x256_S1x256x256_0_512_0) I.q) (rd (Rect.unit (s := S1x2048x256) ![0, 0, 0] S1x768x256.size inb_S1x2048x256_S1x768x256_0_0_0) I.k) (rd (Rect.unit (s := S1x2048x128) ![0, 512, 0] S1x256x128.size inb_S1x2048x128_S1x256x128_0_512_0) I.l)

def v143D (I : Ins F) : IVec S256x768 32 :=
  (iota .tc S256x768 32 [1] iota_S256x768_d1_w32)

def v145D (I : Ins F) : IVec S256x768 32 :=
  k0_pay94

def v146D (I : Ins F) : IVec S256x768 32 :=
  k0_pay95

/-- Sub-block 2 of the diagonal block: `dv` with its contribution added. -/
def dvD2 (I : Ins F) (X11 : S1x2048x128.Idx → Elt F .f32) : S1x2048x128.Idx → Elt F .f32 :=
  Rect.overlay (Rect.unit (s := S1x2048x128) ![0, 0, 0] S1x768x128.size inb_S1x2048x128_S1x768x128_0_0_0) X11
    (k0_pay98 (v139D I) (v143D I) (v145D I) (v146D I) (rd (Rect.unit (s := S1x2048x128) ![0, 0, 0] S1x768x128.size inb_S1x2048x128_S1x768x128_0_0_0) X11) (rd (Rect.unit (s := S1x2048x256) ![0, 512, 0] S1x256x128.size inb_S1x2048x256_S1x256x128_0_512_0) I.d))

/-- Sub-block 2 of the diagonal block: `dk` with its contribution added. -/
def dkD2 (I : Ins F) (X10 : S1x2048x256.Idx → Elt F .f32) : S1x2048x256.Idx → Elt F .f32 :=
  Rect.overlay (Rect.unit (s := S1x2048x256) ![0, 0, 0] S1x768x256.size inb_S1x2048x256_S1x768x256_0_0_0) X10
    (k0_pay99 (v131D I) (v139D I) (v143D I) (v145D I) (v146D I) (rd (Rect.unit (s := S1x2048x256) ![0, 512, 0] S1x256x256.size inb_S1x2048x256_S1x256x256_0_512_0) I.d) (rd (Rect.unit (s := S1x2048x256) ![0, 0, 0] S1x768x256.size inb_S1x2048x256_S1x768x256_0_0_0) I.v) (rd (Rect.unit (s := S1x2048x256) ![0, 0, 0] S1x768x256.size inb_S1x2048x256_S1x768x256_0_0_0) X10))

def v157D (I : Ins F) : FVec F S256x768 .bf16 :=
  k0_pay97 (v139D I) (v143D I) (v145D I) (v146D I) (rd (Rect.unit (s := S1x2048x256) ![0, 512, 0] S1x256x256.size inb_S1x2048x256_S1x256x256_0_512_0) I.d) (rd (Rect.unit (s := S1x2048x256) ![0, 0, 0] S1x768x256.size inb_S1x2048x256_S1x768x256_0_0_0) I.v)

def v177D (I : Ins F) (v1 : Elt F .i32) : BitVec 32 :=
  ((Scalar.addi (Scalar.muli v1 2048#32) 512#32))

/-- Sub-block 2 of the diagonal block: `dq` with its contribution added. -/
def dqD2 (I : Ins F) (v1 v3 : Elt F .i32) (k0_hw1 : k0_chk1 v1 v3) (k0_h4 : k0_cond4 v1 v3 = 1#1) (X9 : S1x8192x256.Idx → Elt F .f32) : S1x8192x256.Idx → Elt F .f32 :=
  Rect.overlay (Rect.unit (s := S1x8192x256) (k0_off3 v1 512#32) S1x256x256.size (k0_off3_inb v1 v3 k0_hw1 k0_h4 2)) X9
    (k0_pay100 (v133D I) (v157D I) (rd (Rect.unit (s := S1x8192x256) (k0_off3 v1 512#32) S1x256x256.size (k0_off3_inb v1 v3 k0_hw1 k0_h4 2)) X9))

def v188D (I : Ins F) : FVec F S256x256 .bf16 :=
  k0_pay101 (rd (Rect.unit (s := S1x2048x256) ![0, 768, 0] S1x256x256.size inb_S1x2048x256_S1x256x256_0_768_0) I.q)

def v190D (I : Ins F) : FVec F S1024x256 .bf16 :=
  k0_pay102 (rd (Rect.unit (s := S1x2048x256) ![0, 0, 0] S1x1024x256.size inb_S1x2048x256_S1x1024x256_0_0_0) I.k)

def v207D (I : Ins F) : FVec F S256x1024 .f32 :=
  k0_pay103 (rd (Rect.unit (s := S1x2048x256) ![0, 768, 0] S1x256x256.size inb_S1x2048x256_S1x256x256_0_768_0) I.q) (rd (Rect.unit (s := S1x2048x256) ![0, 0, 0] S1x1024x256.size inb_S1x2048x256_S1x1024x256_0_0_0) I.k) (rd (Rect.unit (s := S1x2048x128) ![0, 768, 0] S1x256x128.size inb_S1x2048x128_S1x256x128_0_768_0) I.l)

def v209D (I : Ins F) : FVec F S256x256 .bf16 :=
  k0_pay104 (rd (Rect.unit (s := S1x2048x256) ![0, 768, 0] S1x256x256.size inb_S1x2048x256_S1x256x256_0_768_0) I.d)

def v211D (I : Ins F) : FVec F S1024x256 .bf16 :=
  k0_pay105 (rd (Rect.unit (s := S1x2048x256) ![0, 0, 0] S1x1024x256.size inb_S1x2048x256_S1x1024x256_0_0_0) I.v)

/-- Sub-block 3 of the diagonal block: `dv` with its contribution added. -/
def dvD3 (I : Ins F) (X11 : S1x2048x128.Idx → Elt F .f32) : S1x2048x128.Idx → Elt F .f32 :=
  Rect.overlay (Rect.unit (s := S1x2048x128) ![0, 0, 0] S1x1024x128.size inb_S1x2048x128_S1x1024x128_0_0_0) X11
    (k0_pay107 (v207D I) (rd (Rect.unit (s := S1x2048x128) ![0, 0, 0] S1x1024x128.size inb_S1x2048x128_S1x1024x128_0_0_0) X11) (rd (Rect.unit (s := S1x2048x256) ![0, 768, 0] S1x256x128.size inb_S1x2048x256_S1x256x128_0_768_0) I.d))

/-- Sub-block 3 of the diagonal block: `dk` with its contribution added. -/
def dkD3 (I : Ins F) (X10 : S1x2048x256.Idx → Elt F .f32) : S1x2048x256.Idx → Elt F .f32 :=
  Rect.overlay (Rect.unit (s := S1x2048x256) ![0, 0, 0] S1x1024x256.size inb_S1x2048x256_S1x1024x256_0_0_0) X10
    (k0_pay108 (v188D I) (v207D I) (v209D I) (v211D I) (rd (Rect.unit (s := S1x2048x256) ![0, 0, 0] S1x1024x256.size inb_S1x2048x256_S1x1024x256_0_0_0) X10))

/-- Sub-block 3 of the diagonal block: `dq` with its contribution added. -/
def dqD3 (I : Ins F) (v1 v3 : Elt F .i32) (k0_hw1 : k0_chk1 v1 v3) (k0_h4 : k0_cond4 v1 v3 = 1#1) (X9 : S1x8192x256.Idx → Elt F .f32) : S1x8192x256.Idx → Elt F .f32 :=
  Rect.overlay (Rect.unit (s := S1x8192x256) (k0_off3 v1 768#32) S1x256x256.size (k0_off3_inb v1 v3 k0_hw1 k0_h4 3)) X9
    (k0_pay109 (v190D I) (v207D I) (v209D I) (v211D I) (rd (Rect.unit (s := S1x8192x256) (k0_off3 v1 768#32) S1x256x256.size (k0_off3_inb v1 v3 k0_hw1 k0_h4 3)) X9))

def v245D (I : Ins F) : FVec F S256x256 .bf16 :=
  k0_pay110 (rd (Rect.unit (s := S1x2048x256) ![0, 1024, 0] S1x256x256.size inb_S1x2048x256_S1x256x256_0_1024_0) I.q)

def v247D (I : Ins F) : FVec F S1280x256 .bf16 :=
  k0_pay111 (rd (Rect.unit (s := S1x2048x256) ![0, 0, 0] S1x1280x256.size inb_S1x2048x256_S1x1280x256_0_0_0) I.k)

def v271D (I : Ins F) : FVec F S256x1280 .bf16 :=
  k0_pay113 (rd (Rect.unit (s := S1x2048x256) ![0, 1024, 0] S1x256x256.size inb_S1x2048x256_S1x256x256_0_1024_0) I.q) (rd (Rect.unit (s := S1x2048x256) ![0, 0, 0] S1x1280x256.size inb_S1x2048x256_S1x1280x256_0_0_0) I.k) (rd (Rect.unit (s := S1x2048x128) ![0, 1024, 0] S1x256x128.size inb_S1x2048x128_S1x256x128_0_1024_0) I.l) (rd (Rect.unit (s := S1x2048x256) ![0, 1024, 0] S1x256x256.size inb_S1x2048x256_S1x256x256_0_1024_0) I.d) (rd (Rect.unit (s := S1x2048x256) ![0, 0, 0] S1x1280x256.size inb_S1x2048x256_S1x1280x256_0_0_0) I.v)

def v273D (I : Ins F) (X11 : S1x2048x128.Idx → Elt F .f32) : FVec F S1280x128 .f32 :=
  k0_pay114 (rd (Rect.unit (s := S1x2048x128) ![0, 0, 0] S1x1280x128.size inb_S1x2048x128_S1x1280x128_0_0_0) X11)

def v274D (I : Ins F) : FVec F S256x1280 .bf16 :=
  k0_pay115 (rd (Rect.unit (s := S1x2048x256) ![0, 1024, 0] S1x256x256.size inb_S1x2048x256_S1x256x256_0_1024_0) I.q) (rd (Rect.unit (s := S1x2048x256) ![0, 0, 0] S1x1280x256.size inb_S1x2048x256_S1x1280x256_0_0_0) I.k) (rd (Rect.unit (s := S1x2048x128) ![0, 1024, 0] S1x256x128.size inb_S1x2048x128_S1x256x128_0_1024_0) I.l)

def v276D (I : Ins F) : FVec F S256x128 .bf16 :=
  k0_pay116 (rd (Rect.unit (s := S1x2048x256) ![0, 1024, 0] S1x256x128.size inb_S1x2048x256_S1x256x128_0_1024_0) I.d)

/-- Sub-block 4 of the diagonal block: `dv` with its contribution added. -/
def dvD4 (I : Ins F) (X11 : S1x2048x128.Idx → Elt F .f32) : S1x2048x128.Idx → Elt F .f32 :=
  Rect.overlay (Rect.unit (s := S1x2048x128) ![0, 0, 0] S1x1280x128.size inb_S1x2048x128_S1x1280x128_0_0_0) X11
    (k0_pay117 (v273D I X11) (v274D I) (v276D I))

/-- Sub-block 4 of the diagonal block: `dk` with its contribution added. -/
def dkD4 (I : Ins F) (X10 : S1x2048x256.Idx → Elt F .f32) : S1x2048x256.Idx → Elt F .f32 :=
  Rect.overlay (Rect.unit (s := S1x2048x256) ![0, 0, 0] S1x1280x256.size inb_S1x2048x256_S1x1280x256_0_0_0) X10
    (k0_pay118 (v245D I) (v271D I) (rd (Rect.unit (s := S1x2048x256) ![0, 0, 0] S1x1280x256.size inb_S1x2048x256_S1x1280x256_0_0_0) X10))

/-- Sub-block 4 of the diagonal block: `dq` with its contribution added. -/
def dqD4 (I : Ins F) (v1 v3 : Elt F .i32) (k0_hw1 : k0_chk1 v1 v3) (k0_h4 : k0_cond4 v1 v3 = 1#1) (X9 : S1x8192x256.Idx → Elt F .f32) : S1x8192x256.Idx → Elt F .f32 :=
  Rect.overlay (Rect.unit (s := S1x8192x256) (k0_off3 v1 1024#32) S1x256x256.size (k0_off3_inb v1 v3 k0_hw1 k0_h4 4)) X9
    (k0_pay119 (v247D I) (v271D I) (rd (Rect.unit (s := S1x8192x256) (k0_off3 v1 1024#32) S1x256x256.size (k0_off3_inb v1 v3 k0_hw1 k0_h4 4)) X9))

def v302D (I : Ins F) : FVec F S256x256 .bf16 :=
  k0_pay120 (rd (Rect.unit (s := S1x2048x256) ![0, 1280, 0] S1x256x256.size inb_S1x2048x256_S1x256x256_0_1280_0) I.q)

def v304D (I : Ins F) : FVec F S1536x256 .bf16 :=
  k0_pay121 (rd (Rect.unit (s := S1x2048x256) ![0, 0, 0] S1x1536x256.size inb_S1x2048x256_S1x1536x256_0_0_0) I.k)

def v305D (I : Ins F) : FVec F S256x1536 .f32 :=
  k0_pay122 (rd (Rect.unit (s := S1x2048x256) ![0, 1280, 0] S1x256x256.size inb_S1x2048x256_S1x256x256_0_1280_0) I.q) (rd (Rect.unit (s := S1x2048x256) ![0, 0, 0] S1x1536x256.size inb_S1x2048x256_S1x1536x256_0_0_0) I.k)

/-- Sub-block 5 of the diagonal block: `dv` with its contribution added. -/
def dvD5 (I : Ins F) (X11 : S1x2048x128.Idx → Elt F .f32) : S1x2048x128.Idx → Elt F .f32 :=
  Rect.overlay (Rect.unit (s := S1x2048x128) ![0, 0, 0] S1x1536x128.size inb_S1x2048x128_S1x1536x128_0_0_0) X11
    (k0_pay125 (v305D I) (rd (Rect.unit (s := S1x2048x128) ![0, 1280, 0] S1x256x128.size inb_S1x2048x128_S1x256x128_0_1280_0) I.l) (rd (Rect.unit (s := S1x2048x128) ![0, 0, 0] S1x1536x128.size inb_S1x2048x128_S1x1536x128_0_0_0) X11) (rd (Rect.unit (s := S1x2048x256) ![0, 1280, 0] S1x256x128.size inb_S1x2048x256_S1x256x128_0_1280_0) I.d))

def v328D (I : Ins F) : FVec F S256x1536 .bf16 :=
  k0_pay124 (v305D I) (rd (Rect.unit (s := S1x2048x128) ![0, 1280, 0] S1x256x128.size inb_S1x2048x128_S1x256x128_0_1280_0) I.l) (rd (Rect.unit (s := S1x2048x256) ![0, 1280, 0] S1x256x256.size inb_S1x2048x256_S1x256x256_0_1280_0) I.d) (rd (Rect.unit (s := S1x2048x256) ![0, 0, 0] S1x1536x256.size inb_S1x2048x256_S1x1536x256_0_0_0) I.v)

def v340D (I : Ins F) (X10 : S1x2048x256.Idx → Elt F .f32) : FVec F S1536x256 .f32 :=
  k0_pay126 (rd (Rect.unit (s := S1x2048x256) ![0, 0, 0] S1x1536x256.size inb_S1x2048x256_S1x1536x256_0_0_0) X10)

/-- Sub-block 5 of the diagonal block: `dk` with its contribution added. -/
def dkD5 (I : Ins F) (X10 : S1x2048x256.Idx → Elt F .f32) : S1x2048x256.Idx → Elt F .f32 :=
  Rect.overlay (Rect.unit (s := S1x2048x256) ![0, 0, 0] S1x1536x256.size inb_S1x2048x256_S1x1536x256_0_0_0) X10
    (k0_pay127 (v302D I) (v328D I) (v340D I X10))

/-- Sub-block 5 of the diagonal block: `dq` with its contribution added. -/
def dqD5 (I : Ins F) (v1 v3 : Elt F .i32) (k0_hw1 : k0_chk1 v1 v3) (k0_h4 : k0_cond4 v1 v3 = 1#1) (X9 : S1x8192x256.Idx → Elt F .f32) : S1x8192x256.Idx → Elt F .f32 :=
  Rect.overlay (Rect.unit (s := S1x8192x256) (k0_off3 v1 1280#32) S1x256x256.size (k0_off3_inb v1 v3 k0_hw1 k0_h4 5)) X9
    (k0_pay128 (v304D I) (v328D I) (rd (Rect.unit (s := S1x8192x256) (k0_off3 v1 1280#32) S1x256x256.size (k0_off3_inb v1 v3 k0_hw1 k0_h4 5)) X9))

def v359D (I : Ins F) : FVec F S256x256 .bf16 :=
  k0_pay129 (rd (Rect.unit (s := S1x2048x256) ![0, 1536, 0] S1x256x256.size inb_S1x2048x256_S1x256x256_0_1536_0) I.q)

def v361D (I : Ins F) : FVec F S1792x256 .bf16 :=
  k0_pay130 (rd (Rect.unit (s := S1x2048x256) ![0, 0, 0] S1x1792x256.size inb_S1x2048x256_S1x1792x256_0_0_0) I.k)

def v367D (I : Ins F) : FVec F S256x1792 .f32 :=
  k0_pay131 (rd (Rect.unit (s := S1x2048x256) ![0, 1536, 0] S1x256x256.size inb_S1x2048x256_S1x256x256_0_1536_0) I.q) (rd (Rect.unit (s := S1x2048x256) ![0, 0, 0] S1x1792x256.size inb_S1x2048x256_S1x1792x256_0_0_0) I.k) (rd (Rect.unit (s := S1x2048x128) ![0, 1536, 0] S1x256x128.size inb_S1x2048x128_S1x256x128_0_1536_0) I.l)

def v371D (I : Ins F) : IVec S256x1792 32 :=
  (iota .tc S256x1792 32 [1] iota_S256x1792_d1_w32)

def v373D (I : Ins F) : IVec S256x1792 32 :=
  k0_pay132

def v374D (I : Ins F) : IVec S256x1792 32 :=
  k0_pay133

/-- Sub-block 6 of the diagonal block: `dv` with its contribution added. -/
def dvD6 (I : Ins F) (X11 : S1x2048x128.Idx → Elt F .f32) : S1x2048x128.Idx → Elt F .f32 :=
  Rect.overlay (Rect.unit (s := S1x2048x128) ![0, 0, 0] S1x1792x128.size inb_S1x2048x128_S1x1792x128_0_0_0) X11
    (k0_pay136 (v367D I) (v371D I) (v373D I) (v374D I) (rd (Rect.unit (s := S1x2048x128) ![0, 0, 0] S1x1792x128.size inb_S1x2048x128_S1x1792x128_0_0_0) X11) (rd (Rect.unit (s := S1x2048x256) ![0, 1536, 0] S1x256x128.size inb_S1x2048x256_S1x256x128_0_1536_0) I.d))

/-- Sub-block 6 of the diagonal block: `dk` with its contribution added. -/
def dkD6 (I : Ins F) (X10 : S1x2048x256.Idx → Elt F .f32) : S1x2048x256.Idx → Elt F .f32 :=
  Rect.overlay (Rect.unit (s := S1x2048x256) ![0, 0, 0] S1x1792x256.size inb_S1x2048x256_S1x1792x256_0_0_0) X10
    (k0_pay137 (v359D I) (v367D I) (v371D I) (v373D I) (v374D I) (rd (Rect.unit (s := S1x2048x256) ![0, 1536, 0] S1x256x256.size inb_S1x2048x256_S1x256x256_0_1536_0) I.d) (rd (Rect.unit (s := S1x2048x256) ![0, 0, 0] S1x1792x256.size inb_S1x2048x256_S1x1792x256_0_0_0) I.v) (rd (Rect.unit (s := S1x2048x256) ![0, 0, 0] S1x1792x256.size inb_S1x2048x256_S1x1792x256_0_0_0) X10))

def v385D (I : Ins F) : FVec F S256x1792 .bf16 :=
  k0_pay135 (v367D I) (v371D I) (v373D I) (v374D I) (rd (Rect.unit (s := S1x2048x256) ![0, 1536, 0] S1x256x256.size inb_S1x2048x256_S1x256x256_0_1536_0) I.d) (rd (Rect.unit (s := S1x2048x256) ![0, 0, 0] S1x1792x256.size inb_S1x2048x256_S1x1792x256_0_0_0) I.v)

def v405D (I : Ins F) (v1 : Elt F .i32) : BitVec 32 :=
  ((Scalar.addi (Scalar.muli v1 2048#32) 1536#32))

/-- Sub-block 6 of the diagonal block: `dq` with its contribution added. -/
def dqD6 (I : Ins F) (v1 v3 : Elt F .i32) (k0_hw1 : k0_chk1 v1 v3) (k0_h4 : k0_cond4 v1 v3 = 1#1) (X9 : S1x8192x256.Idx → Elt F .f32) : S1x8192x256.Idx → Elt F .f32 :=
  Rect.overlay (Rect.unit (s := S1x8192x256) (k0_off3 v1 1536#32) S1x256x256.size (k0_off3_inb v1 v3 k0_hw1 k0_h4 6)) X9
    (k0_pay138 (v361D I) (v385D I) (rd (Rect.unit (s := S1x8192x256) (k0_off3 v1 1536#32) S1x256x256.size (k0_off3_inb v1 v3 k0_hw1 k0_h4 6)) X9))

def v416D (I : Ins F) : FVec F S256x256 .bf16 :=
  k0_pay139 (rd (Rect.unit (s := S1x2048x256) ![0, 1792, 0] S1x256x256.size inb_S1x2048x256_S1x256x256_0_1792_0) I.q)

def v418D (I : Ins F) : FVec F S2048x256 .bf16 :=
  k0_pay140 (rd (Rect.unit (s := S1x2048x256) ![0, 0, 0] S1x2048x256.size inb_S1x2048x256_S1x2048x256_0_0_0) I.k)

def v435D (I : Ins F) : FVec F S256x2048 .f32 :=
  k0_pay141 (rd (Rect.unit (s := S1x2048x256) ![0, 1792, 0] S1x256x256.size inb_S1x2048x256_S1x256x256_0_1792_0) I.q) (rd (Rect.unit (s := S1x2048x256) ![0, 0, 0] S1x2048x256.size inb_S1x2048x256_S1x2048x256_0_0_0) I.k) (rd (Rect.unit (s := S1x2048x128) ![0, 1792, 0] S1x256x128.size inb_S1x2048x128_S1x256x128_0_1792_0) I.l)

def v437D (I : Ins F) : FVec F S256x256 .bf16 :=
  k0_pay142 (rd (Rect.unit (s := S1x2048x256) ![0, 1792, 0] S1x256x256.size inb_S1x2048x256_S1x256x256_0_1792_0) I.d)

def v439D (I : Ins F) : FVec F S2048x256 .bf16 :=
  k0_pay143 (rd (Rect.unit (s := S1x2048x256) ![0, 0, 0] S1x2048x256.size inb_S1x2048x256_S1x2048x256_0_0_0) I.v)

/-- Sub-block 7 of the diagonal block: `dv` with its contribution added. -/
def dvD7 (I : Ins F) (X11 : S1x2048x128.Idx → Elt F .f32) : S1x2048x128.Idx → Elt F .f32 :=
  Rect.overlay (Rect.unit (s := S1x2048x128) ![0, 0, 0] S1x2048x128.size inb_S1x2048x128_S1x2048x128_0_0_0) X11
    (k0_pay145 (v435D I) (rd (Rect.unit (s := S1x2048x128) ![0, 0, 0] S1x2048x128.size inb_S1x2048x128_S1x2048x128_0_0_0) X11) (rd (Rect.unit (s := S1x2048x256) ![0, 1792, 0] S1x256x128.size inb_S1x2048x256_S1x256x128_0_1792_0) I.d))

/-- Sub-block 7 of the diagonal block: `dk` with its contribution added. -/
def dkD7 (I : Ins F) (X10 : S1x2048x256.Idx → Elt F .f32) : S1x2048x256.Idx → Elt F .f32 :=
  Rect.overlay (Rect.unit (s := S1x2048x256) ![0, 0, 0] S1x2048x256.size inb_S1x2048x256_S1x2048x256_0_0_0) X10
    (k0_pay146 (v416D I) (v435D I) (v437D I) (v439D I) (rd (Rect.unit (s := S1x2048x256) ![0, 0, 0] S1x2048x256.size inb_S1x2048x256_S1x2048x256_0_0_0) X10))

/-- Sub-block 7 of the diagonal block: `dq` with its contribution added. -/
def dqD7 (I : Ins F) (v1 v3 : Elt F .i32) (k0_hw1 : k0_chk1 v1 v3) (k0_h4 : k0_cond4 v1 v3 = 1#1) (X9 : S1x8192x256.Idx → Elt F .f32) : S1x8192x256.Idx → Elt F .f32 :=
  Rect.overlay (Rect.unit (s := S1x8192x256) (k0_off3 v1 1792#32) S1x256x256.size (k0_off3_inb v1 v3 k0_hw1 k0_h4 7)) X9
    (k0_pay147 (v418D I) (v435D I) (v437D I) (v439D I) (rd (Rect.unit (s := S1x8192x256) (k0_off3 v1 1792#32) S1x256x256.size (k0_off3_inb v1 v3 k0_hw1 k0_h4 7)) X9))

end Cert.Flash
-- ==== Proof.Flash.Diag.lean ====
/-
  The stretches of the body at a grid point on the diagonal, one access after another: what each leaves in the result
  blocks and returns (`DiagVal.lean`).
-/
module

public import proofs.«01_k».proof.Proof.Flash.DiagVal

@[expose] public section

noncomputable section

namespace Cert.Flash

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (c : Dev nD) (i : grid0.Coords)
  (arg2 : Memref sig .tc .smem S10 .i32) (harg2 : arg2.IsWhole)
  (arg3 : Memref sig .tc .smem S10 .i32) (harg3 : arg3.IsWhole)
  (arg4 : Memref sig .tc .vmem S1x2048x256 .bf16) (harg4 : arg4.IsWhole)
  (arg5 : Memref sig .tc .vmem S1x2048x256 .bf16) (harg5 : arg5.IsWhole)
  (arg6 : Memref sig .tc .vmem S1x2048x256 .bf16) (harg6 : arg6.IsWhole)
  (arg7 : Memref sig .tc .vmem S1x2048x128 .f32) (harg7 : arg7.IsWhole)
  (arg8 : Memref sig .tc .vmem S1x2048x256 .bf16) (harg8 : arg8.IsWhole)
  (arg9 : Memref sig .tc .vmem S1x8192x256 .f32) (harg9 : arg9.IsWhole)
  (arg10 : Memref sig .tc .vmem S1x2048x256 .f32) (harg10 : arg10.IsWhole)
  (arg11 : Memref sig .tc .vmem S1x2048x128 .f32) (harg11 : arg11.IsWhole)
  (I : Ins F) (X9 : S1x8192x256.Idx → Elt F .f32) (X10 : S1x2048x256.Idx → Elt F .f32) (X11 : S1x2048x128.Idx → Elt F .f32)

theorem part13 (Q : _ → sProp 𝕄) :
    iprop(blocks c arg4 arg5 arg6 arg7 arg8 arg9 arg10 arg11 I X9 X10 X11 ∗ (blocks c arg4 arg5 arg6 arg7 arg8 arg9 arg10 arg11 I X9 X10 X11 -∗ Q ⟨(v17D I), (v19D I), (v43D I), (v45D I X11), (v46D I), (v48D I)⟩))
      ⊢ run c (k0_part13 (F := F) i arg2 harg2 arg3 harg3 arg4 harg4 arg5 harg5 arg6 harg6 arg7 harg7 arg8 harg8 arg9 harg9 arg10 harg10 arg11 harg11 ) Q := by
  unfold v17D v19D v43D v45D v46D v48D
  rw [k0_part13_eq_skeleton]
  unfold k0_part13_skel
  iintro ⟨H, HQ⟩
  iapply (ldb4 c)
  isplitl [H]; · iexact H
  iintro H
  iapply (ldb5 c)
  isplitl [H]; · iexact H
  iintro H
  iapply (ldb7 c)
  isplitl [H]; · iexact H
  iintro H
  iapply (ldb8 c)
  isplitl [H]; · iexact H
  iintro H
  iapply (ldb6 c)
  isplitl [H]; · iexact H
  iintro H
  iapply (ldb11 c)
  isplitl [H]; · iexact H
  iintro H
  iapply (ldb8 c)
  isplitl [H]; · iexact H
  iintro H
  iapply (ret_done c)
  iapply HQ
  iexact H

theorem part14 (v1 v3 : Elt F .i32) (k0_hw1 : k0_chk1 v1 v3) (k0_h4 : k0_cond4 v1 v3 = 1#1)  (Q : _ → sProp 𝕄) :
    iprop(blocks c arg4 arg5 arg6 arg7 arg8 arg9 arg10 arg11 I X9 X10 X11 ∗ (blocks c arg4 arg5 arg6 arg7 arg8 arg9 arg10 arg11 I (dqD0 I v1 v3 k0_hw1 k0_h4 X9) (dkD0 I X10) (dvD0 I X11) -∗ Q ⟨(v74D I), (v76D I), (v77D I)⟩))
      ⊢ run c (k0_part14 (F := F) i arg2 harg2 arg3 harg3 arg4 harg4 arg5 harg5 arg6 harg6 arg7 harg7 arg8 harg8 arg9 harg9 arg10 harg10 arg11 harg11 v1 v3 k0_hw1 k0_h4 (v17D I) (v19D I) (v43D I) (v45D I X11) (v46D I) (v48D I)) Q := by
  unfold dvD0 dkD0 dqD0 v74D v76D v77D
  rw [k0_part14_eq_skeleton]
  unfold k0_part14_skel
  iintro ⟨H, HQ⟩
  iapply (ldb11 c)
  isplitl [H]; · iexact H
  iintro H
  iapply (stb11 c)
  isplitl [H]; · iexact H
  iintro H
  iapply (ldb10 c)
  isplitl [H]; · iexact H
  iintro H
  iapply (ldb10 c)
  isplitl [H]; · iexact H
  iintro H
  iapply (stb10 c)
  isplitl [H]; · iexact H
  iintro H
  iapply (ldb9 c)
  isplitl [H]; · iexact H
  iintro H
  iapply (ldb9 c)
  isplitl [H]; · iexact H
  iintro H
  iapply (stb9 c)
  isplitl [H]; · iexact H
  iintro H
  iapply (ldb4 c)
  isplitl [H]; · iexact H
  iintro H
  iapply (ldb5 c)
  isplitl [H]; · iexact H
  iintro H
  iapply (ret_done c)
  iapply HQ
  iexact H

theorem part15 (Q : _ → sProp 𝕄) :
    iprop(blocks c arg4 arg5 arg6 arg7 arg8 arg9 arg10 arg11 I X9 X10 X11 ∗ (blocks c arg4 arg5 arg6 arg7 arg8 arg9 arg10 arg11 I X9 X10 (dvD1 I X11) -∗ Q ⟨(v100D I), (v112D I X10)⟩))
      ⊢ run c (k0_part15 (F := F) i arg2 harg2 arg3 harg3 arg4 harg4 arg5 harg5 arg6 harg6 arg7 harg7 arg8 harg8 arg9 harg9 arg10 harg10 arg11 harg11 (v77D I)) Q := by
  unfold dvD1 v100D v112D
  rw [k0_part15_eq_skeleton]
  unfold k0_part15_skel
  iintro ⟨H, HQ⟩
  iapply (ldb7 c)
  isplitl [H]; · iexact H
  iintro H
  iapply (ldb8 c)
  isplitl [H]; · iexact H
  iintro H
  iapply (ldb6 c)
  isplitl [H]; · iexact H
  iintro H
  iapply (ldb11 c)
  isplitl [H]; · iexact H
  iintro H
  iapply (ldb8 c)
  isplitl [H]; · iexact H
  iintro H
  iapply (ldb11 c)
  isplitl [H]; · iexact H
  iintro H
  iapply (stb11 c)
  isplitl [H]; · iexact H
  iintro H
  iapply (ldb10 c)
  isplitl [H]; · iexact H
  iintro H
  iapply (ret_done c)
  iapply HQ
  iexact H

theorem part16 (v1 v3 : Elt F .i32) (k0_hw1 : k0_chk1 v1 v3) (k0_h4 : k0_cond4 v1 v3 = 1#1)  (Q : _ → sProp 𝕄) :
    iprop(blocks c arg4 arg5 arg6 arg7 arg8 arg9 arg10 arg11 I X9 X10 X11 ∗ (blocks c arg4 arg5 arg6 arg7 arg8 arg9 arg10 arg11 I (dqD1 I v1 v3 k0_hw1 k0_h4 X9) (dkD1 I X10) X11 -∗ Q ⟨(v131D I), (v133D I), (v139D I), (v143D I), (v145D I), (v146D I)⟩))
      ⊢ run c (k0_part16 (F := F) i arg2 harg2 arg3 harg3 arg4 harg4 arg5 harg5 arg6 harg6 arg7 harg7 arg8 harg8 arg9 harg9 arg10 harg10 arg11 harg11 v1 v3 k0_hw1 k0_h4 (v74D I) (v76D I) (v100D I) (v112D I X10)) Q := by
  unfold dkD1 dqD1 v131D v133D v139D v143D v145D v146D
  rw [k0_part16_eq_skeleton]
  unfold k0_part16_skel
  iintro ⟨H, HQ⟩
  iapply (ldb10 c)
  isplitl [H]; · iexact H
  iintro H
  iapply (stb10 c)
  isplitl [H]; · iexact H
  iintro H
  iapply (ldb9 c)
  isplitl [H]; · iexact H
  iintro H
  iapply (ldb9 c)
  isplitl [H]; · iexact H
  iintro H
  iapply (stb9 c)
  isplitl [H]; · iexact H
  iintro H
  iapply (ldb4 c)
  isplitl [H]; · iexact H
  iintro H
  iapply (ldb5 c)
  isplitl [H]; · iexact H
  iintro H
  iapply (ldb7 c)
  isplitl [H]; · iexact H
  iintro H
  iapply (ret_done c)
  iapply HQ
  iexact H

theorem part17 (v1 v3 : Elt F .i32)  (Q : _ → sProp 𝕄) :
    iprop(blocks c arg4 arg5 arg6 arg7 arg8 arg9 arg10 arg11 I X9 X10 X11 ∗ (blocks c arg4 arg5 arg6 arg7 arg8 arg9 arg10 arg11 I X9 (dkD2 I X10) (dvD2 I X11) -∗ Q ⟨(v157D I), (v177D I v1)⟩))
      ⊢ run c (k0_part17 (F := F) i arg2 harg2 arg3 harg3 arg4 harg4 arg5 harg5 arg6 harg6 arg7 harg7 arg8 harg8 arg9 harg9 arg10 harg10 arg11 harg11 v1 (v131D I) (v139D I) (v143D I) (v145D I) (v146D I)) Q := by
  unfold dvD2 dkD2 v157D v177D
  rw [k0_part17_eq_skeleton]
  unfold k0_part17_skel
  iintro ⟨H, HQ⟩
  iapply (ldb8 c)
  isplitl [H]; · iexact H
  iintro H
  iapply (ldb6 c)
  isplitl [H]; · iexact H
  iintro H
  iapply (ldb11 c)
  isplitl [H]; · iexact H
  iintro H
  iapply (ldb8 c)
  isplitl [H]; · iexact H
  iintro H
  iapply (ldb11 c)
  isplitl [H]; · iexact H
  iintro H
  iapply (stb11 c)
  isplitl [H]; · iexact H
  iintro H
  iapply (ldb10 c)
  isplitl [H]; · iexact H
  iintro H
  iapply (ldb10 c)
  isplitl [H]; · iexact H
  iintro H
  iapply (stb10 c)
  isplitl [H]; · iexact H
  iintro H
  iapply (ret_done c)
  iapply HQ
  iexact H

theorem part18 (v1 v3 : Elt F .i32) (k0_hw1 : k0_chk1 v1 v3) (k0_h4 : k0_cond4 v1 v3 = 1#1)  (Q : _ → sProp 𝕄) :
    iprop(blocks c arg4 arg5 arg6 arg7 arg8 arg9 arg10 arg11 I X9 X10 X11 ∗ (blocks c arg4 arg5 arg6 arg7 arg8 arg9 arg10 arg11 I (dqD2 I v1 v3 k0_hw1 k0_h4 X9) X10 X11 -∗ Q ⟨(v188D I), (v190D I), (v207D I), (v209D I), (v211D I)⟩))
      ⊢ run c (k0_part18 (F := F) i arg2 harg2 arg3 harg3 arg4 harg4 arg5 harg5 arg6 harg6 arg7 harg7 arg8 harg8 arg9 harg9 arg10 harg10 arg11 harg11 v1 v3 k0_hw1 k0_h4 (v133D I) (v157D I) (v177D I v1)) Q := by
  unfold dqD2 v188D v190D v207D v209D v211D
  rw [k0_part18_eq_skeleton]
  unfold k0_part18_skel
  iintro ⟨H, HQ⟩
  iapply (ldb9 c)
  isplitl [H]; · iexact H
  iintro H
  iapply (ldb9 c)
  isplitl [H]; · iexact H
  iintro H
  iapply (stb9 c)
  isplitl [H]; · iexact H
  iintro H
  iapply (ldb4 c)
  isplitl [H]; · iexact H
  iintro H
  iapply (ldb5 c)
  isplitl [H]; · iexact H
  iintro H
  iapply (ldb7 c)
  isplitl [H]; · iexact H
  iintro H
  iapply (ldb8 c)
  isplitl [H]; · iexact H
  iintro H
  iapply (ldb6 c)
  isplitl [H]; · iexact H
  iintro H
  iapply (ret_done c)
  iapply HQ
  iexact H

theorem part19 (v1 v3 : Elt F .i32) (k0_hw1 : k0_chk1 v1 v3) (k0_h4 : k0_cond4 v1 v3 = 1#1)  (Q : _ → sProp 𝕄) :
    iprop(blocks c arg4 arg5 arg6 arg7 arg8 arg9 arg10 arg11 I X9 X10 X11 ∗ (blocks c arg4 arg5 arg6 arg7 arg8 arg9 arg10 arg11 I (dqD3 I v1 v3 k0_hw1 k0_h4 X9) (dkD3 I X10) (dvD3 I X11) -∗ Q ⟨⟩))
      ⊢ run c (k0_part19 (F := F) i arg2 harg2 arg3 harg3 arg4 harg4 arg5 harg5 arg6 harg6 arg7 harg7 arg8 harg8 arg9 harg9 arg10 harg10 arg11 harg11 v1 v3 k0_hw1 k0_h4 (v188D I) (v190D I) (v207D I) (v209D I) (v211D I)) Q := by
  unfold dvD3 dkD3 dqD3
  rw [k0_part19_eq_skeleton]
  unfold k0_part19_skel
  iintro ⟨H, HQ⟩
  iapply (ldb11 c)
  isplitl [H]; · iexact H
  iintro H
  iapply (ldb8 c)
  isplitl [H]; · iexact H
  iintro H
  iapply (ldb11 c)
  isplitl [H]; · iexact H
  iintro H
  iapply (stb11 c)
  isplitl [H]; · iexact H
  iintro H
  iapply (ldb10 c)
  isplitl [H]; · iexact H
  iintro H
  iapply (ldb10 c)
  isplitl [H]; · iexact H
  iintro H
  iapply (stb10 c)
  isplitl [H]; · iexact H
  iintro H
  iapply (ldb9 c)
  isplitl [H]; · iexact H
  iintro H
  iapply (ldb9 c)
  isplitl [H]; · iexact H
  iintro H
  iapply (stb9 c)
  isplitl [H]; · iexact H
  iintro H
  iapply (ret_done c)
  iapply HQ
  iexact H

theorem part20 (Q : _ → sProp 𝕄) :
    iprop(blocks c arg4 arg5 arg6 arg7 arg8 arg9 arg10 arg11 I X9 X10 X11 ∗ (blocks c arg4 arg5 arg6 arg7 arg8 arg9 arg10 arg11 I X9 X10 X11 -∗ Q ⟨(v245D I), (v247D I), (v271D I), (v273D I X11), (v274D I), (v276D I)⟩))
      ⊢ run c (k0_part20 (F := F) i arg2 harg2 arg3 harg3 arg4 harg4 arg5 harg5 arg6 harg6 arg7 harg7 arg8 harg8 arg9 harg9 arg10 harg10 arg11 harg11 ) Q := by
  unfold v245D v247D v271D v273D v274D v276D
  rw [k0_part20_eq_skeleton]
  unfold k0_part20_skel
  iintro ⟨H, HQ⟩
  iapply (ldb4 c)
  isplitl [H]; · iexact H
  iintro H
  iapply (ldb5 c)
  isplitl [H]; · iexact H
  iintro H
  iapply (ldb7 c)
  isplitl [H]; · iexact H
  iintro H
  iapply (ldb8 c)
  isplitl [H]; · iexact H
  iintro H
  iapply (ldb6 c)
  isplitl [H]; · iexact H
  iintro H
  iapply (ldb11 c)
  isplitl [H]; · iexact H
  iintro H
  iapply (ldb8 c)
  isplitl [H]; · iexact H
  iintro H
  iapply (ret_done c)
  iapply HQ
  iexact H

theorem part21 (v1 v3 : Elt F .i32) (k0_hw1 : k0_chk1 v1 v3) (k0_h4 : k0_cond4 v1 v3 = 1#1)  (Q : _ → sProp 𝕄) :
    iprop(blocks c arg4 arg5 arg6 arg7 arg8 arg9 arg10 arg11 I X9 X10 X11 ∗ (blocks c arg4 arg5 arg6 arg7 arg8 arg9 arg10 arg11 I (dqD4 I v1 v3 k0_hw1 k0_h4 X9) (dkD4 I X10) (dvD4 I X11) -∗ Q ⟨(v302D I), (v304D I), (v305D I)⟩))
      ⊢ run c (k0_part21 (F := F) i arg2 harg2 arg3 harg3 arg4 harg4 arg5 harg5 arg6 harg6 arg7 harg7 arg8 harg8 arg9 harg9 arg10 harg10 arg11 harg11 v1 v3 k0_hw1 k0_h4 (v245D I) (v247D I) (v271D I) (v273D I X11) (v274D I) (v276D I)) Q := by
  unfold dvD4 dkD4 dqD4 v302D v304D v305D
  rw [k0_part21_eq_skeleton]
  unfold k0_part21_skel
  iintro ⟨H, HQ⟩
  iapply (ldb11 c)
  isplitl [H]; · iexact H
  iintro H
  iapply (stb11 c)
  isplitl [H]; · iexact H
  iintro H
  iapply (ldb10 c)
  isplitl [H]; · iexact H
  iintro H
  iapply (ldb10 c)
  isplitl [H]; · iexact H
  iintro H
  iapply (stb10 c)
  isplitl [H]; · iexact H
  iintro H
  iapply (ldb9 c)
  isplitl [H]; · iexact H
  iintro H
  iapply (ldb9 c)
  isplitl [H]; · iexact H
  iintro H
  iapply (stb9 c)
  isplitl [H]; · iexact H
  iintro H
  iapply (ldb4 c)
  isplitl [H]; · iexact H
  iintro H
  iapply (ldb5 c)
  isplitl [H]; · iexact H
  iintro H
  iapply (ret_done c)
  iapply HQ
  iexact H

theorem part22 (Q : _ → sProp 𝕄) :
    iprop(blocks c arg4 arg5 arg6 arg7 arg8 arg9 arg10 arg11 I X9 X10 X11 ∗ (blocks c arg4 arg5 arg6 arg7 arg8 arg9 arg10 arg11 I X9 X10 (dvD5 I X11) -∗ Q ⟨(v328D I), (v340D I X10)⟩))
      ⊢ run c (k0_part22 (F := F) i arg2 harg2 arg3 harg3 arg4 harg4 arg5 harg5 arg6 harg6 arg7 harg7 arg8 harg8 arg9 harg9 arg10 harg10 arg11 harg11 (v305D I)) Q := by
  unfold dvD5 v328D v340D
  rw [k0_part22_eq_skeleton]
  unfold k0_part22_skel
  iintro ⟨H, HQ⟩
  iapply (ldb7 c)
  isplitl [H]; · iexact H
  iintro H
  iapply (ldb8 c)
  isplitl [H]; · iexact H
  iintro H
  iapply (ldb6 c)
  isplitl [H]; · iexact H
  iintro H
  iapply (ldb11 c)
  isplitl [H]; · iexact H
  iintro H
  iapply (ldb8 c)
  isplitl [H]; · iexact H
  iintro H
  iapply (ldb11 c)
  isplitl [H]; · iexact H
  iintro H
  iapply (stb11 c)
  isplitl [H]; · iexact H
  iintro H
  iapply (ldb10 c)
  isplitl [H]; · iexact H
  iintro H
  iapply (ret_done c)
  iapply HQ
  iexact H

theorem part23 (v1 v3 : Elt F .i32) (k0_hw1 : k0_chk1 v1 v3) (k0_h4 : k0_cond4 v1 v3 = 1#1)  (Q : _ → sProp 𝕄) :
    iprop(blocks c arg4 arg5 arg6 arg7 arg8 arg9 arg10 arg11 I X9 X10 X11 ∗ (blocks c arg4 arg5 arg6 arg7 arg8 arg9 arg10 arg11 I (dqD5 I v1 v3 k0_hw1 k0_h4 X9) (dkD5 I X10) X11 -∗ Q ⟨(v359D I), (v361D I), (v367D I), (v371D I), (v373D I), (v374D I)⟩))
      ⊢ run c (k0_part23 (F := F) i arg2 harg2 arg3 harg3 arg4 harg4 arg5 harg5 arg6 harg6 arg7 harg7 arg8 harg8 arg9 harg9 arg10 harg10 arg11 harg11 v1 v3 k0_hw1 k0_h4 (v302D I) (v304D I) (v328D I) (v340D I X10)) Q := by
  unfold dkD5 dqD5 v359D v361D v367D v371D v373D v374D
  rw [k0_part23_eq_skeleton]
  unfold k0_part23_skel
  iintro ⟨H, HQ⟩
  iapply (ldb10 c)
  isplitl [H]; · iexact H
  iintro H
  iapply (stb10 c)
  isplitl [H]; · iexact H
  iintro H
  iapply (ldb9 c)
  isplitl [H]; · iexact H
  iintro H
  iapply (ldb9 c)
  isplitl [H]; · iexact H
  iintro H
  iapply (stb9 c)
  isplitl [H]; · iexact H
  iintro H
  iapply (ldb4 c)
  isplitl [H]; · iexact H
  iintro H
  iapply (ldb5 c)
  isplitl [H]; · iexact H
  iintro H
  iapply (ldb7 c)
  isplitl [H]; · iexact H
  iintro H
  iapply (ret_done c)
  iapply HQ
  iexact H

theorem part24 (v1 v3 : Elt F .i32)  (Q : _ → sProp 𝕄) :
    iprop(blocks c arg4 arg5 arg6 arg7 arg8 arg9 arg10 arg11 I X9 X10 X11 ∗ (blocks c arg4 arg5 arg6 arg7 arg8 arg9 arg10 arg11 I X9 (dkD6 I X10) (dvD6 I X11) -∗ Q ⟨(v385D I), (v405D I v1)⟩))
      ⊢ run c (k0_part24 (F := F) i arg2 harg2 arg3 harg3 arg4 harg4 arg5 harg5 arg6 harg6 arg7 harg7 arg8 harg8 arg9 harg9 arg10 harg10 arg11 harg11 v1 (v359D I) (v367D I) (v371D I) (v373D I) (v374D I)) Q := by
  unfold dvD6 dkD6 v385D v405D
  rw [k0_part24_eq_skeleton]
  unfold k0_part24_skel
  iintro ⟨H, HQ⟩
  iapply (ldb8 c)
  isplitl [H]; · iexact H
  iintro H
  iapply (ldb6 c)
  isplitl [H]; · iexact H
  iintro H
  iapply (ldb11 c)
  isplitl [H]; · iexact H
  iintro H
  iapply (ldb8 c)
  isplitl [H]; · iexact H
  iintro H
  iapply (ldb11 c)
  isplitl [H]; · iexact H
  iintro H
  iapply (stb11 c)
  isplitl [H]; · iexact H
  iintro H
  iapply (ldb10 c)
  isplitl [H]; · iexact H
  iintro H
  iapply (ldb10 c)
  isplitl [H]; · iexact H
  iintro H
  iapply (stb10 c)
  isplitl [H]; · iexact H
  iintro H
  iapply (ret_done c)
  iapply HQ
  iexact H

theorem part25 (v1 v3 : Elt F .i32) (k0_hw1 : k0_chk1 v1 v3) (k0_h4 : k0_cond4 v1 v3 = 1#1)  (Q : _ → sProp 𝕄) :
    iprop(blocks c arg4 arg5 arg6 arg7 arg8 arg9 arg10 arg11 I X9 X10 X11 ∗ (blocks c arg4 arg5 arg6 arg7 arg8 arg9 arg10 arg11 I (dqD6 I v1 v3 k0_hw1 k0_h4 X9) X10 X11 -∗ Q ⟨(v416D I), (v418D I), (v435D I), (v437D I), (v439D I)⟩))
      ⊢ run c (k0_part25 (F := F) i arg2 harg2 arg3 harg3 arg4 harg4 arg5 harg5 arg6 harg6 arg7 harg7 arg8 harg8 arg9 harg9 arg10 harg10 arg11 harg11 v1 v3 k0_hw1 k0_h4 (v361D I) (v385D I) (v405D I v1)) Q := by
  unfold dqD6 v416D v418D v435D v437D v439D
  rw [k0_part25_eq_skeleton]
  unfold k0_part25_skel
  iintro ⟨H, HQ⟩
  iapply (ldb9 c)
  isplitl [H]; · iexact H
  iintro H
  iapply (ldb9 c)
  isplitl [H]; · iexact H
  iintro H
  iapply (stb9 c)
  isplitl [H]; · iexact H
  iintro H
  iapply (ldb4 c)
  isplitl [H]; · iexact H
  iintro H
  iapply (ldb5 c)
  isplitl [H]; · iexact H
  iintro H
  iapply (ldb7 c)
  isplitl [H]; · iexact H
  iintro H
  iapply (ldb8 c)
  isplitl [H]; · iexact H
  iintro H
  iapply (ldb6 c)
  isplitl [H]; · iexact H
  iintro H
  iapply (ret_done c)
  iapply HQ
  iexact H

theorem part26 (v1 v3 : Elt F .i32) (k0_hw1 : k0_chk1 v1 v3) (k0_h4 : k0_cond4 v1 v3 = 1#1)  (Q : _ → sProp 𝕄) :
    iprop(blocks c arg4 arg5 arg6 arg7 arg8 arg9 arg10 arg11 I X9 X10 X11 ∗ (blocks c arg4 arg5 arg6 arg7 arg8 arg9 arg10 arg11 I (dqD7 I v1 v3 k0_hw1 k0_h4 X9) (dkD7 I X10) (dvD7 I X11) -∗ Q ⟨⟩))
      ⊢ run c (k0_part26 (F := F) i arg2 harg2 arg3 harg3 arg4 harg4 arg5 harg5 arg6 harg6 arg7 harg7 arg8 harg8 arg9 harg9 arg10 harg10 arg11 harg11 v1 v3 k0_hw1 k0_h4 (v416D I) (v418D I) (v435D I) (v437D I) (v439D I)) Q := by
  unfold dvD7 dkD7 dqD7
  rw [k0_part26_eq_skeleton]
  unfold k0_part26_skel
  iintro ⟨H, HQ⟩
  iapply (ldb11 c)
  isplitl [H]; · iexact H
  iintro H
  iapply (ldb8 c)
  isplitl [H]; · iexact H
  iintro H
  iapply (ldb11 c)
  isplitl [H]; · iexact H
  iintro H
  iapply (stb11 c)
  isplitl [H]; · iexact H
  iintro H
  iapply (ldb10 c)
  isplitl [H]; · iexact H
  iintro H
  iapply (ldb10 c)
  isplitl [H]; · iexact H
  iintro H
  iapply (stb10 c)
  isplitl [H]; · iexact H
  iintro H
  iapply (ldb9 c)
  isplitl [H]; · iexact H
  iintro H
  iapply (ldb9 c)
  isplitl [H]; · iexact H
  iintro H
  iapply (stb9 c)
  isplitl [H]; · iexact H
  iintro H
  iapply (ret_done c)
  iapply HQ
  iexact H

end Cert.Flash
-- ==== Proof.Flash.Body.lean ====
/-
  The whole body at a grid point, in its three cases: the first point of a head (all three result blocks reset, then
  the diagonal work), a later point on the diagonal (`dk` and `dv` reset, then the diagonal work), a point below it.
-/
module

public import proofs.«01_k».proof.Proof.Flash.Below
public import proofs.«01_k».proof.Proof.Flash.Diag

@[expose] public section

noncomputable section

namespace Cert.Flash

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- `dq` after the eight sub-blocks. -/
def diagQ (I : Ins F) (v1 v3 : Elt F .i32) (hw : k0_chk1 v1 v3) (k0_h4 : k0_cond4 v1 v3 = 1#1) (X : S1x8192x256.Idx → Elt F .f32) : S1x8192x256.Idx → Elt F .f32 :=
  dqD7 I v1 v3 hw k0_h4 (dqD6 I v1 v3 hw k0_h4 (dqD5 I v1 v3 hw k0_h4 (dqD4 I v1 v3 hw k0_h4 (dqD3 I v1 v3 hw k0_h4 (dqD2 I v1 v3 hw k0_h4 (dqD1 I v1 v3 hw k0_h4 (dqD0 I v1 v3 hw k0_h4 X)))))))

/-- `dk` after the eight sub-blocks. -/
def diagK (I : Ins F) (X : S1x2048x256.Idx → Elt F .f32) : S1x2048x256.Idx → Elt F .f32 :=
  dkD7 I (dkD6 I (dkD5 I (dkD4 I (dkD3 I (dkD2 I (dkD1 I (dkD0 I X)))))))

/-- `dv` after the eight sub-blocks. -/
def diagV (I : Ins F) (X : S1x2048x128.Idx → Elt F .f32) : S1x2048x128.Idx → Elt F .f32 :=
  dvD7 I (dvD6 I (dvD5 I (dvD4 I (dvD3 I (dvD2 I (dvD1 I (dvD0 I X)))))))

/-- `dq` after the eight sub-blocks. -/
def belowQ (I : Ins F) (v1 v3 : Elt F .i32) (hw : k0_chk1 v1 v3) (k0_h3 : k0_cond3 v1 v3 = 1#1) (X : S1x8192x256.Idx → Elt F .f32) : S1x8192x256.Idx → Elt F .f32 :=
  dqB7 I v1 v3 hw k0_h3 (dqB6 I v1 v3 hw k0_h3 (dqB5 I v1 v3 hw k0_h3 (dqB4 I v1 v3 hw k0_h3 (dqB3 I v1 v3 hw k0_h3 (dqB2 I v1 v3 hw k0_h3 (dqB1 I v1 v3 hw k0_h3 (dqB0 I v1 v3 hw k0_h3 X)))))))

/-- `dk` after the eight sub-blocks. -/
def belowK (I : Ins F) (X : S1x2048x256.Idx → Elt F .f32) : S1x2048x256.Idx → Elt F .f32 :=
  dkB7 I (dkB6 I (dkB5 I (dkB4 I (dkB3 I (dkB2 I (dkB1 I (dkB0 I X)))))))

/-- `dv` after the eight sub-blocks. -/
def belowV (I : Ins F) (X : S1x2048x128.Idx → Elt F .f32) : S1x2048x128.Idx → Elt F .f32 :=
  dvB7 I (dvB6 I (dvB5 I (dvB4 I (dvB3 I (dvB2 I (dvB1 I (dvB0 I X)))))))

/-- The result blocks reset to zero. -/
def zeroQ (X : S1x8192x256.Idx → Elt F .f32) : S1x8192x256.Idx → Elt F .f32 :=
  Rect.overlay (Rect.unit (s := S1x8192x256) ![0, 0, 0] S1x8192x256.size inb_S1x8192x256_S1x8192x256_0_0_0) X (k0_pay1 (F := F))
def zeroK (X : S1x2048x256.Idx → Elt F .f32) : S1x2048x256.Idx → Elt F .f32 :=
  Rect.overlay (Rect.unit (s := S1x2048x256) ![0, 0, 0] S1x2048x256.size inb_S1x2048x256_S1x2048x256_0_0_0) X (k0_pay2 (F := F))
def zeroV (X : S1x2048x128.Idx → Elt F .f32) : S1x2048x128.Idx → Elt F .f32 :=
  Rect.overlay (Rect.unit (s := S1x2048x128) ![0, 0, 0] S1x2048x128.size inb_S1x2048x128_S1x2048x128_0_0_0) X (k0_pay3 (F := F))

/-- The table word of point `i`: its query block (`T` the first table) or its key block (the second). -/
def tabWord (i : grid0.Coords) (T : S10.Idx → Elt F .i32) : Elt F .i32 :=
  word (Rect.unit (s := S10) (k0_off1 i) S1.size (k0_off1_inb i)) numel1_S1 T

variable (c : Dev nD) (i : grid0.Coords)
  (arg2 : Memref sig .tc .smem S10 .i32) (harg2 : arg2.IsWhole)
  (arg3 : Memref sig .tc .smem S10 .i32) (harg3 : arg3.IsWhole)
  (arg4 : Memref sig .tc .vmem S1x2048x256 .bf16) (harg4 : arg4.IsWhole)
  (arg5 : Memref sig .tc .vmem S1x2048x256 .bf16) (harg5 : arg5.IsWhole)
  (arg6 : Memref sig .tc .vmem S1x2048x256 .bf16) (harg6 : arg6.IsWhole)
  (arg7 : Memref sig .tc .vmem S1x2048x128 .f32) (harg7 : arg7.IsWhole)
  (arg8 : Memref sig .tc .vmem S1x2048x256 .bf16) (harg8 : arg8.IsWhole)
  (arg9 : Memref sig .tc .vmem S1x8192x256 .f32) (harg9 : arg9.IsWhole)
  (arg10 : Memref sig .tc .vmem S1x2048x256 .f32) (harg10 : arg10.IsWhole)
  (arg11 : Memref sig .tc .vmem S1x2048x128 .f32) (harg11 : arg11.IsWhole)
  (I : Ins F) (X9 : S1x8192x256.Idx → Elt F .f32) (X10 : S1x2048x256.Idx → Elt F .f32) (X11 : S1x2048x128.Idx → Elt F .f32)
  {q2 q3 : PosShare TreeShare} (T2 T3 : S10.Idx → Elt F .i32)

theorem body_first (v1 v3 : Elt F .i32) (hv1 : tabWord i T2 = v1) (hv3 : tabWord i T3 = v3) (hw : k0_chk1 v1 v3)
    (h1 : k0_cond1 i = 1#1) (h2 : k0_cond2 v1 v3 = 1#1) (h3 : ¬ k0_cond3 v1 v3 = 1#1) (h4 : k0_cond4 v1 v3 = 1#1) (Q : PUnit → sProp 𝕄) :
    iprop(owns (c : Thread nD τ) arg2 q2 T2 ∗ owns (c : Thread nD τ) arg3 q3 T3 ∗ blocks c arg4 arg5 arg6 arg7 arg8 arg9 arg10 arg11 I X9 X10 X11 ∗
        (owns (c : Thread nD τ) arg2 q2 T2 -∗ owns (c : Thread nD τ) arg3 q3 T3 -∗ blocks c arg4 arg5 arg6 arg7 arg8 arg9 arg10 arg11 I (diagQ I v1 v3 hw h4 (zeroQ X9)) (diagK I (zeroK X10)) (diagV I (zeroV X11)) -∗ Q ⟨⟩))
      ⊢ run c (cc0_flash_bwd (F := F) i arg2 harg2 arg3 harg3 arg4 harg4 arg5 harg5 arg6 harg6 arg7 harg7 arg8 harg8 arg9 harg9 arg10 harg10 arg11 harg11) Q := by
  unfold diagQ diagK diagV zeroK zeroV zeroQ
  rw [cc0_flash_bwd_eq_skeleton]
  unfold cc0_flash_bwd_skel
  iintro ⟨H2, H3, H, HQ⟩
  rw [run_bind]
  iapply (load_word_of c (show word (Rect.unit (s := S10) (k0_off1 i) S1.size (k0_off1_inb i)) numel1_S1 T2 = v1 from hv1))
  isplitl [H2]; · iexact H2
  iintro H2
  rw [run_bind]
  iapply (load_word_of c (show word (Rect.unit (s := S10) (k0_off1 i) S1.size (k0_off1_inb i)) numel1_S1 T3 = v3 from hv3))
  isplitl [H3]; · iexact H3
  iintro H3
  iapply (check_b c hw)
  dsimp only
  rw [dif_pos h1]
  rw [dif_pos h2]
  rw [dif_neg h3]
  rw [dif_pos h4]
  iapply (ldb9 c)
  isplitl [H]; · iexact H
  iintro H
  iapply (stb9 c)
  isplitl [H]; · iexact H
  iintro H
  iapply (ldb10 c)
  isplitl [H]; · iexact H
  iintro H
  iapply (stb10 c)
  isplitl [H]; · iexact H
  iintro H
  iapply (ldb11 c)
  isplitl [H]; · iexact H
  iintro H
  iapply (stb11 c)
  isplitl [H]; · iexact H
  iintro H
  rw [run_bind]
  iapply (part13 c i arg2 harg2 arg3 harg3 arg4 harg4 arg5 harg5 arg6 harg6 arg7 harg7 arg8 harg8 arg9 harg9 arg10 harg10 arg11 harg11 I _ _ _ )
  isplitl [H]; · iexact H
  iintro H
  try dsimp only
  rw [run_bind]
  iapply (part14 c i arg2 harg2 arg3 harg3 arg4 harg4 arg5 harg5 arg6 harg6 arg7 harg7 arg8 harg8 arg9 harg9 arg10 harg10 arg11 harg11 I _ _ _ v1 v3 hw h4)
  isplitl [H]; · iexact H
  iintro H
  try dsimp only
  rw [run_bind]
  iapply (part15 c i arg2 harg2 arg3 harg3 arg4 harg4 arg5 harg5 arg6 harg6 arg7 harg7 arg8 harg8 arg9 harg9 arg10 harg10 arg11 harg11 I _ _ _ )
  isplitl [H]; · iexact H
  iintro H
  try dsimp only
  rw [run_bind]
  iapply (part16 c i arg2 harg2 arg3 harg3 arg4 harg4 arg5 harg5 arg6 harg6 arg7 harg7 arg8 harg8 arg9 harg9 arg10 harg10 arg11 harg11 I _ _ _ v1 v3 hw h4)
  isplitl [H]; · iexact H
  iintro H
  try dsimp only
  rw [run_bind]
  iapply (part17 c i arg2 harg2 arg3 harg3 arg4 harg4 arg5 harg5 arg6 harg6 arg7 harg7 arg8 harg8 arg9 harg9 arg10 harg10 arg11 harg11 I _ _ _ v1 v3 )
  isplitl [H]; · iexact H
  iintro H
  try dsimp only
  rw [run_bind]
  iapply (part18 c i arg2 harg2 arg3 harg3 arg4 harg4 arg5 harg5 arg6 harg6 arg7 harg7 arg8 harg8 arg9 harg9 arg10 harg10 arg11 harg11 I _ _ _ v1 v3 hw h4)
  isplitl [H]; · iexact H
  iintro H
  try dsimp only
  rw [run_bind]
  iapply (part19 c i arg2 harg2 arg3 harg3 arg4 harg4 arg5 harg5 arg6 harg6 arg7 harg7 arg8 harg8 arg9 harg9 arg10 harg10 arg11 harg11 I _ _ _ v1 v3 hw h4)
  isplitl [H]; · iexact H
  iintro H
  try dsimp only
  rw [run_bind]
  iapply (part20 c i arg2 harg2 arg3 harg3 arg4 harg4 arg5 harg5 arg6 harg6 arg7 harg7 arg8 harg8 arg9 harg9 arg10 harg10 arg11 harg11 I _ _ _ )
  isplitl [H]; · iexact H
  iintro H
  try dsimp only
  rw [run_bind]
  iapply (part21 c i arg2 harg2 arg3 harg3 arg4 harg4 arg5 harg5 arg6 harg6 arg7 harg7 arg8 harg8 arg9 harg9 arg10 harg10 arg11 harg11 I _ _ _ v1 v3 hw h4)
  isplitl [H]; · iexact H
  iintro H
  try dsimp only
  rw [run_bind]
  iapply (part22 c i arg2 harg2 arg3 harg3 arg4 harg4 arg5 harg5 arg6 harg6 arg7 harg7 arg8 harg8 arg9 harg9 arg10 harg10 arg11 harg11 I _ _ _ )
  isplitl [H]; · iexact H
  iintro H
  try dsimp only
  rw [run_bind]
  iapply (part23 c i arg2 harg2 arg3 harg3 arg4 harg4 arg5 harg5 arg6 harg6 arg7 harg7 arg8 harg8 arg9 harg9 arg10 harg10 arg11 harg11 I _ _ _ v1 v3 hw h4)
  isplitl [H]; · iexact H
  iintro H
  try dsimp only
  rw [run_bind]
  iapply (part24 c i arg2 harg2 arg3 harg3 arg4 harg4 arg5 harg5 arg6 harg6 arg7 harg7 arg8 harg8 arg9 harg9 arg10 harg10 arg11 harg11 I _ _ _ v1 v3 )
  isplitl [H]; · iexact H
  iintro H
  try dsimp only
  rw [run_bind]
  iapply (part25 c i arg2 harg2 arg3 harg3 arg4 harg4 arg5 harg5 arg6 harg6 arg7 harg7 arg8 harg8 arg9 harg9 arg10 harg10 arg11 harg11 I _ _ _ v1 v3 hw h4)
  isplitl [H]; · iexact H
  iintro H
  try dsimp only
  rw [run_bind]
  iapply (part26 c i arg2 harg2 arg3 harg3 arg4 harg4 arg5 harg5 arg6 harg6 arg7 harg7 arg8 harg8 arg9 harg9 arg10 harg10 arg11 harg11 I _ _ _ v1 v3 hw h4)
  isplitl [H]; · iexact H
  iintro H
  try dsimp only
  iapply (ret_done c)
  ispecialize HQ $$ H2 H3 H
  iexact HQ

theorem body_diag (v1 v3 : Elt F .i32) (hv1 : tabWord i T2 = v1) (hv3 : tabWord i T3 = v3) (hw : k0_chk1 v1 v3)
    (h1 : ¬ k0_cond1 i = 1#1) (h2 : k0_cond2 v1 v3 = 1#1) (h3 : ¬ k0_cond3 v1 v3 = 1#1) (h4 : k0_cond4 v1 v3 = 1#1) (Q : PUnit → sProp 𝕄) :
    iprop(owns (c : Thread nD τ) arg2 q2 T2 ∗ owns (c : Thread nD τ) arg3 q3 T3 ∗ blocks c arg4 arg5 arg6 arg7 arg8 arg9 arg10 arg11 I X9 X10 X11 ∗
        (owns (c : Thread nD τ) arg2 q2 T2 -∗ owns (c : Thread nD τ) arg3 q3 T3 -∗ blocks c arg4 arg5 arg6 arg7 arg8 arg9 arg10 arg11 I (diagQ I v1 v3 hw h4 X9) (diagK I (zeroK X10)) (diagV I (zeroV X11)) -∗ Q ⟨⟩))
      ⊢ run c (cc0_flash_bwd (F := F) i arg2 harg2 arg3 harg3 arg4 harg4 arg5 harg5 arg6 harg6 arg7 harg7 arg8 harg8 arg9 harg9 arg10 harg10 arg11 harg11) Q := by
  unfold diagQ diagK diagV zeroK zeroV
  rw [cc0_flash_bwd_eq_skeleton]
  unfold cc0_flash_bwd_skel
  iintro ⟨H2, H3, H, HQ⟩
  rw [run_bind]
  iapply (load_word_of c (show word (Rect.unit (s := S10) (k0_off1 i) S1.size (k0_off1_inb i)) numel1_S1 T2 = v1 from hv1))
  isplitl [H2]; · iexact H2
  iintro H2
  rw [run_bind]
  iapply (load_word_of c (show word (Rect.unit (s := S10) (k0_off1 i) S1.size (k0_off1_inb i)) numel1_S1 T3 = v3 from hv3))
  isplitl [H3]; · iexact H3
  iintro H3
  iapply (check_b c hw)
  dsimp only
  rw [dif_neg h1]
  rw [dif_pos h2]
  rw [dif_neg h3]
  rw [dif_pos h4]
  iapply (ldb10 c)
  isplitl [H]; · iexact H
  iintro H
  iapply (stb10 c)
  isplitl [H]; · iexact H
  iintro H
  iapply (ldb11 c)
  isplitl [H]; · iexact H
  iintro H
  iapply (stb11 c)
  isplitl [H]; · iexact H
  iintro H
  rw [run_bind]
  iapply (part13 c i arg2 harg2 arg3 harg3 arg4 harg4 arg5 harg5 arg6 harg6 arg7 harg7 arg8 harg8 arg9 harg9 arg10 harg10 arg11 harg11 I _ _ _ )
  isplitl [H]; · iexact H
  iintro H
  try dsimp only
  rw [run_bind]
  iapply (part14 c i arg2 harg2 arg3 harg3 arg4 harg4 arg5 harg5 arg6 harg6 arg7 harg7 arg8 harg8 arg9 harg9 arg10 harg10 arg11 harg11 I _ _ _ v1 v3 hw h4)
  isplitl [H]; · iexact H
  iintro H
  try dsimp only
  rw [run_bind]
  iapply (part15 c i arg2 harg2 arg3 harg3 arg4 harg4 arg5 harg5 arg6 harg6 arg7 harg7 arg8 harg8 arg9 harg9 arg10 harg10 arg11 harg11 I _ _ _ )
  isplitl [H]; · iexact H
  iintro H
  try dsimp only
  rw [run_bind]
  iapply (part16 c i arg2 harg2 arg3 harg3 arg4 harg4 arg5 harg5 arg6 harg6 arg7 harg7 arg8 harg8 arg9 harg9 arg10 harg10 arg11 harg11 I _ _ _ v1 v3 hw h4)
  isplitl [H]; · iexact H
  iintro H
  try dsimp only
  rw [run_bind]
  iapply (part17 c i arg2 harg2 arg3 harg3 arg4 harg4 arg5 harg5 arg6 harg6 arg7 harg7 arg8 harg8 arg9 harg9 arg10 harg10 arg11 harg11 I _ _ _ v1 v3 )
  isplitl [H]; · iexact H
  iintro H
  try dsimp only
  rw [run_bind]
  iapply (part18 c i arg2 harg2 arg3 harg3 arg4 harg4 arg5 harg5 arg6 harg6 arg7 harg7 arg8 harg8 arg9 harg9 arg10 harg10 arg11 harg11 I _ _ _ v1 v3 hw h4)
  isplitl [H]; · iexact H
  iintro H
  try dsimp only
  rw [run_bind]
  iapply (part19 c i arg2 harg2 arg3 harg3 arg4 harg4 arg5 harg5 arg6 harg6 arg7 harg7 arg8 harg8 arg9 harg9 arg10 harg10 arg11 harg11 I _ _ _ v1 v3 hw h4)
  isplitl [H]; · iexact H
  iintro H
  try dsimp only
  rw [run_bind]
  iapply (part20 c i arg2 harg2 arg3 harg3 arg4 harg4 arg5 harg5 arg6 harg6 arg7 harg7 arg8 harg8 arg9 harg9 arg10 harg10 arg11 harg11 I _ _ _ )
  isplitl [H]; · iexact H
  iintro H
  try dsimp only
  rw [run_bind]
  iapply (part21 c i arg2 harg2 arg3 harg3 arg4 harg4 arg5 harg5 arg6 harg6 arg7 harg7 arg8 harg8 arg9 harg9 arg10 harg10 arg11 harg11 I _ _ _ v1 v3 hw h4)
  isplitl [H]; · iexact H
  iintro H
  try dsimp only
  rw [run_bind]
  iapply (part22 c i arg2 harg2 arg3 harg3 arg4 harg4 arg5 harg5 arg6 harg6 arg7 harg7 arg8 harg8 arg9 harg9 arg10 harg10 arg11 harg11 I _ _ _ )
  isplitl [H]; · iexact H
  iintro H
  try dsimp only
  rw [run_bind]
  iapply (part23 c i arg2 harg2 arg3 harg3 arg4 harg4 arg5 harg5 arg6 harg6 arg7 harg7 arg8 harg8 arg9 harg9 arg10 harg10 arg11 harg11 I _ _ _ v1 v3 hw h4)
  isplitl [H]; · iexact H
  iintro H
  try dsimp only
  rw [run_bind]
  iapply (part24 c i arg2 harg2 arg3 harg3 arg4 harg4 arg5 harg5 arg6 harg6 arg7 harg7 arg8 harg8 arg9 harg9 arg10 harg10 arg11 harg11 I _ _ _ v1 v3 )
  isplitl [H]; · iexact H
  iintro H
  try dsimp only
  rw [run_bind]
  iapply (part25 c i arg2 harg2 arg3 harg3 arg4 harg4 arg5 harg5 arg6 harg6 arg7 harg7 arg8 harg8 arg9 harg9 arg10 harg10 arg11 harg11 I _ _ _ v1 v3 hw h4)
  isplitl [H]; · iexact H
  iintro H
  try dsimp only
  rw [run_bind]
  iapply (part26 c i arg2 harg2 arg3 harg3 arg4 harg4 arg5 harg5 arg6 harg6 arg7 harg7 arg8 harg8 arg9 harg9 arg10 harg10 arg11 harg11 I _ _ _ v1 v3 hw h4)
  isplitl [H]; · iexact H
  iintro H
  try dsimp only
  iapply (ret_done c)
  ispecialize HQ $$ H2 H3 H
  iexact HQ

theorem body_below (v1 v3 : Elt F .i32) (hv1 : tabWord i T2 = v1) (hv3 : tabWord i T3 = v3) (hw : k0_chk1 v1 v3)
    (h1 : ¬ k0_cond1 i = 1#1) (h2 : ¬ k0_cond2 v1 v3 = 1#1) (h3 : k0_cond3 v1 v3 = 1#1) (h4 : ¬ k0_cond4 v1 v3 = 1#1) (Q : PUnit → sProp 𝕄) :
    iprop(owns (c : Thread nD τ) arg2 q2 T2 ∗ owns (c : Thread nD τ) arg3 q3 T3 ∗ blocks c arg4 arg5 arg6 arg7 arg8 arg9 arg10 arg11 I X9 X10 X11 ∗
        (owns (c : Thread nD τ) arg2 q2 T2 -∗ owns (c : Thread nD τ) arg3 q3 T3 -∗ blocks c arg4 arg5 arg6 arg7 arg8 arg9 arg10 arg11 I (belowQ I v1 v3 hw h3 X9) (belowK I X10) (belowV I X11) -∗ Q ⟨⟩))
      ⊢ run c (cc0_flash_bwd (F := F) i arg2 harg2 arg3 harg3 arg4 harg4 arg5 harg5 arg6 harg6 arg7 harg7 arg8 harg8 arg9 harg9 arg10 harg10 arg11 harg11) Q := by
  unfold belowQ belowK belowV
  rw [cc0_flash_bwd_eq_skeleton]
  unfold cc0_flash_bwd_skel
  iintro ⟨H2, H3, H, HQ⟩
  rw [run_bind]
  iapply (load_word_of c (show word (Rect.unit (s := S10) (k0_off1 i) S1.size (k0_off1_inb i)) numel1_S1 T2 = v1 from hv1))
  isplitl [H2]; · iexact H2
  iintro H2
  rw [run_bind]
  iapply (load_word_of c (show word (Rect.unit (s := S10) (k0_off1 i) S1.size (k0_off1_inb i)) numel1_S1 T3 = v3 from hv3))
  isplitl [H3]; · iexact H3
  iintro H3
  iapply (check_b c hw)
  dsimp only
  rw [dif_neg h1]
  rw [dif_neg h2]
  rw [dif_pos h3]
  rw [dif_neg h4]
  rw [run_bind]
  iapply (part1 c i arg2 harg2 arg3 harg3 arg4 harg4 arg5 harg5 arg6 harg6 arg7 harg7 arg8 harg8 arg9 harg9 arg10 harg10 arg11 harg11 I _ _ _ )
  isplitl [H]; · iexact H
  iintro H
  try dsimp only
  rw [run_bind]
  iapply (part2 c i arg2 harg2 arg3 harg3 arg4 harg4 arg5 harg5 arg6 harg6 arg7 harg7 arg8 harg8 arg9 harg9 arg10 harg10 arg11 harg11 I _ _ _ v1 v3 hw h3)
  isplitl [H]; · iexact H
  iintro H
  try dsimp only
  rw [run_bind]
  iapply (part3 c i arg2 harg2 arg3 harg3 arg4 harg4 arg5 harg5 arg6 harg6 arg7 harg7 arg8 harg8 arg9 harg9 arg10 harg10 arg11 harg11 I _ _ _ v1 v3 hw h3)
  isplitl [H]; · iexact H
  iintro H
  try dsimp only
  rw [run_bind]
  iapply (part4 c i arg2 harg2 arg3 harg3 arg4 harg4 arg5 harg5 arg6 harg6 arg7 harg7 arg8 harg8 arg9 harg9 arg10 harg10 arg11 harg11 I _ _ _ )
  isplitl [H]; · iexact H
  iintro H
  try dsimp only
  rw [run_bind]
  iapply (part5 c i arg2 harg2 arg3 harg3 arg4 harg4 arg5 harg5 arg6 harg6 arg7 harg7 arg8 harg8 arg9 harg9 arg10 harg10 arg11 harg11 I _ _ _ v1 v3 hw h3)
  isplitl [H]; · iexact H
  iintro H
  try dsimp only
  rw [run_bind]
  iapply (part6 c i arg2 harg2 arg3 harg3 arg4 harg4 arg5 harg5 arg6 harg6 arg7 harg7 arg8 harg8 arg9 harg9 arg10 harg10 arg11 harg11 I _ _ _ v1 v3 hw h3)
  isplitl [H]; · iexact H
  iintro H
  try dsimp only
  rw [run_bind]
  iapply (part7 c i arg2 harg2 arg3 harg3 arg4 harg4 arg5 harg5 arg6 harg6 arg7 harg7 arg8 harg8 arg9 harg9 arg10 harg10 arg11 harg11 I _ _ _ )
  isplitl [H]; · iexact H
  iintro H
  try dsimp only
  rw [run_bind]
  iapply (part8 c i arg2 harg2 arg3 harg3 arg4 harg4 arg5 harg5 arg6 harg6 arg7 harg7 arg8 harg8 arg9 harg9 arg10 harg10 arg11 harg11 I _ _ _ v1 v3 hw h3)
  isplitl [H]; · iexact H
  iintro H
  try dsimp only
  rw [run_bind]
  iapply (part9 c i arg2 harg2 arg3 harg3 arg4 harg4 arg5 harg5 arg6 harg6 arg7 harg7 arg8 harg8 arg9 harg9 arg10 harg10 arg11 harg11 I _ _ _ v1 v3 hw h3)
  isplitl [H]; · iexact H
  iintro H
  try dsimp only
  rw [run_bind]
  iapply (part10 c i arg2 harg2 arg3 harg3 arg4 harg4 arg5 harg5 arg6 harg6 arg7 harg7 arg8 harg8 arg9 harg9 arg10 harg10 arg11 harg11 I _ _ _ )
  isplitl [H]; · iexact H
  iintro H
  try dsimp only
  rw [run_bind]
  iapply (part11 c i arg2 harg2 arg3 harg3 arg4 harg4 arg5 harg5 arg6 harg6 arg7 harg7 arg8 harg8 arg9 harg9 arg10 harg10 arg11 harg11 I _ _ _ v1 v3 hw h3)
  isplitl [H]; · iexact H
  iintro H
  try dsimp only
  rw [run_bind]
  iapply (part12 c i arg2 harg2 arg3 harg3 arg4 harg4 arg5 harg5 arg6 harg6 arg7 harg7 arg8 harg8 arg9 harg9 arg10 harg10 arg11 harg11 I _ _ _ v1 v3 hw h3)
  isplitl [H]; · iexact H
  iintro H
  try dsimp only
  iapply (ret_done c)
  ispecialize HQ $$ H2 H3 H
  iexact HQ

end Cert.Flash
-- ==== Proof.Flash.Tables.lean ====
/-
  The two tables the launch prefetches — the query block and the key block of each of a head's ten points — and what
  the points read of them: each block lies inside its array, each check of the body holds, and which of the body's
  three cases each point is.
-/
module

public import proofs.«01_k».proof.Proof.Flash.Body

@[expose] public section

set_option maxRecDepth 16384

noncomputable section

namespace Cert.Flash

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The two tables' contents: the query blocks, the key blocks. -/
def tab : pre0.Contents (Elt F) := fun
  | 0 => fun j => lit0 (S10.rowMajor j)
  | 1 => fun j => lit1 (S10.rowMajor j)

/-- The query block of the point. -/
def qi (i : grid0.Coords) : BitVec 32 := lit0 (Fin.cast (by decide) (i 1))
/-- The key block of the point. -/
def kj (i : grid0.Coords) : BitVec 32 := lit1 (Fin.cast (by decide) (i 1))

theorem word_qi : ∀ i : grid0.Coords, word (Rect.unit (s := S10) (k0_off1 i) S1.size (k0_off1_inb i)) numel1_S1
    (fun j : S10.Idx => lit0 (S10.rowMajor j)) = qi i := by
  decide +kernel

theorem word_kj : ∀ i : grid0.Coords, word (Rect.unit (s := S10) (k0_off1 i) S1.size (k0_off1_inb i)) numel1_S1
    (fun j : S10.Idx => lit1 (S10.rowMajor j)) = kj i := by
  decide +kernel

/-- The two tables, as the body reads them. -/
def tabQ : S10.Idx → Elt F .i32 := fun j => lit0 (S10.rowMajor j)
def tabK : S10.Idx → Elt F .i32 := fun j => lit1 (S10.rowMajor j)

theorem at_qi (i : grid0.Coords) : tabWord (F := F) i tabQ = qi i := word_qi i

theorem at_kj (i : grid0.Coords) : tabWord (F := F) i tabK = kj i := word_kj i

theorem chk_tab (i : grid0.Coords) : k0_chk1 (qi i) (kj i) := by
  revert i; decide +kernel

/-- The block index of the windows over the query rows, and of those over the key rows. -/
def ixQ (i : grid0.Coords) : Fin 3 → Nat := ![(BitVec.ofNat 32 (i 0).val).toNat, (qi i).toNat, 0]
def ixK (i : grid0.Coords) : Fin 3 → Nat := ![(BitVec.ofNat 32 (i 0).val).toNat, (kj i).toNat, 0]

theorem tr0 (i : grid0.Coords) : cc0_transform_0 (F := F) k0_off1_inb numel1_S1 tab i = ixQ i := by
  have h := at_qi (F := F) i
  unfold ixQ; rw [← h]; rfl
theorem tr1 (i : grid0.Coords) : cc0_transform_1 (F := F) k0_off1_inb numel1_S1 tab i = ixK i := by
  have h := at_kj (F := F) i
  unfold ixK; rw [← h]; rfl
theorem tr2 (i : grid0.Coords) : cc0_transform_2 (F := F) k0_off1_inb numel1_S1 tab i = ixK i := tr1 i
theorem tr3 (i : grid0.Coords) : cc0_transform_3 (F := F) k0_off1_inb numel1_S1 tab i = ixQ i := tr0 i
theorem tr4 (i : grid0.Coords) : cc0_transform_4 (F := F) k0_off1_inb numel1_S1 tab i = ixQ i := tr0 i
theorem tr6 (i : grid0.Coords) : cc0_transform_6 (F := F) k0_off1_inb numel1_S1 tab i = ixK i := tr1 i
theorem tr7 (i : grid0.Coords) : cc0_transform_7 (F := F) k0_off1_inb numel1_S1 tab i = ixK i := tr1 i

theorem inQ : ∀ i : grid0.Coords, ∃ h : (∀ a, (ixQ i a + 1) * S1x2048x256.size a ≤ S8x8192x256.size a),
    EltTy.bits .bf16 = 32 ∨ (Rect.block (s := S8x8192x256) S1x2048x256.size (ixQ i) h).WholeWords (EltTy.packing .bf16) := by
  decide +kernel
theorem inK : ∀ i : grid0.Coords, ∃ h : (∀ a, (ixK i a + 1) * S1x2048x256.size a ≤ S8x8192x256.size a),
    EltTy.bits .bf16 = 32 ∨ (Rect.block (s := S8x8192x256) S1x2048x256.size (ixK i) h).WholeWords (EltTy.packing .bf16) := by
  decide +kernel
theorem inL : ∀ i : grid0.Coords, ∀ a, (ixQ i a + 1) * S1x2048x128.size a ≤ S8x8192x128.size a := by
  decide +kernel
theorem inDk : ∀ i : grid0.Coords, ∀ a, (ixK i a + 1) * S1x2048x256.size a ≤ S8x8192x256.size a := by
  decide +kernel
theorem inDv : ∀ i : grid0.Coords, ∀ a, (ixK i a + 1) * S1x2048x128.size a ≤ S8x8192x128.size a := by
  decide +kernel

theorem ok_tab : ok0 (F := F) tab := by
  refine ⟨fun i => ?_, fun i => ?_, fun i => ?_, fun i => ?_, fun i => ?_, fun i => ?_, fun i => ?_⟩
  · rw [tr0]; exact inQ i
  · rw [tr1]; exact inK i
  · rw [tr2]; exact inK i
  · rw [tr3]; exact ⟨inL i, .inl rfl⟩
  · rw [tr4]; exact inQ i
  · rw [tr6]; exact ⟨inDk i, .inl rfl⟩
  · rw [tr7]; exact ⟨inDv i, .inl rfl⟩

/-- The admissible tables. -/
def adm : (pcfg0 (F := F)).Adm := ⟨tab, ok_tab⟩

/-! The cases of the body at a point, on the head's point `i 1`. -/

/-- The point is on the diagonal. -/
def onDiag (i : grid0.Coords) : Prop := kj i = qi i
instance (i : grid0.Coords) : Decidable (onDiag i) := inferInstanceAs (Decidable (kj i = qi i))

theorem cond1_iff : ∀ i : grid0.Coords, k0_cond1 i = 1#1 ↔ (i 1).val = 0 := by decide +kernel
theorem cond2_iff : ∀ i : grid0.Coords, k0_cond2 (qi i) (kj i) = 1#1 ↔ onDiag i := by decide +kernel
theorem cond3_iff : ∀ i : grid0.Coords, k0_cond3 (qi i) (kj i) = 1#1 ↔ ¬ onDiag i := by decide +kernel
theorem cond4_iff : ∀ i : grid0.Coords, k0_cond4 (qi i) (kj i) = 1#1 ↔ onDiag i := by decide +kernel
theorem diag_of_first : ∀ i : grid0.Coords, (i 1).val = 0 → onDiag i := by decide +kernel

end Cert.Flash
-- ==== Proof.Flash.Data.lean ====
/-
  The pipeline's proof data: what each window's staging buffer holds after each point. An input window's holds its
  block of the array at entry; the three result windows' are the body's results (`stepPt`), point after point, `dk` and
  `dv` started afresh on the diagonal, `dq` at each head's first point.
-/
module

public import proofs.«01_k».proof.Proof.Flash.Tables
public import Idealize.ShloMosaic.Lib.Pipeline.Frame

@[expose] public section

set_option maxRecDepth 16384

noncomputable section

namespace Cert.Flash

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

open Idealize.ShloMosaic.Pipeline (Dat Cfg Window BodyObligation cellOf heldIn)

/-- The pipeline at the launch's tables. -/
abbrev cfg : Pipeline.Cfg sig Λ₀ := cfg0 (F := F) adm

/-- The three result blocks. -/
abbrev Outs (F : FTy → Type) : Type :=
  (S1x8192x256.Idx → Elt F .f32) × (S1x2048x256.Idx → Elt F .f32) × (S1x2048x128.Idx → Elt F .f32)

/-- What the body makes of the result blocks at a point. -/
def stepPt (i : grid0.Coords) (I : Ins F) (X : Outs F) : Outs F :=
  if h : onDiag i then
    (diagQ I (qi i) (kj i) (chk_tab i) ((cond4_iff i).2 h) (if (i 1).val = 0 then zeroQ X.1 else X.1), diagK I (zeroK X.2.1), diagV I (zeroV X.2.2))
  else (belowQ I (qi i) (kj i) (chk_tab i) ((cond3_iff i).2 h) X.1, belowK I X.2.1, belowV I X.2.2)

/-- The arrays at entry, by window. -/
abbrev Arrs (c : Dev nD) : Type := (w : Fin 8) → Buf (Elt F) (((cfg (F := F)).win w).arr.view.loc (c.tc : Thread nD τ))

variable {c : Dev nD} (A : Arrs (F := F) c)

/-- The input blocks at point `t`. -/
def ins (t : ℕ) (h : t < (cfg (F := F)).N) : Ins F where
  q := heldIn (cfg (F := F)) A 0 t h
  k := heldIn (cfg (F := F)) A 1 t h
  v := heldIn (cfg (F := F)) A 2 t h
  l := heldIn (cfg (F := F)) A 3 t h
  d := heldIn (cfg (F := F)) A 4 t h

/-- The result blocks after point `t`. -/
def outs : (t : ℕ) → t < (cfg (F := F)).N → Outs F
  | 0, h => stepPt (grid0.coords ⟨0, h⟩) (ins A 0 h) (k0_pay1, k0_pay2, k0_pay3)
  | t + 1, h => stepPt (grid0.coords ⟨t + 1, h⟩) (ins A (t + 1) h) (outs t (Nat.lt_of_succ_lt h))

/-- The proof data. -/
def dat (A : Arrs (F := F) c) : Dat τ (Elt F) Unit ℕ (UR sig nD τ) ℕ (cfg (F := F)) c where
  A w := A w
  after w t := match w with
    | 0 => heldIn (cfg (F := F)) A 0 t.val t.isLt
    | 1 => heldIn (cfg (F := F)) A 1 t.val t.isLt
    | 2 => heldIn (cfg (F := F)) A 2 t.val t.isLt
    | 3 => heldIn (cfg (F := F)) A 3 t.val t.isLt
    | 4 => heldIn (cfg (F := F)) A 4 t.val t.isLt
    | 5 => (outs A t.val t.isLt).1
    | 6 => (outs A t.val t.isLt).2.1
    | 7 => (outs A t.val t.isLt).2.2
  Φ _ := iprop(Pipeline.ΦA spec0 c ∗ Pipeline.ΦT pre0 tab c)
  q _ := fullShare
  owed _ := 0

/-! ### When a result block is started afresh, when kept -/

/-- Whether the block index `ix` differs at the next point (or there is none). -/
def moved (ix : grid0.Coords → Fin 3 → Nat) (t : Fin grid0.N) : Bool :=
  t.val + 1 = grid0.N || decide (∃ h : t.val + 1 < grid0.N, ix (grid0.coords ⟨t.val + 1, h⟩) ≠ ix (grid0.coords t))

theorem flush5 (t : Fin grid0.N) : ((cfg (F := F)).win 5).flush t = moved cc0_transform_5 t := rfl

theorem flush6 (t : Fin grid0.N) : ((cfg (F := F)).win 6).flush t = moved ixK t := by
  rw [show ixK = cc0_transform_6 (F := F) k0_off1_inb numel1_S1 tab from funext fun i => (tr6 i).symm]; rfl

theorem flush7 (t : Fin grid0.N) : ((cfg (F := F)).win 7).flush t = moved ixK t := by
  rw [show ixK = cc0_transform_7 (F := F) k0_off1_inb numel1_S1 tab from funext fun i => (tr7 i).symm]; rfl

theorem moved5 : ∀ t : Fin grid0.N, t.val ≠ 0 →
    (moved cc0_transform_5 ⟨t.val - 1, Nat.lt_of_le_of_lt (Nat.sub_le _ _) t.isLt⟩ = true ↔ ((grid0.coords t) 1).val = 0) := by
  decide +kernel

theorem movedK : ∀ t : Fin grid0.N, t.val ≠ 0 →
    (moved ixK ⟨t.val - 1, Nat.lt_of_le_of_lt (Nat.sub_le _ _) t.isLt⟩ = true ↔ onDiag (grid0.coords t)) := by
  decide +kernel

theorem first0 : ∀ t : Fin grid0.N, t.val = 0 → ((grid0.coords t) 1).val = 0 := by
  decide +kernel

/-! ### Every window is in use at every point -/

theorem off_lt : ∀ i : grid0.Coords, ∀ a, k0_off1 i a + 1 ≤ S10.size a := by decide +kernel

theorem lit_qi : ∀ i : grid0.Coords, lit0 (S10.rowMajor (fun a => ⟨k0_off1 i a, off_lt i a⟩)) = qi i := by decide +kernel
theorem lit_kj : ∀ i : grid0.Coords, lit1 (S10.rowMajor (fun a => ⟨k0_off1 i a, off_lt i a⟩)) = kj i := by decide +kernel

theorem atD_qi (i : grid0.Coords) : Pipeline.Prefetch.Contents.atD (tab (F := F)) 0 (k0_off1 i) = qi i :=
  (dif_pos (off_lt i)).trans (lit_qi i)
theorem atD_kj (i : grid0.Coords) : Pipeline.Prefetch.Contents.atD (tab (F := F)) 1 (k0_off1 i) = kj i :=
  (dif_pos (off_lt i)).trans (lit_kj i)

theorem live5 (i : grid0.Coords) : idle0 (F := F) tab 5 i = false := by
  show (!(k0_cond1 i == 1#1) && !(k0_cond3 (Pipeline.Prefetch.Contents.atD (tab (F := F)) 0 (k0_off1 i)) (Pipeline.Prefetch.Contents.atD (tab (F := F)) 1 (k0_off1 i)) == 1#1) && !(k0_cond4 (Pipeline.Prefetch.Contents.atD (tab (F := F)) 0 (k0_off1 i)) (Pipeline.Prefetch.Contents.atD (tab (F := F)) 1 (k0_off1 i)) == 1#1)) = false
  rw [atD_qi, atD_kj]
  by_cases hd : onDiag i
  · rw [(cond4_iff i).2 hd]; simp
  · rw [(cond3_iff i).2 hd]; simp

theorem live6 (i : grid0.Coords) : idle0 (F := F) tab 6 i = false := by
  show (!(k0_cond2 (Pipeline.Prefetch.Contents.atD (tab (F := F)) 0 (k0_off1 i)) (Pipeline.Prefetch.Contents.atD (tab (F := F)) 1 (k0_off1 i)) == 1#1) && !(k0_cond3 (Pipeline.Prefetch.Contents.atD (tab (F := F)) 0 (k0_off1 i)) (Pipeline.Prefetch.Contents.atD (tab (F := F)) 1 (k0_off1 i)) == 1#1) && !(k0_cond4 (Pipeline.Prefetch.Contents.atD (tab (F := F)) 0 (k0_off1 i)) (Pipeline.Prefetch.Contents.atD (tab (F := F)) 1 (k0_off1 i)) == 1#1)) = false
  rw [atD_qi, atD_kj]
  by_cases hd : onDiag i
  · rw [(cond4_iff i).2 hd]; simp
  · rw [(cond3_iff i).2 hd]; simp

theorem live (w : Fin 8) (i : grid0.Coords) : (cfg (F := F)).idle w i = false := by
  show idle0 (F := F) tab w i = false
  match w with
  | 0 => rfl
  | 1 => rfl
  | 2 => rfl
  | 3 => rfl
  | 4 => rfl
  | 5 => exact live5 i
  | 6 => exact live6 i
  | 7 => exact live6 i

theorem noClip (w : Fin 8) (i : grid0.Coords) (a) : ((cfg (F := F)).win w).clip i a = none := rfl

/-! ### What the body finds -/

theorem finds0 (t : Fin (cfg (F := F)).N) (d) : (dat A).before 0 t d = heldIn (cfg (F := F)) A 0 t.val t.isLt :=
  (dat A).before_eq_heldIn 0 rfl (live 0) (noClip 0) (fun _ => rfl) t d
theorem finds1 (t : Fin (cfg (F := F)).N) (d) : (dat A).before 1 t d = heldIn (cfg (F := F)) A 1 t.val t.isLt :=
  (dat A).before_eq_heldIn 1 rfl (live 1) (noClip 1) (fun _ => rfl) t d
theorem finds2 (t : Fin (cfg (F := F)).N) (d) : (dat A).before 2 t d = heldIn (cfg (F := F)) A 2 t.val t.isLt :=
  (dat A).before_eq_heldIn 2 rfl (live 2) (noClip 2) (fun _ => rfl) t d
theorem finds3 (t : Fin (cfg (F := F)).N) (d) : (dat A).before 3 t d = heldIn (cfg (F := F)) A 3 t.val t.isLt :=
  (dat A).before_eq_heldIn 3 rfl (live 3) (noClip 3) (fun _ => rfl) t d
theorem finds4 (t : Fin (cfg (F := F)).N) (d) : (dat A).before 4 t d = heldIn (cfg (F := F)) A 4 t.val t.isLt :=
  (dat A).before_eq_heldIn 4 rfl (live 4) (noClip 4) (fun _ => rfl) t d

/-- The result blocks before point `t`, where they are kept. -/
def prev (t : Fin (cfg (F := F)).N) : Outs F :=
  match t with
  | ⟨0, h⟩ => (k0_pay1, k0_pay2, k0_pay3)
  | ⟨n + 1, h⟩ => outs A n (Nat.lt_of_succ_lt h)

theorem outs_eq (t : Fin (cfg (F := F)).N) :
    outs A t.val t.isLt = stepPt (grid0.coords t) (ins A t.val t.isLt) (prev A t) := by
  obtain ⟨n, h⟩ := t
  cases n <;> rfl

theorem prev_eq (t : Fin (cfg (F := F)).N) (ht : t.val ≠ 0) :
    prev A t = outs A (t.val - 1) (Nat.lt_of_le_of_lt (Nat.sub_le _ _) t.isLt) := by
  obtain ⟨n, h⟩ := t
  cases n
  · exact absurd rfl ht
  · rfl

theorem finds5 (t : Fin (cfg (F := F)).N) (h : ((grid0.coords t) 1).val ≠ 0) (d) : (dat A).before 5 t d = (prev A t).1 := by
  have ht : t.val ≠ 0 := fun h0 => h (first0 t h0)
  rw [(dat A).before_out_kept 5 rfl t ht (by
    rw [flush5, ← Bool.not_eq_true]; exact fun hm => h ((moved5 t ht).1 hm)) (live 5) (noClip 5) d, prev_eq A t ht]
  rfl
theorem finds6 (t : Fin (cfg (F := F)).N) (h : ¬ onDiag (grid0.coords t)) (d) : (dat A).before 6 t d = (prev A t).2.1 := by
  have ht : t.val ≠ 0 := fun h0 => h (diag_of_first _ (first0 t h0))
  rw [(dat A).before_out_kept 6 rfl t ht (by
    rw [flush6, ← Bool.not_eq_true]; exact fun hm => h ((movedK t ht).1 hm)) (live 6) (noClip 6) d, prev_eq A t ht]
  rfl
theorem finds7 (t : Fin (cfg (F := F)).N) (h : ¬ onDiag (grid0.coords t)) (d) : (dat A).before 7 t d = (prev A t).2.2 := by
  have ht : t.val ≠ 0 := fun h0 => h (diag_of_first _ (first0 t h0))
  rw [(dat A).before_out_kept 7 rfl t ht (by
    rw [flush7, ← Bool.not_eq_true]; exact fun hm => h ((movedK t ht).1 hm)) (live 7) (noClip 7) d, prev_eq A t ht]
  rfl

/-! ### A block started afresh forgets what it held -/

theorem overlay_all {s : Shape} {α : Type} (r : Rect s) (h : ∀ j, j ∈ r.set) (X Y : s.Idx → α) (G : r.shape.Idx → α) :
    r.overlay X G = r.overlay Y G := by
  funext j
  have hj := h j
  rw [← Rect.map_emb_univ] at hj
  obtain ⟨x, -, rfl⟩ := Finset.mem_map.1 hj
  rw [Rect.overlay_emb, Rect.overlay_emb]

theorem mem_all {d : Fin 3 → Nat} (inb) (j : (⟨3, d⟩ : Shape).Idx) : j ∈ (Rect.unit (s := ⟨3, d⟩) ![0, 0, 0] d inb).set := by
  rw [Rect.mem_set_unit]
  intro a
  have h := (j a).isLt
  have e : (![0, 0, 0] : Fin 3 → Nat) a = 0 := by fin_cases a <;> rfl
  rw [e, Nat.zero_add]
  exact ⟨Nat.zero_le _, h⟩

theorem zeroQ_const (X Y : S1x8192x256.Idx → Elt F .f32) : zeroQ X = zeroQ Y := by
  unfold zeroQ
  exact overlay_all _ (fun j => mem_all _ j) _ _ _
theorem zeroK_const (X Y : S1x2048x256.Idx → Elt F .f32) : zeroK X = zeroK Y := by
  unfold zeroK
  exact overlay_all _ (fun j => mem_all _ j) _ _ _
theorem zeroV_const (X Y : S1x2048x128.Idx → Elt F .f32) : zeroV X = zeroV Y := by
  unfold zeroV
  exact overlay_all _ (fun j => mem_all _ j) _ _ _

end Cert.Flash
-- ==== Proof.Flash.Oblig.lean ====
/-
  The body meets its obligation at every point: from the input blocks and what the result blocks were left at, to the
  result blocks of the point (`outs`).
-/
module

public import proofs.«01_k».proof.Proof.Flash.Data

@[expose] public section

set_option maxRecDepth 16384

noncomputable section

namespace Cert.Flash

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

open Idealize.ShloMosaic.Pipeline (Dat Cfg Window BodyObligation cellOf heldIn)

variable {c : Dev nD} (A : Arrs (F := F) c)

/-- One run of the body at a point, in any of its cases, from result blocks `Y` that agree with the kept ones wherever the point
    keeps them. -/
theorem body_any (c : Dev nD) (i : grid0.Coords)
  (arg2 : Memref sig .tc .smem S10 .i32) (harg2 : arg2.IsWhole)
  (arg3 : Memref sig .tc .smem S10 .i32) (harg3 : arg3.IsWhole)
  (arg4 : Memref sig .tc .vmem S1x2048x256 .bf16) (harg4 : arg4.IsWhole)
  (arg5 : Memref sig .tc .vmem S1x2048x256 .bf16) (harg5 : arg5.IsWhole)
  (arg6 : Memref sig .tc .vmem S1x2048x256 .bf16) (harg6 : arg6.IsWhole)
  (arg7 : Memref sig .tc .vmem S1x2048x128 .f32) (harg7 : arg7.IsWhole)
  (arg8 : Memref sig .tc .vmem S1x2048x256 .bf16) (harg8 : arg8.IsWhole)
  (arg9 : Memref sig .tc .vmem S1x8192x256 .f32) (harg9 : arg9.IsWhole)
  (arg10 : Memref sig .tc .vmem S1x2048x256 .f32) (harg10 : arg10.IsWhole)
  (arg11 : Memref sig .tc .vmem S1x2048x128 .f32) (harg11 : arg11.IsWhole)
    (I : Ins F) (X Y : Outs F) {q2 q3 : PosShare TreeShare}
    (h9 : (i 1).val ≠ 0 → Y.1 = X.1) (h10 : ¬ onDiag i → Y.2.1 = X.2.1) (h11 : ¬ onDiag i → Y.2.2 = X.2.2) (Q : PUnit → sProp 𝕄) :
    iprop(owns (c : Thread nD τ) arg2 q2 (tabQ (F := F)) ∗ owns (c : Thread nD τ) arg3 q3 (tabK (F := F)) ∗ blocks c arg4 arg5 arg6 arg7 arg8 arg9 arg10 arg11 I Y.1 Y.2.1 Y.2.2 ∗
        (owns (c : Thread nD τ) arg2 q2 (tabQ (F := F)) -∗ owns (c : Thread nD τ) arg3 q3 (tabK (F := F)) -∗
          blocks c arg4 arg5 arg6 arg7 arg8 arg9 arg10 arg11 I (stepPt i I X).1 (stepPt i I X).2.1 (stepPt i I X).2.2 -∗ Q ⟨⟩))
      ⊢ run c (cc0_flash_bwd (F := F) i arg2 harg2 arg3 harg3 arg4 harg4 arg5 harg5 arg6 harg6 arg7 harg7 arg8 harg8 arg9 harg9 arg10 harg10 arg11 harg11) Q := by
  have a1 := at_qi (F := F) i
  have a2 := at_kj (F := F) i
  by_cases hd : onDiag i
  · have e : stepPt i I X = (diagQ I (qi i) (kj i) (chk_tab i) ((cond4_iff i).2 hd) (if (i 1).val = 0 then zeroQ X.1 else X.1),
        diagK I (zeroK Y.2.1), diagV I (zeroV Y.2.2)) := by
      rw [zeroK_const Y.2.1 X.2.1, zeroV_const Y.2.2 X.2.2]; exact dif_pos hd
    rw [e]
    have b2 := (cond2_iff i).2 hd
    have b3 : ¬ k0_cond3 (qi i) (kj i) = 1#1 := fun h => (cond3_iff i).1 h hd
    have b4 := (cond4_iff i).2 hd
    by_cases h1 : (i 1).val = 0
    · have b1 := (cond1_iff i).2 h1
      rw [if_pos h1, zeroQ_const X.1 Y.1]
      have H0 := @body_first F _ c i arg2 harg2 arg3 harg3 arg4 harg4 arg5 harg5 arg6 harg6 arg7 harg7 arg8 harg8 arg9 harg9 arg10 harg10 arg11 harg11 I Y.1 Y.2.1 Y.2.2 q2 q3
      have H1 := H0 tabQ tabK (qi i)
      have H2 := H1 (kj i)
      have H3 := H2 a1 a2
      have H4 := H3 (chk_tab i)
      have H5 := H4 b1 b2 b3 b4 Q
      dsimp only
      exact H5
    · have b1 : ¬ k0_cond1 i = 1#1 := fun h => h1 ((cond1_iff i).1 h)
      rw [if_neg h1, ← h9 h1]
      have H0 := @body_diag F _ c i arg2 harg2 arg3 harg3 arg4 harg4 arg5 harg5 arg6 harg6 arg7 harg7 arg8 harg8 arg9 harg9 arg10 harg10 arg11 harg11 I Y.1 Y.2.1 Y.2.2 q2 q3
      have H1 := H0 tabQ tabK (qi i)
      have H2 := H1 (kj i)
      have H3 := H2 a1 a2
      have H4 := H3 (chk_tab i)
      have H5 := H4 b1 b2 b3 b4 Q
      dsimp only
      exact H5
  · have h1 : ¬ (i 1).val = 0 := fun h => hd (diag_of_first i h)
    have e : stepPt i I X = (belowQ I (qi i) (kj i) (chk_tab i) ((cond3_iff i).2 hd) X.1, belowK I X.2.1, belowV I X.2.2) :=
      dif_neg hd
    have b1 : ¬ k0_cond1 i = 1#1 := fun h => h1 ((cond1_iff i).1 h)
    have b2 : ¬ k0_cond2 (qi i) (kj i) = 1#1 := fun h => hd ((cond2_iff i).1 h)
    have b3 := (cond3_iff i).2 hd
    have b4 : ¬ k0_cond4 (qi i) (kj i) = 1#1 := fun h => hd ((cond4_iff i).1 h)
    rw [e, ← h9 h1, ← h10 hd, ← h11 hd]
    have H0 := @body_below F _ c i arg2 harg2 arg3 harg3 arg4 harg4 arg5 harg5 arg6 harg6 arg7 harg7 arg8 harg8 arg9 harg9 arg10 harg10 arg11 harg11 I Y.1 Y.2.1 Y.2.2 q2 q3
    have H1 := H0 tabQ tabK (qi i)
    have H2 := H1 (kj i)
    have H3 := H2 a1 a2
    have H4 := H3 (chk_tab i)
    have H5 := H4 b1 b2 b3 b4 Q
    dsimp only
    exact H5

theorem defs_tc : defs₀ (F := F) .tc (cfg (F := F)).body = fun a => cc0_flash_bwd (grid0.coords a.1)
    (Memref.whole main_c) (Memref.isWhole_whole _) (Memref.whole main_c_0) (Memref.isWhole_whole _)
    (spec0_0.stage (a.2 0)) (hstage0_0 ((a.2 0).cast nbuf0_0))
    (spec0_1.stage (a.2 1)) (hstage0_1 ((a.2 1).cast nbuf0_1))
    (spec0_2.stage (a.2 2)) (hstage0_2 ((a.2 2).cast nbuf0_2))
    (spec0_3.stage (a.2 3)) (hstage0_3 ((a.2 3).cast nbuf0_3))
    (spec0_4.stage (a.2 4)) (hstage0_4 ((a.2 4).cast nbuf0_4))
    (spec0_5.stage (a.2 5)) (hstage0_5 ((a.2 5).cast nbuf0_5))
    (spec0_6.stage (a.2 6)) (hstage0_6 ((a.2 6).cast nbuf0_6))
    (spec0_7.stage (a.2 7)) (hstage0_7 ((a.2 7).cast nbuf0_7)) := rfl

theorem prog_eq (t : Fin (cfg (F := F)).N) : defs₀ (F := F) .tc (cfg (F := F)).body ((cfg (F := F)).bodyArgs t ((cfg (F := F)).slots t))
    = cc0_flash_bwd (grid0.coords t)
    (Memref.whole main_c) (Memref.isWhole_whole _) (Memref.whole main_c_0) (Memref.isWhole_whole _)
    (spec0_0.stage ((cfg (F := F)).slots t 0)) (hstage0_0 (((cfg (F := F)).slots t 0).cast nbuf0_0))
    (spec0_1.stage ((cfg (F := F)).slots t 1)) (hstage0_1 (((cfg (F := F)).slots t 1).cast nbuf0_1))
    (spec0_2.stage ((cfg (F := F)).slots t 2)) (hstage0_2 (((cfg (F := F)).slots t 2).cast nbuf0_2))
    (spec0_3.stage ((cfg (F := F)).slots t 3)) (hstage0_3 (((cfg (F := F)).slots t 3).cast nbuf0_3))
    (spec0_4.stage ((cfg (F := F)).slots t 4)) (hstage0_4 (((cfg (F := F)).slots t 4).cast nbuf0_4))
    (spec0_5.stage ((cfg (F := F)).slots t 5)) (hstage0_5 (((cfg (F := F)).slots t 5).cast nbuf0_5))
    (spec0_6.stage ((cfg (F := F)).slots t 6)) (hstage0_6 (((cfg (F := F)).slots t 6).cast nbuf0_6))
    (spec0_7.stage ((cfg (F := F)).slots t 7)) (hstage0_7 (((cfg (F := F)).slots t 7).cast nbuf0_7)) :=
  (congrFun defs_tc _).trans rfl

/-- The tables as the pipeline hands them to the body are the two memrefs the body reads. -/
theorem tables (c : Dev nD) : (Pipeline.ΦT pre0 (tab (F := F)) c : sProp 𝕄)
    = iprop(owns (c : Thread nD τ) (Memref.whole main_c) fullShare.right (tabQ (F := F)) ∗ owns (c : Thread nD τ) (Memref.whole main_c_0) fullShare.right (tabK (F := F))) := by
  rw [owns_whole, owns_whole]
  exact bigSep_univ_eq_bigSepL [(0 : Fin 2), (1 : Fin 2)] (by decide) (by decide) _

theorem back (t : Fin (cfg (F := F)).N) :
    (blocks (F := F) c (spec0_0.stage ((cfg (F := F)).slots t 0)) (spec0_1.stage ((cfg (F := F)).slots t 1)) (spec0_2.stage ((cfg (F := F)).slots t 2)) (spec0_3.stage ((cfg (F := F)).slots t 3)) (spec0_4.stage ((cfg (F := F)).slots t 4)) (spec0_5.stage ((cfg (F := F)).slots t 5)) (spec0_6.stage ((cfg (F := F)).slots t 6)) (spec0_7.stage ((cfg (F := F)).slots t 7))
      (ins A t.val t.isLt) (outs A t.val t.isLt).1 (outs A t.val t.isLt).2.1 (outs A t.val t.isLt).2.2 : sProp 𝕄)
    = bigSep Finset.univ fun w : Fin (cfg (F := F)).W => owns (c : Thread nD τ) (((cfg (F := F)).win w).stage ((cfg (F := F)).slots t w)) fullShare ((dat A).after w t) := by
  rw [bigSep_W0]
  rfl

set_option backward.isDefEq.respectTransparency.types false in
theorem obligation_at (t : Fin (cfg (F := F)).N) :
    iprop((dat A).Φ t.castSucc ∗ (dat A).owesAt () t.castSucc
        ∗ bigSep Finset.univ fun w : Fin (cfg (F := F)).W => iprop(∃ d, owns (c : Thread nD τ) (((cfg (F := F)).win w).stage ((cfg (F := F)).slots t w)) fullShare ((dat A).before w t d)))
      ⊢ wp frame (wpE (defs₀ (F := F)) Variants.none c none) Set.univ (defs₀ (F := F) .tc (cfg (F := F)).body ((cfg (F := F)).bodyArgs t ((cfg (F := F)).slots t))) fun _ =>
          iprop((dat A).Φ t.succ ∗ (dat A).owesAt () t.succ
            ∗ bigSep Finset.univ fun w : Fin (cfg (F := F)).W => owns (c : Thread nD τ) (((cfg (F := F)).win w).stage ((cfg (F := F)).slots t w)) fullShare ((dat A).after w t)) := by
  rw [← back A t, bigSep_W0]
  unfold blocks
  simp only [finds0, finds1, finds2, finds3, finds4]
  rw [show (dat A).Φ t.castSucc = iprop(Pipeline.ΦA spec0 c ∗ Pipeline.ΦT pre0 tab c) from rfl, show (dat A).Φ t.succ = iprop(Pipeline.ΦA spec0 c ∗ Pipeline.ΦT pre0 tab c) from rfl]
  rw [tables c]
  unfold Dat.owesAt Pipeline.owesWithin
  rw [show (dat A).owed t.castSucc = 0 from rfl, show (dat A).owed t.succ = 0 from rfl]
  iintro ⟨⟨HA, HT2, HT3⟩, ⟨%W, %hW, HW⟩, ⟨%d0, H0⟩, ⟨%d1, H1⟩, ⟨%d2, H2⟩, ⟨%d3, H3⟩, ⟨%d4, H4⟩, ⟨%d5, H5⟩, ⟨%d6, H6⟩, ⟨%d7, H7⟩⟩
  sl_rw [prog_eq t]
  have B0 := body_any (F := F) c (grid0.coords t)
    (Memref.whole main_c) (Memref.isWhole_whole _) (Memref.whole main_c_0) (Memref.isWhole_whole _)
    (spec0_0.stage ((cfg (F := F)).slots t 0)) (hstage0_0 (((cfg (F := F)).slots t 0).cast nbuf0_0))
    (spec0_1.stage ((cfg (F := F)).slots t 1)) (hstage0_1 (((cfg (F := F)).slots t 1).cast nbuf0_1))
    (spec0_2.stage ((cfg (F := F)).slots t 2)) (hstage0_2 (((cfg (F := F)).slots t 2).cast nbuf0_2))
    (spec0_3.stage ((cfg (F := F)).slots t 3)) (hstage0_3 (((cfg (F := F)).slots t 3).cast nbuf0_3))
    (spec0_4.stage ((cfg (F := F)).slots t 4)) (hstage0_4 (((cfg (F := F)).slots t 4).cast nbuf0_4))
    (spec0_5.stage ((cfg (F := F)).slots t 5)) (hstage0_5 (((cfg (F := F)).slots t 5).cast nbuf0_5))
    (spec0_6.stage ((cfg (F := F)).slots t 6)) (hstage0_6 (((cfg (F := F)).slots t 6).cast nbuf0_6))
    (spec0_7.stage ((cfg (F := F)).slots t 7)) (hstage0_7 (((cfg (F := F)).slots t 7).cast nbuf0_7))
    (ins A t.val t.isLt) (prev A t)
  have B1 := B0 ((dat A).before 5 t d5, (dat A).before 6 t d6, (dat A).before 7 t d7) (q2 := fullShare.right) (q3 := fullShare.right)
    (fun h => finds5 A t h d5) (fun h => finds6 A t h d6) (fun h => finds7 A t h d7)
  rw [← outs_eq] at B1
  clear B0
  unfold blocks at B1
  iapply (B1 _)
  isplitl [HT2]; · iexact HT2
  isplitl [HT3]; · iexact HT3
  isplitl [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  iintro HT2
  iintro HT3
  iintro H
  isplitl [HA HT2 HT3]
  · isplitl [HA]; · iexact HA
    isplitl [HT2]; · iexact HT2
    iexact HT3
  isplitl [HW]
  · iexists W; isplitr; · ipureintro; exact hW
    iexact HW
  iexact H

set_option backward.isDefEq.respectTransparency.types false in
theorem obligation : BodyObligation (dat A) (defs₀ (F := F)) Variants.none () Set.univ := fun t => by
  have e : ∀ w : Fin 8, idle0 (F := F) adm.1 w (((pcfg0 (F := F)).gridAt adm.1).coords t) = false := fun w => live w _
  refine (obligation_at A t).trans ?_
  simp only [e]
  exact .rfl

end Cert.Flash
-- ==== Proof.Flash.Run.lean ====
/-
  The launch: what every run of the program's end finds, at any float values. The argument arrays are as they were, the
  counters at zero, and the three results are the lines after the launch applied to the result arrays the pipeline
  leaves (`Dat.arrAt` of the proof data `dat`).
-/
module

public import proofs.«01_k».proof.Proof.Flash.Oblig
public import Idealize.ShloMosaic.Lib.Pipeline.FrameSuffix
public import Idealize.ShloMosaic.Lib.StableHlo.RunRead

@[expose] public section

set_option maxRecDepth 16384

noncomputable section

namespace Cert.Flash

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf heldIn)

variable {F : FTy → Type} [FloatOps F]

/-- The host lines before the launch, in order. -/
def before : List (List (HloOp τ sig (Elt F))) :=
  [hostOps0, hostOps0_1, hostOps0_2, hostOps0_3, hostOps0_4, hostOps0_5, hostOps0_6, hostOps0_7, hostOps0_8]

/-- Memory at the launch. -/
def atLaunch (m : (ℓ : Loc nD τ sig) → Buf (Elt F) ℓ) (c : Dev nD) : Valuation τ sig (Elt F) :=
  StableHlo.after before.flatten (fun b => m (c, b))

/-- The windows' arrays at the launch. -/
def arrs (m : (ℓ : Loc nD τ sig) → Buf (Elt F) ℓ) (c : Dev nD) : Arrs (F := F) c := fun w => atLaunch m c (Proc.devRef .tc (Pipeline.arrRef spec0 w))

/-- The proof data of the one pipeline. -/
def dats (m : (ℓ : Loc nD τ sig) → Buf (Elt F) ℓ) : (p : Fin 1) → (c : Dev nD) → Dat τ (Elt F) Unit ℕ (UR sig nD τ) ℕ (Pipeline.pin (pcfgs (F := F)) (fun | 0 => adm) p) c :=
  fun p c => match p with | 0 => dat (arrs m c)

/-- The lines before the launch write these, in order. -/
def wrote : List (Ref sig .tc) := [main_c, main_c_0, main_cst, main_v0, main_v1, main_c_1, main_call0_v0, main_call0_v1, main_call0_v2, main_call0_v3, main_call0_v4, main_call0_v5, main_call0_v6, main_call0_v7, main_call0_v8, main_call0_c, main_call0_v9, main_call0_v10, main_call0_v11, main_call0_c_0, main_call0_v12, main_call0_v13, main_v2, main_v3, main_v4, main_v5, main_v6, main_v7, main_v8, main_cst_2, main_v9, main_v10, main_cst_3, main_call1_v0, main_call1_v1, main_call1_v2, main_v11, main_cst_4, main_v12, main_v13, main_v14, main_v15, main_v16, main_cst_5, main_v17, main_v18, main_v19, main_v20, main_v21, main_v22, main_v23, main_v24, main_v25, main_v26, main_cst_6, main_v27, main_v28, main_cst_7, main_v29, main_v30, main_v31, main_c_8, main_call2_v0, main_v32, main_v33, main_c_9, main_call3_v0, main_v34, main_v35, main_cst_10, main_v36, main_v37, main_v38, main_v39, main_v40, main_v41, main_cst_11, main_v42, main_v43, main_v44, main_v45]
/-- The lines after it write these. -/
def wroteTail : List (Ref sig .tc) := [main_v47, main_cst_12, main_v48, main_v49, main_v50, main_v51, main_v52]

theorem wrote_eq : (before (F := F)).flatten.map HloOp.writes = wrote.map fun r => {Proc.devRef (τ := τ) .tc r} := rfl
theorem wroteTail_eq : (hostOps1 (F := F)).map HloOp.writes = wroteTail.map fun r => {Proc.devRef (τ := τ) .tc r} := rfl

theorem before_sub : (before (F := F)).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub, hostOps0_8_sub⟩

theorem before_fresh : (before (F := F)).Forall fun ops => ops.Forall fun op => op.fresh = ∅ := by
  repeat' first | apply And.intro | rfl

theorem tail_fresh : ∀ ops ∈ [hostOps1 (F := F)], ∀ op ∈ ops, op.fresh = ∅ := by
  intro ops h
  rw [List.mem_singleton.1 h]
  exact List.forall_iff_forall_mem.mp (by repeat' first | apply And.intro | rfl)

theorem tail_sub : ∀ ops ∈ [hostOps1 (F := F)], ∀ op ∈ ops, op.bufs ⊆ Pipeline.tailRefs (τ := τ) sig pre0 spec0 := by
  intro ops h
  rw [List.mem_singleton.1 h]
  intro op ho
  refine Pipeline.sub_tailRefs pre0 spec0 op (List.forall_iff_forall_mem.mp hostOps1_sub op ho) ?_
  have H : (hostOps1 (F := F)).Forall fun op => ∀ k : Fin pre0.K, Proc.devRef .tc (pre0.ref k) ∉ op.bufs := by
    have e : ∀ k : Fin pre0.K, pre0.ref k ∉ [main_v46_0, main_v46_1, main_v47, main_cst_12, main_v48, main_v49, main_v50, main_v0, main_v51, main_v52] := by
      decide +kernel
    have e' : ∀ (k : Fin pre0.K) (r : Ref sig .tc), r ∈ [main_v46_0, main_v46_1, main_v47, main_cst_12, main_v48, main_v49, main_v50, main_v0, main_v51, main_v52] →
        Proc.devRef (τ := τ) .tc (pre0.ref k) ≠ Proc.devRef .tc r := fun k r hr h => e k (Proc.devRef_injective _ h ▸ hr)
    refine ⟨?_, ?_, ?_, ?_, ?_, ?_, ?_⟩ <;> intro k <;>
      simp only [StableHlo.unary_bufs, StableHlo.binary_bufs, StableHlo.nullary_bufs, Finset.mem_insert, Finset.mem_singleton, not_or] <;>
      (repeat' apply And.intro) <;> exact e' k _ (by simp)
  exact List.forall_iff_forall_mem.mp H op ho

theorem tail_keep : ∀ ops ∈ [hostOps1 (F := F)], ∀ op ∈ ops, ∀ w : Fin 8, Proc.devRef .tc (Pipeline.arrRef spec0 w) ∉ op.writes := by
  intro ops h
  rw [List.mem_singleton.1 h]
  intro op ho w hw
  have H := List.forall_iff_forall_mem.mp (StableHlo.forall_writes_sub_of_map (wroteTail_eq (F := F))) op ho hw
  obtain ⟨y, hy, he⟩ := List.mem_map.mp (List.mem_toFinset.mp H)
  have e := Proc.devRef_injective _ he
  have : ∀ w : Fin 8, Pipeline.arrRef spec0 w ∉ wroteTail := by decide +kernel
  exact this w (e ▸ hy)

theorem tab0 (m : (ℓ : Loc nD τ sig) → Buf (Elt F) ℓ) (c : Dev nD) : atLaunch m c (Proc.devRef .tc main_c) = fun i => lit0 (S10.rowMajor i) := by
  have h := StableHlo.after_unwritten (ops := (before (F := F)).flatten.tail) (r := main_c) wrote.tail rfl (by decide +kernel)
    ((StableHlo.nullary main_c (fun i => lit0 (S10.rowMajor i))).result (fun b => m (c, b)))
  rw [StableHlo.nullary_result'] at h
  exact h

theorem tab1 (m : (ℓ : Loc nD τ sig) → Buf (Elt F) ℓ) (c : Dev nD) : atLaunch m c (Proc.devRef .tc main_c_0) = fun i => lit1 (S10.rowMajor i) := by
  have h := StableHlo.after_unwritten (ops := (before (F := F)).flatten.tail.tail) (r := main_c_0) wrote.tail.tail rfl (by decide +kernel)
    ((StableHlo.nullary main_c_0 (fun i => lit1 (S10.rowMajor i))).result ((StableHlo.nullary main_c (fun i => lit0 (S10.rowMajor i))).result (fun b => m (c, b))))
  rw [StableHlo.nullary_result'] at h
  exact h

theorem pref_tab (m : (ℓ : Loc nD τ sig) → Buf (Elt F) ℓ) (c : Dev nD) (k : Fin pre0.K) : atLaunch m c (Proc.devRef .tc (pre0.ref k)) = tab (F := F) k := by
  match k with
  | 0 => exact tab0 m c
  | 1 => exact tab1 m c

/-- What the run ends with. -/
def Post (m : (ℓ : Loc nD τ sig) → Buf (Elt F) ℓ) : PUnit × MemSt nD τ sig (Elt F) → Prop := fun r =>
  Pipeline.FramePost (Pipeline.pin (pcfgs (F := F)) (fun | 0 => adm)) (dats m) 0
    (Pipeline.afterTail (pcfgs (F := F)) (fun | 0 => adm) (dats m) 0 (atLaunch m) [hostOps1]) r ∧ r.2.sem = fun _ => 0

set_option backward.isDefEq.respectTransparency.types false in
theorem run_main (m : (ℓ : Loc nD τ sig) → Buf (Elt F) ℓ) (ρ : Dev nD → PrngReg) :
    θ_run (defs (F := F)) (onTc (τ := τ) (main (F := F))) ⟨m, fun _ => 0, ρ⟩ (Post m) :=
  Pipeline.θ_run_frameP_around (pcfgs (F := F)) (fun | 0 => adm) (dats m) 0 launch0 defs₀ Variants.none m ρ main
    (hbody := fun c => (obligation (arrs m c)).loose) (hshare := fun c => (dats m 0 c).share_full fun _ => rfl)
    (howed := fun _ _ => rfl) (V₀ := atLaunch m) (opss := [hostOps1])
    (hsub := tail_sub) (hfresh := tail_fresh) (hkeep := tail_keep)
    (hmain := Pipeline.hmainP_around (pcfgs (F := F)) 0 defs₀ Variants.none m main before [hostOps1] before_sub before_fresh main_chain)
    (hA := fun _ _ => rfl) (hpf := pref_tab m) (hΦ := fun _ _ => rfl)
    (Q' := Post m) (hQ' := fun _ h => h)

end Cert.Flash
-- ==== Proof.Flash.Final.lean ====
/-
  What the run's end says of the argument arrays and of the three results.
-/
module

public import proofs.«01_k».proof.Proof.Flash.Run

@[expose] public section

set_option maxRecDepth 16384

noncomputable section

namespace Cert.Flash

open Cert.KernelIdeal Cert.KernelIdeal.Gen
open Idealize.ShloMosaic
open Idealize.ShloMosaic.TcCoe
open Idealize.SL.Sem
open Idealize.ShloMosaic.Pipeline (Dat)

variable {F : FTy → Type} [FloatOps F]

/-- The result array of window `w` at the end. -/
def resArr (m : (ℓ : Loc nD τ sig) → Buf (Elt F) ℓ) (c : Dev nD) (w : Fin 8) :=
  (dat (arrs m c)).arrAt w (cfg (F := F)).N

variable (m : (ℓ : Loc nD τ sig) → Buf (Elt F) ℓ) (r : PUnit × MemSt nD τ sig (Elt F)) (h : Post m r) (c : Dev nD)

/-- Memory after the launch, before the lines that follow it. -/
def afterLaunch : Valuation τ sig (Elt F) :=
  Pipeline.withArrays spec0 c (atLaunch m c) (fun w => resArr m c w)

include h in
theorem rest_eq (b : Ref sig .tc) (hs : b.isScoped = false) (ha : ∀ w, (spec0 w).arr.view.ref ≠ b) :
    r.2.mem ((c.tc : Thread nD τ).loc b) = StableHlo.after hostOps1 (afterLaunch m c) (Proc.devRef .tc b) :=
  (h.1 c).2 b (Pipeline.mem_restRefs_of b hs ha)

include h in
theorem arr_eq (w : Fin 8) : r.2.mem ((c.tc : Thread nD τ).loc (Pipeline.arrRef spec0 w)) = resArr m c w :=
  (h.1 c).1 w

include h in
theorem kept (b : Ref sig .tc) (hs : b.isScoped = false) (ha : ∀ w, (spec0 w).arr.view.ref ≠ b) (h0 : b ∉ wrote) (h1 : b ∉ wroteTail) :
    r.2.mem ((c.tc : Thread nD τ).loc b) = m ((c.tc : Thread nD τ).loc b) := by
  rw [rest_eq m r h c b hs ha, StableHlo.after_unwritten wroteTail wroteTail_eq h1]
  exact (Pipeline.withArrays_of_ne spec0 c _ _ b ha).trans (StableHlo.after_unwritten wrote wrote_eq h0 _)

include h in
theorem args_kept : r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) := by
  refine ⟨?_, ?_, ?_, ?_⟩ <;>
    exact kept m r h c _ rfl (by decide +kernel) (by decide +kernel) (by decide +kernel)

end Cert.Flash
-- ==== Proof.Value.RefTerms.lean ====
/-
  The reference's three results as a composition of short named steps.
-/
module

public import proofs.«01_k».proof.Proof.Gen.ReferenceIdeal.Run
public import Idealize.ShloMosaic.Lib.Pointwise

@[expose] public section

set_option maxRecDepth 16384

noncomputable section

namespace Cert.RefAt

open Cert.ReferenceIdeal Cert.ReferenceIdeal.Gen
open Idealize.ShloMosaic
open Idealize.ShloMosaic.TcCoe
open Idealize.SL.Sem

/-- The index of the block of 64 a position lies in. -/
def rBlk : IVec S8192 32 :=
  select (andi (cmpi .ne (signi (iotaInDim S8192 32 0)) (broadcastInDim S8192 ![] bcast_S_S8192 (signi (id (constantI S_ 32 64#32))))) (cmpi .ne (Host.remsi (iotaInDim S8192 32 0) (broadcastInDim S8192 ![] bcast_S_S8192 (id (constantI S_ 32 64#32)))) (broadcastInDim S8192 ![] bcast_S_S8192 (constantI S_ 32 0#32)))) (subi (Host.divsi (iotaInDim S8192 32 0) (broadcastInDim S8192 ![] bcast_S_S8192 (id (constantI S_ 32 64#32)))) (broadcastInDim S8192 ![] bcast_S_S8192 (constantI S_ 32 1#32))) (Host.divsi (iotaInDim S8192 32 0) (broadcastInDim S8192 ![] bcast_S_S8192 (id (constantI S_ 32 64#32))))

/-- Whether a row sees a column. -/
def rMask : IVec S8x8192x8192 1 :=
  broadcastInDim S8x8192x8192 ![1, 2] bcast_S8192x8192_S8x8192x8192_1_2 (cmpi .sle (broadcastInDim S8192x8192 ![0, 1] bcast_S1x8192_S8192x8192_0_1 (broadcastInDim S1x8192 ![1] bcast_S8192_S1x8192_1 rBlk)) (broadcastInDim S8192x8192 ![0, 1] bcast_S8192x1_S8192x8192_0_1 (broadcastInDim S8192x1 ![0] bcast_S8192_S8192x1_0 rBlk)))

/-- A per-row value over every column. -/
def rRow (x : FVec Ideal S8x8192x1 .f32) : FVec Ideal S8x8192x8192 .f32 := broadcastInDim S8x8192x8192 ![0, 1, 2] bcast_S8x8192x1_S8x8192x8192_0_1_2 x
def rOne (x : FVec Ideal S8x8192 .f32) : FVec Ideal S8x8192x1 .f32 := broadcastInDim S8x8192x1 ![0, 1] bcast_S8x8192_S8x8192x1_0_1 x
def rScale : FVec Ideal S8x8192x8192 .f32 := broadcastInDim S8x8192x8192 ![] bcast_S_S8x8192x8192 (constant S_ .f32 0x3D93CD3A#32)

def rLog (q k : FVec Ideal S8x8192x192 .f32) : FVec Ideal S8x8192x8192 .f32 :=
  select rMask (mulf (Host.dotGeneral dot_S8x8192x192_S8x8192x192_S8x8192x8192_2_2_1_1_0_0 none q k) rScale) (broadcastInDim S8x8192x8192 ![] bcast_S_S8x8192x8192 (id (constant S_ .f32 0xFF800000#32)))

def rTop (g : FVec Ideal S8x8192x8192 .f32) : FVec Ideal S8x8192 .f32 :=
  maximumf (broadcastInDim S8x8192 ![] bcast_S_S8x8192 (constant S_ .f32 0xFF800000#32)) (Host.reduce FloatOps.maximumf g (constant S_ .f32 0xFF800000#32) reducesTo_S8x8192x8192_S8x8192_d2 h_S_)

def rExp (g : FVec Ideal S8x8192x8192 .f32) : FVec Ideal S8x8192x8192 .f32 := Host.exp (subf g (rRow (rOne (rTop g))))
def rSum (g : FVec Ideal S8x8192x8192 .f32) : FVec Ideal S8x8192 .f32 := Host.reduceAdd g (constant S_ .f32 0x00000000#32) reducesTo_S8x8192x8192_S8x8192_d2 h_S_
def rDen (e : FVec Ideal S8x8192x8192 .f32) : FVec Ideal S8x8192x1 .f32 := rOne (rSum e)

def rDV (e : FVec Ideal S8x8192x8192 .f32) (o : FVec Ideal S8x8192x128 .f32) : FVec Ideal S8x8192x128 .f32 :=
  transpose S8x8192x128 [0, 2, 1] (Host.dotGeneral dot_S8x8192x128_S8x8192x8192_S8x128x8192_1_1_2_2_0_0 none o (Host.divf e (rRow (rDen e)))) transposes_S8x128x8192_S8x8192x128_0_2_1

def rDP (v o : FVec Ideal S8x8192x128 .f32) : FVec Ideal S8x8192x8192 .f32 := Host.dotGeneral dot_S8x8192x128_S8x8192x128_S8x8192x8192_2_2_1_1_0_0 none o v

/-- The reciprocal of the squared denominator. -/
def rInv (e : FVec Ideal S8x8192x8192 .f32) : FVec Ideal S8x8192x1 .f32 :=
  Host.divf (broadcastInDim S8x8192x1 ![] bcast_S_S8x8192x1 (constant S_ .f32 0x3F800000#32)) (mulf (rDen e) (rDen e))

def rNeg (e p : FVec Ideal S8x8192x8192 .f32) : FVec Ideal S8x8192 .f32 :=
  Host.reduceAdd (Host.negf (shapeCast S8x8192x1 (rSum (mulf (mulf p (rRow (rInv e))) e)) shapeCasts_S8x8192_S8x8192x1)) (constant S_ .f32 0x00000000#32) reducesTo_S8x8192x1_S8x8192_d2 h_S_

/-- The gradient of the scaled scores. -/
def rDS (e p : FVec Ideal S8x8192x8192 .f32) : FVec Ideal S8x8192x8192 .f32 :=
  mulf (select rMask (mulf (addf (Host.divf p (rRow (rDen e))) (broadcastInDim S8x8192x8192 ![0, 1] bcast_S8x8192_S8x8192x8192_0_1 (rNeg e p))) e) (broadcastInDim S8x8192x8192 ![] bcast_S_S8x8192x8192 (constant S_ .f32 0x00000000#32))) rScale

def rDK (s : FVec Ideal S8x8192x8192 .f32) (q : FVec Ideal S8x8192x192 .f32) : FVec Ideal S8x8192x192 .f32 :=
  Host.dotGeneral dot_S8x8192x8192_S8x8192x192_S8x8192x192_1_1_2_2_0_0 none s q
def rDQ (s : FVec Ideal S8x8192x8192 .f32) (k : FVec Ideal S8x8192x192 .f32) : FVec Ideal S8x8192x192 .f32 :=
  Host.dotGeneral dot_S8x8192x8192_S8x8192x192_S8x8192x192_2_1_1_2_0_0 none s k

variable (m : (ℓ : Loc nD τ sig) → Buf (Elt Ideal) ℓ) (c : Dev nD)

abbrev q0 : FVec Ideal S8x8192x192 .f32 := m ((c.tc : Thread nD τ).loc main_arg0)
abbrev k0 : FVec Ideal S8x8192x192 .f32 := m ((c.tc : Thread nD τ).loc main_arg1)
abbrev v0 : FVec Ideal S8x8192x128 .f32 := m ((c.tc : Thread nD τ).loc main_arg2)
abbrev o0 : FVec Ideal S8x8192x128 .f32 := m ((c.tc : Thread nD τ).loc main_arg3)

abbrev E0 : FVec Ideal S8x8192x8192 .f32 := rExp (rLog (q0 m c) (k0 m c))

theorem res41 : Value.res_main_v41 (F := Ideal) m c = rDV (E0 m c) (o0 m c) := rfl
theorem res58 : Value.res_main_v58 (F := Ideal) m c = rDK (rDS (E0 m c) (rDP (v0 m c) (o0 m c))) (q0 m c) := rfl
theorem res59 : Value.res_main_v59 (F := Ideal) m c = rDQ (rDS (E0 m c) (rDP (v0 m c) (o0 m c))) (k0 m c) := rfl

end Cert.RefAt
-- ==== Proof.Value.KTerms.lean ====
/-
  What the kernel's host lines leave in the windows' arrays at the launch, as a composition of short named steps.
-/
module

public import proofs.«01_k».proof.Proof.Value.RefTerms
public import proofs.«01_k».proof.Proof.Flash.Run

@[expose] public section

set_option maxRecDepth 16384

noncomputable section

namespace Cert.Flash

open Cert.RefAt Cert.KernelIdeal Cert.KernelIdeal.Gen
open Idealize.ShloMosaic
open Idealize.ShloMosaic.TcCoe
open Idealize.ShloMosaic.StableHlo
open Idealize.SL.Sem

def kLn : FVec Ideal S_ .f32 := Host.log (constant S_ .f32 0x40000000#32)
def kTop (g : FVec Ideal S8x8192x8192 .f32) : FVec Ideal S8x8192 .f32 :=
  Host.reduce FloatOps.maximumf g (constant S_ .f32 0xFF800000#32) reducesTo_S8x8192x8192_S8x8192_d2 h_S_
def kExp (g : FVec Ideal S8x8192x8192 .f32) : FVec Ideal S8x8192x8192 .f32 := Host.exp (subf g (rRow (rOne (kTop g))))
def kLse (g e : FVec Ideal S8x8192x8192 .f32) : FVec Ideal S8x8192x128 .f32 :=
  broadcastInDim S8x8192x128 ![0, 1, 2] bcast_S8x8192x1_S8x8192x128_0_1_2 (Host.divf (addf (rOne (kTop g)) (Host.log (rDen e))) (broadcastInDim S8x8192x1 ![] bcast_S_S8x8192x1 kLn))
def kOut (e : FVec Ideal S8x8192x8192 .f32) (v : FVec Ideal S8x8192x128 .f32) : FVec Ideal S8x8192x128 .f32 :=
  Host.dotGeneral dot_S8x8192x8192_S8x8192x128_S8x8192x128_2_1_1_2_0_0 none (Host.divf e (rRow (rDen e))) v
def kDel (e : FVec Ideal S8x8192x8192 .f32) (v o : FVec Ideal S8x8192x128 .f32) : FVec Ideal S8x8192x1 .f32 :=
  rOne (Host.reduceAdd (mulf o (kOut e v)) (constant S_ .f32 0x00000000#32) reducesTo_S8x8192x128_S8x8192_d2 h_S_)
def kPad (x : FVec Ideal S8x8192x192 .f32) : FVec Ideal S8x8192x256 .bf16 :=
  truncf .bf16 (pad S8x8192x256 ![0, 0, 0] ![0, 0, 64] ![0, 0, 0] x (sitofp .f32 (constantI S_ 32 0#32)) pads_S8x8192x192_S8x8192x256_000_000_0640 h_S_) bitsLt_bf16_f32
def kQ (q : FVec Ideal S8x8192x192 .f32) : FVec Ideal S8x8192x256 .bf16 :=
  kPad (mulf q (broadcastInDim S8x8192x192 ![] bcast_S_S8x8192x192 (Host.divf (constant S_ .f32 0x3D93CD3A#32) kLn)))
def kV (v : FVec Ideal S8x8192x128 .f32) : FVec Ideal S8x8192x256 .bf16 :=
  truncf .bf16 (concatenate S8x8192x256 2 [⟨S8x8192x128, v⟩, ⟨S8x8192x128, broadcastInDim S8x8192x128 ![] bcast_S_S8x8192x128 (constant S_ .f32 0xBF800000#32)⟩] concatenates_S8x8192x128_S8x8192x128_S8x8192x256_d2) bitsLt_bf16_f32
def kHi (d : FVec Ideal S8x8192x1 .f32) : FVec Ideal S8x8192x1 .f32 := extf .f32 (truncf .bf16 d bitsLt_bf16_f32) bitsLt_bf16_f32
def kDo (d : FVec Ideal S8x8192x1 .f32) (o : FVec Ideal S8x8192x128 .f32) : FVec Ideal S8x8192x256 .bf16 :=
  truncf .bf16 (concatenate S8x8192x256 2 [⟨S8x8192x128, o⟩, ⟨S8x8192x1, kHi d⟩, ⟨S8x8192x1, subf d (kHi d)⟩, ⟨S8x8192x126, broadcastInDim S8x8192x126 ![] bcast_S_S8x8192x126 (constant S_ .f32 0x00000000#32)⟩]
    concatenates_S8x8192x128_S8x8192x1_S8x8192x1_S8x8192x126_S8x8192x256_d2) bitsLt_bf16_f32

variable (m : (ℓ : Loc nD τ sig) → Buf (Elt Ideal) ℓ) (c : Dev nD)

abbrev mq : FVec Ideal S8x8192x192 .f32 := m ((c.tc : Thread nD τ).loc main_arg0)
abbrev mk : FVec Ideal S8x8192x192 .f32 := m ((c.tc : Thread nD τ).loc main_arg1)
abbrev mv : FVec Ideal S8x8192x128 .f32 := m ((c.tc : Thread nD τ).loc main_arg2)
abbrev mo : FVec Ideal S8x8192x128 .f32 := m ((c.tc : Thread nD τ).loc main_arg3)

abbrev G0 : FVec Ideal S8x8192x8192 .f32 := rLog (mq m c) (mk m c)

set_option maxHeartbeats 4000000

theorem at_ln : atLaunch m c (Proc.devRef .tc main_v0) = kLn := by
  unfold atLaunch before
  simp only [List.flatten, List.append, List.cons_append, List.nil_append, TRef.binary, TRef.nullary, TRef.ternary, TRef.unary, TRef.toBuf, TRef.ofBuf, cast_eq]
  after_results_simp <;> rfl

theorem at_q : atLaunch m c (Proc.devRef .tc main_v33) = kQ (mq m c) := by
  unfold atLaunch before
  simp only [List.flatten, List.append, List.cons_append, List.nil_append, TRef.binary, TRef.nullary, TRef.ternary, TRef.unary, TRef.toBuf, TRef.ofBuf, cast_eq]
  after_results_simp <;> rfl

theorem at_k : atLaunch m c (Proc.devRef .tc main_v35) = kPad (mk m c) := by
  unfold atLaunch before
  simp only [List.flatten, List.append, List.cons_append, List.nil_append, TRef.binary, TRef.nullary, TRef.ternary, TRef.unary, TRef.toBuf, TRef.ofBuf, cast_eq]
  after_results_simp <;> rfl

theorem at_v : atLaunch m c (Proc.devRef .tc main_v38) = kV (mv m c) := by
  unfold atLaunch before
  simp only [List.flatten, List.append, List.cons_append, List.nil_append, TRef.binary, TRef.nullary, TRef.ternary, TRef.unary, TRef.toBuf, TRef.ofBuf, cast_eq]
  after_results_simp <;> rfl

theorem at_lse : atLaunch m c (Proc.devRef .tc main_v45) = kLse (G0 m c) (kExp (G0 m c)) := by
  unfold atLaunch before
  simp only [List.flatten, List.append, List.cons_append, List.nil_append, TRef.binary, TRef.nullary, TRef.ternary, TRef.unary, TRef.toBuf, TRef.ofBuf, cast_eq]
  after_results_simp <;> rfl

/-- All the lines before the launch but the last three. -/
def most : List (HloOp τ sig (Elt Ideal)) := (before (F := Ideal)).flatten.take 78
def last3 : List (HloOp τ sig (Elt Ideal)) := (before (F := Ideal)).flatten.drop 78

theorem last3_do (V : Valuation τ sig (Elt Ideal)) : after last3 V (Proc.devRef .tc main_v44) =
    (truncf .bf16 (concatenate S8x8192x256 2 [⟨S8x8192x128, (V (Proc.devRef .tc main_arg3) : FVec Ideal S8x8192x128 .f32)⟩, ⟨S8x8192x1, (V (Proc.devRef .tc main_v40) : FVec Ideal S8x8192x1 .f32)⟩, ⟨S8x8192x1, (V (Proc.devRef .tc main_v41) : FVec Ideal S8x8192x1 .f32)⟩, ⟨S8x8192x126, (V (Proc.devRef .tc main_v42) : FVec Ideal S8x8192x126 .f32)⟩]
    concatenates_S8x8192x128_S8x8192x1_S8x8192x1_S8x8192x126_S8x8192x256_d2) bitsLt_bf16_f32 : FVec Ideal S8x8192x256 .bf16) := by
  unfold last3 before
  simp only [List.flatten, List.append, List.cons_append, List.nil_append, List.drop]
  after_results_simp <;> rfl

theorem most_arg : after most (fun b => m (c, b)) (Proc.devRef .tc main_arg3) = mo m c := by
  unfold most before
  simp only [List.flatten, List.append, List.cons_append, List.nil_append, List.take, TRef.binary, TRef.nullary, TRef.ternary, TRef.unary, TRef.toBuf, TRef.ofBuf, cast_eq]
  after_results_simp <;> rfl

theorem most_v40 : after most (fun b => m (c, b)) (Proc.devRef .tc main_v40) = (kHi (kDel (kExp (G0 m c)) (mv m c) (mo m c)) : FVec Ideal S8x8192x1 .f32) := by
  unfold most before
  simp only [List.flatten, List.append, List.cons_append, List.nil_append, List.take, TRef.binary, TRef.nullary, TRef.ternary, TRef.unary, TRef.toBuf, TRef.ofBuf, cast_eq]
  after_results_simp <;> rfl

theorem most_v41 : after most (fun b => m (c, b)) (Proc.devRef .tc main_v41) = (subf (kDel (kExp (G0 m c)) (mv m c) (mo m c)) (kHi (kDel (kExp (G0 m c)) (mv m c) (mo m c))) : FVec Ideal S8x8192x1 .f32) := by
  unfold most before
  simp only [List.flatten, List.append, List.cons_append, List.nil_append, List.take, TRef.binary, TRef.nullary, TRef.ternary, TRef.unary, TRef.toBuf, TRef.ofBuf, cast_eq]
  after_results_simp <;> rfl

theorem most_v42 : after most (fun b => m (c, b)) (Proc.devRef .tc main_v42) = (broadcastInDim S8x8192x126 ![] bcast_S_S8x8192x126 (constant S_ .f32 0x00000000#32) : FVec Ideal S8x8192x126 .f32) := by
  unfold most before
  simp only [List.flatten, List.append, List.cons_append, List.nil_append, List.take, TRef.binary, TRef.nullary, TRef.ternary, TRef.unary, TRef.toBuf, TRef.ofBuf, cast_eq]
  after_results_simp <;> rfl

theorem at_do : atLaunch m c (Proc.devRef .tc main_v44) = kDo (kDel (kExp (G0 m c)) (mv m c) (mo m c)) (mo m c) := by
  have h : atLaunch m c = after last3 (after most (fun b => m (c, b))) := by
    unfold atLaunch
    rw [← after_append]
    exact congrArg (fun l => after l _) (List.take_append_drop 78 _).symm
  rw [h, last3_do, most_arg, most_v40, most_v41, most_v42]
  rfl

/-- The lines after the launch: the first 192 columns, rescaled. -/
def kScaled (x : FVec Ideal S8x8192x256 .f32) (y : FVec Ideal S_ .f32) : FVec Ideal S8x8192x192 .f32 :=
  mulf (extractStridedSlice S8x8192x192 ![0, 0, 0] x slices_S8x8192x256_S8x8192x192_0_0_0) (broadcastInDim S8x8192x192 ![] bcast_S_S8x8192x192 y)

theorem tail_q (V : Valuation τ sig (Elt Ideal)) : after hostOps1 V (Proc.devRef .tc main_v49) = kScaled (V (Proc.devRef .tc main_v46_0)) (constant S_ .f32 0x3D93CD3A#32) := by
  after_results_simp <;> rfl

theorem tail_k (V : Valuation τ sig (Elt Ideal)) : after hostOps1 V (Proc.devRef .tc main_v52) = kScaled (V (Proc.devRef .tc main_v46_1)) (V (Proc.devRef .tc main_v0)) := by
  after_results_simp <;> rfl

end Cert.Flash
-- ==== Proof.Value.Words.lean ====
/-
  Facts about 32-bit words: division by 64 and order.
-/
module

public import Idealize.ShloMosaic.Lib.Pointwise

@[expose] public section

set_option maxRecDepth 16384

noncomputable section

namespace Cert.Words

open Idealize.ShloMosaic

/-- Division by 64, rounding down, as the host prints it. -/
theorem word_floor (n : ℕ) (hn : n < 2 ^ 20) :
    Scalar.select (IntOp.andi (IntOp.cmpi CmpIPredicate.ne (if BitVec.ofNat 32 n = 0 then (0 : BitVec 32) else if (BitVec.ofNat 32 n).msb = true then -1 else 1)
        (if (64#32 : BitVec 32) = 0 then (0 : BitVec 32) else if (64#32 : BitVec 32).msb = true then -1 else 1))
      (IntOp.cmpi CmpIPredicate.ne (IntOp.remsi ArithUnit.host (BitVec.ofNat 32 n) 64#32) 0#32))
      (IntOp.subi (IntOp.divsi ArithUnit.host (BitVec.ofNat 32 n) 64#32) 1#32) (IntOp.divsi ArithUnit.host (BitVec.ofNat 32 n) 64#32) = BitVec.ofNat 32 (n / 64) := by
  have hm : (BitVec.ofNat 32 n).msb = false := by rw [BitVec.msb_eq_decide]; simp; omega
  have hc : ¬ IntOp.SDivCorner (BitVec.ofNat 32 n) 64#32 := by
    unfold IntOp.SDivCorner; simp
  have hd : IntOp.divsi ArithUnit.host (BitVec.ofNat 32 n) 64#32 = BitVec.ofNat 32 (n / 64) := by
    unfold IntOp.divsi
    rw [if_neg hc, BitVec.sdiv, hm]
    simp only [show (64#32 : BitVec 32).msb = false by decide]
    apply BitVec.eq_of_toNat_eq
    simp; omega
  rw [hd]
  by_cases h0 : n = 0
  · subst h0
    have hr : IntOp.remsi ArithUnit.host (BitVec.ofNat 32 0) 64#32 = 0#32 := by
      unfold IntOp.remsi
      rw [if_neg hc]; decide
    rw [hr]
    decide
  · have hz : BitVec.ofNat 32 n ≠ 0 := by
      intro h
      have := congrArg BitVec.toNat h
      simp at this; omega
    rw [if_neg hz, hm]
    simp [IntOp.cmpi, IntOp.andi, Scalar.select, show (64#32 : BitVec 32).msb = false by decide]

theorem word_le (n k : ℕ) (hn : n < 2 ^ 20) (hk : k < 2 ^ 20) :
    IntOp.cmpi CmpIPredicate.sle (BitVec.ofNat 32 n) (BitVec.ofNat 32 k) = BitVec.ofBool (decide (n ≤ k)) := by
  have e : ∀ k : ℕ, k < 2 ^ 20 → (BitVec.ofNat 32 k).toInt = k := fun k hk => by
    rw [BitVec.toInt_eq_toNat_of_lt] <;> simp <;> omega
  simp [IntOp.cmpi, BitVec.sle, e n hn, e k hk]

end Cert.Words
-- ==== Proof.Value.RefAt.lean ====
/-
  The steps of the reference read at an index.
-/
module

public import proofs.«01_k».proof.Proof.Value.RefTerms
public import proofs.«01_k».proof.Proof.Value.Words
public import Idealize.ShloMosaic.Lib.Pointwise

@[expose] public section

set_option maxRecDepth 16384

noncomputable section

namespace Cert.RefAt

open Cert.Words Cert.ReferenceIdeal Cert.ReferenceIdeal.Gen
open Idealize.ShloMosaic
open Idealize.ShloMosaic.TcCoe
open Idealize.SL.Sem

theorem mask_at (h : Fin 8) (a b : Fin 8192) : rMask (ix3 h a b) = BitVec.ofBool (decide (b.val / 64 ≤ a.val / 64)) := by
  pointwise [rMask, rBlk]
  have e : id (constantI S_ 32 64#32) ix0 = (64#32 : BitVec 32) := rfl
  rw [e]
  exact (congrArg₂ (IntOp.cmpi CmpIPredicate.sle) (word_floor b.val (by omega)) (word_floor a.val (by omega))).trans (word_le _ _ (by omega) (by omega))

theorem fold_real (op : EReal → EReal → EReal) [Std.Commutative op] [Std.Associative op] (hop : ∀ x y, op x y = max x y)
    (i j : EReal) (hi : i ≠ ⊤) (hj : j ≠ ⊤) {n : ℕ} (f : Fin n → EReal) (hf : ∀ k, f k ≠ ⊤) (k : Fin n) (hk : f k ≠ ⊥) :
    ∃ t : ℝ, op j (Finset.univ.fold op i f) = t := by
  obtain rfl : op = max := funext fun x => funext fun y => hop x y
  have h1 : max j (Finset.univ.fold max i f) ≠ ⊤ := by
    refine ne_of_lt (max_lt (lt_top_iff_ne_top.2 hj) ?_)
    exact (Finset.fold_max_lt _).2 ⟨lt_top_iff_ne_top.2 hi, fun x _ => lt_top_iff_ne_top.2 (hf x)⟩
  have h2 : max j (Finset.univ.fold max i f) ≠ ⊥ := by
    refine ne_of_gt (lt_of_lt_of_le (bot_lt_iff_ne_bot.2 hk) (le_trans ?_ (le_max_right _ _)))
    exact (Finset.le_fold_max _).2 (Or.inr ⟨k, Finset.mem_univ _, le_refl _⟩)
  exact ⟨_, (EReal.coe_toReal h1 h2).symm⟩

theorem fold_at (op : Ideal .f32 → Ideal .f32 → Ideal .f32) [Std.Commutative op] [Std.Associative op] (g : FVec Ideal S8x8192x8192 .f32) (i : FVec Ideal S_ .f32) (h : Fin 8) (a : Fin 8192) :
    Host.reduce op g i reducesTo_S8x8192x8192_S8x8192_d2 h_S_ (ix2 h a) = Finset.univ.fold op (i (Shape.Idx.first h_S_)) fun b : Fin 8192 => g (ix3 h a b) := by
  pointwise []

theorem exp_at (g : FVec Ideal S8x8192x8192 .f32) (h : Fin 8) (a b : Fin 8192) :
    rExp g (ix3 h a b) = FloatOps.exp (F := Ideal) (φ := .f32) (g (ix3 h a b) - rTop g (ix2 h a)) := by
  pointwise [rExp, rRow, rOne]

theorem den_at (e : FVec Ideal S8x8192x8192 .f32) (h : Fin 8) (a : Fin 8192) : rDen e (ix3 h a 0) = ∑ b, e (ix3 h a b) := by
  pointwise [rDen, rOne, rSum]

theorem DV_at (e : FVec Ideal S8x8192x8192 .f32) (o : FVec Ideal S8x8192x128 .f32) (h : Fin 8) (b : Fin 8192) (x : Fin 128) :
    rDV e o (ix3 h b x) = ∑ a, o (ix3 h a x) * Ideal.div (e (ix3 h a b)) (rDen e (ix3 h a 0)) := by
  pointwise [rDV, rRow]

theorem DP_at (v o : FVec Ideal S8x8192x128 .f32) (h : Fin 8) (a b : Fin 8192) :
    rDP v o (ix3 h a b) = ∑ x, o (ix3 h a x) * v (ix3 h b x) := by
  pointwise [rDP]

theorem inv_at (e : FVec Ideal S8x8192x8192 .f32) (h : Fin 8) (a : Fin 8192) :
    rInv e (ix3 h a 0) = Ideal.div 1 (rDen e (ix3 h a 0) * rDen e (ix3 h a 0)) := by
  pointwise [rInv]

theorem neg_at (e p : FVec Ideal S8x8192x8192 .f32) (h : Fin 8) (a : Fin 8192) :
    rNeg e p (ix2 h a) = - ∑ b, p (ix3 h a b) * rInv e (ix3 h a 0) * e (ix3 h a b) := by
  pointwise [rNeg, rSum, rRow]
  exact Fin.sum_univ_one _

theorem DK_at (s : FVec Ideal S8x8192x8192 .f32) (q : FVec Ideal S8x8192x192 .f32) (h : Fin 8) (b : Fin 8192) (x : Fin 192) :
    rDK s q (ix3 h b x) = ∑ a, s (ix3 h a b) * q (ix3 h a x) := by
  pointwise [rDK]

theorem DQ_at (s : FVec Ideal S8x8192x8192 .f32) (k : FVec Ideal S8x8192x192 .f32) (h : Fin 8) (a : Fin 8192) (x : Fin 192) :
    rDQ s k (ix3 h a x) = ∑ b, s (ix3 h a b) * k (ix3 h b x) := by
  pointwise [rDQ]

theorem ninf : Ideal.ofBits .f32 0xFF800000#32 = (⊥ : EReal) := by simp [Ideal.ofBits, Ideal.ieee]

theorem reduce_real (op : Ideal .f32 → Ideal .f32 → Ideal .f32) [Std.Commutative op] [Std.Associative op] (hop : ∀ x y : EReal, op x y = max x y) (g : FVec Ideal S8x8192x8192 .f32) (i : FVec Ideal S_ .f32) (j : Ideal .f32)
    (hi : i (Shape.Idx.first h_S_) ≠ (⊤ : EReal)) (hj : j ≠ (⊤ : EReal)) (h : Fin 8) (a : Fin 8192) (hf : ∀ b, g (ix3 h a b) ≠ ⊤) (b : Fin 8192) (hb : g (ix3 h a b) ≠ ⊥) :
    ∃ t : ℝ, op j (Host.reduce op g i reducesTo_S8x8192x8192_S8x8192_d2 h_S_ (ix2 h a)) = t := by
  rw [fold_at]
  exact fold_real op hop _ _ hi hj (fun b => g (ix3 h a b)) hf b hb

theorem max_at (x y : FVec Ideal S8x8192 .f32) (i : S8x8192.Idx) : maximumf x y i = FloatOps.maximumf (F := Ideal) (φ := .f32) (x i) (y i) := rfl
theorem low_at (i : S8x8192.Idx) : (broadcastInDim S8x8192 ![] bcast_S_S8x8192 (constant (F := Ideal) S_ .f32 0xFF800000#32) : FVec Ideal S8x8192 .f32) i ≠ (⊤ : EReal) := by
  show Ideal.ofBits .f32 0xFF800000#32 ≠ (⊤ : EReal)
  rw [ninf]; exact bot_ne_top
theorem low_first : (constant (F := Ideal) S_ .f32 0xFF800000#32 : FVec Ideal S_ .f32) (Shape.Idx.first h_S_) ≠ (⊤ : EReal) := by
  show Ideal.ofBits .f32 0xFF800000#32 ≠ (⊤ : EReal)
  rw [ninf]; exact bot_ne_top

/-- The largest score of a row is a real number. -/
theorem top_real (g : FVec Ideal S8x8192x8192 .f32) (h : Fin 8) (a : Fin 8192) (hf : ∀ b, g (ix3 h a b) ≠ (⊤ : EReal)) (b : Fin 8192) (hb : g (ix3 h a b) ≠ (⊥ : EReal)) :
    ∃ t : ℝ, rTop g (ix2 h a) = (t : EReal) := by
  unfold rTop
  rw [max_at]
  exact reduce_real FloatOps.maximumf (fun _ _ => rfl) g _ _ low_first (low_at _) h a hf b hb

theorem log_at (q k : FVec Ideal S8x8192x192 .f32) (h : Fin 8) (a b : Fin 8192) :
    rLog q k (ix3 h a b) = if b.val / 64 ≤ a.val / 64 then (∑ x : Fin 192, q (ix3 h a x) * k (ix3 h b x)) * Ideal.ofBits .f32 0x3D93CD3A#32 else Ideal.ofBits .f32 0xFF800000#32 := by
  pointwise [rLog, rScale, mask_at]
  rfl

theorem DS_at (e p : FVec Ideal S8x8192x8192 .f32) (h : Fin 8) (a b : Fin 8192) :
    rDS e p (ix3 h a b) = (if b.val / 64 ≤ a.val / 64 then (Ideal.div (p (ix3 h a b)) (rDen e (ix3 h a 0)) + rNeg e p (ix2 h a)) * e (ix3 h a b) else 0) * Ideal.ofBits .f32 0x3D93CD3A#32 := by
  pointwise [rDS, rRow, rScale, mask_at]

end Cert.RefAt
-- ==== Proof.Value.KAt.lean ====
/-
  The kernel's host lines read at an index.
-/
module

public import proofs.«01_k».proof.Proof.Value.KTerms
public import proofs.«01_k».proof.Proof.Value.RefAt
public import Idealize.ShloMosaic.Lib.Pointwise

@[expose] public section

set_option maxRecDepth 16384

noncomputable section

namespace Cert.Flash

open Cert.RefAt Cert.KernelIdeal Cert.KernelIdeal.Gen
open Idealize.ShloMosaic
open Idealize.ShloMosaic.TcCoe
open Idealize.SL.Sem

theorem reduce_real' (op : Ideal .f32 → Ideal .f32 → Ideal .f32) [Std.Commutative op] [Std.Associative op] (hop : ∀ x y : EReal, op x y = max x y) (g : FVec Ideal S8x8192x8192 .f32) (i : FVec Ideal S_ .f32)
    (hi : i (Shape.Idx.first h_S_) ≠ (⊤ : EReal)) (h : Fin 8) (a : Fin 8192) (hf : ∀ b, g (ix3 h a b) ≠ (⊤ : EReal)) (b : Fin 8192) (hb : g (ix3 h a b) ≠ (⊥ : EReal)) :
    ∃ t : ℝ, Host.reduce op g i reducesTo_S8x8192x8192_S8x8192_d2 h_S_ (ix2 h a) = (t : EReal) := by
  obtain ⟨t, ht⟩ := reduce_real op hop g i (⊥ : EReal) hi bot_ne_top h a hf b hb
  rw [hop, max_bot_left] at ht
  exact ⟨t, ht⟩

/-- The largest score of a row is a real number. -/
theorem kTop_real (g : FVec Ideal S8x8192x8192 .f32) (h : Fin 8) (a : Fin 8192) (hf : ∀ b, g (ix3 h a b) ≠ (⊤ : EReal)) (b : Fin 8192) (hb : g (ix3 h a b) ≠ (⊥ : EReal)) :
    ∃ t : ℝ, kTop g (ix2 h a) = (t : EReal) := by
  unfold kTop
  exact reduce_real' FloatOps.maximumf (fun _ _ => rfl) g _ low_first h a hf b hb

theorem kExp_at (g : FVec Ideal S8x8192x8192 .f32) (h : Fin 8) (a b : Fin 8192) :
    kExp g (ix3 h a b) = FloatOps.exp (F := Ideal) (φ := .f32) (g (ix3 h a b) - kTop g (ix2 h a)) := by
  pointwise [kExp, rRow, rOne]

theorem lse_at (t : FVec Ideal S8x8192 .f32) (d : FVec Ideal S8x8192x1 .f32) (l : FVec Ideal S_ .f32) (h : Fin 8) (a : Fin 8192) (x : Fin 128) :
    (broadcastInDim S8x8192x128 ![0, 1, 2] bcast_S8x8192x1_S8x8192x128_0_1_2 (Host.divf (addf (rOne t) (Host.log d)) (broadcastInDim S8x8192x1 ![] bcast_S_S8x8192x1 l)) : FVec Ideal S8x8192x128 .f32) (ix3 h a x)
      = Ideal.div (t (ix2 h a) + FloatOps.log (F := Ideal) (φ := .f32) (d (ix3 h a 0))) (l ix0) := by
  pointwise [rOne]

theorem kLse_at (g e : FVec Ideal S8x8192x8192 .f32) (h : Fin 8) (a : Fin 8192) (x : Fin 128) :
    kLse g e (ix3 h a x) = Ideal.div (kTop g (ix2 h a) + FloatOps.log (F := Ideal) (φ := .f32) (rDen e (ix3 h a 0))) (kLn ix0) := by
  unfold kLse
  exact lse_at (kTop g) (rDen e) kLn h a x

theorem kLn_at : kLn ix0 = FloatOps.log (F := Ideal) (φ := .f32) (Ideal.ofBits .f32 0x40000000#32) := by
  pointwise [kLn]

theorem kOut_at (e : FVec Ideal S8x8192x8192 .f32) (v : FVec Ideal S8x8192x128 .f32) (h : Fin 8) (a : Fin 8192) (x : Fin 128) :
    kOut e v (ix3 h a x) = ∑ b, Ideal.div (e (ix3 h a b)) (rDen e (ix3 h a 0)) * v (ix3 h b x) := by
  pointwise [kOut, rRow]

theorem kDel_at (e : FVec Ideal S8x8192x8192 .f32) (v o : FVec Ideal S8x8192x128 .f32) (h : Fin 8) (a : Fin 8192) :
    kDel e v o (ix3 h a 0) = ∑ x, o (ix3 h a x) * kOut e v (ix3 h a x) := by
  pointwise [kDel, rOne]

theorem zero_word : FloatOps.sitofp (F := Ideal) .f32 (0#32 : BitVec 32) = (0 : EReal) := by
  show (((0#32 : BitVec 32).toInt : ℝ) : EReal) = 0
  simp

theorem kPad_at (q : FVec Ideal S8x8192x192 .f32) (h : Fin 8) (a : Fin 8192) (x : Fin 256) :
    kPad q (ix3 h a x) = if hx : x.val < 192 then q (ix3 h a ⟨x.val, hx⟩) else 0 := by
  pointwise [kPad]
  rw [zero_word]

theorem kQ_at (q : FVec Ideal S8x8192x192 .f32) (h : Fin 8) (a : Fin 8192) (x : Fin 256) :
    kQ q (ix3 h a x) = if hx : x.val < 192 then q (ix3 h a ⟨x.val, hx⟩) * Ideal.div (Ideal.ofBits .f32 0x3D93CD3A#32) (kLn ix0) else 0 := by
  unfold kQ
  rw [kPad_at]
  pointwise []

theorem kV_at (v : FVec Ideal S8x8192x128 .f32) (h : Fin 8) (a : Fin 8192) (x : Fin 256) :
    kV v (ix3 h a x) = if hx : x.val < 128 then v (ix3 h a ⟨x.val, hx⟩) else Ideal.ofBits .f32 0xBF800000#32 := by
  pointwise [kV]

theorem kHi_at (d : FVec Ideal S8x8192x1 .f32) (h : Fin 8) (a : Fin 8192) : kHi d (ix3 h a 0) = d (ix3 h a 0) := by
  pointwise [kHi]

theorem kDo_at (d : FVec Ideal S8x8192x1 .f32) (o : FVec Ideal S8x8192x128 .f32) (h : Fin 8) (a : Fin 8192) (x : Fin 256) :
    kDo d o (ix3 h a x) = if hx : x.val < 128 then o (ix3 h a ⟨x.val, hx⟩) else if x.val = 128 then d (ix3 h a 0) else if x.val = 129 then d (ix3 h a 0) - d (ix3 h a 0) else 0 := by
  pointwise [kDo, kHi]
  by_cases h1 : x.val < 128
  · rw [dif_pos h1, dif_pos h1]
  · rw [dif_neg h1, dif_neg h1]
    by_cases h2 : x.val = 128
    · rw [dif_pos (by omega), if_pos h2]
      exact congrArg (fun y : Fin 1 => d (ix3 h a y)) (Subsingleton.elim _ _)
    · rw [dif_neg (by omega), if_neg h2]
      by_cases h3 : x.val = 129
      · rw [dif_pos (by omega), if_pos h3]
        exact congrArg (fun y : Fin 1 => d (ix3 h a y) - d (ix3 h a y)) (Subsingleton.elim (α := Fin 1) _ 0)
      · rw [dif_neg (by omega), if_neg h3]

theorem kScaled_at (x : FVec Ideal S8x8192x256 .f32) (y : FVec Ideal S_ .f32) (h : Fin 8) (a : Fin 8192) (e : Fin 192) :
    kScaled x y (ix3 h a e) = x (ix3 h a ⟨e.val, by omega⟩) * y ix0 := by
  pointwise [kScaled]

end Cert.Flash
-- ==== Proof.Value.Maths.lean ====
/-
  The attention's gradients over the real numbers, one head at a time, and how extended reals meet them.
-/
module

public import Idealize.ShloMosaic.Lib.Pointwise

@[expose] public section

noncomputable section

namespace Cert.Maths

open Idealize.ShloMosaic

theorem sum_coe {ι : Type} [Fintype ι] (f : ι → ℝ) : ∑ i, ((f i : ℝ) : EReal) = ((∑ i, f i : ℝ) : EReal) := by
  classical
  refine Finset.induction_on (Finset.univ : Finset ι) (by simp) fun i s hi hs => ?_
  rw [Finset.sum_insert hi, Finset.sum_insert hi, hs, EReal.coe_add]

theorem sum_of {ι : Type} [Fintype ι] (g : ι → EReal) (f : ι → ℝ) (h : ∀ i, g i = ((f i : ℝ) : EReal)) : ∑ i, g i = ((∑ i, f i : ℝ) : EReal) := by
  rw [← sum_coe]; exact Finset.sum_congr rfl fun i _ => h i

theorem div_of {x y : ℝ} (hy : y ≠ 0) : Ideal.div (x : EReal) (y : EReal) = ((x / y : ℝ) : EReal) := by
  rw [Ideal.div_coe hy, ← EReal.coe_mul, mul_one_div]

theorem sum_pad {n k : ℕ} (f : Fin n → EReal) (g : Fin (n + k) → EReal) (h : ∀ x : Fin n, g ⟨x.val, by omega⟩ = f x) (hz : ∀ x : Fin (n + k), n ≤ x.val → g x = 0) : ∑ x, g x = ∑ x, f x := by
  rw [Fin.sum_univ_add]
  have e : ∑ i : Fin k, g (Fin.natAdd n i) = 0 := Finset.sum_eq_zero fun i _ => hz _ (by simp)
  rw [e, add_zero]
  exact Finset.sum_congr rfl fun i _ => h i

theorem sum_split (f : Fin 128 → EReal) (d : EReal) (g : Fin 256 → EReal) (h : ∀ x : Fin 128, g ⟨x.val, by omega⟩ = f x) (hd : g ⟨128, by omega⟩ = d) (hz : ∀ x : Fin 256, 129 ≤ x.val → g x = 0) :
    ∑ x, g x = ∑ x, f x + d := by
  rw [show ∑ x : Fin 256, g x = ∑ x : Fin (128 + 128), g x from rfl, Fin.sum_univ_add]
  refine congrArg₂ (fun x y : EReal => x + y) (Finset.sum_congr rfl fun i _ => h i) ?_
  rw [Finset.sum_eq_single (0 : Fin 128)]
  · exact hd
  · intro i _ hi
    refine hz _ ?_
    have : i.val ≠ 0 := fun e => hi (Fin.ext e)
    simp; omega
  · intro hc; exact absurd (Finset.mem_univ _) hc

variable (Q K : Fin 8192 → Fin 192 → ℝ) (V O : Fin 8192 → Fin 128 → ℝ) (s : ℝ)

/-- The scaled score. -/
def S (a b : Fin 8192) : ℝ := (∑ x, Q a x * K b x) * s
/-- Its exponential where the row sees the column. -/
def w (a b : Fin 8192) : ℝ := if b.val / 64 ≤ a.val / 64 then Real.exp (S Q K s a b) else 0
def W (a : Fin 8192) : ℝ := ∑ b, w Q K s a b
/-- The attention's weights. -/
def P (a b : Fin 8192) : ℝ := w Q K s a b / W Q K s a
/-- The weights' gradient. -/
def D (a b : Fin 8192) : ℝ := ∑ x, O a x * V b x
def dl (a : Fin 8192) : ℝ := ∑ b, P Q K s a b * D V O a b

theorem W_pos (a : Fin 8192) : 0 < W Q K s a := by
  refine Finset.sum_pos' (fun b _ => ?_) ⟨a, Finset.mem_univ _, ?_⟩
  · unfold w; split
    · exact (Real.exp_pos _).le
    · exact le_refl _
  · unfold w; rw [if_pos (le_refl _)]; exact Real.exp_pos _

theorem dl_eq (a : Fin 8192) : ∑ x, O a x * ∑ b, P Q K s a b * V b x = dl Q K V O s a := by
  unfold dl D
  simp only [Finset.mul_sum]
  rw [Finset.sum_comm]
  refine Finset.sum_congr rfl fun b _ => Finset.sum_congr rfl fun x _ => ?_
  ring

/-- The exponential of a score less a real number. -/
theorem exp_of (g : EReal) (a b : Fin 8192) (hg : g = if b.val / 64 ≤ a.val / 64 then ((S Q K s a b : ℝ) : EReal) else ⊥) (t : ℝ) :
    Ideal.exp (g - (t : EReal)) = ((w Q K s a b * Real.exp (-t) : ℝ) : EReal) := by
  rw [hg]
  unfold w
  split
  · rw [← EReal.coe_sub, Ideal.exp_coe, ← Real.exp_add]; rfl
  · rw [EReal.bot_sub, Ideal.exp_bot, zero_mul]; rfl

theorem den_of (t : ℝ) (a : Fin 8192) : (∑ b, w Q K s a b * Real.exp (-t)) = W Q K s a * Real.exp (-t) := (Finset.sum_mul ..).symm

theorem den_ne (t : ℝ) (a : Fin 8192) : W Q K s a * Real.exp (-t) ≠ 0 := (mul_pos (W_pos Q K s a) (Real.exp_pos _)).ne'

theorem P_of (t : ℝ) (a b : Fin 8192) : w Q K s a b * Real.exp (-t) / (W Q K s a * Real.exp (-t)) = P Q K s a b :=
  mul_div_mul_right _ _ (Real.exp_pos _).ne'

/-- The gradient of a score, as the reference spells it. -/
theorem ds_of (t : ℝ) (a b : Fin 8192) :
    (D V O a b / (W Q K s a * Real.exp (-t)) + -(∑ b, D V O a b * (1 / (W Q K s a * Real.exp (-t) * (W Q K s a * Real.exp (-t)))) * (w Q K s a b * Real.exp (-t)))) * (w Q K s a b * Real.exp (-t))
      = P Q K s a b * (D V O a b - dl Q K V O s a) := by
  have hW := (W_pos Q K s a).ne'
  have ht := (Real.exp_pos (-t)).ne'
  have e : ∑ b, D V O a b * (1 / (W Q K s a * Real.exp (-t) * (W Q K s a * Real.exp (-t)))) * (w Q K s a b * Real.exp (-t)) = dl Q K V O s a / (W Q K s a * Real.exp (-t)) := by
    unfold dl P
    rw [Finset.sum_div]
    refine Finset.sum_congr rfl fun b _ => ?_
    field_simp
  rw [e]
  unfold P
  field_simp
  ring

theorem P_zero (a b : Fin 8192) (h : ¬ b.val / 64 ≤ a.val / 64) : P Q K s a b = 0 := by
  unfold P w; rw [if_neg h, zero_div]

theorem log_two : Real.log 2 ≠ 0 := (Real.log_pos (by norm_num)).ne'

/-- The base-2 logarithm of a row's denominator. -/
def lam (a : Fin 8192) : ℝ := Real.log (W Q K s a) / Real.log 2

theorem lam_of (t : ℝ) (a : Fin 8192) : (t + Real.log (W Q K s a * Real.exp (-t))) / Real.log 2 = lam Q K s a := by
  rw [Real.log_mul (W_pos Q K s a).ne' (Real.exp_pos _).ne', Real.log_exp]
  unfold lam
  congr 1; ring

/-- The power of two of a score less the denominator's logarithm is the weight. -/
theorem pow_of (a b : Fin 8192) (h : b.val / 64 ≤ a.val / 64) :
    Real.rpow 2 ((∑ x, Q a x * (s / Real.log 2) * K b x) - lam Q K s a) = P Q K s a b := by
  have e : (∑ x, Q a x * (s / Real.log 2) * K b x) = S Q K s a b / Real.log 2 := by
    unfold S
    rw [Finset.sum_mul, Finset.sum_div]
    refine Finset.sum_congr rfl fun x _ => ?_
    ring
  rw [e]
  rw [Real.rpow_eq_pow]
  rw [Real.rpow_def_of_pos (by norm_num)]
  unfold lam P w
  rw [if_pos h, ← sub_div, mul_div_cancel₀ _ log_two, Real.exp_sub, Real.exp_log (W_pos Q K s a)]

end Cert.Maths
-- ==== Proof.Value.RefVal.lean ====
/-
  The reference's results on real inputs.
-/
module

public import proofs.«01_k».proof.Proof.Value.RefAt
public import proofs.«01_k».proof.Proof.Value.Maths

@[expose] public section

set_option maxRecDepth 16384

noncomputable section

namespace Cert.RefAt

open Cert.ReferenceIdeal Cert.ReferenceIdeal.Gen Cert.Maths
open Idealize.ShloMosaic

theorem one_word : Ideal.ofBits .f32 0x3F800000#32 = ((1 : ℝ) : EReal) := by
  simp [Ideal.ofBits, Ideal.ieee, -EReal.coe_mul]; try norm_num

variable (q k : FVec Ideal S8x8192x192 .f32) (v o : FVec Ideal S8x8192x128 .f32)
  (Q K : Fin 8 → Fin 8192 → Fin 192 → ℝ) (V O : Fin 8 → Fin 8192 → Fin 128 → ℝ) (s : ℝ)
  (hs : Ideal.ofBits .f32 0x3D93CD3A#32 = (s : EReal))
  (hq : ∀ h a x, q (ix3 h a x) = ((Q h a x : ℝ) : EReal)) (hk : ∀ h a x, k (ix3 h a x) = ((K h a x : ℝ) : EReal))
  (hv : ∀ h a x, v (ix3 h a x) = ((V h a x : ℝ) : EReal)) (ho : ∀ h a x, o (ix3 h a x) = ((O h a x : ℝ) : EReal))

include hs hq hk in
theorem log_of (h : Fin 8) (a b : Fin 8192) : rLog q k (ix3 h a b) = if b.val / 64 ≤ a.val / 64 then ((S (Q h) (K h) s a b : ℝ) : EReal) else ⊥ := by
  rw [log_at, ninf, hs]
  have e : (∑ x : Fin 192, q (ix3 h a x) * k (ix3 h b x)) * (s : EReal) = ((S (Q h) (K h) s a b : ℝ) : EReal) := by
    rw [sum_of _ (fun x => Q h a x * K h b x) fun x => by rw [hq, hk, EReal.coe_mul], ← EReal.coe_mul]; rfl
  rw [e]

theorem log_ne_top (g : EReal) (r : ℝ) (p : Prop) [Decidable p] (hg : g = if p then (r : EReal) else ⊥) : g ≠ ⊤ := by
  rw [hg]; split
  · exact EReal.coe_ne_top _
  · exact bot_ne_top

theorem log_ne_bot (g : EReal) (r : ℝ) (p : Prop) [Decidable p] (hg : g = if p then (r : EReal) else ⊥) (hp : p) : g ≠ ⊥ := by
  rw [hg, if_pos hp]; exact EReal.coe_ne_bot _

/-- The exponentials of a row, off by one factor. -/
def Scaled (e : FVec Ideal S8x8192x8192 .f32) (h : Fin 8) (a : Fin 8192) (t : ℝ) : Prop := ∀ b, e (ix3 h a b) = ((w (Q h) (K h) s a b * Real.exp (-t) : ℝ) : EReal)

include hs hq hk in
theorem exp_scaled (h : Fin 8) (a : Fin 8192) : ∃ t : ℝ, Scaled Q K s (rExp (rLog q k)) h a t := by
  have hl := log_of q k Q K s hs hq hk h a
  obtain ⟨t, ht⟩ := top_real (rLog q k) h a (fun b => log_ne_top _ _ _ (hl b)) a (log_ne_bot _ _ _ (hl a) (le_refl _))
  refine ⟨t, fun b => ?_⟩
  rw [exp_at, ht]
  exact exp_of (Q h) (K h) s _ a b (hl b) t

variable (e : FVec Ideal S8x8192x8192 .f32)

theorem den_scaled (h : Fin 8) (a : Fin 8192) (t : ℝ) (he : Scaled Q K s e h a t) : rDen e (ix3 h a 0) = ((W (Q h) (K h) s a * Real.exp (-t) : ℝ) : EReal) := by
  rw [den_at, sum_of _ _ he, den_of]

theorem weight_scaled (h : Fin 8) (a b : Fin 8192) (t : ℝ) (he : Scaled Q K s e h a t) : Ideal.div (e (ix3 h a b)) (rDen e (ix3 h a 0)) = ((P (Q h) (K h) s a b : ℝ) : EReal) := by
  rw [den_scaled Q K s e h a t he, he b, div_of (den_ne (Q h) (K h) s t a), P_of]

include hv ho in
theorem DP_of (h : Fin 8) (a b : Fin 8192) : rDP v o (ix3 h a b) = ((D (V h) (O h) a b : ℝ) : EReal) := by
  rw [DP_at, sum_of _ (fun x => O h a x * V h b x) fun x => by rw [ho, hv, EReal.coe_mul]]; rfl

include hs hv ho in
theorem DS_of (h : Fin 8) (a b : Fin 8192) (t : ℝ) (he : Scaled Q K s e h a t) :
    rDS e (rDP v o) (ix3 h a b) = ((P (Q h) (K h) s a b * (D (V h) (O h) a b - dl (Q h) (K h) (V h) (O h) s a) * s : ℝ) : EReal) := by
  have hd := den_scaled Q K s e h a t he
  have hn := den_ne (Q h) (K h) s t a
  rw [DS_at, hs]
  by_cases hm : b.val / 64 ≤ a.val / 64
  · rw [if_pos hm, neg_at, inv_at, hd, DP_of v o V O hv ho, he b, div_of hn]
    have h1 : Ideal.div 1 (((W (Q h) (K h) s a * Real.exp (-t) : ℝ) : EReal) * ((W (Q h) (K h) s a * Real.exp (-t) : ℝ) : EReal)) = ((1 / (W (Q h) (K h) s a * Real.exp (-t) * (W (Q h) (K h) s a * Real.exp (-t))) : ℝ) : EReal) := by
      rw [← EReal.coe_mul, ← EReal.coe_one]; exact div_of (mul_ne_zero hn hn)
    rw [h1, sum_of _ (fun b => D (V h) (O h) a b * (1 / (W (Q h) (K h) s a * Real.exp (-t) * (W (Q h) (K h) s a * Real.exp (-t)))) * (w (Q h) (K h) s a b * Real.exp (-t)))
      fun b => by rw [DP_of v o V O hv ho, he b, ← EReal.coe_mul, ← EReal.coe_mul], ← EReal.coe_neg, ← EReal.coe_add, ← EReal.coe_mul, ← EReal.coe_mul, ds_of]
  · rw [if_neg hm, P_zero _ _ _ _ _ hm]; simp

include hs hq hk hv ho

theorem DV_of (h : Fin 8) (b : Fin 8192) (x : Fin 128) : rDV (rExp (rLog q k)) o (ix3 h b x) = ((∑ a, P (Q h) (K h) s a b * O h a x : ℝ) : EReal) := by
  rw [DV_at]
  refine sum_of _ _ fun a => ?_
  obtain ⟨t, he⟩ := exp_scaled q k Q K s hs hq hk h a
  rw [weight_scaled Q K s _ h a b t he, ho, ← EReal.coe_mul, mul_comm]

theorem DK_of (h : Fin 8) (b : Fin 8192) (x : Fin 192) : rDK (rDS (rExp (rLog q k)) (rDP v o)) q (ix3 h b x)
    = ((∑ a, P (Q h) (K h) s a b * (D (V h) (O h) a b - dl (Q h) (K h) (V h) (O h) s a) * s * Q h a x : ℝ) : EReal) := by
  rw [DK_at]
  refine sum_of _ _ fun a => ?_
  obtain ⟨t, he⟩ := exp_scaled q k Q K s hs hq hk h a
  rw [DS_of v o Q K V O s hs hv ho _ h a b t he, hq, ← EReal.coe_mul]

theorem DQ_of (h : Fin 8) (a : Fin 8192) (x : Fin 192) : rDQ (rDS (rExp (rLog q k)) (rDP v o)) k (ix3 h a x)
    = ((∑ b, P (Q h) (K h) s a b * (D (V h) (O h) a b - dl (Q h) (K h) (V h) (O h) s a) * s * K h b x : ℝ) : EReal) := by
  rw [DQ_at]
  obtain ⟨t, he⟩ := exp_scaled q k Q K s hs hq hk h a
  refine sum_of _ _ fun b => ?_
  rw [DS_of v o Q K V O s hs hv ho _ h a b t he, hk, ← EReal.coe_mul]

end Cert.RefAt
-- ==== Proof.Value.Base.lean ====
/-
  Reading rectangles of a block, and the terms of one tile: the exponentials, the products and the sums that one grid point
  adds to the result blocks, as functions of the input blocks.
-/
module

public import proofs.«01_k».proof.Proof.Flash.Steps
public import Idealize.ShloMosaic.Lib.Pointwise

@[expose] public section

set_option maxRecDepth 16384

noncomputable section

namespace Cert.Flash

open Cert.KernelIdeal Cert.KernelIdeal.Gen
open Idealize.ShloMosaic
open Idealize.ShloMosaic.TcCoe
open Idealize.SL.Sem

/-- A load of rows of a block of one leading position, read at an index. -/
theorem rd_at {n1 n2 o m1 m2 : ℕ} {α : Type} (inb) (X : (⟨3, ![1, n1, n2]⟩ : Shape).Idx → α) (a : Fin 1) (b : Fin m1) (e : Fin m2) :
    rd (Rect.unit (s := ⟨3, ![1, n1, n2]⟩) ![0, o, 0] ![1, m1, m2] inb) X (ix3 a b e)
      = X (ix3 0 ⟨o + b.val, lt_of_lt_of_le (Nat.add_lt_add_left b.isLt o) (inb 1)⟩
          ⟨e.val, lt_of_lt_of_le e.isLt (le_trans (Nat.le_add_left m2 0) (inb 2))⟩) := by
  refine congrArg X (funext fun j => Fin.ext ?_)
  fin_cases j <;> simp [Rect.unit, Rect.emb]

/-- A store of a rectangle at the first positions of a block of one row, read at an index it holds. -/
theorem overlay_in {n1 n2 o m1 : ℕ} {α : Type} {off : Fin 3 → ℕ} (hoff : off = ![0, o, 0]) (inb) (X : (⟨3, ![1, n1, n2]⟩ : Shape).Idx → α)
    (G : (⟨3, ![1, m1, n2]⟩ : Shape).Idx → α) (b : Fin n1) (e : Fin n2) (b' : Fin m1) (hb : b.val = o + b'.val) :
    (Rect.unit (s := ⟨3, ![1, n1, n2]⟩) off ![1, m1, n2] inb).overlay X G (ix3 0 b e) = G (ix3 0 b' e) := by
  subst hoff
  have h : (ix3 0 b e : (⟨3, ![1, n1, n2]⟩ : Shape).Idx) = (Rect.unit (s := ⟨3, ![1, n1, n2]⟩) ![0, o, 0] ![1, m1, n2] inb).emb (ix3 0 b' e) := by
    refine funext fun j => Fin.ext ?_
    fin_cases j <;> simp [Rect.unit, Rect.emb, hb]
  rw [h]; exact Rect.overlay_emb _ _ _ _

/-- … and at an index it does not hold. -/
theorem overlay_out {n1 n2 o m1 : ℕ} {α : Type} {off : Fin 3 → ℕ} (hoff : off = ![0, o, 0]) (inb) (X : (⟨3, ![1, n1, n2]⟩ : Shape).Idx → α)
    (G : (⟨3, ![1, m1, n2]⟩ : Shape).Idx → α) (b : Fin n1) (e : Fin n2) (hb : ¬ (o ≤ b.val ∧ b.val < o + m1)) :
    (Rect.unit (s := ⟨3, ![1, n1, n2]⟩) off ![1, m1, n2] inb).overlay X G (ix3 0 b e) = X (ix3 0 b e) := by
  subst hoff
  refine Rect.overlay_of_not_mem _ _ _ fun h => hb ?_
  have := (Rect.mem_set_unit.1 h) 1
  simpa using this

/-- A load of rows at a run-time row, read at an index. -/
theorem rd_off {n1 n2 o m1 : ℕ} {α : Type} {off : Fin 3 → ℕ} (hoff : off = ![0, o, 0]) (inb) (X : (⟨3, ![1, n1, n2]⟩ : Shape).Idx → α)
    (b : Fin n1) (e : Fin n2) (b' : Fin m1) (hb : b.val = o + b'.val) :
    rd (Rect.unit (s := ⟨3, ![1, n1, n2]⟩) off ![1, m1, n2] inb) X (ix3 0 b' e) = X (ix3 0 b e) := by
  subst hoff
  refine congrArg X (funext fun j => Fin.ext ?_)
  fin_cases j <;> simp [Rect.unit, Rect.emb, hb]

theorem word_div (n : ℕ) (hn : n < 2 ^ 20) : IntOp.shrsi ArithUnit.vector (BitVec.ofNat 32 n) 6#32 = BitVec.ofNat 32 (n / 64) := by
  have h1 : (BitVec.ofNat 32 n).msb = false := by
    rw [BitVec.msb_eq_decide]; simp; omega
  have h : (BitVec.ofNat 32 n).sshiftRight 6 = BitVec.ofNat 32 (n / 64) := by
    rw [BitVec.sshiftRight_eq_of_msb_false h1]
    apply BitVec.eq_of_toNat_eq
    simp [Nat.shiftRight_eq_div_pow]; omega
  simpa [IntOp.shrsi] using h

theorem word_ge (n m : ℕ) (hn : n < 2 ^ 20) (hm : m < 2 ^ 20) :
    IntOp.cmpi CmpIPredicate.sge (BitVec.ofNat 32 n) (BitVec.ofNat 32 m) = BitVec.ofBool (decide (m ≤ n)) := by
  have e : ∀ k : ℕ, k < 2 ^ 20 → (BitVec.ofNat 32 k).toInt = k := fun k hk => by
    rw [BitVec.toInt_eq_toNat_of_lt] <;> simp <;> omega
  simp [IntOp.cmpi, BitVec.sle, e n hn, e m hm]

/-- The word of the mask at a row and a column: whether the column's block of 64 is not after the row's. -/
theorem mask_word {n m : ℕ} (c : ℕ) (hn : n ≤ 4096 := by decide) (hm : m ≤ 4096 := by decide) (hc : c ≤ 4096 := by decide) (x : Fin n) (b : Fin m) :
    IntOp.cmpi CmpIPredicate.sge (IntOp.shrsi ArithUnit.vector (IntOp.addi (BitVec.ofNat 32 x.val) (BitVec.ofNat 32 c)) 6#32)
      (IntOp.shrsi ArithUnit.vector (BitVec.ofNat 32 b.val) 6#32) = BitVec.ofBool (decide (b.val / 64 ≤ (c + x.val) / 64)) := by
  have hx := x.isLt
  have hb := b.isLt
  have e : IntOp.addi (BitVec.ofNat 32 x.val) (BitVec.ofNat 32 c) = BitVec.ofNat 32 (c + x.val) := by
    simp [IntOp.addi, ← BitVec.ofNat_add, Nat.add_comm]
  rw [e, word_div _ (by omega), word_div _ (by omega), word_ge _ _ (by omega) (by omega)]

theorem select_ofBool {α : Type} (p : Prop) [Decidable p] (x y : α) : Scalar.select (BitVec.ofBool (decide p)) x y = if p then x else y := by
  by_cases h : p <;> simp [h, Scalar.select]

/-- The exponential of one score. -/
def ex (q k : FVec Ideal S1x2048x256 .bf16) (lam : Fin 2048 → EReal) (a b : Fin 2048) : EReal :=
  FloatOps.exp2 (F := Ideal) (φ := .f32) (∑ x : Fin 256, q (ix3 0 a x) * k (ix3 0 b x) - lam a)

/-- The same where the key's block of 64 is not after the query's, zero elsewhere. -/
def exM (q k : FVec Ideal S1x2048x256 .bf16) (lam : Fin 2048 → EReal) (a b : Fin 2048) : EReal :=
  if b.val / 64 ≤ a.val / 64 then ex q k lam a b else 0

/-- The product of a cotangent row with a value row. -/
def gap (v d : FVec Ideal S1x2048x256 .bf16) (a b : Fin 2048) : EReal := ∑ x : Fin 256, d (ix3 0 a x) * v (ix3 0 b x)

end Cert.Flash
-- ==== Proof.Value.BelowAt.lean ====
/-
  The values of the eight sub-blocks below the diagonal, read at an index: what each adds to the result blocks.
-/
module

public import proofs.«01_k».proof.Proof.Flash.BelowVal
public import proofs.«01_k».proof.Proof.Value.Base
public import Idealize.ShloMosaic.Lib.Pointwise

@[expose] public section

set_option maxRecDepth 16384

noncomputable section

namespace Cert.Flash

open Cert.KernelIdeal Cert.KernelIdeal.Gen
open Idealize.ShloMosaic
open Idealize.ShloMosaic.TcCoe
open Idealize.SL.Sem

section
variable (q k v d : FVec Ideal S1x2048x256 .bf16) (l : FVec Ideal S1x2048x128 .f32) (lam : Fin 2048 → EReal)
  (hl : ∀ (a : Fin 2048) (c : Fin 128), l (ix3 0 a c) = lam a)
include hl

theorem dvB0_at (X : FVec Ideal S1x2048x128 .f32) (b : Fin 2048) (e : Fin 128) :
    dvB0 (F := Ideal) ⟨q, k, v, l, d⟩ X (ix3 0 b e)
      = X (ix3 0 b e) + ∑ x : Fin 256, ex q k lam ⟨0 + x.val, by omega⟩ b * d (ix3 0 ⟨0 + x.val, by omega⟩ ⟨e.val, by omega⟩) := by
  unfold dvB0
  refine (overlay_in rfl _ _ _ b e b (Nat.zero_add _).symm).trans ?_
  pointwise [k0_pay8, k0_pay6, k0_pay4, k0_pay5, rd_at, hl, gap, exM, ex, dite_eq_ite, ite_self, Nat.zero_add, Fin.eta, mask_word, select_ofBool, ite_mul, zero_mul, mul_ite, mul_zero]

theorem dkB0_at (X : FVec Ideal S1x2048x256 .f32) (b : Fin 2048) (e : Fin 256) :
    dkB0 (F := Ideal) ⟨q, k, v, l, d⟩ X (ix3 0 b e)
      = X (ix3 0 b e) + ∑ x : Fin 256, ex q k lam ⟨0 + x.val, by omega⟩ b * gap v d ⟨0 + x.val, by omega⟩ b * q (ix3 0 ⟨0 + x.val, by omega⟩ e) := by
  unfold dkB0
  refine (overlay_in rfl _ _ _ b e b (Nat.zero_add _).symm).trans ?_
  pointwise [k0_pay10, v17B, k0_pay4, v32B, k0_pay7, k0_pay6, k0_pay5, v44B, k0_pay9, rd_at, hl, gap, exM, ex, dite_eq_ite, ite_self, Nat.zero_add, Fin.eta, mask_word, select_ofBool, ite_mul, zero_mul, mul_ite, mul_zero]

theorem dqB0_at (v1 v3 : Elt Ideal .i32) (hw : k0_chk1 v1 v3) (hc : k0_cond3 v1 v3 = 1#1) (o : ℕ) (ho : k0_off2 v1 0#32 = ![0, o, 0])
    (X : FVec Ideal S1x8192x256 .f32) (A : Fin 8192) (a : Fin 256) (hA : A.val = o + a.val) (e : Fin 256) :
    dqB0 (F := Ideal) ⟨q, k, v, l, d⟩ v1 v3 hw hc X (ix3 0 A e)
      = X (ix3 0 A e) + ∑ b : Fin 2048, ex q k lam ⟨0 + a.val, by omega⟩ b * gap v d ⟨0 + a.val, by omega⟩ b * k (ix3 0 b e) := by
  unfold dqB0
  refine (overlay_in ho _ _ _ A e a hA).trans ?_
  have hr := rd_off ho (k0_off2_inb v1 v3 hw hc 0) X A e a hA
  generalize rd (Rect.unit (s := S1x8192x256) (k0_off2 v1 0#32) S1x256x256.size (k0_off2_inb v1 v3 hw hc 0)) X = Y at hr ⊢
  pointwise [k0_pay11, v19B, k0_pay5, v32B, k0_pay7, k0_pay6, k0_pay4, rd_at, hl, gap, exM, ex, dite_eq_ite, ite_self, Nat.zero_add, Fin.eta, mask_word, select_ofBool, ite_mul, zero_mul, mul_ite, mul_zero, hr]

theorem dqB0_out (v1 v3 : Elt Ideal .i32) (hw : k0_chk1 v1 v3) (hc : k0_cond3 v1 v3 = 1#1) (o : ℕ) (ho : k0_off2 v1 0#32 = ![0, o, 0])
    (X : FVec Ideal S1x8192x256 .f32) (A : Fin 8192) (hA : ¬ (o ≤ A.val ∧ A.val < o + 256)) (e : Fin 256) :
    dqB0 (F := Ideal) ⟨q, k, v, l, d⟩ v1 v3 hw hc X (ix3 0 A e) = X (ix3 0 A e) := by
  unfold dqB0; exact overlay_out ho _ _ _ A e hA

theorem dvB1_at (X : FVec Ideal S1x2048x128 .f32) (b : Fin 2048) (e : Fin 128) :
    dvB1 (F := Ideal) ⟨q, k, v, l, d⟩ X (ix3 0 b e)
      = X (ix3 0 b e) + ∑ x : Fin 256, ex q k lam ⟨256 + x.val, by omega⟩ b * d (ix3 0 ⟨256 + x.val, by omega⟩ ⟨e.val, by omega⟩) := by
  unfold dvB1
  refine (overlay_in rfl _ _ _ b e b (Nat.zero_add _).symm).trans ?_
  pointwise [k0_pay18, v71B, k0_pay14, k0_pay12, k0_pay13, rd_at, hl, gap, exM, ex, dite_eq_ite, ite_self, Nat.zero_add, Fin.eta, mask_word, select_ofBool, ite_mul, zero_mul, mul_ite, mul_zero]

theorem dkB1_at (X : FVec Ideal S1x2048x256 .f32) (b : Fin 2048) (e : Fin 256) :
    dkB1 (F := Ideal) ⟨q, k, v, l, d⟩ X (ix3 0 b e)
      = X (ix3 0 b e) + ∑ x : Fin 256, ex q k lam ⟨256 + x.val, by omega⟩ b * gap v d ⟨256 + x.val, by omega⟩ b * q (ix3 0 ⟨256 + x.val, by omega⟩ e) := by
  unfold dkB1
  refine (overlay_in rfl _ _ _ b e b (Nat.zero_add _).symm).trans ?_
  pointwise [k0_pay19, k0_pay17, v63B, k0_pay12, v71B, k0_pay14, k0_pay13, v73B, k0_pay15, v75B, k0_pay16, rd_at, hl, gap, exM, ex, dite_eq_ite, ite_self, Nat.zero_add, Fin.eta, mask_word, select_ofBool, ite_mul, zero_mul, mul_ite, mul_zero]

theorem dqB1_at (v1 v3 : Elt Ideal .i32) (hw : k0_chk1 v1 v3) (hc : k0_cond3 v1 v3 = 1#1) (o : ℕ) (ho : k0_off2 v1 256#32 = ![0, o, 0])
    (X : FVec Ideal S1x8192x256 .f32) (A : Fin 8192) (a : Fin 256) (hA : A.val = o + a.val) (e : Fin 256) :
    dqB1 (F := Ideal) ⟨q, k, v, l, d⟩ v1 v3 hw hc X (ix3 0 A e)
      = X (ix3 0 A e) + ∑ b : Fin 2048, ex q k lam ⟨256 + a.val, by omega⟩ b * gap v d ⟨256 + a.val, by omega⟩ b * k (ix3 0 b e) := by
  unfold dqB1
  refine (overlay_in ho _ _ _ A e a hA).trans ?_
  have hr := rd_off ho (k0_off2_inb v1 v3 hw hc 1) X A e a hA
  generalize rd (Rect.unit (s := S1x8192x256) (k0_off2 v1 256#32) S1x256x256.size (k0_off2_inb v1 v3 hw hc 1)) X = Y at hr ⊢
  pointwise [k0_pay20, k0_pay17, v65B, k0_pay13, v71B, k0_pay14, k0_pay12, v73B, k0_pay15, v75B, k0_pay16, rd_at, hl, gap, exM, ex, dite_eq_ite, ite_self, Nat.zero_add, Fin.eta, mask_word, select_ofBool, ite_mul, zero_mul, mul_ite, mul_zero, hr]

theorem dqB1_out (v1 v3 : Elt Ideal .i32) (hw : k0_chk1 v1 v3) (hc : k0_cond3 v1 v3 = 1#1) (o : ℕ) (ho : k0_off2 v1 256#32 = ![0, o, 0])
    (X : FVec Ideal S1x8192x256 .f32) (A : Fin 8192) (hA : ¬ (o ≤ A.val ∧ A.val < o + 256)) (e : Fin 256) :
    dqB1 (F := Ideal) ⟨q, k, v, l, d⟩ v1 v3 hw hc X (ix3 0 A e) = X (ix3 0 A e) := by
  unfold dqB1; exact overlay_out ho _ _ _ A e hA

theorem dvB2_at (X : FVec Ideal S1x2048x128 .f32) (b : Fin 2048) (e : Fin 128) :
    dvB2 (F := Ideal) ⟨q, k, v, l, d⟩ X (ix3 0 b e)
      = X (ix3 0 b e) + ∑ x : Fin 256, ex q k lam ⟨512 + x.val, by omega⟩ b * d (ix3 0 ⟨512 + x.val, by omega⟩ ⟨e.val, by omega⟩) := by
  unfold dvB2
  refine (overlay_in rfl _ _ _ b e b (Nat.zero_add _).symm).trans ?_
  pointwise [k0_pay25, k0_pay23, k0_pay21, k0_pay22, rd_at, hl, gap, exM, ex, dite_eq_ite, ite_self, Nat.zero_add, Fin.eta, mask_word, select_ofBool, ite_mul, zero_mul, mul_ite, mul_zero]

theorem dkB2_at (X : FVec Ideal S1x2048x256 .f32) (b : Fin 2048) (e : Fin 256) :
    dkB2 (F := Ideal) ⟨q, k, v, l, d⟩ X (ix3 0 b e)
      = X (ix3 0 b e) + ∑ x : Fin 256, ex q k lam ⟨512 + x.val, by omega⟩ b * gap v d ⟨512 + x.val, by omega⟩ b * q (ix3 0 ⟨512 + x.val, by omega⟩ e) := by
  unfold dkB2
  refine (overlay_in rfl _ _ _ b e b (Nat.zero_add _).symm).trans ?_
  pointwise [k0_pay27, v109B, k0_pay21, v124B, k0_pay24, k0_pay23, k0_pay22, v136B, k0_pay26, rd_at, hl, gap, exM, ex, dite_eq_ite, ite_self, Nat.zero_add, Fin.eta, mask_word, select_ofBool, ite_mul, zero_mul, mul_ite, mul_zero]

theorem dqB2_at (v1 v3 : Elt Ideal .i32) (hw : k0_chk1 v1 v3) (hc : k0_cond3 v1 v3 = 1#1) (o : ℕ) (ho : k0_off2 v1 512#32 = ![0, o, 0])
    (X : FVec Ideal S1x8192x256 .f32) (A : Fin 8192) (a : Fin 256) (hA : A.val = o + a.val) (e : Fin 256) :
    dqB2 (F := Ideal) ⟨q, k, v, l, d⟩ v1 v3 hw hc X (ix3 0 A e)
      = X (ix3 0 A e) + ∑ b : Fin 2048, ex q k lam ⟨512 + a.val, by omega⟩ b * gap v d ⟨512 + a.val, by omega⟩ b * k (ix3 0 b e) := by
  unfold dqB2
  refine (overlay_in ho _ _ _ A e a hA).trans ?_
  have hr := rd_off ho (k0_off2_inb v1 v3 hw hc 2) X A e a hA
  generalize rd (Rect.unit (s := S1x8192x256) (k0_off2 v1 512#32) S1x256x256.size (k0_off2_inb v1 v3 hw hc 2)) X = Y at hr ⊢
  pointwise [k0_pay28, v111B, k0_pay22, v124B, k0_pay24, k0_pay23, k0_pay21, rd_at, hl, gap, exM, ex, dite_eq_ite, ite_self, Nat.zero_add, Fin.eta, mask_word, select_ofBool, ite_mul, zero_mul, mul_ite, mul_zero, hr]

theorem dqB2_out (v1 v3 : Elt Ideal .i32) (hw : k0_chk1 v1 v3) (hc : k0_cond3 v1 v3 = 1#1) (o : ℕ) (ho : k0_off2 v1 512#32 = ![0, o, 0])
    (X : FVec Ideal S1x8192x256 .f32) (A : Fin 8192) (hA : ¬ (o ≤ A.val ∧ A.val < o + 256)) (e : Fin 256) :
    dqB2 (F := Ideal) ⟨q, k, v, l, d⟩ v1 v3 hw hc X (ix3 0 A e) = X (ix3 0 A e) := by
  unfold dqB2; exact overlay_out ho _ _ _ A e hA

theorem dvB3_at (X : FVec Ideal S1x2048x128 .f32) (b : Fin 2048) (e : Fin 128) :
    dvB3 (F := Ideal) ⟨q, k, v, l, d⟩ X (ix3 0 b e)
      = X (ix3 0 b e) + ∑ x : Fin 256, ex q k lam ⟨768 + x.val, by omega⟩ b * d (ix3 0 ⟨768 + x.val, by omega⟩ ⟨e.val, by omega⟩) := by
  unfold dvB3
  refine (overlay_in rfl _ _ _ b e b (Nat.zero_add _).symm).trans ?_
  pointwise [k0_pay35, v163B, k0_pay31, k0_pay29, k0_pay30, rd_at, hl, gap, exM, ex, dite_eq_ite, ite_self, Nat.zero_add, Fin.eta, mask_word, select_ofBool, ite_mul, zero_mul, mul_ite, mul_zero]

theorem dkB3_at (X : FVec Ideal S1x2048x256 .f32) (b : Fin 2048) (e : Fin 256) :
    dkB3 (F := Ideal) ⟨q, k, v, l, d⟩ X (ix3 0 b e)
      = X (ix3 0 b e) + ∑ x : Fin 256, ex q k lam ⟨768 + x.val, by omega⟩ b * gap v d ⟨768 + x.val, by omega⟩ b * q (ix3 0 ⟨768 + x.val, by omega⟩ e) := by
  unfold dkB3
  refine (overlay_in rfl _ _ _ b e b (Nat.zero_add _).symm).trans ?_
  pointwise [k0_pay36, k0_pay34, v155B, k0_pay29, v163B, k0_pay31, k0_pay30, v165B, k0_pay32, v167B, k0_pay33, rd_at, hl, gap, exM, ex, dite_eq_ite, ite_self, Nat.zero_add, Fin.eta, mask_word, select_ofBool, ite_mul, zero_mul, mul_ite, mul_zero]

theorem dqB3_at (v1 v3 : Elt Ideal .i32) (hw : k0_chk1 v1 v3) (hc : k0_cond3 v1 v3 = 1#1) (o : ℕ) (ho : k0_off2 v1 768#32 = ![0, o, 0])
    (X : FVec Ideal S1x8192x256 .f32) (A : Fin 8192) (a : Fin 256) (hA : A.val = o + a.val) (e : Fin 256) :
    dqB3 (F := Ideal) ⟨q, k, v, l, d⟩ v1 v3 hw hc X (ix3 0 A e)
      = X (ix3 0 A e) + ∑ b : Fin 2048, ex q k lam ⟨768 + a.val, by omega⟩ b * gap v d ⟨768 + a.val, by omega⟩ b * k (ix3 0 b e) := by
  unfold dqB3
  refine (overlay_in ho _ _ _ A e a hA).trans ?_
  have hr := rd_off ho (k0_off2_inb v1 v3 hw hc 3) X A e a hA
  generalize rd (Rect.unit (s := S1x8192x256) (k0_off2 v1 768#32) S1x256x256.size (k0_off2_inb v1 v3 hw hc 3)) X = Y at hr ⊢
  pointwise [k0_pay37, k0_pay34, v157B, k0_pay30, v163B, k0_pay31, k0_pay29, v165B, k0_pay32, v167B, k0_pay33, rd_at, hl, gap, exM, ex, dite_eq_ite, ite_self, Nat.zero_add, Fin.eta, mask_word, select_ofBool, ite_mul, zero_mul, mul_ite, mul_zero, hr]

theorem dqB3_out (v1 v3 : Elt Ideal .i32) (hw : k0_chk1 v1 v3) (hc : k0_cond3 v1 v3 = 1#1) (o : ℕ) (ho : k0_off2 v1 768#32 = ![0, o, 0])
    (X : FVec Ideal S1x8192x256 .f32) (A : Fin 8192) (hA : ¬ (o ≤ A.val ∧ A.val < o + 256)) (e : Fin 256) :
    dqB3 (F := Ideal) ⟨q, k, v, l, d⟩ v1 v3 hw hc X (ix3 0 A e) = X (ix3 0 A e) := by
  unfold dqB3; exact overlay_out ho _ _ _ A e hA

theorem dvB4_at (X : FVec Ideal S1x2048x128 .f32) (b : Fin 2048) (e : Fin 128) :
    dvB4 (F := Ideal) ⟨q, k, v, l, d⟩ X (ix3 0 b e)
      = X (ix3 0 b e) + ∑ x : Fin 256, ex q k lam ⟨1024 + x.val, by omega⟩ b * d (ix3 0 ⟨1024 + x.val, by omega⟩ ⟨e.val, by omega⟩) := by
  unfold dvB4
  refine (overlay_in rfl _ _ _ b e b (Nat.zero_add _).symm).trans ?_
  pointwise [k0_pay42, k0_pay40, k0_pay38, k0_pay39, rd_at, hl, gap, exM, ex, dite_eq_ite, ite_self, Nat.zero_add, Fin.eta, mask_word, select_ofBool, ite_mul, zero_mul, mul_ite, mul_zero]

theorem dkB4_at (X : FVec Ideal S1x2048x256 .f32) (b : Fin 2048) (e : Fin 256) :
    dkB4 (F := Ideal) ⟨q, k, v, l, d⟩ X (ix3 0 b e)
      = X (ix3 0 b e) + ∑ x : Fin 256, ex q k lam ⟨1024 + x.val, by omega⟩ b * gap v d ⟨1024 + x.val, by omega⟩ b * q (ix3 0 ⟨1024 + x.val, by omega⟩ e) := by
  unfold dkB4
  refine (overlay_in rfl _ _ _ b e b (Nat.zero_add _).symm).trans ?_
  pointwise [k0_pay44, v201B, k0_pay38, v216B, k0_pay41, k0_pay40, k0_pay39, v228B, k0_pay43, rd_at, hl, gap, exM, ex, dite_eq_ite, ite_self, Nat.zero_add, Fin.eta, mask_word, select_ofBool, ite_mul, zero_mul, mul_ite, mul_zero]

theorem dqB4_at (v1 v3 : Elt Ideal .i32) (hw : k0_chk1 v1 v3) (hc : k0_cond3 v1 v3 = 1#1) (o : ℕ) (ho : k0_off2 v1 1024#32 = ![0, o, 0])
    (X : FVec Ideal S1x8192x256 .f32) (A : Fin 8192) (a : Fin 256) (hA : A.val = o + a.val) (e : Fin 256) :
    dqB4 (F := Ideal) ⟨q, k, v, l, d⟩ v1 v3 hw hc X (ix3 0 A e)
      = X (ix3 0 A e) + ∑ b : Fin 2048, ex q k lam ⟨1024 + a.val, by omega⟩ b * gap v d ⟨1024 + a.val, by omega⟩ b * k (ix3 0 b e) := by
  unfold dqB4
  refine (overlay_in ho _ _ _ A e a hA).trans ?_
  have hr := rd_off ho (k0_off2_inb v1 v3 hw hc 4) X A e a hA
  generalize rd (Rect.unit (s := S1x8192x256) (k0_off2 v1 1024#32) S1x256x256.size (k0_off2_inb v1 v3 hw hc 4)) X = Y at hr ⊢
  pointwise [k0_pay45, v203B, k0_pay39, v216B, k0_pay41, k0_pay40, k0_pay38, rd_at, hl, gap, exM, ex, dite_eq_ite, ite_self, Nat.zero_add, Fin.eta, mask_word, select_ofBool, ite_mul, zero_mul, mul_ite, mul_zero, hr]

theorem dqB4_out (v1 v3 : Elt Ideal .i32) (hw : k0_chk1 v1 v3) (hc : k0_cond3 v1 v3 = 1#1) (o : ℕ) (ho : k0_off2 v1 1024#32 = ![0, o, 0])
    (X : FVec Ideal S1x8192x256 .f32) (A : Fin 8192) (hA : ¬ (o ≤ A.val ∧ A.val < o + 256)) (e : Fin 256) :
    dqB4 (F := Ideal) ⟨q, k, v, l, d⟩ v1 v3 hw hc X (ix3 0 A e) = X (ix3 0 A e) := by
  unfold dqB4; exact overlay_out ho _ _ _ A e hA

theorem dvB5_at (X : FVec Ideal S1x2048x128 .f32) (b : Fin 2048) (e : Fin 128) :
    dvB5 (F := Ideal) ⟨q, k, v, l, d⟩ X (ix3 0 b e)
      = X (ix3 0 b e) + ∑ x : Fin 256, ex q k lam ⟨1280 + x.val, by omega⟩ b * d (ix3 0 ⟨1280 + x.val, by omega⟩ ⟨e.val, by omega⟩) := by
  unfold dvB5
  refine (overlay_in rfl _ _ _ b e b (Nat.zero_add _).symm).trans ?_
  pointwise [k0_pay52, v255B, k0_pay48, k0_pay46, k0_pay47, rd_at, hl, gap, exM, ex, dite_eq_ite, ite_self, Nat.zero_add, Fin.eta, mask_word, select_ofBool, ite_mul, zero_mul, mul_ite, mul_zero]

theorem dkB5_at (X : FVec Ideal S1x2048x256 .f32) (b : Fin 2048) (e : Fin 256) :
    dkB5 (F := Ideal) ⟨q, k, v, l, d⟩ X (ix3 0 b e)
      = X (ix3 0 b e) + ∑ x : Fin 256, ex q k lam ⟨1280 + x.val, by omega⟩ b * gap v d ⟨1280 + x.val, by omega⟩ b * q (ix3 0 ⟨1280 + x.val, by omega⟩ e) := by
  unfold dkB5
  refine (overlay_in rfl _ _ _ b e b (Nat.zero_add _).symm).trans ?_
  pointwise [k0_pay53, k0_pay51, v247B, k0_pay46, v255B, k0_pay48, k0_pay47, v257B, k0_pay49, v259B, k0_pay50, rd_at, hl, gap, exM, ex, dite_eq_ite, ite_self, Nat.zero_add, Fin.eta, mask_word, select_ofBool, ite_mul, zero_mul, mul_ite, mul_zero]

theorem dqB5_at (v1 v3 : Elt Ideal .i32) (hw : k0_chk1 v1 v3) (hc : k0_cond3 v1 v3 = 1#1) (o : ℕ) (ho : k0_off2 v1 1280#32 = ![0, o, 0])
    (X : FVec Ideal S1x8192x256 .f32) (A : Fin 8192) (a : Fin 256) (hA : A.val = o + a.val) (e : Fin 256) :
    dqB5 (F := Ideal) ⟨q, k, v, l, d⟩ v1 v3 hw hc X (ix3 0 A e)
      = X (ix3 0 A e) + ∑ b : Fin 2048, ex q k lam ⟨1280 + a.val, by omega⟩ b * gap v d ⟨1280 + a.val, by omega⟩ b * k (ix3 0 b e) := by
  unfold dqB5
  refine (overlay_in ho _ _ _ A e a hA).trans ?_
  have hr := rd_off ho (k0_off2_inb v1 v3 hw hc 5) X A e a hA
  generalize rd (Rect.unit (s := S1x8192x256) (k0_off2 v1 1280#32) S1x256x256.size (k0_off2_inb v1 v3 hw hc 5)) X = Y at hr ⊢
  pointwise [k0_pay54, k0_pay51, v249B, k0_pay47, v255B, k0_pay48, k0_pay46, v257B, k0_pay49, v259B, k0_pay50, rd_at, hl, gap, exM, ex, dite_eq_ite, ite_self, Nat.zero_add, Fin.eta, mask_word, select_ofBool, ite_mul, zero_mul, mul_ite, mul_zero, hr]

theorem dqB5_out (v1 v3 : Elt Ideal .i32) (hw : k0_chk1 v1 v3) (hc : k0_cond3 v1 v3 = 1#1) (o : ℕ) (ho : k0_off2 v1 1280#32 = ![0, o, 0])
    (X : FVec Ideal S1x8192x256 .f32) (A : Fin 8192) (hA : ¬ (o ≤ A.val ∧ A.val < o + 256)) (e : Fin 256) :
    dqB5 (F := Ideal) ⟨q, k, v, l, d⟩ v1 v3 hw hc X (ix3 0 A e) = X (ix3 0 A e) := by
  unfold dqB5; exact overlay_out ho _ _ _ A e hA

theorem dvB6_at (X : FVec Ideal S1x2048x128 .f32) (b : Fin 2048) (e : Fin 128) :
    dvB6 (F := Ideal) ⟨q, k, v, l, d⟩ X (ix3 0 b e)
      = X (ix3 0 b e) + ∑ x : Fin 256, ex q k lam ⟨1536 + x.val, by omega⟩ b * d (ix3 0 ⟨1536 + x.val, by omega⟩ ⟨e.val, by omega⟩) := by
  unfold dvB6
  refine (overlay_in rfl _ _ _ b e b (Nat.zero_add _).symm).trans ?_
  pointwise [k0_pay59, k0_pay57, k0_pay55, k0_pay56, rd_at, hl, gap, exM, ex, dite_eq_ite, ite_self, Nat.zero_add, Fin.eta, mask_word, select_ofBool, ite_mul, zero_mul, mul_ite, mul_zero]

theorem dkB6_at (X : FVec Ideal S1x2048x256 .f32) (b : Fin 2048) (e : Fin 256) :
    dkB6 (F := Ideal) ⟨q, k, v, l, d⟩ X (ix3 0 b e)
      = X (ix3 0 b e) + ∑ x : Fin 256, ex q k lam ⟨1536 + x.val, by omega⟩ b * gap v d ⟨1536 + x.val, by omega⟩ b * q (ix3 0 ⟨1536 + x.val, by omega⟩ e) := by
  unfold dkB6
  refine (overlay_in rfl _ _ _ b e b (Nat.zero_add _).symm).trans ?_
  pointwise [k0_pay61, v293B, k0_pay55, v308B, k0_pay58, k0_pay57, k0_pay56, v320B, k0_pay60, rd_at, hl, gap, exM, ex, dite_eq_ite, ite_self, Nat.zero_add, Fin.eta, mask_word, select_ofBool, ite_mul, zero_mul, mul_ite, mul_zero]

theorem dqB6_at (v1 v3 : Elt Ideal .i32) (hw : k0_chk1 v1 v3) (hc : k0_cond3 v1 v3 = 1#1) (o : ℕ) (ho : k0_off2 v1 1536#32 = ![0, o, 0])
    (X : FVec Ideal S1x8192x256 .f32) (A : Fin 8192) (a : Fin 256) (hA : A.val = o + a.val) (e : Fin 256) :
    dqB6 (F := Ideal) ⟨q, k, v, l, d⟩ v1 v3 hw hc X (ix3 0 A e)
      = X (ix3 0 A e) + ∑ b : Fin 2048, ex q k lam ⟨1536 + a.val, by omega⟩ b * gap v d ⟨1536 + a.val, by omega⟩ b * k (ix3 0 b e) := by
  unfold dqB6
  refine (overlay_in ho _ _ _ A e a hA).trans ?_
  have hr := rd_off ho (k0_off2_inb v1 v3 hw hc 6) X A e a hA
  generalize rd (Rect.unit (s := S1x8192x256) (k0_off2 v1 1536#32) S1x256x256.size (k0_off2_inb v1 v3 hw hc 6)) X = Y at hr ⊢
  pointwise [k0_pay62, v295B, k0_pay56, v308B, k0_pay58, k0_pay57, k0_pay55, rd_at, hl, gap, exM, ex, dite_eq_ite, ite_self, Nat.zero_add, Fin.eta, mask_word, select_ofBool, ite_mul, zero_mul, mul_ite, mul_zero, hr]

theorem dqB6_out (v1 v3 : Elt Ideal .i32) (hw : k0_chk1 v1 v3) (hc : k0_cond3 v1 v3 = 1#1) (o : ℕ) (ho : k0_off2 v1 1536#32 = ![0, o, 0])
    (X : FVec Ideal S1x8192x256 .f32) (A : Fin 8192) (hA : ¬ (o ≤ A.val ∧ A.val < o + 256)) (e : Fin 256) :
    dqB6 (F := Ideal) ⟨q, k, v, l, d⟩ v1 v3 hw hc X (ix3 0 A e) = X (ix3 0 A e) := by
  unfold dqB6; exact overlay_out ho _ _ _ A e hA

theorem dvB7_at (X : FVec Ideal S1x2048x128 .f32) (b : Fin 2048) (e : Fin 128) :
    dvB7 (F := Ideal) ⟨q, k, v, l, d⟩ X (ix3 0 b e)
      = X (ix3 0 b e) + ∑ x : Fin 256, ex q k lam ⟨1792 + x.val, by omega⟩ b * d (ix3 0 ⟨1792 + x.val, by omega⟩ ⟨e.val, by omega⟩) := by
  unfold dvB7
  refine (overlay_in rfl _ _ _ b e b (Nat.zero_add _).symm).trans ?_
  pointwise [k0_pay69, v347B, k0_pay65, k0_pay63, k0_pay64, rd_at, hl, gap, exM, ex, dite_eq_ite, ite_self, Nat.zero_add, Fin.eta, mask_word, select_ofBool, ite_mul, zero_mul, mul_ite, mul_zero]

theorem dkB7_at (X : FVec Ideal S1x2048x256 .f32) (b : Fin 2048) (e : Fin 256) :
    dkB7 (F := Ideal) ⟨q, k, v, l, d⟩ X (ix3 0 b e)
      = X (ix3 0 b e) + ∑ x : Fin 256, ex q k lam ⟨1792 + x.val, by omega⟩ b * gap v d ⟨1792 + x.val, by omega⟩ b * q (ix3 0 ⟨1792 + x.val, by omega⟩ e) := by
  unfold dkB7
  refine (overlay_in rfl _ _ _ b e b (Nat.zero_add _).symm).trans ?_
  pointwise [k0_pay70, k0_pay68, v339B, k0_pay63, v347B, k0_pay65, k0_pay64, v349B, k0_pay66, v351B, k0_pay67, rd_at, hl, gap, exM, ex, dite_eq_ite, ite_self, Nat.zero_add, Fin.eta, mask_word, select_ofBool, ite_mul, zero_mul, mul_ite, mul_zero]

theorem dqB7_at (v1 v3 : Elt Ideal .i32) (hw : k0_chk1 v1 v3) (hc : k0_cond3 v1 v3 = 1#1) (o : ℕ) (ho : k0_off2 v1 1792#32 = ![0, o, 0])
    (X : FVec Ideal S1x8192x256 .f32) (A : Fin 8192) (a : Fin 256) (hA : A.val = o + a.val) (e : Fin 256) :
    dqB7 (F := Ideal) ⟨q, k, v, l, d⟩ v1 v3 hw hc X (ix3 0 A e)
      = X (ix3 0 A e) + ∑ b : Fin 2048, ex q k lam ⟨1792 + a.val, by omega⟩ b * gap v d ⟨1792 + a.val, by omega⟩ b * k (ix3 0 b e) := by
  unfold dqB7
  refine (overlay_in ho _ _ _ A e a hA).trans ?_
  have hr := rd_off ho (k0_off2_inb v1 v3 hw hc 7) X A e a hA
  generalize rd (Rect.unit (s := S1x8192x256) (k0_off2 v1 1792#32) S1x256x256.size (k0_off2_inb v1 v3 hw hc 7)) X = Y at hr ⊢
  pointwise [k0_pay71, k0_pay68, v341B, k0_pay64, v347B, k0_pay65, k0_pay63, v349B, k0_pay66, v351B, k0_pay67, rd_at, hl, gap, exM, ex, dite_eq_ite, ite_self, Nat.zero_add, Fin.eta, mask_word, select_ofBool, ite_mul, zero_mul, mul_ite, mul_zero, hr]

theorem dqB7_out (v1 v3 : Elt Ideal .i32) (hw : k0_chk1 v1 v3) (hc : k0_cond3 v1 v3 = 1#1) (o : ℕ) (ho : k0_off2 v1 1792#32 = ![0, o, 0])
    (X : FVec Ideal S1x8192x256 .f32) (A : Fin 8192) (hA : ¬ (o ≤ A.val ∧ A.val < o + 256)) (e : Fin 256) :
    dqB7 (F := Ideal) ⟨q, k, v, l, d⟩ v1 v3 hw hc X (ix3 0 A e) = X (ix3 0 A e) := by
  unfold dqB7; exact overlay_out ho _ _ _ A e hA

end

end Cert.Flash
-- ==== Proof.Value.DiagAt.lean ====
/-
  The values of the eight sub-blocks of the diagonal block, read at an index: what each adds to the result blocks.
-/
module

public import proofs.«01_k».proof.Proof.Flash.DiagVal
public import proofs.«01_k».proof.Proof.Value.Base
public import Idealize.ShloMosaic.Lib.Pointwise

@[expose] public section

set_option maxRecDepth 16384

noncomputable section

namespace Cert.Flash

open Cert.KernelIdeal Cert.KernelIdeal.Gen
open Idealize.ShloMosaic
open Idealize.ShloMosaic.TcCoe
open Idealize.SL.Sem

section
variable (q k v d : FVec Ideal S1x2048x256 .bf16) (l : FVec Ideal S1x2048x128 .f32) (lam : Fin 2048 → EReal)
  (hl : ∀ (a : Fin 2048) (c : Fin 128), l (ix3 0 a c) = lam a)
include hl

theorem dvD0_at (X : FVec Ideal S1x2048x128 .f32) (b : Fin 2048) (e : Fin 128) (hb : b.val < 256) :
    dvD0 (F := Ideal) ⟨q, k, v, l, d⟩ X (ix3 0 b e)
      = X (ix3 0 b e) + ∑ x : Fin 256, exM q k lam ⟨0 + x.val, by omega⟩ b * d (ix3 0 ⟨0 + x.val, by omega⟩ ⟨e.val, by omega⟩) := by
  unfold dvD0
  refine (overlay_in rfl _ _ _ b e ⟨b.val, hb⟩ (Nat.zero_add _).symm).trans ?_
  pointwise [k0_pay79, v45D, k0_pay76, v46D, k0_pay77, k0_pay74, k0_pay72, k0_pay73, v48D, k0_pay78, rd_at, hl, gap, exM, ex, dite_eq_ite, ite_self, Nat.zero_add, Fin.eta, mask_word, select_ofBool, ite_mul, zero_mul, mul_ite, mul_zero]

theorem dvD0_out (X : FVec Ideal S1x2048x128 .f32) (b : Fin 2048) (e : Fin 128) (hb : ¬ b.val < 256) :
    dvD0 (F := Ideal) ⟨q, k, v, l, d⟩ X (ix3 0 b e) = X (ix3 0 b e) := by
  unfold dvD0; exact overlay_out rfl _ _ _ b e (by omega)

theorem dkD0_at (X : FVec Ideal S1x2048x256 .f32) (b : Fin 2048) (e : Fin 256) (hb : b.val < 256) :
    dkD0 (F := Ideal) ⟨q, k, v, l, d⟩ X (ix3 0 b e)
      = X (ix3 0 b e) + ∑ x : Fin 256, exM q k lam ⟨0 + x.val, by omega⟩ b * gap v d ⟨0 + x.val, by omega⟩ b * q (ix3 0 ⟨0 + x.val, by omega⟩ e) := by
  unfold dkD0
  refine (overlay_in rfl _ _ _ b e ⟨b.val, hb⟩ (Nat.zero_add _).symm).trans ?_
  pointwise [k0_pay80, v17D, k0_pay72, v43D, k0_pay75, k0_pay74, k0_pay73, rd_at, hl, gap, exM, ex, dite_eq_ite, ite_self, Nat.zero_add, Fin.eta, mask_word, select_ofBool, ite_mul, zero_mul, mul_ite, mul_zero]

theorem dkD0_out (X : FVec Ideal S1x2048x256 .f32) (b : Fin 2048) (e : Fin 256) (hb : ¬ b.val < 256) :
    dkD0 (F := Ideal) ⟨q, k, v, l, d⟩ X (ix3 0 b e) = X (ix3 0 b e) := by
  unfold dkD0; exact overlay_out rfl _ _ _ b e (by omega)

theorem dqD0_at (v1 v3 : Elt Ideal .i32) (hw : k0_chk1 v1 v3) (hc : k0_cond4 v1 v3 = 1#1) (o : ℕ) (ho : k0_off3 v1 0#32 = ![0, o, 0])
    (X : FVec Ideal S1x8192x256 .f32) (A : Fin 8192) (a : Fin 256) (hA : A.val = o + a.val) (e : Fin 256) :
    dqD0 (F := Ideal) ⟨q, k, v, l, d⟩ v1 v3 hw hc X (ix3 0 A e)
      = X (ix3 0 A e) + ∑ b : Fin 256, exM q k lam ⟨0 + a.val, by omega⟩ ⟨b.val, by omega⟩ * gap v d ⟨0 + a.val, by omega⟩ ⟨b.val, by omega⟩ * k (ix3 0 ⟨b.val, by omega⟩ e) := by
  unfold dqD0
  refine (overlay_in ho _ _ _ A e a hA).trans ?_
  have hr := rd_off ho (k0_off3_inb v1 v3 hw hc 0) X A e a hA
  generalize rd (Rect.unit (s := S1x8192x256) (k0_off3 v1 0#32) S1x256x256.size (k0_off3_inb v1 v3 hw hc 0)) X = Y at hr ⊢
  pointwise [k0_pay81, v19D, k0_pay73, v43D, k0_pay75, k0_pay74, k0_pay72, rd_at, hl, gap, exM, ex, dite_eq_ite, ite_self, Nat.zero_add, Fin.eta, mask_word, select_ofBool, ite_mul, zero_mul, mul_ite, mul_zero, hr]

theorem dqD0_out (v1 v3 : Elt Ideal .i32) (hw : k0_chk1 v1 v3) (hc : k0_cond4 v1 v3 = 1#1) (o : ℕ) (ho : k0_off3 v1 0#32 = ![0, o, 0])
    (X : FVec Ideal S1x8192x256 .f32) (A : Fin 8192) (hA : ¬ (o ≤ A.val ∧ A.val < o + 256)) (e : Fin 256) :
    dqD0 (F := Ideal) ⟨q, k, v, l, d⟩ v1 v3 hw hc X (ix3 0 A e) = X (ix3 0 A e) := by
  unfold dqD0; exact overlay_out ho _ _ _ A e hA

theorem dvD1_at (X : FVec Ideal S1x2048x128 .f32) (b : Fin 2048) (e : Fin 128) (hb : b.val < 512) :
    dvD1 (F := Ideal) ⟨q, k, v, l, d⟩ X (ix3 0 b e)
      = X (ix3 0 b e) + ∑ x : Fin 256, exM q k lam ⟨256 + x.val, by omega⟩ b * d (ix3 0 ⟨256 + x.val, by omega⟩ ⟨e.val, by omega⟩) := by
  unfold dvD1
  refine (overlay_in rfl _ _ _ b e ⟨b.val, hb⟩ (Nat.zero_add _).symm).trans ?_
  pointwise [k0_pay87, k0_pay85, v77D, k0_pay84, k0_pay82, k0_pay83, rd_at, hl, gap, exM, ex, dite_eq_ite, ite_self, Nat.zero_add, Fin.eta, mask_word, select_ofBool, ite_mul, zero_mul, mul_ite, mul_zero]

theorem dvD1_out (X : FVec Ideal S1x2048x128 .f32) (b : Fin 2048) (e : Fin 128) (hb : ¬ b.val < 512) :
    dvD1 (F := Ideal) ⟨q, k, v, l, d⟩ X (ix3 0 b e) = X (ix3 0 b e) := by
  unfold dvD1; exact overlay_out rfl _ _ _ b e (by omega)

theorem dkD1_at (X : FVec Ideal S1x2048x256 .f32) (b : Fin 2048) (e : Fin 256) (hb : b.val < 512) :
    dkD1 (F := Ideal) ⟨q, k, v, l, d⟩ X (ix3 0 b e)
      = X (ix3 0 b e) + ∑ x : Fin 256, exM q k lam ⟨256 + x.val, by omega⟩ b * gap v d ⟨256 + x.val, by omega⟩ b * q (ix3 0 ⟨256 + x.val, by omega⟩ e) := by
  unfold dkD1
  refine (overlay_in rfl _ _ _ b e ⟨b.val, hb⟩ (Nat.zero_add _).symm).trans ?_
  pointwise [k0_pay89, v74D, k0_pay82, v100D, k0_pay86, k0_pay85, v77D, k0_pay84, k0_pay83, v112D, k0_pay88, rd_at, hl, gap, exM, ex, dite_eq_ite, ite_self, Nat.zero_add, Fin.eta, mask_word, select_ofBool, ite_mul, zero_mul, mul_ite, mul_zero]

theorem dkD1_out (X : FVec Ideal S1x2048x256 .f32) (b : Fin 2048) (e : Fin 256) (hb : ¬ b.val < 512) :
    dkD1 (F := Ideal) ⟨q, k, v, l, d⟩ X (ix3 0 b e) = X (ix3 0 b e) := by
  unfold dkD1; exact overlay_out rfl _ _ _ b e (by omega)

theorem dqD1_at (v1 v3 : Elt Ideal .i32) (hw : k0_chk1 v1 v3) (hc : k0_cond4 v1 v3 = 1#1) (o : ℕ) (ho : k0_off3 v1 256#32 = ![0, o, 0])
    (X : FVec Ideal S1x8192x256 .f32) (A : Fin 8192) (a : Fin 256) (hA : A.val = o + a.val) (e : Fin 256) :
    dqD1 (F := Ideal) ⟨q, k, v, l, d⟩ v1 v3 hw hc X (ix3 0 A e)
      = X (ix3 0 A e) + ∑ b : Fin 512, exM q k lam ⟨256 + a.val, by omega⟩ ⟨b.val, by omega⟩ * gap v d ⟨256 + a.val, by omega⟩ ⟨b.val, by omega⟩ * k (ix3 0 ⟨b.val, by omega⟩ e) := by
  unfold dqD1
  refine (overlay_in ho _ _ _ A e a hA).trans ?_
  have hr := rd_off ho (k0_off3_inb v1 v3 hw hc 1) X A e a hA
  generalize rd (Rect.unit (s := S1x8192x256) (k0_off3 v1 256#32) S1x256x256.size (k0_off3_inb v1 v3 hw hc 1)) X = Y at hr ⊢
  pointwise [k0_pay90, v76D, k0_pay83, v100D, k0_pay86, k0_pay85, v77D, k0_pay84, k0_pay82, rd_at, hl, gap, exM, ex, dite_eq_ite, ite_self, Nat.zero_add, Fin.eta, mask_word, select_ofBool, ite_mul, zero_mul, mul_ite, mul_zero, hr]

theorem dqD1_out (v1 v3 : Elt Ideal .i32) (hw : k0_chk1 v1 v3) (hc : k0_cond4 v1 v3 = 1#1) (o : ℕ) (ho : k0_off3 v1 256#32 = ![0, o, 0])
    (X : FVec Ideal S1x8192x256 .f32) (A : Fin 8192) (hA : ¬ (o ≤ A.val ∧ A.val < o + 256)) (e : Fin 256) :
    dqD1 (F := Ideal) ⟨q, k, v, l, d⟩ v1 v3 hw hc X (ix3 0 A e) = X (ix3 0 A e) := by
  unfold dqD1; exact overlay_out ho _ _ _ A e hA

theorem dvD2_at (X : FVec Ideal S1x2048x128 .f32) (b : Fin 2048) (e : Fin 128) (hb : b.val < 768) :
    dvD2 (F := Ideal) ⟨q, k, v, l, d⟩ X (ix3 0 b e)
      = X (ix3 0 b e) + ∑ x : Fin 256, exM q k lam ⟨512 + x.val, by omega⟩ b * d (ix3 0 ⟨512 + x.val, by omega⟩ ⟨e.val, by omega⟩) := by
  unfold dvD2
  refine (overlay_in rfl _ _ _ b e ⟨b.val, hb⟩ (Nat.zero_add _).symm).trans ?_
  pointwise [k0_pay98, k0_pay96, v139D, k0_pay93, k0_pay91, k0_pay92, v143D, v145D, k0_pay94, v146D, k0_pay95, rd_at, hl, gap, exM, ex, dite_eq_ite, ite_self, Nat.zero_add, Fin.eta, mask_word, select_ofBool, ite_mul, zero_mul, mul_ite, mul_zero]

theorem dvD2_out (X : FVec Ideal S1x2048x128 .f32) (b : Fin 2048) (e : Fin 128) (hb : ¬ b.val < 768) :
    dvD2 (F := Ideal) ⟨q, k, v, l, d⟩ X (ix3 0 b e) = X (ix3 0 b e) := by
  unfold dvD2; exact overlay_out rfl _ _ _ b e (by omega)

theorem dkD2_at (X : FVec Ideal S1x2048x256 .f32) (b : Fin 2048) (e : Fin 256) (hb : b.val < 768) :
    dkD2 (F := Ideal) ⟨q, k, v, l, d⟩ X (ix3 0 b e)
      = X (ix3 0 b e) + ∑ x : Fin 256, exM q k lam ⟨512 + x.val, by omega⟩ b * gap v d ⟨512 + x.val, by omega⟩ b * q (ix3 0 ⟨512 + x.val, by omega⟩ e) := by
  unfold dkD2
  refine (overlay_in rfl _ _ _ b e ⟨b.val, hb⟩ (Nat.zero_add _).symm).trans ?_
  pointwise [k0_pay99, k0_pay97, k0_pay96, v131D, k0_pay91, v139D, k0_pay93, k0_pay92, v143D, v145D, k0_pay94, v146D, k0_pay95, rd_at, hl, gap, exM, ex, dite_eq_ite, ite_self, Nat.zero_add, Fin.eta, mask_word, select_ofBool, ite_mul, zero_mul, mul_ite, mul_zero]

theorem dkD2_out (X : FVec Ideal S1x2048x256 .f32) (b : Fin 2048) (e : Fin 256) (hb : ¬ b.val < 768) :
    dkD2 (F := Ideal) ⟨q, k, v, l, d⟩ X (ix3 0 b e) = X (ix3 0 b e) := by
  unfold dkD2; exact overlay_out rfl _ _ _ b e (by omega)

theorem dqD2_at (v1 v3 : Elt Ideal .i32) (hw : k0_chk1 v1 v3) (hc : k0_cond4 v1 v3 = 1#1) (o : ℕ) (ho : k0_off3 v1 512#32 = ![0, o, 0])
    (X : FVec Ideal S1x8192x256 .f32) (A : Fin 8192) (a : Fin 256) (hA : A.val = o + a.val) (e : Fin 256) :
    dqD2 (F := Ideal) ⟨q, k, v, l, d⟩ v1 v3 hw hc X (ix3 0 A e)
      = X (ix3 0 A e) + ∑ b : Fin 768, exM q k lam ⟨512 + a.val, by omega⟩ ⟨b.val, by omega⟩ * gap v d ⟨512 + a.val, by omega⟩ ⟨b.val, by omega⟩ * k (ix3 0 ⟨b.val, by omega⟩ e) := by
  unfold dqD2
  refine (overlay_in ho _ _ _ A e a hA).trans ?_
  have hr := rd_off ho (k0_off3_inb v1 v3 hw hc 2) X A e a hA
  generalize rd (Rect.unit (s := S1x8192x256) (k0_off3 v1 512#32) S1x256x256.size (k0_off3_inb v1 v3 hw hc 2)) X = Y at hr ⊢
  pointwise [k0_pay100, v133D, k0_pay92, v157D, k0_pay97, k0_pay96, v139D, k0_pay93, k0_pay91, v143D, v145D, k0_pay94, v146D, k0_pay95, rd_at, hl, gap, exM, ex, dite_eq_ite, ite_self, Nat.zero_add, Fin.eta, mask_word, select_ofBool, ite_mul, zero_mul, mul_ite, mul_zero, hr]

theorem dqD2_out (v1 v3 : Elt Ideal .i32) (hw : k0_chk1 v1 v3) (hc : k0_cond4 v1 v3 = 1#1) (o : ℕ) (ho : k0_off3 v1 512#32 = ![0, o, 0])
    (X : FVec Ideal S1x8192x256 .f32) (A : Fin 8192) (hA : ¬ (o ≤ A.val ∧ A.val < o + 256)) (e : Fin 256) :
    dqD2 (F := Ideal) ⟨q, k, v, l, d⟩ v1 v3 hw hc X (ix3 0 A e) = X (ix3 0 A e) := by
  unfold dqD2; exact overlay_out ho _ _ _ A e hA

theorem dvD3_at (X : FVec Ideal S1x2048x128 .f32) (b : Fin 2048) (e : Fin 128) (hb : b.val < 1024) :
    dvD3 (F := Ideal) ⟨q, k, v, l, d⟩ X (ix3 0 b e)
      = X (ix3 0 b e) + ∑ x : Fin 256, exM q k lam ⟨768 + x.val, by omega⟩ b * d (ix3 0 ⟨768 + x.val, by omega⟩ ⟨e.val, by omega⟩) := by
  unfold dvD3
  refine (overlay_in rfl _ _ _ b e ⟨b.val, hb⟩ (Nat.zero_add _).symm).trans ?_
  pointwise [k0_pay107, v207D, k0_pay103, k0_pay101, k0_pay102, rd_at, hl, gap, exM, ex, dite_eq_ite, ite_self, Nat.zero_add, Fin.eta, mask_word, select_ofBool, ite_mul, zero_mul, mul_ite, mul_zero]

theorem dvD3_out (X : FVec Ideal S1x2048x128 .f32) (b : Fin 2048) (e : Fin 128) (hb : ¬ b.val < 1024) :
    dvD3 (F := Ideal) ⟨q, k, v, l, d⟩ X (ix3 0 b e) = X (ix3 0 b e) := by
  unfold dvD3; exact overlay_out rfl _ _ _ b e (by omega)

theorem dkD3_at (X : FVec Ideal S1x2048x256 .f32) (b : Fin 2048) (e : Fin 256) (hb : b.val < 1024) :
    dkD3 (F := Ideal) ⟨q, k, v, l, d⟩ X (ix3 0 b e)
      = X (ix3 0 b e) + ∑ x : Fin 256, exM q k lam ⟨768 + x.val, by omega⟩ b * gap v d ⟨768 + x.val, by omega⟩ b * q (ix3 0 ⟨768 + x.val, by omega⟩ e) := by
  unfold dkD3
  refine (overlay_in rfl _ _ _ b e ⟨b.val, hb⟩ (Nat.zero_add _).symm).trans ?_
  pointwise [k0_pay108, k0_pay106, v188D, k0_pay101, v207D, k0_pay103, k0_pay102, v209D, k0_pay104, v211D, k0_pay105, rd_at, hl, gap, exM, ex, dite_eq_ite, ite_self, Nat.zero_add, Fin.eta, mask_word, select_ofBool, ite_mul, zero_mul, mul_ite, mul_zero]

theorem dkD3_out (X : FVec Ideal S1x2048x256 .f32) (b : Fin 2048) (e : Fin 256) (hb : ¬ b.val < 1024) :
    dkD3 (F := Ideal) ⟨q, k, v, l, d⟩ X (ix3 0 b e) = X (ix3 0 b e) := by
  unfold dkD3; exact overlay_out rfl _ _ _ b e (by omega)

theorem dqD3_at (v1 v3 : Elt Ideal .i32) (hw : k0_chk1 v1 v3) (hc : k0_cond4 v1 v3 = 1#1) (o : ℕ) (ho : k0_off3 v1 768#32 = ![0, o, 0])
    (X : FVec Ideal S1x8192x256 .f32) (A : Fin 8192) (a : Fin 256) (hA : A.val = o + a.val) (e : Fin 256) :
    dqD3 (F := Ideal) ⟨q, k, v, l, d⟩ v1 v3 hw hc X (ix3 0 A e)
      = X (ix3 0 A e) + ∑ b : Fin 1024, exM q k lam ⟨768 + a.val, by omega⟩ ⟨b.val, by omega⟩ * gap v d ⟨768 + a.val, by omega⟩ ⟨b.val, by omega⟩ * k (ix3 0 ⟨b.val, by omega⟩ e) := by
  unfold dqD3
  refine (overlay_in ho _ _ _ A e a hA).trans ?_
  have hr := rd_off ho (k0_off3_inb v1 v3 hw hc 3) X A e a hA
  generalize rd (Rect.unit (s := S1x8192x256) (k0_off3 v1 768#32) S1x256x256.size (k0_off3_inb v1 v3 hw hc 3)) X = Y at hr ⊢
  pointwise [k0_pay109, k0_pay106, v190D, k0_pay102, v207D, k0_pay103, k0_pay101, v209D, k0_pay104, v211D, k0_pay105, rd_at, hl, gap, exM, ex, dite_eq_ite, ite_self, Nat.zero_add, Fin.eta, mask_word, select_ofBool, ite_mul, zero_mul, mul_ite, mul_zero, hr]

theorem dqD3_out (v1 v3 : Elt Ideal .i32) (hw : k0_chk1 v1 v3) (hc : k0_cond4 v1 v3 = 1#1) (o : ℕ) (ho : k0_off3 v1 768#32 = ![0, o, 0])
    (X : FVec Ideal S1x8192x256 .f32) (A : Fin 8192) (hA : ¬ (o ≤ A.val ∧ A.val < o + 256)) (e : Fin 256) :
    dqD3 (F := Ideal) ⟨q, k, v, l, d⟩ v1 v3 hw hc X (ix3 0 A e) = X (ix3 0 A e) := by
  unfold dqD3; exact overlay_out ho _ _ _ A e hA

theorem dvD4_at (X : FVec Ideal S1x2048x128 .f32) (b : Fin 2048) (e : Fin 128) (hb : b.val < 1280) :
    dvD4 (F := Ideal) ⟨q, k, v, l, d⟩ X (ix3 0 b e)
      = X (ix3 0 b e) + ∑ x : Fin 256, exM q k lam ⟨1024 + x.val, by omega⟩ b * d (ix3 0 ⟨1024 + x.val, by omega⟩ ⟨e.val, by omega⟩) := by
  unfold dvD4
  refine (overlay_in rfl _ _ _ b e ⟨b.val, hb⟩ (Nat.zero_add _).symm).trans ?_
  pointwise [k0_pay117, v273D, k0_pay114, v274D, k0_pay115, k0_pay112, k0_pay110, k0_pay111, v276D, k0_pay116, rd_at, hl, gap, exM, ex, dite_eq_ite, ite_self, Nat.zero_add, Fin.eta, mask_word, select_ofBool, ite_mul, zero_mul, mul_ite, mul_zero]

theorem dvD4_out (X : FVec Ideal S1x2048x128 .f32) (b : Fin 2048) (e : Fin 128) (hb : ¬ b.val < 1280) :
    dvD4 (F := Ideal) ⟨q, k, v, l, d⟩ X (ix3 0 b e) = X (ix3 0 b e) := by
  unfold dvD4; exact overlay_out rfl _ _ _ b e (by omega)

theorem dkD4_at (X : FVec Ideal S1x2048x256 .f32) (b : Fin 2048) (e : Fin 256) (hb : b.val < 1280) :
    dkD4 (F := Ideal) ⟨q, k, v, l, d⟩ X (ix3 0 b e)
      = X (ix3 0 b e) + ∑ x : Fin 256, exM q k lam ⟨1024 + x.val, by omega⟩ b * gap v d ⟨1024 + x.val, by omega⟩ b * q (ix3 0 ⟨1024 + x.val, by omega⟩ e) := by
  unfold dkD4
  refine (overlay_in rfl _ _ _ b e ⟨b.val, hb⟩ (Nat.zero_add _).symm).trans ?_
  pointwise [k0_pay118, v245D, k0_pay110, v271D, k0_pay113, k0_pay112, k0_pay111, rd_at, hl, gap, exM, ex, dite_eq_ite, ite_self, Nat.zero_add, Fin.eta, mask_word, select_ofBool, ite_mul, zero_mul, mul_ite, mul_zero]

theorem dkD4_out (X : FVec Ideal S1x2048x256 .f32) (b : Fin 2048) (e : Fin 256) (hb : ¬ b.val < 1280) :
    dkD4 (F := Ideal) ⟨q, k, v, l, d⟩ X (ix3 0 b e) = X (ix3 0 b e) := by
  unfold dkD4; exact overlay_out rfl _ _ _ b e (by omega)

theorem dqD4_at (v1 v3 : Elt Ideal .i32) (hw : k0_chk1 v1 v3) (hc : k0_cond4 v1 v3 = 1#1) (o : ℕ) (ho : k0_off3 v1 1024#32 = ![0, o, 0])
    (X : FVec Ideal S1x8192x256 .f32) (A : Fin 8192) (a : Fin 256) (hA : A.val = o + a.val) (e : Fin 256) :
    dqD4 (F := Ideal) ⟨q, k, v, l, d⟩ v1 v3 hw hc X (ix3 0 A e)
      = X (ix3 0 A e) + ∑ b : Fin 1280, exM q k lam ⟨1024 + a.val, by omega⟩ ⟨b.val, by omega⟩ * gap v d ⟨1024 + a.val, by omega⟩ ⟨b.val, by omega⟩ * k (ix3 0 ⟨b.val, by omega⟩ e) := by
  unfold dqD4
  refine (overlay_in ho _ _ _ A e a hA).trans ?_
  have hr := rd_off ho (k0_off3_inb v1 v3 hw hc 4) X A e a hA
  generalize rd (Rect.unit (s := S1x8192x256) (k0_off3 v1 1024#32) S1x256x256.size (k0_off3_inb v1 v3 hw hc 4)) X = Y at hr ⊢
  pointwise [k0_pay119, v247D, k0_pay111, v271D, k0_pay113, k0_pay112, k0_pay110, rd_at, hl, gap, exM, ex, dite_eq_ite, ite_self, Nat.zero_add, Fin.eta, mask_word, select_ofBool, ite_mul, zero_mul, mul_ite, mul_zero, hr]

theorem dqD4_out (v1 v3 : Elt Ideal .i32) (hw : k0_chk1 v1 v3) (hc : k0_cond4 v1 v3 = 1#1) (o : ℕ) (ho : k0_off3 v1 1024#32 = ![0, o, 0])
    (X : FVec Ideal S1x8192x256 .f32) (A : Fin 8192) (hA : ¬ (o ≤ A.val ∧ A.val < o + 256)) (e : Fin 256) :
    dqD4 (F := Ideal) ⟨q, k, v, l, d⟩ v1 v3 hw hc X (ix3 0 A e) = X (ix3 0 A e) := by
  unfold dqD4; exact overlay_out ho _ _ _ A e hA

theorem dvD5_at (X : FVec Ideal S1x2048x128 .f32) (b : Fin 2048) (e : Fin 128) (hb : b.val < 1536) :
    dvD5 (F := Ideal) ⟨q, k, v, l, d⟩ X (ix3 0 b e)
      = X (ix3 0 b e) + ∑ x : Fin 256, exM q k lam ⟨1280 + x.val, by omega⟩ b * d (ix3 0 ⟨1280 + x.val, by omega⟩ ⟨e.val, by omega⟩) := by
  unfold dvD5
  refine (overlay_in rfl _ _ _ b e ⟨b.val, hb⟩ (Nat.zero_add _).symm).trans ?_
  pointwise [k0_pay125, k0_pay123, v305D, k0_pay122, k0_pay120, k0_pay121, rd_at, hl, gap, exM, ex, dite_eq_ite, ite_self, Nat.zero_add, Fin.eta, mask_word, select_ofBool, ite_mul, zero_mul, mul_ite, mul_zero]

theorem dvD5_out (X : FVec Ideal S1x2048x128 .f32) (b : Fin 2048) (e : Fin 128) (hb : ¬ b.val < 1536) :
    dvD5 (F := Ideal) ⟨q, k, v, l, d⟩ X (ix3 0 b e) = X (ix3 0 b e) := by
  unfold dvD5; exact overlay_out rfl _ _ _ b e (by omega)

theorem dkD5_at (X : FVec Ideal S1x2048x256 .f32) (b : Fin 2048) (e : Fin 256) (hb : b.val < 1536) :
    dkD5 (F := Ideal) ⟨q, k, v, l, d⟩ X (ix3 0 b e)
      = X (ix3 0 b e) + ∑ x : Fin 256, exM q k lam ⟨1280 + x.val, by omega⟩ b * gap v d ⟨1280 + x.val, by omega⟩ b * q (ix3 0 ⟨1280 + x.val, by omega⟩ e) := by
  unfold dkD5
  refine (overlay_in rfl _ _ _ b e ⟨b.val, hb⟩ (Nat.zero_add _).symm).trans ?_
  pointwise [k0_pay127, v302D, k0_pay120, v328D, k0_pay124, k0_pay123, v305D, k0_pay122, k0_pay121, v340D, k0_pay126, rd_at, hl, gap, exM, ex, dite_eq_ite, ite_self, Nat.zero_add, Fin.eta, mask_word, select_ofBool, ite_mul, zero_mul, mul_ite, mul_zero]

theorem dkD5_out (X : FVec Ideal S1x2048x256 .f32) (b : Fin 2048) (e : Fin 256) (hb : ¬ b.val < 1536) :
    dkD5 (F := Ideal) ⟨q, k, v, l, d⟩ X (ix3 0 b e) = X (ix3 0 b e) := by
  unfold dkD5; exact overlay_out rfl _ _ _ b e (by omega)

theorem dqD5_at (v1 v3 : Elt Ideal .i32) (hw : k0_chk1 v1 v3) (hc : k0_cond4 v1 v3 = 1#1) (o : ℕ) (ho : k0_off3 v1 1280#32 = ![0, o, 0])
    (X : FVec Ideal S1x8192x256 .f32) (A : Fin 8192) (a : Fin 256) (hA : A.val = o + a.val) (e : Fin 256) :
    dqD5 (F := Ideal) ⟨q, k, v, l, d⟩ v1 v3 hw hc X (ix3 0 A e)
      = X (ix3 0 A e) + ∑ b : Fin 1536, exM q k lam ⟨1280 + a.val, by omega⟩ ⟨b.val, by omega⟩ * gap v d ⟨1280 + a.val, by omega⟩ ⟨b.val, by omega⟩ * k (ix3 0 ⟨b.val, by omega⟩ e) := by
  unfold dqD5
  refine (overlay_in ho _ _ _ A e a hA).trans ?_
  have hr := rd_off ho (k0_off3_inb v1 v3 hw hc 5) X A e a hA
  generalize rd (Rect.unit (s := S1x8192x256) (k0_off3 v1 1280#32) S1x256x256.size (k0_off3_inb v1 v3 hw hc 5)) X = Y at hr ⊢
  pointwise [k0_pay128, v304D, k0_pay121, v328D, k0_pay124, k0_pay123, v305D, k0_pay122, k0_pay120, rd_at, hl, gap, exM, ex, dite_eq_ite, ite_self, Nat.zero_add, Fin.eta, mask_word, select_ofBool, ite_mul, zero_mul, mul_ite, mul_zero, hr]

theorem dqD5_out (v1 v3 : Elt Ideal .i32) (hw : k0_chk1 v1 v3) (hc : k0_cond4 v1 v3 = 1#1) (o : ℕ) (ho : k0_off3 v1 1280#32 = ![0, o, 0])
    (X : FVec Ideal S1x8192x256 .f32) (A : Fin 8192) (hA : ¬ (o ≤ A.val ∧ A.val < o + 256)) (e : Fin 256) :
    dqD5 (F := Ideal) ⟨q, k, v, l, d⟩ v1 v3 hw hc X (ix3 0 A e) = X (ix3 0 A e) := by
  unfold dqD5; exact overlay_out ho _ _ _ A e hA

theorem dvD6_at (X : FVec Ideal S1x2048x128 .f32) (b : Fin 2048) (e : Fin 128) (hb : b.val < 1792) :
    dvD6 (F := Ideal) ⟨q, k, v, l, d⟩ X (ix3 0 b e)
      = X (ix3 0 b e) + ∑ x : Fin 256, exM q k lam ⟨1536 + x.val, by omega⟩ b * d (ix3 0 ⟨1536 + x.val, by omega⟩ ⟨e.val, by omega⟩) := by
  unfold dvD6
  refine (overlay_in rfl _ _ _ b e ⟨b.val, hb⟩ (Nat.zero_add _).symm).trans ?_
  pointwise [k0_pay136, k0_pay134, v367D, k0_pay131, k0_pay129, k0_pay130, v371D, v373D, k0_pay132, v374D, k0_pay133, rd_at, hl, gap, exM, ex, dite_eq_ite, ite_self, Nat.zero_add, Fin.eta, mask_word, select_ofBool, ite_mul, zero_mul, mul_ite, mul_zero]

theorem dvD6_out (X : FVec Ideal S1x2048x128 .f32) (b : Fin 2048) (e : Fin 128) (hb : ¬ b.val < 1792) :
    dvD6 (F := Ideal) ⟨q, k, v, l, d⟩ X (ix3 0 b e) = X (ix3 0 b e) := by
  unfold dvD6; exact overlay_out rfl _ _ _ b e (by omega)

theorem dkD6_at (X : FVec Ideal S1x2048x256 .f32) (b : Fin 2048) (e : Fin 256) (hb : b.val < 1792) :
    dkD6 (F := Ideal) ⟨q, k, v, l, d⟩ X (ix3 0 b e)
      = X (ix3 0 b e) + ∑ x : Fin 256, exM q k lam ⟨1536 + x.val, by omega⟩ b * gap v d ⟨1536 + x.val, by omega⟩ b * q (ix3 0 ⟨1536 + x.val, by omega⟩ e) := by
  unfold dkD6
  refine (overlay_in rfl _ _ _ b e ⟨b.val, hb⟩ (Nat.zero_add _).symm).trans ?_
  pointwise [k0_pay137, k0_pay135, k0_pay134, v359D, k0_pay129, v367D, k0_pay131, k0_pay130, v371D, v373D, k0_pay132, v374D, k0_pay133, rd_at, hl, gap, exM, ex, dite_eq_ite, ite_self, Nat.zero_add, Fin.eta, mask_word, select_ofBool, ite_mul, zero_mul, mul_ite, mul_zero]

theorem dkD6_out (X : FVec Ideal S1x2048x256 .f32) (b : Fin 2048) (e : Fin 256) (hb : ¬ b.val < 1792) :
    dkD6 (F := Ideal) ⟨q, k, v, l, d⟩ X (ix3 0 b e) = X (ix3 0 b e) := by
  unfold dkD6; exact overlay_out rfl _ _ _ b e (by omega)

theorem dqD6_at (v1 v3 : Elt Ideal .i32) (hw : k0_chk1 v1 v3) (hc : k0_cond4 v1 v3 = 1#1) (o : ℕ) (ho : k0_off3 v1 1536#32 = ![0, o, 0])
    (X : FVec Ideal S1x8192x256 .f32) (A : Fin 8192) (a : Fin 256) (hA : A.val = o + a.val) (e : Fin 256) :
    dqD6 (F := Ideal) ⟨q, k, v, l, d⟩ v1 v3 hw hc X (ix3 0 A e)
      = X (ix3 0 A e) + ∑ b : Fin 1792, exM q k lam ⟨1536 + a.val, by omega⟩ ⟨b.val, by omega⟩ * gap v d ⟨1536 + a.val, by omega⟩ ⟨b.val, by omega⟩ * k (ix3 0 ⟨b.val, by omega⟩ e) := by
  unfold dqD6
  refine (overlay_in ho _ _ _ A e a hA).trans ?_
  have hr := rd_off ho (k0_off3_inb v1 v3 hw hc 6) X A e a hA
  generalize rd (Rect.unit (s := S1x8192x256) (k0_off3 v1 1536#32) S1x256x256.size (k0_off3_inb v1 v3 hw hc 6)) X = Y at hr ⊢
  pointwise [k0_pay138, v361D, k0_pay130, v385D, k0_pay135, k0_pay134, v367D, k0_pay131, k0_pay129, v371D, v373D, k0_pay132, v374D, k0_pay133, rd_at, hl, gap, exM, ex, dite_eq_ite, ite_self, Nat.zero_add, Fin.eta, mask_word, select_ofBool, ite_mul, zero_mul, mul_ite, mul_zero, hr]

theorem dqD6_out (v1 v3 : Elt Ideal .i32) (hw : k0_chk1 v1 v3) (hc : k0_cond4 v1 v3 = 1#1) (o : ℕ) (ho : k0_off3 v1 1536#32 = ![0, o, 0])
    (X : FVec Ideal S1x8192x256 .f32) (A : Fin 8192) (hA : ¬ (o ≤ A.val ∧ A.val < o + 256)) (e : Fin 256) :
    dqD6 (F := Ideal) ⟨q, k, v, l, d⟩ v1 v3 hw hc X (ix3 0 A e) = X (ix3 0 A e) := by
  unfold dqD6; exact overlay_out ho _ _ _ A e hA

theorem dvD7_at (X : FVec Ideal S1x2048x128 .f32) (b : Fin 2048) (e : Fin 128) :
    dvD7 (F := Ideal) ⟨q, k, v, l, d⟩ X (ix3 0 b e)
      = X (ix3 0 b e) + ∑ x : Fin 256, exM q k lam ⟨1792 + x.val, by omega⟩ b * d (ix3 0 ⟨1792 + x.val, by omega⟩ ⟨e.val, by omega⟩) := by
  unfold dvD7
  refine (overlay_in rfl _ _ _ b e b (Nat.zero_add _).symm).trans ?_
  pointwise [k0_pay145, v435D, k0_pay141, k0_pay139, k0_pay140, rd_at, hl, gap, exM, ex, dite_eq_ite, ite_self, Nat.zero_add, Fin.eta, mask_word, select_ofBool, ite_mul, zero_mul, mul_ite, mul_zero]

theorem dkD7_at (X : FVec Ideal S1x2048x256 .f32) (b : Fin 2048) (e : Fin 256) :
    dkD7 (F := Ideal) ⟨q, k, v, l, d⟩ X (ix3 0 b e)
      = X (ix3 0 b e) + ∑ x : Fin 256, exM q k lam ⟨1792 + x.val, by omega⟩ b * gap v d ⟨1792 + x.val, by omega⟩ b * q (ix3 0 ⟨1792 + x.val, by omega⟩ e) := by
  unfold dkD7
  refine (overlay_in rfl _ _ _ b e b (Nat.zero_add _).symm).trans ?_
  pointwise [k0_pay146, k0_pay144, v416D, k0_pay139, v435D, k0_pay141, k0_pay140, v437D, k0_pay142, v439D, k0_pay143, rd_at, hl, gap, exM, ex, dite_eq_ite, ite_self, Nat.zero_add, Fin.eta, mask_word, select_ofBool, ite_mul, zero_mul, mul_ite, mul_zero]

theorem dqD7_at (v1 v3 : Elt Ideal .i32) (hw : k0_chk1 v1 v3) (hc : k0_cond4 v1 v3 = 1#1) (o : ℕ) (ho : k0_off3 v1 1792#32 = ![0, o, 0])
    (X : FVec Ideal S1x8192x256 .f32) (A : Fin 8192) (a : Fin 256) (hA : A.val = o + a.val) (e : Fin 256) :
    dqD7 (F := Ideal) ⟨q, k, v, l, d⟩ v1 v3 hw hc X (ix3 0 A e)
      = X (ix3 0 A e) + ∑ b : Fin 2048, exM q k lam ⟨1792 + a.val, by omega⟩ b * gap v d ⟨1792 + a.val, by omega⟩ b * k (ix3 0 b e) := by
  unfold dqD7
  refine (overlay_in ho _ _ _ A e a hA).trans ?_
  have hr := rd_off ho (k0_off3_inb v1 v3 hw hc 7) X A e a hA
  generalize rd (Rect.unit (s := S1x8192x256) (k0_off3 v1 1792#32) S1x256x256.size (k0_off3_inb v1 v3 hw hc 7)) X = Y at hr ⊢
  pointwise [k0_pay147, k0_pay144, v418D, k0_pay140, v435D, k0_pay141, k0_pay139, v437D, k0_pay142, v439D, k0_pay143, rd_at, hl, gap, exM, ex, dite_eq_ite, ite_self, Nat.zero_add, Fin.eta, mask_word, select_ofBool, ite_mul, zero_mul, mul_ite, mul_zero, hr]

theorem dqD7_out (v1 v3 : Elt Ideal .i32) (hw : k0_chk1 v1 v3) (hc : k0_cond4 v1 v3 = 1#1) (o : ℕ) (ho : k0_off3 v1 1792#32 = ![0, o, 0])
    (X : FVec Ideal S1x8192x256 .f32) (A : Fin 8192) (hA : ¬ (o ≤ A.val ∧ A.val < o + 256)) (e : Fin 256) :
    dqD7 (F := Ideal) ⟨q, k, v, l, d⟩ v1 v3 hw hc X (ix3 0 A e) = X (ix3 0 A e) := by
  unfold dqD7; exact overlay_out ho _ _ _ A e hA

end

end Cert.Flash
-- ==== Proof.Value.Tile.lean ====
/-
  What one grid point adds to the three result blocks: one sum over the tile's rows or columns.
-/
module

public import proofs.«01_k».proof.Proof.Flash.Body
public import proofs.«01_k».proof.Proof.Value.BelowAt
public import proofs.«01_k».proof.Proof.Value.DiagAt
public import Idealize.ShloMosaic.Lib.Pointwise

@[expose] public section

set_option maxRecDepth 16384

noncomputable section

namespace Cert.Flash

open Cert.KernelIdeal Cert.KernelIdeal.Gen
open Idealize.ShloMosaic
open Idealize.ShloMosaic.TcCoe
open Idealize.SL.Sem

/-- Eight runs of 256 summands are the sum over 2048. -/
theorem sum8 (f : Fin 2048 → EReal) (X : EReal) :
    X + ∑ x : Fin 256, f ⟨0 + x.val, by omega⟩ + ∑ x : Fin 256, f ⟨256 + x.val, by omega⟩ + ∑ x : Fin 256, f ⟨512 + x.val, by omega⟩
      + ∑ x : Fin 256, f ⟨768 + x.val, by omega⟩ + ∑ x : Fin 256, f ⟨1024 + x.val, by omega⟩ + ∑ x : Fin 256, f ⟨1280 + x.val, by omega⟩
      + ∑ x : Fin 256, f ⟨1536 + x.val, by omega⟩ + ∑ x : Fin 256, f ⟨1792 + x.val, by omega⟩ = X + ∑ a, f a := by
  rw [Fin.sum_univ_tiles 8 256 rfl f, Fin.sum_univ_eight]
  simp only [add_assoc]
  rfl

/-- A sum whose summands vanish from `C` on is the sum of the first `C`. -/
theorem sum_first {n : ℕ} (C : ℕ) (hC : C ≤ n) (f : Fin n → EReal) (h : ∀ b : Fin n, C ≤ b.val → f b = 0) :
    ∑ b : Fin C, f ⟨b.val, lt_of_lt_of_le b.isLt hC⟩ = ∑ b, f b := by
  obtain ⟨k, rfl⟩ := Nat.exists_eq_add_of_le hC
  rw [Fin.sum_univ_add, Finset.sum_eq_zero (fun (i : Fin k) _ => h (Fin.natAdd C i) (by simp)), add_zero]
  rfl

theorem exM_zero (q k : FVec Ideal S1x2048x256 .bf16) (lam : Fin 2048 → EReal) (a b : Fin 2048) (h : a.val / 64 < b.val / 64) : exM q k lam a b = 0 :=
  if_neg (by omega)

/-- One of eight consecutive runs of 256 rows holds a row of the block at `2048 * n`; none holds another. -/
theorem pick8 (n A : ℕ) (T X : EReal) :
    X + (if 2048 * n + 0 ≤ A ∧ A < 2048 * n + 0 + 256 then T else 0) + (if 2048 * n + 256 ≤ A ∧ A < 2048 * n + 256 + 256 then T else 0)
      + (if 2048 * n + 512 ≤ A ∧ A < 2048 * n + 512 + 256 then T else 0) + (if 2048 * n + 768 ≤ A ∧ A < 2048 * n + 768 + 256 then T else 0)
      + (if 2048 * n + 1024 ≤ A ∧ A < 2048 * n + 1024 + 256 then T else 0) + (if 2048 * n + 1280 ≤ A ∧ A < 2048 * n + 1280 + 256 then T else 0)
      + (if 2048 * n + 1536 ≤ A ∧ A < 2048 * n + 1536 + 256 then T else 0) + (if 2048 * n + 1792 ≤ A ∧ A < 2048 * n + 1792 + 256 then T else 0)
      = X + if A / 2048 = n then T else 0 := by
  have e : ∀ r : ℕ, r < 8 → ((2048 * n + 256 * r ≤ A ∧ A < 2048 * n + 256 * r + 256) ↔ (A / 2048 = n ∧ A % 2048 / 256 = r)) := by
    intro r hr; omega
  have e0 := e 0 (by omega)
  have e1 := e 1 (by omega)
  have e2 := e 2 (by omega)
  have e3 := e 3 (by omega)
  have e4 := e 4 (by omega)
  have e5 := e 5 (by omega)
  have e6 := e 6 (by omega)
  have e7 := e 7 (by omega)
  simp only [Nat.reduceMul] at e0 e1 e2 e3 e4 e5 e6 e7
  simp only [e0, e1, e2, e3, e4, e5, e6, e7]
  by_cases h : A / 2048 = n
  · have hr : A % 2048 / 256 < 8 := by omega
    simp only [h, true_and, if_true]
    generalize A % 2048 / 256 = r at hr
    interval_cases r <;> simp
  · simp [h]

section
variable (q k v d : FVec Ideal S1x2048x256 .bf16) (l : FVec Ideal S1x2048x128 .f32) (lam : Fin 2048 → EReal)
  (hl : ∀ (a : Fin 2048) (c : Fin 128), l (ix3 0 a c) = lam a)
include hl

theorem belowV_at (X : FVec Ideal S1x2048x128 .f32) (b : Fin 2048) (e : Fin 128) :
    belowV (F := Ideal) ⟨q, k, v, l, d⟩ X (ix3 0 b e) = X (ix3 0 b e) + ∑ a : Fin 2048, ex q k lam a b * d (ix3 0 a ⟨e.val, by omega⟩) := by
  unfold belowV
  refine (dvB7_at q k v d l lam hl _ b e).trans ?_
  rw [dvB6_at q k v d l lam hl _ b e, dvB5_at q k v d l lam hl _ b e, dvB4_at q k v d l lam hl _ b e, dvB3_at q k v d l lam hl _ b e, dvB2_at q k v d l lam hl _ b e, dvB1_at q k v d l lam hl _ b e, dvB0_at q k v d l lam hl _ b e]
  exact sum8 (fun a => ex q k lam a b * d (ix3 0 a ⟨e.val, by omega⟩)) _

theorem belowK_at (X : FVec Ideal S1x2048x256 .f32) (b : Fin 2048) (e : Fin 256) :
    belowK (F := Ideal) ⟨q, k, v, l, d⟩ X (ix3 0 b e) = X (ix3 0 b e) + ∑ a : Fin 2048, ex q k lam a b * gap v d a b * q (ix3 0 a e) := by
  unfold belowK
  refine (dkB7_at q k v d l lam hl _ b e).trans ?_
  rw [dkB6_at q k v d l lam hl _ b e, dkB5_at q k v d l lam hl _ b e, dkB4_at q k v d l lam hl _ b e, dkB3_at q k v d l lam hl _ b e, dkB2_at q k v d l lam hl _ b e, dkB1_at q k v d l lam hl _ b e, dkB0_at q k v d l lam hl _ b e]
  exact sum8 (fun a => ex q k lam a b * gap v d a b * q (ix3 0 a e)) _

theorem belowQ_at (v1 v3 : Elt Ideal .i32) (hw : k0_chk1 v1 v3) (hc : k0_cond3 v1 v3 = 1#1) (n : ℕ)
    (ho : ∀ r : Fin 8, k0_off2 v1 (BitVec.ofNat 32 (256 * r.val)) = ![0, 2048 * n + 256 * r.val, 0])
    (X : FVec Ideal S1x8192x256 .f32) (A : Fin 8192) (e : Fin 256) :
    belowQ (F := Ideal) ⟨q, k, v, l, d⟩ v1 v3 hw hc X (ix3 0 A e)
      = X (ix3 0 A e) + if A.val / 2048 = n then ∑ b : Fin 2048, ex q k lam ⟨A.val % 2048, by omega⟩ b * gap v d ⟨A.val % 2048, by omega⟩ b * k (ix3 0 b e) else 0 := by
  unfold belowQ
  have h0 : ∀ Y : FVec Ideal S1x8192x256 .f32, dqB0 (F := Ideal) ⟨q, k, v, l, d⟩ v1 v3 hw hc Y (ix3 0 A e)
      = Y (ix3 0 A e) + if 2048 * n + 0 ≤ A.val ∧ A.val < 2048 * n + 0 + 256 then ∑ b : Fin 2048, ex q k lam ⟨A.val % 2048, by omega⟩ b * gap v d ⟨A.val % 2048, by omega⟩ b * k (ix3 0 b e) else 0 := fun Y => by
    by_cases h : 2048 * n + 0 ≤ A.val ∧ A.val < 2048 * n + 0 + 256
    · have ea : (⟨0 + (⟨A.val - (2048 * n + 0), by omega⟩ : Fin 256).val, by simp only; omega⟩ : Fin 2048) = ⟨A.val % 2048, by omega⟩ := Fin.ext (by simp only; omega)
      rw [if_pos h, dqB0_at q k v d l lam hl v1 v3 hw hc (2048 * n + 0) (ho 0) Y A ⟨A.val - (2048 * n + 0), by omega⟩ (by simp only; omega) e, ea]
    · rw [if_neg h, add_zero, dqB0_out q k v d l lam hl v1 v3 hw hc (2048 * n + 0) (ho 0) Y A h e]
  have h1 : ∀ Y : FVec Ideal S1x8192x256 .f32, dqB1 (F := Ideal) ⟨q, k, v, l, d⟩ v1 v3 hw hc Y (ix3 0 A e)
      = Y (ix3 0 A e) + if 2048 * n + 256 ≤ A.val ∧ A.val < 2048 * n + 256 + 256 then ∑ b : Fin 2048, ex q k lam ⟨A.val % 2048, by omega⟩ b * gap v d ⟨A.val % 2048, by omega⟩ b * k (ix3 0 b e) else 0 := fun Y => by
    by_cases h : 2048 * n + 256 ≤ A.val ∧ A.val < 2048 * n + 256 + 256
    · have ea : (⟨256 + (⟨A.val - (2048 * n + 256), by omega⟩ : Fin 256).val, by simp only; omega⟩ : Fin 2048) = ⟨A.val % 2048, by omega⟩ := Fin.ext (by simp only; omega)
      rw [if_pos h, dqB1_at q k v d l lam hl v1 v3 hw hc (2048 * n + 256) (ho 1) Y A ⟨A.val - (2048 * n + 256), by omega⟩ (by simp only; omega) e, ea]
    · rw [if_neg h, add_zero, dqB1_out q k v d l lam hl v1 v3 hw hc (2048 * n + 256) (ho 1) Y A h e]
  have h2 : ∀ Y : FVec Ideal S1x8192x256 .f32, dqB2 (F := Ideal) ⟨q, k, v, l, d⟩ v1 v3 hw hc Y (ix3 0 A e)
      = Y (ix3 0 A e) + if 2048 * n + 512 ≤ A.val ∧ A.val < 2048 * n + 512 + 256 then ∑ b : Fin 2048, ex q k lam ⟨A.val % 2048, by omega⟩ b * gap v d ⟨A.val % 2048, by omega⟩ b * k (ix3 0 b e) else 0 := fun Y => by
    by_cases h : 2048 * n + 512 ≤ A.val ∧ A.val < 2048 * n + 512 + 256
    · have ea : (⟨512 + (⟨A.val - (2048 * n + 512), by omega⟩ : Fin 256).val, by simp only; omega⟩ : Fin 2048) = ⟨A.val % 2048, by omega⟩ := Fin.ext (by simp only; omega)
      rw [if_pos h, dqB2_at q k v d l lam hl v1 v3 hw hc (2048 * n + 512) (ho 2) Y A ⟨A.val - (2048 * n + 512), by omega⟩ (by simp only; omega) e, ea]
    · rw [if_neg h, add_zero, dqB2_out q k v d l lam hl v1 v3 hw hc (2048 * n + 512) (ho 2) Y A h e]
  have h3 : ∀ Y : FVec Ideal S1x8192x256 .f32, dqB3 (F := Ideal) ⟨q, k, v, l, d⟩ v1 v3 hw hc Y (ix3 0 A e)
      = Y (ix3 0 A e) + if 2048 * n + 768 ≤ A.val ∧ A.val < 2048 * n + 768 + 256 then ∑ b : Fin 2048, ex q k lam ⟨A.val % 2048, by omega⟩ b * gap v d ⟨A.val % 2048, by omega⟩ b * k (ix3 0 b e) else 0 := fun Y => by
    by_cases h : 2048 * n + 768 ≤ A.val ∧ A.val < 2048 * n + 768 + 256
    · have ea : (⟨768 + (⟨A.val - (2048 * n + 768), by omega⟩ : Fin 256).val, by simp only; omega⟩ : Fin 2048) = ⟨A.val % 2048, by omega⟩ := Fin.ext (by simp only; omega)
      rw [if_pos h, dqB3_at q k v d l lam hl v1 v3 hw hc (2048 * n + 768) (ho 3) Y A ⟨A.val - (2048 * n + 768), by omega⟩ (by simp only; omega) e, ea]
    · rw [if_neg h, add_zero, dqB3_out q k v d l lam hl v1 v3 hw hc (2048 * n + 768) (ho 3) Y A h e]
  have h4 : ∀ Y : FVec Ideal S1x8192x256 .f32, dqB4 (F := Ideal) ⟨q, k, v, l, d⟩ v1 v3 hw hc Y (ix3 0 A e)
      = Y (ix3 0 A e) + if 2048 * n + 1024 ≤ A.val ∧ A.val < 2048 * n + 1024 + 256 then ∑ b : Fin 2048, ex q k lam ⟨A.val % 2048, by omega⟩ b * gap v d ⟨A.val % 2048, by omega⟩ b * k (ix3 0 b e) else 0 := fun Y => by
    by_cases h : 2048 * n + 1024 ≤ A.val ∧ A.val < 2048 * n + 1024 + 256
    · have ea : (⟨1024 + (⟨A.val - (2048 * n + 1024), by omega⟩ : Fin 256).val, by simp only; omega⟩ : Fin 2048) = ⟨A.val % 2048, by omega⟩ := Fin.ext (by simp only; omega)
      rw [if_pos h, dqB4_at q k v d l lam hl v1 v3 hw hc (2048 * n + 1024) (ho 4) Y A ⟨A.val - (2048 * n + 1024), by omega⟩ (by simp only; omega) e, ea]
    · rw [if_neg h, add_zero, dqB4_out q k v d l lam hl v1 v3 hw hc (2048 * n + 1024) (ho 4) Y A h e]
  have h5 : ∀ Y : FVec Ideal S1x8192x256 .f32, dqB5 (F := Ideal) ⟨q, k, v, l, d⟩ v1 v3 hw hc Y (ix3 0 A e)
      = Y (ix3 0 A e) + if 2048 * n + 1280 ≤ A.val ∧ A.val < 2048 * n + 1280 + 256 then ∑ b : Fin 2048, ex q k lam ⟨A.val % 2048, by omega⟩ b * gap v d ⟨A.val % 2048, by omega⟩ b * k (ix3 0 b e) else 0 := fun Y => by
    by_cases h : 2048 * n + 1280 ≤ A.val ∧ A.val < 2048 * n + 1280 + 256
    · have ea : (⟨1280 + (⟨A.val - (2048 * n + 1280), by omega⟩ : Fin 256).val, by simp only; omega⟩ : Fin 2048) = ⟨A.val % 2048, by omega⟩ := Fin.ext (by simp only; omega)
      rw [if_pos h, dqB5_at q k v d l lam hl v1 v3 hw hc (2048 * n + 1280) (ho 5) Y A ⟨A.val - (2048 * n + 1280), by omega⟩ (by simp only; omega) e, ea]
    · rw [if_neg h, add_zero, dqB5_out q k v d l lam hl v1 v3 hw hc (2048 * n + 1280) (ho 5) Y A h e]
  have h6 : ∀ Y : FVec Ideal S1x8192x256 .f32, dqB6 (F := Ideal) ⟨q, k, v, l, d⟩ v1 v3 hw hc Y (ix3 0 A e)
      = Y (ix3 0 A e) + if 2048 * n + 1536 ≤ A.val ∧ A.val < 2048 * n + 1536 + 256 then ∑ b : Fin 2048, ex q k lam ⟨A.val % 2048, by omega⟩ b * gap v d ⟨A.val % 2048, by omega⟩ b * k (ix3 0 b e) else 0 := fun Y => by
    by_cases h : 2048 * n + 1536 ≤ A.val ∧ A.val < 2048 * n + 1536 + 256
    · have ea : (⟨1536 + (⟨A.val - (2048 * n + 1536), by omega⟩ : Fin 256).val, by simp only; omega⟩ : Fin 2048) = ⟨A.val % 2048, by omega⟩ := Fin.ext (by simp only; omega)
      rw [if_pos h, dqB6_at q k v d l lam hl v1 v3 hw hc (2048 * n + 1536) (ho 6) Y A ⟨A.val - (2048 * n + 1536), by omega⟩ (by simp only; omega) e, ea]
    · rw [if_neg h, add_zero, dqB6_out q k v d l lam hl v1 v3 hw hc (2048 * n + 1536) (ho 6) Y A h e]
  have h7 : ∀ Y : FVec Ideal S1x8192x256 .f32, dqB7 (F := Ideal) ⟨q, k, v, l, d⟩ v1 v3 hw hc Y (ix3 0 A e)
      = Y (ix3 0 A e) + if 2048 * n + 1792 ≤ A.val ∧ A.val < 2048 * n + 1792 + 256 then ∑ b : Fin 2048, ex q k lam ⟨A.val % 2048, by omega⟩ b * gap v d ⟨A.val % 2048, by omega⟩ b * k (ix3 0 b e) else 0 := fun Y => by
    by_cases h : 2048 * n + 1792 ≤ A.val ∧ A.val < 2048 * n + 1792 + 256
    · have ea : (⟨1792 + (⟨A.val - (2048 * n + 1792), by omega⟩ : Fin 256).val, by simp only; omega⟩ : Fin 2048) = ⟨A.val % 2048, by omega⟩ := Fin.ext (by simp only; omega)
      rw [if_pos h, dqB7_at q k v d l lam hl v1 v3 hw hc (2048 * n + 1792) (ho 7) Y A ⟨A.val - (2048 * n + 1792), by omega⟩ (by simp only; omega) e, ea]
    · rw [if_neg h, add_zero, dqB7_out q k v d l lam hl v1 v3 hw hc (2048 * n + 1792) (ho 7) Y A h e]
  rw [h7, h6, h5, h4, h3, h2, h1, h0]
  exact pick8 n A.val _ _

theorem dvD0_all (X : FVec Ideal S1x2048x128 .f32) (b : Fin 2048) (e : Fin 128) :
    dvD0 (F := Ideal) ⟨q, k, v, l, d⟩ X (ix3 0 b e) = X (ix3 0 b e) + ∑ x : Fin 256, exM q k lam ⟨0 + x.val, by omega⟩ b * d (ix3 0 ⟨0 + x.val, by omega⟩ ⟨e.val, by omega⟩) := by
  by_cases hb : b.val < 256
  · exact dvD0_at q k v d l lam hl X b e hb
  · rw [dvD0_out q k v d l lam hl X b e hb, Finset.sum_eq_zero, add_zero]
    intro x _; rw [exM_zero q k lam _ b (by simp only; omega)]; simp only [zero_mul]

theorem dvD1_all (X : FVec Ideal S1x2048x128 .f32) (b : Fin 2048) (e : Fin 128) :
    dvD1 (F := Ideal) ⟨q, k, v, l, d⟩ X (ix3 0 b e) = X (ix3 0 b e) + ∑ x : Fin 256, exM q k lam ⟨256 + x.val, by omega⟩ b * d (ix3 0 ⟨256 + x.val, by omega⟩ ⟨e.val, by omega⟩) := by
  by_cases hb : b.val < 512
  · exact dvD1_at q k v d l lam hl X b e hb
  · rw [dvD1_out q k v d l lam hl X b e hb, Finset.sum_eq_zero, add_zero]
    intro x _; rw [exM_zero q k lam _ b (by simp only; omega)]; simp only [zero_mul]

theorem dvD2_all (X : FVec Ideal S1x2048x128 .f32) (b : Fin 2048) (e : Fin 128) :
    dvD2 (F := Ideal) ⟨q, k, v, l, d⟩ X (ix3 0 b e) = X (ix3 0 b e) + ∑ x : Fin 256, exM q k lam ⟨512 + x.val, by omega⟩ b * d (ix3 0 ⟨512 + x.val, by omega⟩ ⟨e.val, by omega⟩) := by
  by_cases hb : b.val < 768
  · exact dvD2_at q k v d l lam hl X b e hb
  · rw [dvD2_out q k v d l lam hl X b e hb, Finset.sum_eq_zero, add_zero]
    intro x _; rw [exM_zero q k lam _ b (by simp only; omega)]; simp only [zero_mul]

theorem dvD3_all (X : FVec Ideal S1x2048x128 .f32) (b : Fin 2048) (e : Fin 128) :
    dvD3 (F := Ideal) ⟨q, k, v, l, d⟩ X (ix3 0 b e) = X (ix3 0 b e) + ∑ x : Fin 256, exM q k lam ⟨768 + x.val, by omega⟩ b * d (ix3 0 ⟨768 + x.val, by omega⟩ ⟨e.val, by omega⟩) := by
  by_cases hb : b.val < 1024
  · exact dvD3_at q k v d l lam hl X b e hb
  · rw [dvD3_out q k v d l lam hl X b e hb, Finset.sum_eq_zero, add_zero]
    intro x _; rw [exM_zero q k lam _ b (by simp only; omega)]; simp only [zero_mul]

theorem dvD4_all (X : FVec Ideal S1x2048x128 .f32) (b : Fin 2048) (e : Fin 128) :
    dvD4 (F := Ideal) ⟨q, k, v, l, d⟩ X (ix3 0 b e) = X (ix3 0 b e) + ∑ x : Fin 256, exM q k lam ⟨1024 + x.val, by omega⟩ b * d (ix3 0 ⟨1024 + x.val, by omega⟩ ⟨e.val, by omega⟩) := by
  by_cases hb : b.val < 1280
  · exact dvD4_at q k v d l lam hl X b e hb
  · rw [dvD4_out q k v d l lam hl X b e hb, Finset.sum_eq_zero, add_zero]
    intro x _; rw [exM_zero q k lam _ b (by simp only; omega)]; simp only [zero_mul]

theorem dvD5_all (X : FVec Ideal S1x2048x128 .f32) (b : Fin 2048) (e : Fin 128) :
    dvD5 (F := Ideal) ⟨q, k, v, l, d⟩ X (ix3 0 b e) = X (ix3 0 b e) + ∑ x : Fin 256, exM q k lam ⟨1280 + x.val, by omega⟩ b * d (ix3 0 ⟨1280 + x.val, by omega⟩ ⟨e.val, by omega⟩) := by
  by_cases hb : b.val < 1536
  · exact dvD5_at q k v d l lam hl X b e hb
  · rw [dvD5_out q k v d l lam hl X b e hb, Finset.sum_eq_zero, add_zero]
    intro x _; rw [exM_zero q k lam _ b (by simp only; omega)]; simp only [zero_mul]

theorem dvD6_all (X : FVec Ideal S1x2048x128 .f32) (b : Fin 2048) (e : Fin 128) :
    dvD6 (F := Ideal) ⟨q, k, v, l, d⟩ X (ix3 0 b e) = X (ix3 0 b e) + ∑ x : Fin 256, exM q k lam ⟨1536 + x.val, by omega⟩ b * d (ix3 0 ⟨1536 + x.val, by omega⟩ ⟨e.val, by omega⟩) := by
  by_cases hb : b.val < 1792
  · exact dvD6_at q k v d l lam hl X b e hb
  · rw [dvD6_out q k v d l lam hl X b e hb, Finset.sum_eq_zero, add_zero]
    intro x _; rw [exM_zero q k lam _ b (by simp only; omega)]; simp only [zero_mul]

theorem diagV_at (X : FVec Ideal S1x2048x128 .f32) (b : Fin 2048) (e : Fin 128) :
    diagV (F := Ideal) ⟨q, k, v, l, d⟩ X (ix3 0 b e) = X (ix3 0 b e) + ∑ a : Fin 2048, exM q k lam a b * d (ix3 0 a ⟨e.val, by omega⟩) := by
  unfold diagV
  refine (dvD7_at q k v d l lam hl _ b e).trans ?_
  rw [dvD6_all q k v d l lam hl _ b e, dvD5_all q k v d l lam hl _ b e, dvD4_all q k v d l lam hl _ b e, dvD3_all q k v d l lam hl _ b e, dvD2_all q k v d l lam hl _ b e, dvD1_all q k v d l lam hl _ b e, dvD0_all q k v d l lam hl _ b e]
  exact sum8 (fun a => exM q k lam a b * d (ix3 0 a ⟨e.val, by omega⟩)) _

theorem dkD0_all (X : FVec Ideal S1x2048x256 .f32) (b : Fin 2048) (e : Fin 256) :
    dkD0 (F := Ideal) ⟨q, k, v, l, d⟩ X (ix3 0 b e) = X (ix3 0 b e) + ∑ x : Fin 256, exM q k lam ⟨0 + x.val, by omega⟩ b * gap v d ⟨0 + x.val, by omega⟩ b * q (ix3 0 ⟨0 + x.val, by omega⟩ e) := by
  by_cases hb : b.val < 256
  · exact dkD0_at q k v d l lam hl X b e hb
  · rw [dkD0_out q k v d l lam hl X b e hb, Finset.sum_eq_zero, add_zero]
    intro x _; rw [exM_zero q k lam _ b (by simp only; omega)]; simp only [zero_mul]

theorem dkD1_all (X : FVec Ideal S1x2048x256 .f32) (b : Fin 2048) (e : Fin 256) :
    dkD1 (F := Ideal) ⟨q, k, v, l, d⟩ X (ix3 0 b e) = X (ix3 0 b e) + ∑ x : Fin 256, exM q k lam ⟨256 + x.val, by omega⟩ b * gap v d ⟨256 + x.val, by omega⟩ b * q (ix3 0 ⟨256 + x.val, by omega⟩ e) := by
  by_cases hb : b.val < 512
  · exact dkD1_at q k v d l lam hl X b e hb
  · rw [dkD1_out q k v d l lam hl X b e hb, Finset.sum_eq_zero, add_zero]
    intro x _; rw [exM_zero q k lam _ b (by simp only; omega)]; simp only [zero_mul]

theorem dkD2_all (X : FVec Ideal S1x2048x256 .f32) (b : Fin 2048) (e : Fin 256) :
    dkD2 (F := Ideal) ⟨q, k, v, l, d⟩ X (ix3 0 b e) = X (ix3 0 b e) + ∑ x : Fin 256, exM q k lam ⟨512 + x.val, by omega⟩ b * gap v d ⟨512 + x.val, by omega⟩ b * q (ix3 0 ⟨512 + x.val, by omega⟩ e) := by
  by_cases hb : b.val < 768
  · exact dkD2_at q k v d l lam hl X b e hb
  · rw [dkD2_out q k v d l lam hl X b e hb, Finset.sum_eq_zero, add_zero]
    intro x _; rw [exM_zero q k lam _ b (by simp only; omega)]; simp only [zero_mul]

theorem dkD3_all (X : FVec Ideal S1x2048x256 .f32) (b : Fin 2048) (e : Fin 256) :
    dkD3 (F := Ideal) ⟨q, k, v, l, d⟩ X (ix3 0 b e) = X (ix3 0 b e) + ∑ x : Fin 256, exM q k lam ⟨768 + x.val, by omega⟩ b * gap v d ⟨768 + x.val, by omega⟩ b * q (ix3 0 ⟨768 + x.val, by omega⟩ e) := by
  by_cases hb : b.val < 1024
  · exact dkD3_at q k v d l lam hl X b e hb
  · rw [dkD3_out q k v d l lam hl X b e hb, Finset.sum_eq_zero, add_zero]
    intro x _; rw [exM_zero q k lam _ b (by simp only; omega)]; simp only [zero_mul]

theorem dkD4_all (X : FVec Ideal S1x2048x256 .f32) (b : Fin 2048) (e : Fin 256) :
    dkD4 (F := Ideal) ⟨q, k, v, l, d⟩ X (ix3 0 b e) = X (ix3 0 b e) + ∑ x : Fin 256, exM q k lam ⟨1024 + x.val, by omega⟩ b * gap v d ⟨1024 + x.val, by omega⟩ b * q (ix3 0 ⟨1024 + x.val, by omega⟩ e) := by
  by_cases hb : b.val < 1280
  · exact dkD4_at q k v d l lam hl X b e hb
  · rw [dkD4_out q k v d l lam hl X b e hb, Finset.sum_eq_zero, add_zero]
    intro x _; rw [exM_zero q k lam _ b (by simp only; omega)]; simp only [zero_mul]

theorem dkD5_all (X : FVec Ideal S1x2048x256 .f32) (b : Fin 2048) (e : Fin 256) :
    dkD5 (F := Ideal) ⟨q, k, v, l, d⟩ X (ix3 0 b e) = X (ix3 0 b e) + ∑ x : Fin 256, exM q k lam ⟨1280 + x.val, by omega⟩ b * gap v d ⟨1280 + x.val, by omega⟩ b * q (ix3 0 ⟨1280 + x.val, by omega⟩ e) := by
  by_cases hb : b.val < 1536
  · exact dkD5_at q k v d l lam hl X b e hb
  · rw [dkD5_out q k v d l lam hl X b e hb, Finset.sum_eq_zero, add_zero]
    intro x _; rw [exM_zero q k lam _ b (by simp only; omega)]; simp only [zero_mul]

theorem dkD6_all (X : FVec Ideal S1x2048x256 .f32) (b : Fin 2048) (e : Fin 256) :
    dkD6 (F := Ideal) ⟨q, k, v, l, d⟩ X (ix3 0 b e) = X (ix3 0 b e) + ∑ x : Fin 256, exM q k lam ⟨1536 + x.val, by omega⟩ b * gap v d ⟨1536 + x.val, by omega⟩ b * q (ix3 0 ⟨1536 + x.val, by omega⟩ e) := by
  by_cases hb : b.val < 1792
  · exact dkD6_at q k v d l lam hl X b e hb
  · rw [dkD6_out q k v d l lam hl X b e hb, Finset.sum_eq_zero, add_zero]
    intro x _; rw [exM_zero q k lam _ b (by simp only; omega)]; simp only [zero_mul]

theorem diagK_at (X : FVec Ideal S1x2048x256 .f32) (b : Fin 2048) (e : Fin 256) :
    diagK (F := Ideal) ⟨q, k, v, l, d⟩ X (ix3 0 b e) = X (ix3 0 b e) + ∑ a : Fin 2048, exM q k lam a b * gap v d a b * q (ix3 0 a e) := by
  unfold diagK
  refine (dkD7_at q k v d l lam hl _ b e).trans ?_
  rw [dkD6_all q k v d l lam hl _ b e, dkD5_all q k v d l lam hl _ b e, dkD4_all q k v d l lam hl _ b e, dkD3_all q k v d l lam hl _ b e, dkD2_all q k v d l lam hl _ b e, dkD1_all q k v d l lam hl _ b e, dkD0_all q k v d l lam hl _ b e]
  exact sum8 (fun a => exM q k lam a b * gap v d a b * q (ix3 0 a e)) _

theorem diagQ_at (v1 v3 : Elt Ideal .i32) (hw : k0_chk1 v1 v3) (hc : k0_cond4 v1 v3 = 1#1) (n : ℕ)
    (ho : ∀ r : Fin 8, k0_off3 v1 (BitVec.ofNat 32 (256 * r.val)) = ![0, 2048 * n + 256 * r.val, 0])
    (X : FVec Ideal S1x8192x256 .f32) (A : Fin 8192) (e : Fin 256) :
    diagQ (F := Ideal) ⟨q, k, v, l, d⟩ v1 v3 hw hc X (ix3 0 A e)
      = X (ix3 0 A e) + if A.val / 2048 = n then ∑ b : Fin 2048, exM q k lam ⟨A.val % 2048, by omega⟩ b * gap v d ⟨A.val % 2048, by omega⟩ b * k (ix3 0 b e) else 0 := by
  unfold diagQ
  have h0 : ∀ Y : FVec Ideal S1x8192x256 .f32, dqD0 (F := Ideal) ⟨q, k, v, l, d⟩ v1 v3 hw hc Y (ix3 0 A e)
      = Y (ix3 0 A e) + if 2048 * n + 0 ≤ A.val ∧ A.val < 2048 * n + 0 + 256 then ∑ b : Fin 2048, exM q k lam ⟨A.val % 2048, by omega⟩ b * gap v d ⟨A.val % 2048, by omega⟩ b * k (ix3 0 b e) else 0 := fun Y => by
    by_cases h : 2048 * n + 0 ≤ A.val ∧ A.val < 2048 * n + 0 + 256
    · have ea : (⟨0 + (⟨A.val - (2048 * n + 0), by omega⟩ : Fin 256).val, by simp only; omega⟩ : Fin 2048) = ⟨A.val % 2048, by omega⟩ := Fin.ext (by simp only; omega)
      rw [if_pos h, dqD0_at q k v d l lam hl v1 v3 hw hc (2048 * n + 0) (ho 0) Y A ⟨A.val - (2048 * n + 0), by omega⟩ (by simp only; omega) e, ea]
      refine congrArg (_ + ·) (sum_first 256 (by omega) (fun b : Fin 2048 => exM q k lam ⟨A.val % 2048, by omega⟩ b * gap v d ⟨A.val % 2048, by omega⟩ b * k (ix3 0 b e)) fun b hb => ?_)
      rw [exM_zero q k lam _ b (by simp only; omega)]; simp only [zero_mul]
    · rw [if_neg h, add_zero, dqD0_out q k v d l lam hl v1 v3 hw hc (2048 * n + 0) (ho 0) Y A h e]
  have h1 : ∀ Y : FVec Ideal S1x8192x256 .f32, dqD1 (F := Ideal) ⟨q, k, v, l, d⟩ v1 v3 hw hc Y (ix3 0 A e)
      = Y (ix3 0 A e) + if 2048 * n + 256 ≤ A.val ∧ A.val < 2048 * n + 256 + 256 then ∑ b : Fin 2048, exM q k lam ⟨A.val % 2048, by omega⟩ b * gap v d ⟨A.val % 2048, by omega⟩ b * k (ix3 0 b e) else 0 := fun Y => by
    by_cases h : 2048 * n + 256 ≤ A.val ∧ A.val < 2048 * n + 256 + 256
    · have ea : (⟨256 + (⟨A.val - (2048 * n + 256), by omega⟩ : Fin 256).val, by simp only; omega⟩ : Fin 2048) = ⟨A.val % 2048, by omega⟩ := Fin.ext (by simp only; omega)
      rw [if_pos h, dqD1_at q k v d l lam hl v1 v3 hw hc (2048 * n + 256) (ho 1) Y A ⟨A.val - (2048 * n + 256), by omega⟩ (by simp only; omega) e, ea]
      refine congrArg (_ + ·) (sum_first 512 (by omega) (fun b : Fin 2048 => exM q k lam ⟨A.val % 2048, by omega⟩ b * gap v d ⟨A.val % 2048, by omega⟩ b * k (ix3 0 b e)) fun b hb => ?_)
      rw [exM_zero q k lam _ b (by simp only; omega)]; simp only [zero_mul]
    · rw [if_neg h, add_zero, dqD1_out q k v d l lam hl v1 v3 hw hc (2048 * n + 256) (ho 1) Y A h e]
  have h2 : ∀ Y : FVec Ideal S1x8192x256 .f32, dqD2 (F := Ideal) ⟨q, k, v, l, d⟩ v1 v3 hw hc Y (ix3 0 A e)
      = Y (ix3 0 A e) + if 2048 * n + 512 ≤ A.val ∧ A.val < 2048 * n + 512 + 256 then ∑ b : Fin 2048, exM q k lam ⟨A.val % 2048, by omega⟩ b * gap v d ⟨A.val % 2048, by omega⟩ b * k (ix3 0 b e) else 0 := fun Y => by
    by_cases h : 2048 * n + 512 ≤ A.val ∧ A.val < 2048 * n + 512 + 256
    · have ea : (⟨512 + (⟨A.val - (2048 * n + 512), by omega⟩ : Fin 256).val, by simp only; omega⟩ : Fin 2048) = ⟨A.val % 2048, by omega⟩ := Fin.ext (by simp only; omega)
      rw [if_pos h, dqD2_at q k v d l lam hl v1 v3 hw hc (2048 * n + 512) (ho 2) Y A ⟨A.val - (2048 * n + 512), by omega⟩ (by simp only; omega) e, ea]
      refine congrArg (_ + ·) (sum_first 768 (by omega) (fun b : Fin 2048 => exM q k lam ⟨A.val % 2048, by omega⟩ b * gap v d ⟨A.val % 2048, by omega⟩ b * k (ix3 0 b e)) fun b hb => ?_)
      rw [exM_zero q k lam _ b (by simp only; omega)]; simp only [zero_mul]
    · rw [if_neg h, add_zero, dqD2_out q k v d l lam hl v1 v3 hw hc (2048 * n + 512) (ho 2) Y A h e]
  have h3 : ∀ Y : FVec Ideal S1x8192x256 .f32, dqD3 (F := Ideal) ⟨q, k, v, l, d⟩ v1 v3 hw hc Y (ix3 0 A e)
      = Y (ix3 0 A e) + if 2048 * n + 768 ≤ A.val ∧ A.val < 2048 * n + 768 + 256 then ∑ b : Fin 2048, exM q k lam ⟨A.val % 2048, by omega⟩ b * gap v d ⟨A.val % 2048, by omega⟩ b * k (ix3 0 b e) else 0 := fun Y => by
    by_cases h : 2048 * n + 768 ≤ A.val ∧ A.val < 2048 * n + 768 + 256
    · have ea : (⟨768 + (⟨A.val - (2048 * n + 768), by omega⟩ : Fin 256).val, by simp only; omega⟩ : Fin 2048) = ⟨A.val % 2048, by omega⟩ := Fin.ext (by simp only; omega)
      rw [if_pos h, dqD3_at q k v d l lam hl v1 v3 hw hc (2048 * n + 768) (ho 3) Y A ⟨A.val - (2048 * n + 768), by omega⟩ (by simp only; omega) e, ea]
      refine congrArg (_ + ·) (sum_first 1024 (by omega) (fun b : Fin 2048 => exM q k lam ⟨A.val % 2048, by omega⟩ b * gap v d ⟨A.val % 2048, by omega⟩ b * k (ix3 0 b e)) fun b hb => ?_)
      rw [exM_zero q k lam _ b (by simp only; omega)]; simp only [zero_mul]
    · rw [if_neg h, add_zero, dqD3_out q k v d l lam hl v1 v3 hw hc (2048 * n + 768) (ho 3) Y A h e]
  have h4 : ∀ Y : FVec Ideal S1x8192x256 .f32, dqD4 (F := Ideal) ⟨q, k, v, l, d⟩ v1 v3 hw hc Y (ix3 0 A e)
      = Y (ix3 0 A e) + if 2048 * n + 1024 ≤ A.val ∧ A.val < 2048 * n + 1024 + 256 then ∑ b : Fin 2048, exM q k lam ⟨A.val % 2048, by omega⟩ b * gap v d ⟨A.val % 2048, by omega⟩ b * k (ix3 0 b e) else 0 := fun Y => by
    by_cases h : 2048 * n + 1024 ≤ A.val ∧ A.val < 2048 * n + 1024 + 256
    · have ea : (⟨1024 + (⟨A.val - (2048 * n + 1024), by omega⟩ : Fin 256).val, by simp only; omega⟩ : Fin 2048) = ⟨A.val % 2048, by omega⟩ := Fin.ext (by simp only; omega)
      rw [if_pos h, dqD4_at q k v d l lam hl v1 v3 hw hc (2048 * n + 1024) (ho 4) Y A ⟨A.val - (2048 * n + 1024), by omega⟩ (by simp only; omega) e, ea]
      refine congrArg (_ + ·) (sum_first 1280 (by omega) (fun b : Fin 2048 => exM q k lam ⟨A.val % 2048, by omega⟩ b * gap v d ⟨A.val % 2048, by omega⟩ b * k (ix3 0 b e)) fun b hb => ?_)
      rw [exM_zero q k lam _ b (by simp only; omega)]; simp only [zero_mul]
    · rw [if_neg h, add_zero, dqD4_out q k v d l lam hl v1 v3 hw hc (2048 * n + 1024) (ho 4) Y A h e]
  have h5 : ∀ Y : FVec Ideal S1x8192x256 .f32, dqD5 (F := Ideal) ⟨q, k, v, l, d⟩ v1 v3 hw hc Y (ix3 0 A e)
      = Y (ix3 0 A e) + if 2048 * n + 1280 ≤ A.val ∧ A.val < 2048 * n + 1280 + 256 then ∑ b : Fin 2048, exM q k lam ⟨A.val % 2048, by omega⟩ b * gap v d ⟨A.val % 2048, by omega⟩ b * k (ix3 0 b e) else 0 := fun Y => by
    by_cases h : 2048 * n + 1280 ≤ A.val ∧ A.val < 2048 * n + 1280 + 256
    · have ea : (⟨1280 + (⟨A.val - (2048 * n + 1280), by omega⟩ : Fin 256).val, by simp only; omega⟩ : Fin 2048) = ⟨A.val % 2048, by omega⟩ := Fin.ext (by simp only; omega)
      rw [if_pos h, dqD5_at q k v d l lam hl v1 v3 hw hc (2048 * n + 1280) (ho 5) Y A ⟨A.val - (2048 * n + 1280), by omega⟩ (by simp only; omega) e, ea]
      refine congrArg (_ + ·) (sum_first 1536 (by omega) (fun b : Fin 2048 => exM q k lam ⟨A.val % 2048, by omega⟩ b * gap v d ⟨A.val % 2048, by omega⟩ b * k (ix3 0 b e)) fun b hb => ?_)
      rw [exM_zero q k lam _ b (by simp only; omega)]; simp only [zero_mul]
    · rw [if_neg h, add_zero, dqD5_out q k v d l lam hl v1 v3 hw hc (2048 * n + 1280) (ho 5) Y A h e]
  have h6 : ∀ Y : FVec Ideal S1x8192x256 .f32, dqD6 (F := Ideal) ⟨q, k, v, l, d⟩ v1 v3 hw hc Y (ix3 0 A e)
      = Y (ix3 0 A e) + if 2048 * n + 1536 ≤ A.val ∧ A.val < 2048 * n + 1536 + 256 then ∑ b : Fin 2048, exM q k lam ⟨A.val % 2048, by omega⟩ b * gap v d ⟨A.val % 2048, by omega⟩ b * k (ix3 0 b e) else 0 := fun Y => by
    by_cases h : 2048 * n + 1536 ≤ A.val ∧ A.val < 2048 * n + 1536 + 256
    · have ea : (⟨1536 + (⟨A.val - (2048 * n + 1536), by omega⟩ : Fin 256).val, by simp only; omega⟩ : Fin 2048) = ⟨A.val % 2048, by omega⟩ := Fin.ext (by simp only; omega)
      rw [if_pos h, dqD6_at q k v d l lam hl v1 v3 hw hc (2048 * n + 1536) (ho 6) Y A ⟨A.val - (2048 * n + 1536), by omega⟩ (by simp only; omega) e, ea]
      refine congrArg (_ + ·) (sum_first 1792 (by omega) (fun b : Fin 2048 => exM q k lam ⟨A.val % 2048, by omega⟩ b * gap v d ⟨A.val % 2048, by omega⟩ b * k (ix3 0 b e)) fun b hb => ?_)
      rw [exM_zero q k lam _ b (by simp only; omega)]; simp only [zero_mul]
    · rw [if_neg h, add_zero, dqD6_out q k v d l lam hl v1 v3 hw hc (2048 * n + 1536) (ho 6) Y A h e]
  have h7 : ∀ Y : FVec Ideal S1x8192x256 .f32, dqD7 (F := Ideal) ⟨q, k, v, l, d⟩ v1 v3 hw hc Y (ix3 0 A e)
      = Y (ix3 0 A e) + if 2048 * n + 1792 ≤ A.val ∧ A.val < 2048 * n + 1792 + 256 then ∑ b : Fin 2048, exM q k lam ⟨A.val % 2048, by omega⟩ b * gap v d ⟨A.val % 2048, by omega⟩ b * k (ix3 0 b e) else 0 := fun Y => by
    by_cases h : 2048 * n + 1792 ≤ A.val ∧ A.val < 2048 * n + 1792 + 256
    · have ea : (⟨1792 + (⟨A.val - (2048 * n + 1792), by omega⟩ : Fin 256).val, by simp only; omega⟩ : Fin 2048) = ⟨A.val % 2048, by omega⟩ := Fin.ext (by simp only; omega)
      rw [if_pos h, dqD7_at q k v d l lam hl v1 v3 hw hc (2048 * n + 1792) (ho 7) Y A ⟨A.val - (2048 * n + 1792), by omega⟩ (by simp only; omega) e, ea]
    · rw [if_neg h, add_zero, dqD7_out q k v d l lam hl v1 v3 hw hc (2048 * n + 1792) (ho 7) Y A h e]
  rw [h7, h6, h5, h4, h3, h2, h1, h0]
  exact pick8 n A.val _ _

end

end Cert.Flash
-- ==== Proof.Value.Step.lean ====
/-
  One grid point as a step on the result blocks, and the sums the steps of one head add up to.
-/
module

public import proofs.«01_k».proof.Proof.Value.Tile
public import proofs.«01_k».proof.Proof.Flash.Data

@[expose] public section

set_option maxRecDepth 16384

noncomputable section

namespace Cert.Flash

open Cert.KernelIdeal Cert.KernelIdeal.Gen
open Idealize.ShloMosaic
open Idealize.ShloMosaic.TcCoe
open Idealize.ShloMosaic.Pipeline
open Idealize.SL.Sem

/-- The query tile and the key tile of each of a head's ten points. -/
def QF : Fin 10 → Fin 4 := ![0, 1, 2, 3, 1, 2, 3, 2, 3, 3]
def KF : Fin 10 → Fin 4 := ![0, 0, 0, 0, 1, 1, 1, 2, 2, 3]

/-- A point's head and its position among the head's ten. -/
def headOf (t : ℕ) (h : t < grid0.N) : Fin 8 := ⟨t / 10, by rw [show grid0.N = 80 from rfl] at h; omega⟩
def posOf (t : ℕ) : Fin 10 := ⟨t % 10, by omega⟩

theorem pt_pos : ∀ t : Fin grid0.N, ((grid0.coords t) 1).val = t.val % 10 := by decide +kernel
theorem pt_ixQ : ∀ t : Fin grid0.N, ixQ (grid0.coords t) 0 = t.val / 10 ∧ ixQ (grid0.coords t) 1 = (QF (posOf t.val)).val := by decide +kernel
theorem pt_ixK : ∀ t : Fin grid0.N, ixK (grid0.coords t) 0 = t.val / 10 ∧ ixK (grid0.coords t) 1 = (KF (posOf t.val)).val := by decide +kernel
theorem pt_diag : ∀ t : Fin grid0.N, onDiag (grid0.coords t) ↔ KF (posOf t.val) = QF (posOf t.val) := by decide +kernel
theorem pt_off2 : ∀ t : Fin grid0.N, ∀ r : Fin 8, ∀ a : Fin 3, k0_off2 (qi (grid0.coords t)) (BitVec.ofNat 32 (256 * r.val)) a
    = (![0, 2048 * (QF (posOf t.val)).val + 256 * r.val, 0] : Fin 3 → ℕ) a := by decide +kernel
theorem pt_off3 : ∀ t : Fin grid0.N, ∀ r : Fin 8, ∀ a : Fin 3, k0_off3 (qi (grid0.coords t)) (BitVec.ofNat 32 (256 * r.val)) a
    = (![0, 2048 * (QF (posOf t.val)).val + 256 * r.val, 0] : Fin 3 → ℕ) a := by decide +kernel

theorem zeroQ_at (X : FVec Ideal S1x8192x256 .f32) (b : Fin 8192) (e : Fin 256) : zeroQ (F := Ideal) X (ix3 0 b e) = (0 : EReal) := by
  unfold zeroQ
  refine (overlay_in rfl _ _ _ b e b (Nat.zero_add _).symm).trans ?_
  pointwise [k0_pay1]
theorem zeroK_at (X : FVec Ideal S1x2048x256 .f32) (b : Fin 2048) (e : Fin 256) : zeroK (F := Ideal) X (ix3 0 b e) = (0 : EReal) := by
  unfold zeroK
  refine (overlay_in rfl _ _ _ b e b (Nat.zero_add _).symm).trans ?_
  pointwise [k0_pay2]
theorem zeroV_at (X : FVec Ideal S1x2048x128 .f32) (b : Fin 2048) (e : Fin 128) : zeroV (F := Ideal) X (ix3 0 b e) = (0 : EReal) := by
  unfold zeroV
  refine (overlay_in rfl _ _ _ b e b (Nat.zero_add _).symm).trans ?_
  pointwise [k0_pay3]

section
variable (q k v d : FVec Ideal S1x2048x256 .bf16) (l : FVec Ideal S1x2048x128 .f32) (lam : Fin 2048 → EReal)
  (hl : ∀ (a : Fin 2048) (c : Fin 128), l (ix3 0 a c) = lam a)
  (X1 : FVec Ideal S1x8192x256 .f32) (X2 : FVec Ideal S1x2048x256 .f32) (X3 : FVec Ideal S1x2048x128 .f32) (t : Fin grid0.N)
include hl

/-- The exponentials a point uses: masked on the diagonal. -/
def exAt (q k : FVec Ideal S1x2048x256 .bf16) (lam : Fin 2048 → EReal) (n : Fin 10) (a b : Fin 2048) : EReal :=
  if KF n = QF n then exM q k lam a b else ex q k lam a b

theorem step_V (b : Fin 2048) (e : Fin 128) :
    (stepPt (F := Ideal) (grid0.coords t) ⟨q, k, v, l, d⟩ (X1, X2, X3)).2.2 (ix3 0 b e)
      = (if KF (posOf t.val) = QF (posOf t.val) then (0 : EReal) else X3 (ix3 0 b e))
        + ∑ a : Fin 2048, exAt q k lam (posOf t.val) a b * d (ix3 0 a ⟨e.val, by omega⟩) := by
  unfold stepPt exAt
  by_cases h : onDiag (grid0.coords t)
  · rw [dif_pos h]
    simp only [if_pos ((pt_diag t).1 h)]
    refine (diagV_at q k v d l lam hl _ b e).trans ?_
    rw [zeroV_at]
  · rw [dif_neg h]
    simp only [if_neg (fun h' => h ((pt_diag t).2 h'))]
    exact belowV_at q k v d l lam hl _ b e

theorem step_K (b : Fin 2048) (e : Fin 256) :
    (stepPt (F := Ideal) (grid0.coords t) ⟨q, k, v, l, d⟩ (X1, X2, X3)).2.1 (ix3 0 b e)
      = (if KF (posOf t.val) = QF (posOf t.val) then (0 : EReal) else X2 (ix3 0 b e))
        + ∑ a : Fin 2048, exAt q k lam (posOf t.val) a b * gap v d a b * q (ix3 0 a e) := by
  unfold stepPt exAt
  by_cases h : onDiag (grid0.coords t)
  · rw [dif_pos h]
    simp only [if_pos ((pt_diag t).1 h)]
    refine (diagK_at q k v d l lam hl _ b e).trans ?_
    rw [zeroK_at]
  · rw [dif_neg h]
    simp only [if_neg (fun h' => h ((pt_diag t).2 h'))]
    exact belowK_at q k v d l lam hl _ b e

theorem step_Q (A : Fin 8192) (e : Fin 256) :
    (stepPt (F := Ideal) (grid0.coords t) ⟨q, k, v, l, d⟩ (X1, X2, X3)).1 (ix3 0 A e)
      = (if t.val % 10 = 0 then (0 : EReal) else X1 (ix3 0 A e))
        + if A.val / 2048 = (QF (posOf t.val)).val then
            ∑ b : Fin 2048, exAt q k lam (posOf t.val) ⟨A.val % 2048, by omega⟩ b * gap v d ⟨A.val % 2048, by omega⟩ b * k (ix3 0 b e) else 0 := by
  unfold stepPt exAt
  by_cases h : onDiag (grid0.coords t)
  · rw [dif_pos h]
    simp only [if_pos ((pt_diag t).1 h)]
    refine (diagQ_at q k v d l lam hl _ _ _ _ (QF (posOf t.val)).val (fun r => funext (pt_off3 t r)) _ A e).trans ?_
    refine congrArg (· + _) ?_
    by_cases h0 : t.val % 10 = 0
    · rw [if_pos h0, if_pos ((pt_pos t).trans h0), zeroQ_at]
    · rw [if_neg h0, if_neg (fun h' => h0 ((pt_pos t).symm.trans h'))]
  · rw [dif_neg h]
    have h0 : ¬ t.val % 10 = 0 := fun h' => h (diag_of_first _ ((pt_pos t).trans h'))
    simp only [if_neg (fun h' => h ((pt_diag t).2 h')), if_neg h0]
    exact belowQ_at q k v d l lam hl _ _ _ _ (QF (posOf t.val)).val (fun r => funext (pt_off2 t r)) _ A e
end

/-! ### The sums over a head's points -/

theorem sum_le_zero (p : Fin 10 → Prop) [DecidablePred p] (f : Fin 10 → EReal) (n : Fin 10) (hn : n.val = 0) :
    (∑ m : Fin 10, if m.val ≤ n.val ∧ p m then f m else 0) = if p n then f n else 0 := by
  rw [Finset.sum_eq_single n]
  · simp
  · intro m _ hm
    rw [if_neg]; rintro ⟨h, _⟩; exact hm (Fin.ext (by omega))
  · simp

theorem sum_le_succ (p : Fin 10 → Prop) [DecidablePred p] (f : Fin 10 → EReal) (n n' : Fin 10) (hn : n.val = n'.val + 1) :
    (∑ m : Fin 10, if m.val ≤ n.val ∧ p m then f m else 0) = (∑ m : Fin 10, if m.val ≤ n'.val ∧ p m then f m else 0) + if p n then f n else 0 := by
  have e : ∀ m : Fin 10, (if m.val ≤ n.val ∧ p m then f m else 0) = (if m.val ≤ n'.val ∧ p m then f m else 0) + if m = n then (if p n then f n else 0) else 0 := by
    intro m
    by_cases h : m = n
    · subst h; have : ¬ m.val ≤ n'.val := by omega
      simp [this]
    · have h' : m.val ≤ n.val ↔ m.val ≤ n'.val := by
        have : m.val ≠ n.val := fun h2 => h (Fin.ext h2)
        omega
      simp [h, h']
  simp only [e, Finset.sum_add_distrib, Finset.sum_ite_eq', Finset.mem_univ, if_true]

/-- All the points of a query tile: the key tiles up to it. -/
theorem sum_tile_Q (f : Fin 4 → EReal) (i : Fin 4) :
    (∑ m : Fin 10, if m.val ≤ 9 ∧ QF m = i then f (KF m) else 0) = ∑ j : Fin 4, if j ≤ i then f j else 0 := by
  fin_cases i <;> simp [Fin.sum_univ_succ, QF, KF, add_assoc]

/-- The points of a key tile visited up to the last of them: the query tiles from it on. -/
theorem sum_tile_K (f : Fin 4 → EReal) (n : Fin 10) (hn : n.val = 9 ∨ ∃ n' : Fin 10, n'.val = n.val + 1 ∧ KF n' ≠ KF n) :
    (∑ m : Fin 10, if m.val ≤ n.val ∧ KF m = KF n then f (QF m) else 0) = ∑ i : Fin 4, if KF n ≤ i then f i else 0 := by
  have : n = 3 ∨ n = 6 ∨ n = 8 ∨ n = 9 := by revert n; decide
  rcases this with rfl | rfl | rfl | rfl <;> simp [Fin.sum_univ_succ, QF, KF, add_assoc]

end Cert.Flash
-- ==== Proof.Value.Held.lean ====
/-
  The input blocks at a grid point, element by element, as entries of the arrays at entry.
-/
module

public import proofs.«01_k».proof.Proof.Flash.Final
public import proofs.«01_k».proof.Proof.Value.Tile
public import Idealize.ShloMosaic.Lib.Pipeline.ValueKit

@[expose] public section

set_option maxRecDepth 16384

noncomputable section

namespace Cert.Flash

open Cert.KernelIdeal Cert.KernelIdeal.Gen
open Idealize.ShloMosaic
open Idealize.ShloMosaic.TcCoe
open Idealize.ShloMosaic.Pipeline
open Idealize.SL.Sem

variable {F : FTy → Type} [FloatOps F]
variable {c : Dev nD} (A : Arrs (F := F) c)

theorem idx0 (t : Fin (cfg (F := F)).N) (a) : ((cfg (F := F)).win 0).index t a = ixQ (grid0.coords t) a := congrFun (tr0 (F := F) (grid0.coords t)) a

theorem blk0 (t : Fin (cfg (F := F)).N) (H : Fin 8) (R : Fin 8192) (a : Fin 2048) (x : Fin 256)
    (hH : H.val = ixQ (grid0.coords t) 0) (hR : R.val = ixQ (grid0.coords t) 1 * 2048 + a.val) (d) :
    ((cfg (F := F)).win 0).fill ((cfg (F := F)).grid.coords t) d ((((cfg (F := F)).win 0).blk t).view.read (Elt F) (A 0)) (ix3 0 a x) = A 0 (ix3 H R x) := by
  refine (Window.fill_xinj ((cfg (F := F)).win 0) ((cfg (F := F)).grid.coords t) d _ (ix3 0 a x)).trans ?_
  refine congrArg (A 0) (funext fun j => Fin.ext ?_)
  refine (Window.rect_emb_val_off ((cfg (F := F)).win 0) t (ix3 0 a x) j).trans ?_
  rw [idx0 t j]
  fin_cases j
  · exact (hH ▸ by show H.val * 1 + 0 = H.val; omega)
  · exact hR.symm
  · show 0 * 256 + x.val = x.val; omega

theorem held0 (n : ℕ) (h : n < (cfg (F := F)).N) (H : Fin 8) (R : Fin 8192) (a : Fin 2048) (x : Fin 256)
    (hH : H.val = ixQ (grid0.coords ⟨n, h⟩) 0) (hR : R.val = ixQ (grid0.coords ⟨n, h⟩) 1 * 2048 + a.val) :
    heldIn (cfg (F := F)) A 0 n h (ix3 0 a x) = A 0 (ix3 H R x) := by
  induction n with
  | zero =>
    refine (congrFun (heldIn_of_fetch A 0 ⟨0, h⟩ (((cfg (F := F)).win 0).fetch_in rfl _ |>.2 (.inl rfl))) _).trans ?_
    exact blk0 A ⟨0, h⟩ H R a x hH hR _
  | succ n ih =>
    by_cases hf : ((cfg (F := F)).win 0).fetch ⟨n + 1, h⟩ = true
    · refine (congrFun (heldIn_of_fetch A 0 ⟨n + 1, h⟩ hf) _).trans ?_
      exact blk0 A ⟨n + 1, h⟩ H R a x hH hR _
    · rw [Bool.not_eq_true] at hf
      refine (congrFun (heldIn_of_not_fetch A 0 n h hf) _).trans ?_
      have e : ((cfg (F := F)).win 0).index ⟨n + 1, h⟩ = ((cfg (F := F)).win 0).index ⟨n, Nat.lt_of_succ_lt h⟩ := by
        by_contra hne
        have := ((cfg (F := F)).win 0).fetch_in rfl ⟨n + 1, h⟩ |>.2 (.inr ⟨Nat.succ_pos n, hne⟩)
        rw [hf] at this; exact Bool.false_ne_true this
      have e' : ∀ a, ixQ (grid0.coords ⟨n + 1, h⟩) a = ixQ (grid0.coords ⟨n, Nat.lt_of_succ_lt h⟩) a := fun a =>
        (idx0 (F := F) ⟨n + 1, h⟩ a).symm.trans ((congrFun e a).trans (idx0 (F := F) ⟨n, Nat.lt_of_succ_lt h⟩ a))
      exact ih _ (hH.trans (e' 0)) (by rw [hR, e' 1])
theorem idx1 (t : Fin (cfg (F := F)).N) (a) : ((cfg (F := F)).win 1).index t a = ixK (grid0.coords t) a := congrFun (tr1 (F := F) (grid0.coords t)) a

theorem blk1 (t : Fin (cfg (F := F)).N) (H : Fin 8) (R : Fin 8192) (a : Fin 2048) (x : Fin 256)
    (hH : H.val = ixK (grid0.coords t) 0) (hR : R.val = ixK (grid0.coords t) 1 * 2048 + a.val) (d) :
    ((cfg (F := F)).win 1).fill ((cfg (F := F)).grid.coords t) d ((((cfg (F := F)).win 1).blk t).view.read (Elt F) (A 1)) (ix3 0 a x) = A 1 (ix3 H R x) := by
  refine (Window.fill_xinj ((cfg (F := F)).win 1) ((cfg (F := F)).grid.coords t) d _ (ix3 0 a x)).trans ?_
  refine congrArg (A 1) (funext fun j => Fin.ext ?_)
  refine (Window.rect_emb_val_off ((cfg (F := F)).win 1) t (ix3 0 a x) j).trans ?_
  rw [idx1 t j]
  fin_cases j
  · exact (hH ▸ by show H.val * 1 + 0 = H.val; omega)
  · exact hR.symm
  · show 0 * 256 + x.val = x.val; omega

theorem held1 (n : ℕ) (h : n < (cfg (F := F)).N) (H : Fin 8) (R : Fin 8192) (a : Fin 2048) (x : Fin 256)
    (hH : H.val = ixK (grid0.coords ⟨n, h⟩) 0) (hR : R.val = ixK (grid0.coords ⟨n, h⟩) 1 * 2048 + a.val) :
    heldIn (cfg (F := F)) A 1 n h (ix3 0 a x) = A 1 (ix3 H R x) := by
  induction n with
  | zero =>
    refine (congrFun (heldIn_of_fetch A 1 ⟨0, h⟩ (((cfg (F := F)).win 1).fetch_in rfl _ |>.2 (.inl rfl))) _).trans ?_
    exact blk1 A ⟨0, h⟩ H R a x hH hR _
  | succ n ih =>
    by_cases hf : ((cfg (F := F)).win 1).fetch ⟨n + 1, h⟩ = true
    · refine (congrFun (heldIn_of_fetch A 1 ⟨n + 1, h⟩ hf) _).trans ?_
      exact blk1 A ⟨n + 1, h⟩ H R a x hH hR _
    · rw [Bool.not_eq_true] at hf
      refine (congrFun (heldIn_of_not_fetch A 1 n h hf) _).trans ?_
      have e : ((cfg (F := F)).win 1).index ⟨n + 1, h⟩ = ((cfg (F := F)).win 1).index ⟨n, Nat.lt_of_succ_lt h⟩ := by
        by_contra hne
        have := ((cfg (F := F)).win 1).fetch_in rfl ⟨n + 1, h⟩ |>.2 (.inr ⟨Nat.succ_pos n, hne⟩)
        rw [hf] at this; exact Bool.false_ne_true this
      have e' : ∀ a, ixK (grid0.coords ⟨n + 1, h⟩) a = ixK (grid0.coords ⟨n, Nat.lt_of_succ_lt h⟩) a := fun a =>
        (idx1 (F := F) ⟨n + 1, h⟩ a).symm.trans ((congrFun e a).trans (idx1 (F := F) ⟨n, Nat.lt_of_succ_lt h⟩ a))
      exact ih _ (hH.trans (e' 0)) (by rw [hR, e' 1])
theorem idx2 (t : Fin (cfg (F := F)).N) (a) : ((cfg (F := F)).win 2).index t a = ixK (grid0.coords t) a := congrFun (tr2 (F := F) (grid0.coords t)) a

theorem blk2 (t : Fin (cfg (F := F)).N) (H : Fin 8) (R : Fin 8192) (a : Fin 2048) (x : Fin 256)
    (hH : H.val = ixK (grid0.coords t) 0) (hR : R.val = ixK (grid0.coords t) 1 * 2048 + a.val) (d) :
    ((cfg (F := F)).win 2).fill ((cfg (F := F)).grid.coords t) d ((((cfg (F := F)).win 2).blk t).view.read (Elt F) (A 2)) (ix3 0 a x) = A 2 (ix3 H R x) := by
  refine (Window.fill_xinj ((cfg (F := F)).win 2) ((cfg (F := F)).grid.coords t) d _ (ix3 0 a x)).trans ?_
  refine congrArg (A 2) (funext fun j => Fin.ext ?_)
  refine (Window.rect_emb_val_off ((cfg (F := F)).win 2) t (ix3 0 a x) j).trans ?_
  rw [idx2 t j]
  fin_cases j
  · exact (hH ▸ by show H.val * 1 + 0 = H.val; omega)
  · exact hR.symm
  · show 0 * 256 + x.val = x.val; omega

theorem held2 (n : ℕ) (h : n < (cfg (F := F)).N) (H : Fin 8) (R : Fin 8192) (a : Fin 2048) (x : Fin 256)
    (hH : H.val = ixK (grid0.coords ⟨n, h⟩) 0) (hR : R.val = ixK (grid0.coords ⟨n, h⟩) 1 * 2048 + a.val) :
    heldIn (cfg (F := F)) A 2 n h (ix3 0 a x) = A 2 (ix3 H R x) := by
  induction n with
  | zero =>
    refine (congrFun (heldIn_of_fetch A 2 ⟨0, h⟩ (((cfg (F := F)).win 2).fetch_in rfl _ |>.2 (.inl rfl))) _).trans ?_
    exact blk2 A ⟨0, h⟩ H R a x hH hR _
  | succ n ih =>
    by_cases hf : ((cfg (F := F)).win 2).fetch ⟨n + 1, h⟩ = true
    · refine (congrFun (heldIn_of_fetch A 2 ⟨n + 1, h⟩ hf) _).trans ?_
      exact blk2 A ⟨n + 1, h⟩ H R a x hH hR _
    · rw [Bool.not_eq_true] at hf
      refine (congrFun (heldIn_of_not_fetch A 2 n h hf) _).trans ?_
      have e : ((cfg (F := F)).win 2).index ⟨n + 1, h⟩ = ((cfg (F := F)).win 2).index ⟨n, Nat.lt_of_succ_lt h⟩ := by
        by_contra hne
        have := ((cfg (F := F)).win 2).fetch_in rfl ⟨n + 1, h⟩ |>.2 (.inr ⟨Nat.succ_pos n, hne⟩)
        rw [hf] at this; exact Bool.false_ne_true this
      have e' : ∀ a, ixK (grid0.coords ⟨n + 1, h⟩) a = ixK (grid0.coords ⟨n, Nat.lt_of_succ_lt h⟩) a := fun a =>
        (idx2 (F := F) ⟨n + 1, h⟩ a).symm.trans ((congrFun e a).trans (idx2 (F := F) ⟨n, Nat.lt_of_succ_lt h⟩ a))
      exact ih _ (hH.trans (e' 0)) (by rw [hR, e' 1])
theorem idx3 (t : Fin (cfg (F := F)).N) (a) : ((cfg (F := F)).win 3).index t a = ixQ (grid0.coords t) a := congrFun (tr3 (F := F) (grid0.coords t)) a

theorem blk3 (t : Fin (cfg (F := F)).N) (H : Fin 8) (R : Fin 8192) (a : Fin 2048) (x : Fin 128)
    (hH : H.val = ixQ (grid0.coords t) 0) (hR : R.val = ixQ (grid0.coords t) 1 * 2048 + a.val) (d) :
    ((cfg (F := F)).win 3).fill ((cfg (F := F)).grid.coords t) d ((((cfg (F := F)).win 3).blk t).view.read (Elt F) (A 3)) (ix3 0 a x) = A 3 (ix3 H R x) := by
  refine (Window.fill_xinj ((cfg (F := F)).win 3) ((cfg (F := F)).grid.coords t) d _ (ix3 0 a x)).trans ?_
  refine congrArg (A 3) (funext fun j => Fin.ext ?_)
  refine (Window.rect_emb_val_off ((cfg (F := F)).win 3) t (ix3 0 a x) j).trans ?_
  rw [idx3 t j]
  fin_cases j
  · exact (hH ▸ by show H.val * 1 + 0 = H.val; omega)
  · exact hR.symm
  · show 0 * 128 + x.val = x.val; omega

theorem held3 (n : ℕ) (h : n < (cfg (F := F)).N) (H : Fin 8) (R : Fin 8192) (a : Fin 2048) (x : Fin 128)
    (hH : H.val = ixQ (grid0.coords ⟨n, h⟩) 0) (hR : R.val = ixQ (grid0.coords ⟨n, h⟩) 1 * 2048 + a.val) :
    heldIn (cfg (F := F)) A 3 n h (ix3 0 a x) = A 3 (ix3 H R x) := by
  induction n with
  | zero =>
    refine (congrFun (heldIn_of_fetch A 3 ⟨0, h⟩ (((cfg (F := F)).win 3).fetch_in rfl _ |>.2 (.inl rfl))) _).trans ?_
    exact blk3 A ⟨0, h⟩ H R a x hH hR _
  | succ n ih =>
    by_cases hf : ((cfg (F := F)).win 3).fetch ⟨n + 1, h⟩ = true
    · refine (congrFun (heldIn_of_fetch A 3 ⟨n + 1, h⟩ hf) _).trans ?_
      exact blk3 A ⟨n + 1, h⟩ H R a x hH hR _
    · rw [Bool.not_eq_true] at hf
      refine (congrFun (heldIn_of_not_fetch A 3 n h hf) _).trans ?_
      have e : ((cfg (F := F)).win 3).index ⟨n + 1, h⟩ = ((cfg (F := F)).win 3).index ⟨n, Nat.lt_of_succ_lt h⟩ := by
        by_contra hne
        have := ((cfg (F := F)).win 3).fetch_in rfl ⟨n + 1, h⟩ |>.2 (.inr ⟨Nat.succ_pos n, hne⟩)
        rw [hf] at this; exact Bool.false_ne_true this
      have e' : ∀ a, ixQ (grid0.coords ⟨n + 1, h⟩) a = ixQ (grid0.coords ⟨n, Nat.lt_of_succ_lt h⟩) a := fun a =>
        (idx3 (F := F) ⟨n + 1, h⟩ a).symm.trans ((congrFun e a).trans (idx3 (F := F) ⟨n, Nat.lt_of_succ_lt h⟩ a))
      exact ih _ (hH.trans (e' 0)) (by rw [hR, e' 1])
theorem idx4 (t : Fin (cfg (F := F)).N) (a) : ((cfg (F := F)).win 4).index t a = ixQ (grid0.coords t) a := congrFun (tr4 (F := F) (grid0.coords t)) a

theorem blk4 (t : Fin (cfg (F := F)).N) (H : Fin 8) (R : Fin 8192) (a : Fin 2048) (x : Fin 256)
    (hH : H.val = ixQ (grid0.coords t) 0) (hR : R.val = ixQ (grid0.coords t) 1 * 2048 + a.val) (d) :
    ((cfg (F := F)).win 4).fill ((cfg (F := F)).grid.coords t) d ((((cfg (F := F)).win 4).blk t).view.read (Elt F) (A 4)) (ix3 0 a x) = A 4 (ix3 H R x) := by
  refine (Window.fill_xinj ((cfg (F := F)).win 4) ((cfg (F := F)).grid.coords t) d _ (ix3 0 a x)).trans ?_
  refine congrArg (A 4) (funext fun j => Fin.ext ?_)
  refine (Window.rect_emb_val_off ((cfg (F := F)).win 4) t (ix3 0 a x) j).trans ?_
  rw [idx4 t j]
  fin_cases j
  · exact (hH ▸ by show H.val * 1 + 0 = H.val; omega)
  · exact hR.symm
  · show 0 * 256 + x.val = x.val; omega

theorem held4 (n : ℕ) (h : n < (cfg (F := F)).N) (H : Fin 8) (R : Fin 8192) (a : Fin 2048) (x : Fin 256)
    (hH : H.val = ixQ (grid0.coords ⟨n, h⟩) 0) (hR : R.val = ixQ (grid0.coords ⟨n, h⟩) 1 * 2048 + a.val) :
    heldIn (cfg (F := F)) A 4 n h (ix3 0 a x) = A 4 (ix3 H R x) := by
  induction n with
  | zero =>
    refine (congrFun (heldIn_of_fetch A 4 ⟨0, h⟩ (((cfg (F := F)).win 4).fetch_in rfl _ |>.2 (.inl rfl))) _).trans ?_
    exact blk4 A ⟨0, h⟩ H R a x hH hR _
  | succ n ih =>
    by_cases hf : ((cfg (F := F)).win 4).fetch ⟨n + 1, h⟩ = true
    · refine (congrFun (heldIn_of_fetch A 4 ⟨n + 1, h⟩ hf) _).trans ?_
      exact blk4 A ⟨n + 1, h⟩ H R a x hH hR _
    · rw [Bool.not_eq_true] at hf
      refine (congrFun (heldIn_of_not_fetch A 4 n h hf) _).trans ?_
      have e : ((cfg (F := F)).win 4).index ⟨n + 1, h⟩ = ((cfg (F := F)).win 4).index ⟨n, Nat.lt_of_succ_lt h⟩ := by
        by_contra hne
        have := ((cfg (F := F)).win 4).fetch_in rfl ⟨n + 1, h⟩ |>.2 (.inr ⟨Nat.succ_pos n, hne⟩)
        rw [hf] at this; exact Bool.false_ne_true this
      have e' : ∀ a, ixQ (grid0.coords ⟨n + 1, h⟩) a = ixQ (grid0.coords ⟨n, Nat.lt_of_succ_lt h⟩) a := fun a =>
        (idx4 (F := F) ⟨n + 1, h⟩ a).symm.trans ((congrFun e a).trans (idx4 (F := F) ⟨n, Nat.lt_of_succ_lt h⟩ a))
      exact ih _ (hH.trans (e' 0)) (by rw [hR, e' 1])
end Cert.Flash
-- ==== Proof.Value.Points.lean ====
/-
  The result blocks after every grid point, as sums over the tiles visited so far.
-/
module

public import proofs.«01_k».proof.Proof.Value.Step
public import proofs.«01_k».proof.Proof.Value.Held

@[expose] public section

set_option maxRecDepth 16384

noncomputable section

namespace Cert.Flash

open Cert.KernelIdeal Cert.KernelIdeal.Gen
open Idealize.ShloMosaic
open Idealize.ShloMosaic.TcCoe
open Idealize.ShloMosaic.Pipeline
open Idealize.SL.Sem

/-- Row `a` of tile `i`. -/
def at4 (i : Fin 4) (a : Fin 2048) : Fin 8192 := ⟨2048 * i.val + a.val, by omega⟩

section
variable (AQ AK AV AD : FVec Ideal S8x8192x256 .bf16) (LAM : Fin 8 → Fin 8192 → EReal)

/-- The exponential of a score, zero where the key's block of 64 is after the query's. -/
def EX (h : Fin 8) (a b : Fin 8192) : EReal :=
  if b.val / 64 ≤ a.val / 64 then FloatOps.exp2 (F := Ideal) (φ := .f32) (∑ x : Fin 256, AQ (ix3 h a x) * AK (ix3 h b x) - LAM h a) else 0

/-- The product of a cotangent row with a value row. -/
def GAP (h : Fin 8) (a b : Fin 8192) : EReal := ∑ x : Fin 256, AD (ix3 h a x) * AV (ix3 h b x)

/-- The three summands. -/
def TQ (h : Fin 8) (a b : Fin 8192) (e : Fin 256) : EReal := EX AQ AK LAM h a b * GAP AV AD h a b * AK (ix3 h b e)
def TK (h : Fin 8) (a b : Fin 8192) (e : Fin 256) : EReal := EX AQ AK LAM h a b * GAP AV AD h a b * AQ (ix3 h a e)
def TV (h : Fin 8) (a b : Fin 8192) (e : Fin 128) : EReal := EX AQ AK LAM h a b * AD (ix3 h a ⟨e.val, by omega⟩)

end

variable {c : Dev nD} (A : Arrs (F := Ideal) c) (LAM : Fin 8 → Fin 8192 → EReal)
  (hL : ∀ (h : Fin 8) (R : Fin 8192) (x : Fin 128), A 3 (ix3 h R x) = LAM h R)

abbrev aQ : FVec Ideal S8x8192x256 .bf16 := A 0
abbrev aK : FVec Ideal S8x8192x256 .bf16 := A 1
abbrev aV : FVec Ideal S8x8192x256 .bf16 := A 2
abbrev aD : FVec Ideal S8x8192x256 .bf16 := A 4

abbrev bQ (t : Fin grid0.N) : FVec Ideal S1x2048x256 .bf16 := (ins A t.val t.isLt).q
abbrev bK (t : Fin grid0.N) : FVec Ideal S1x2048x256 .bf16 := (ins A t.val t.isLt).k
abbrev bV (t : Fin grid0.N) : FVec Ideal S1x2048x256 .bf16 := (ins A t.val t.isLt).v
abbrev bL (t : Fin grid0.N) : FVec Ideal S1x2048x128 .f32 := (ins A t.val t.isLt).l
abbrev bD (t : Fin grid0.N) : FVec Ideal S1x2048x256 .bf16 := (ins A t.val t.isLt).d

theorem bQ_at (t : Fin grid0.N) (a : Fin 2048) (x : Fin 256) : bQ A t (ix3 0 a x) = aQ A (ix3 (headOf t.val t.isLt) (at4 (QF (posOf t.val)) a) x) :=
  held0 A t.val t.isLt _ _ a x (pt_ixQ t).1.symm (by rw [(pt_ixQ t).2]; simp only [at4]; omega)
theorem bK_at (t : Fin grid0.N) (a : Fin 2048) (x : Fin 256) : bK A t (ix3 0 a x) = aK A (ix3 (headOf t.val t.isLt) (at4 (KF (posOf t.val)) a) x) :=
  held1 A t.val t.isLt _ _ a x (pt_ixK t).1.symm (by rw [(pt_ixK t).2]; simp only [at4]; omega)
theorem bV_at (t : Fin grid0.N) (a : Fin 2048) (x : Fin 256) : bV A t (ix3 0 a x) = aV A (ix3 (headOf t.val t.isLt) (at4 (KF (posOf t.val)) a) x) :=
  held2 A t.val t.isLt _ _ a x (pt_ixK t).1.symm (by rw [(pt_ixK t).2]; simp only [at4]; omega)
theorem bD_at (t : Fin grid0.N) (a : Fin 2048) (x : Fin 256) : bD A t (ix3 0 a x) = aD A (ix3 (headOf t.val t.isLt) (at4 (QF (posOf t.val)) a) x) :=
  held4 A t.val t.isLt _ _ a x (pt_ixQ t).1.symm (by rw [(pt_ixQ t).2]; simp only [at4]; omega)
include hL in
theorem bL_at (t : Fin grid0.N) (a : Fin 2048) (x : Fin 128) : bL A t (ix3 0 a x) = LAM (headOf t.val t.isLt) (at4 (QF (posOf t.val)) a) :=
  (held3 A t.val t.isLt _ _ a x (pt_ixQ t).1.symm (by rw [(pt_ixQ t).2]; simp only [at4]; omega)).trans (hL _ _ _)

theorem tiles : ∀ n : Fin 10, KF n ≤ QF n := by decide

/-- The point's exponentials and products are the head's. -/
theorem exAt_eq (t : Fin grid0.N) (a b : Fin 2048) :
    exAt (bQ A t) (bK A t) (fun a => LAM (headOf t.val t.isLt) (at4 (QF (posOf t.val)) a)) (posOf t.val) a b
      = EX (aQ A) (aK A) LAM (headOf t.val t.isLt) (at4 (QF (posOf t.val)) a) (at4 (KF (posOf t.val)) b) := by
  have hex : ex (bQ A t) (bK A t) (fun a => LAM (headOf t.val t.isLt) (at4 (QF (posOf t.val)) a)) a b
      = FloatOps.exp2 (F := Ideal) (φ := .f32) (∑ x : Fin 256, aQ A (ix3 (headOf t.val t.isLt) (at4 (QF (posOf t.val)) a) x) * aK A (ix3 (headOf t.val t.isLt) (at4 (KF (posOf t.val)) b) x)
          - LAM (headOf t.val t.isLt) (at4 (QF (posOf t.val)) a)) := by
    unfold ex
    simp only [bQ_at, bK_at]
  have hm : (at4 (KF (posOf t.val)) b).val / 64 = 32 * (KF (posOf t.val)).val + b.val / 64 := by simp only [at4]; omega
  have hm' : (at4 (QF (posOf t.val)) a).val / 64 = 32 * (QF (posOf t.val)).val + a.val / 64 := by simp only [at4]; omega
  unfold exAt EX
  rw [← hex, hm, hm']
  by_cases h : KF (posOf t.val) = QF (posOf t.val)
  · rw [if_pos h, h]
    unfold exM
    simp only [Nat.add_le_add_iff_left]
  · have h1 := tiles (posOf t.val)
    have h2 : (KF (posOf t.val)).val < (QF (posOf t.val)).val := by
      have := lt_of_le_of_ne h1 h; exact this
    rw [if_neg h, if_pos (by omega)]

theorem gap_eq (t : Fin grid0.N) (a b : Fin 2048) :
    gap (bV A t) (bD A t) a b = GAP (aV A) (aD A) (headOf t.val t.isLt) (at4 (QF (posOf t.val)) a) (at4 (KF (posOf t.val)) b) := by
  unfold gap GAP
  simp only [bV_at, bD_at]

/-- The result blocks after a point, at an index. -/
def oQ (t : ℕ) (h : t < grid0.N) (R : Fin 8192) (e : Fin 256) : EReal := (outs A t h).1 (ix3 0 R e)
def oK (t : ℕ) (h : t < grid0.N) (b : Fin 2048) (e : Fin 256) : EReal := (outs A t h).2.1 (ix3 0 b e)
def oV (t : ℕ) (h : t < grid0.N) (b : Fin 2048) (e : Fin 128) : EReal := (outs A t h).2.2 (ix3 0 b e)

/-- One tile's contribution. -/
def rowQ (H : Fin 8) (R : Fin 8192) (e : Fin 256) (j : Fin 4) : EReal := ∑ b : Fin 2048, TQ (aQ A) (aK A) (aV A) (aD A) LAM H R (at4 j b) e
def colK (H : Fin 8) (B : Fin 8192) (e : Fin 256) (i : Fin 4) : EReal := ∑ a : Fin 2048, TK (aQ A) (aK A) (aV A) (aD A) LAM H (at4 i a) B e
def colV (H : Fin 8) (B : Fin 8192) (e : Fin 128) (i : Fin 4) : EReal := ∑ a : Fin 2048, TV (aQ A) (aK A) (aD A) LAM H (at4 i a) B e

theorem at4_mod (R : Fin 8192) (i : Fin 4) (h : R.val / 2048 = i.val) : at4 i ⟨R.val % 2048, by omega⟩ = R := Fin.ext (by simp only [at4]; omega)

theorem diag_first : ∀ n m : Fin 10, KF n = QF n → m.val ≤ n.val → KF m = KF n → m = n := by decide
theorem off_succ : ∀ n n' : Fin 10, n.val = n'.val + 1 → KF n ≠ QF n → KF n = KF n' := by decide
theorem zero_diag : ∀ n : Fin 10, n.val = 0 → KF n = QF n := by decide

theorem sum_diag (f : Fin 10 → EReal) (n : Fin 10) (hn : KF n = QF n) : (∑ m : Fin 10, if m.val ≤ n.val ∧ KF m = KF n then f m else 0) = f n := by
  rw [Finset.sum_eq_single n]
  · simp
  · intro m _ hm
    rw [if_neg]; rintro ⟨h, h'⟩; exact hm (diag_first n m hn h h')
  · simp

include hL

/-- One point's step, for any result blocks it starts from. -/
theorem pt_Q (t : Fin grid0.N) (X : Outs Ideal) (R : Fin 8192) (e : Fin 256) :
    (stepPt (F := Ideal) (grid0.coords t) (ins A t.val t.isLt) X).1 (ix3 0 R e)
      = (if t.val % 10 = 0 then (0 : EReal) else X.1 (ix3 0 R e))
        + if R.val / 2048 = (QF (posOf t.val)).val then rowQ A LAM (headOf t.val t.isLt) R e (KF (posOf t.val)) else 0 := by
  refine (step_Q (bQ A t) (bK A t) (bV A t) (bD A t) (bL A t) _ (bL_at A LAM hL t) X.1 X.2.1 X.2.2 t R e).trans ?_
  refine congrArg₂ (fun x y : EReal => x + y) rfl ?_
  by_cases h : R.val / 2048 = (QF (posOf t.val)).val
  · rw [if_pos h, if_pos h]
    unfold rowQ TQ
    simp only [exAt_eq, gap_eq, bK_at, at4_mod R _ h]
  · rw [if_neg h, if_neg h]

theorem pt_K (t : Fin grid0.N) (X : Outs Ideal) (b : Fin 2048) (e : Fin 256) :
    (stepPt (F := Ideal) (grid0.coords t) (ins A t.val t.isLt) X).2.1 (ix3 0 b e)
      = (if KF (posOf t.val) = QF (posOf t.val) then (0 : EReal) else X.2.1 (ix3 0 b e))
        + colK A LAM (headOf t.val t.isLt) (at4 (KF (posOf t.val)) b) e (QF (posOf t.val)) := by
  refine (step_K (bQ A t) (bK A t) (bV A t) (bD A t) (bL A t) _ (bL_at A LAM hL t) X.1 X.2.1 X.2.2 t b e).trans ?_
  refine congrArg₂ (fun x y : EReal => x + y) rfl ?_
  unfold colK TK
  simp only [exAt_eq, gap_eq, bQ_at]

theorem pt_V (t : Fin grid0.N) (X : Outs Ideal) (b : Fin 2048) (e : Fin 128) :
    (stepPt (F := Ideal) (grid0.coords t) (ins A t.val t.isLt) X).2.2 (ix3 0 b e)
      = (if KF (posOf t.val) = QF (posOf t.val) then (0 : EReal) else X.2.2 (ix3 0 b e))
        + colV A LAM (headOf t.val t.isLt) (at4 (KF (posOf t.val)) b) e (QF (posOf t.val)) := by
  refine (step_V (bQ A t) (bK A t) (bV A t) (bD A t) (bL A t) _ (bL_at A LAM hL t) X.1 X.2.1 X.2.2 t b e).trans ?_
  refine congrArg₂ (fun x y : EReal => x + y) rfl ?_
  unfold colV TV
  simp only [exAt_eq, bD_at]

/-- The same steps, the point as a number. -/
theorem at_Q (t : ℕ) (h : t < grid0.N) (X : Outs Ideal) (R : Fin 8192) (e : Fin 256) :
    (stepPt (F := Ideal) (grid0.coords ⟨t, h⟩) (ins A t h) X).1 (ix3 0 R e)
      = (if t % 10 = 0 then (0 : EReal) else X.1 (ix3 0 R e))
        + if R.val / 2048 = (QF (posOf t)).val then rowQ A LAM (headOf t h) R e (KF (posOf t)) else 0 := pt_Q A LAM hL ⟨t, h⟩ X R e

theorem at_K (t : ℕ) (h : t < grid0.N) (X : Outs Ideal) (b : Fin 2048) (e : Fin 256) :
    (stepPt (F := Ideal) (grid0.coords ⟨t, h⟩) (ins A t h) X).2.1 (ix3 0 b e)
      = (if KF (posOf t) = QF (posOf t) then (0 : EReal) else X.2.1 (ix3 0 b e))
        + colK A LAM (headOf t h) (at4 (KF (posOf t)) b) e (QF (posOf t)) := pt_K A LAM hL ⟨t, h⟩ X b e

theorem at_V (t : ℕ) (h : t < grid0.N) (X : Outs Ideal) (b : Fin 2048) (e : Fin 128) :
    (stepPt (F := Ideal) (grid0.coords ⟨t, h⟩) (ins A t h) X).2.2 (ix3 0 b e)
      = (if KF (posOf t) = QF (posOf t) then (0 : EReal) else X.2.2 (ix3 0 b e))
        + colV A LAM (headOf t h) (at4 (KF (posOf t)) b) e (QF (posOf t)) := pt_V A LAM hL ⟨t, h⟩ X b e

/-- `dq` after a point: the tiles of the row visited so far. -/
theorem oQ_eq (t : ℕ) (h : t < grid0.N) (R : Fin 8192) (e : Fin 256) :
    oQ A t h R e = ∑ m : Fin 10, if m.val ≤ (posOf t).val ∧ R.val / 2048 = (QF m).val then rowQ A LAM (headOf t h) R e (KF m) else 0 := by
  induction t with
  | zero =>
    refine (at_Q A LAM hL 0 h _ R e).trans ?_
    rw [sum_le_zero (fun m => R.val / 2048 = (QF m).val) (fun m => rowQ A LAM (headOf 0 h) R e (KF m)) (posOf 0) rfl]
    rw [if_pos (Nat.zero_mod 10), zero_add]
  | succ t ih =>
    refine (at_Q A LAM hL (t + 1) h _ R e).trans ?_
    by_cases h0 : (t + 1) % 10 = 0
    · rw [sum_le_zero (fun m => R.val / 2048 = (QF m).val) (fun m => rowQ A LAM (headOf (t + 1) h) R e (KF m)) (posOf (t + 1)) h0]
      rw [if_pos h0, zero_add]
    · have hh : headOf (t + 1) h = headOf t (Nat.lt_of_succ_lt h) := Fin.ext (by simp only [headOf]; omega)
      rw [sum_le_succ (fun m => R.val / 2048 = (QF m).val) (fun m => rowQ A LAM (headOf (t + 1) h) R e (KF m)) (posOf (t + 1)) (posOf t)
        (by simp only [posOf]; omega)]
      rw [if_neg h0]
      refine congrArg (· + _) ?_
      rw [hh]
      exact ih (Nat.lt_of_succ_lt h)

/-- `dk` after a point: the tiles of the key's column visited so far. -/
theorem oK_eq (t : ℕ) (h : t < grid0.N) (b : Fin 2048) (e : Fin 256) :
    oK A t h b e = ∑ m : Fin 10, if m.val ≤ (posOf t).val ∧ KF m = KF (posOf t) then colK A LAM (headOf t h) (at4 (KF (posOf t)) b) e (QF m) else 0 := by
  induction t with
  | zero =>
    refine (at_K A LAM hL 0 h _ b e).trans ?_
    have hd : KF (posOf 0) = QF (posOf 0) := by decide
    rw [sum_diag (fun m => colK A LAM (headOf 0 h) (at4 (KF (posOf 0)) b) e (QF m)) (posOf 0) hd, if_pos hd, zero_add]
  | succ t ih =>
    refine (at_K A LAM hL (t + 1) h _ b e).trans ?_
    by_cases hd : KF (posOf (t + 1)) = QF (posOf (t + 1))
    · rw [sum_diag (fun m => colK A LAM (headOf (t + 1) h) (at4 (KF (posOf (t + 1))) b) e (QF m)) (posOf (t + 1)) hd, if_pos hd, zero_add]
    · have h0 : (t + 1) % 10 ≠ 0 := fun h' => hd (zero_diag _ h')
      have hp : (posOf (t + 1)).val = (posOf t).val + 1 := by simp only [posOf]; omega
      have hh : headOf (t + 1) h = headOf t (Nat.lt_of_succ_lt h) := Fin.ext (by simp only [headOf]; omega)
      rw [sum_le_succ (fun m => KF m = KF (posOf (t + 1))) (fun m => colK A LAM (headOf (t + 1) h) (at4 (KF (posOf (t + 1))) b) e (QF m)) (posOf (t + 1)) (posOf t) hp]
      rw [if_neg hd, if_pos rfl]
      refine congrArg (· + _) ?_
      rw [hh, off_succ _ _ hp hd]
      exact ih (Nat.lt_of_succ_lt h)

/-- `dv` after a point: the tiles of the key's column visited so far. -/
theorem oV_eq (t : ℕ) (h : t < grid0.N) (b : Fin 2048) (e : Fin 128) :
    oV A t h b e = ∑ m : Fin 10, if m.val ≤ (posOf t).val ∧ KF m = KF (posOf t) then colV A LAM (headOf t h) (at4 (KF (posOf t)) b) e (QF m) else 0 := by
  induction t with
  | zero =>
    refine (at_V A LAM hL 0 h _ b e).trans ?_
    have hd : KF (posOf 0) = QF (posOf 0) := by decide
    rw [sum_diag (fun m => colV A LAM (headOf 0 h) (at4 (KF (posOf 0)) b) e (QF m)) (posOf 0) hd, if_pos hd, zero_add]
  | succ t ih =>
    refine (at_V A LAM hL (t + 1) h _ b e).trans ?_
    by_cases hd : KF (posOf (t + 1)) = QF (posOf (t + 1))
    · rw [sum_diag (fun m => colV A LAM (headOf (t + 1) h) (at4 (KF (posOf (t + 1))) b) e (QF m)) (posOf (t + 1)) hd, if_pos hd, zero_add]
    · have h0 : (t + 1) % 10 ≠ 0 := fun h' => hd (zero_diag _ h')
      have hp : (posOf (t + 1)).val = (posOf t).val + 1 := by simp only [posOf]; omega
      have hh : headOf (t + 1) h = headOf t (Nat.lt_of_succ_lt h) := Fin.ext (by simp only [headOf]; omega)
      rw [sum_le_succ (fun m => KF m = KF (posOf (t + 1))) (fun m => colV A LAM (headOf (t + 1) h) (at4 (KF (posOf (t + 1))) b) e (QF m)) (posOf (t + 1)) (posOf t) hp]
      rw [if_neg hd, if_pos rfl]
      refine congrArg (· + _) ?_
      rw [hh, off_succ _ _ hp hd]
      exact ih (Nat.lt_of_succ_lt h)

end Cert.Flash
-- ==== Proof.Value.Arrays.lean ====
/-
  The three result arrays after the run, element by element: one sum over all the rows or columns of the head.
-/
module

public import proofs.«01_k».proof.Proof.Value.Points
public import proofs.«01_k».proof.Proof.Flash.Final

@[expose] public section

set_option maxRecDepth 16384

noncomputable section

namespace Cert.Flash

open Cert.KernelIdeal Cert.KernelIdeal.Gen
open Idealize.ShloMosaic
open Idealize.ShloMosaic.TcCoe
open Idealize.ShloMosaic.Pipeline
open Idealize.SL.Sem

/-- Four tiles of 2048 are the 8192 rows. -/
theorem sum4 (f : Fin 8192 → EReal) : ∑ R, f R = ∑ i : Fin 4, ∑ a : Fin 2048, f (at4 i a) := by
  rw [Fin.sum_univ_tiles 4 2048 rfl f]
  refine Finset.sum_congr rfl fun i _ => Finset.sum_congr rfl fun a _ => congrArg f (Fin.ext ?_)
  simp only [at4]; omega

variable {c : Dev nD} (A : Arrs (F := Ideal) c) (LAM : Fin 8 → Fin 8192 → EReal)
  (hL : ∀ (h : Fin 8) (R : Fin 8192) (x : Fin 128), A 3 (ix3 h R x) = LAM h R)

theorem EX_zero (q k : FVec Ideal S8x8192x256 .bf16) (h : Fin 8) (a b : Fin 8192) (hab : a.val / 64 < b.val / 64) : EX q k LAM h a b = 0 := if_neg (by omega)

/-- The arrays' closed forms. -/
def dQ (h : Fin 8) (R : Fin 8192) (e : Fin 256) : EReal := ∑ B : Fin 8192, TQ (aQ A) (aK A) (aV A) (aD A) LAM h R B e
def dK (h : Fin 8) (B : Fin 8192) (e : Fin 256) : EReal := ∑ R : Fin 8192, TK (aQ A) (aK A) (aV A) (aD A) LAM h R B e
def dV (h : Fin 8) (B : Fin 8192) (e : Fin 128) : EReal := ∑ R : Fin 8192, TV (aQ A) (aK A) (aD A) LAM h R B e

theorem dQ_eq (h : Fin 8) (R : Fin 8192) (e : Fin 256) (i : Fin 4) (hi : R.val / 2048 = i.val) :
    (∑ j : Fin 4, if j ≤ i then rowQ A LAM h R e j else 0) = dQ A LAM h R e := by
  unfold dQ
  rw [sum4]
  refine Finset.sum_congr rfl fun j _ => ?_
  by_cases hj : j ≤ i
  · rw [if_pos hj]; rfl
  · rw [if_neg hj]
    refine (Finset.sum_eq_zero fun b _ => ?_).symm
    have : i.val < j.val := not_le.1 hj
    unfold TQ
    rw [EX_zero LAM _ _ _ _ _ (by simp only [at4]; omega)]
    simp only [zero_mul]

theorem dK_eq (h : Fin 8) (b : Fin 2048) (e : Fin 256) (j : Fin 4) :
    (∑ i : Fin 4, if j ≤ i then colK A LAM h (at4 j b) e i else 0) = dK A LAM h (at4 j b) e := by
  unfold dK
  rw [sum4]
  refine Finset.sum_congr rfl fun i _ => ?_
  by_cases hj : j ≤ i
  · rw [if_pos hj]; rfl
  · rw [if_neg hj]
    refine (Finset.sum_eq_zero fun a _ => ?_).symm
    have : i.val < j.val := not_le.1 hj
    unfold TK
    rw [EX_zero LAM _ _ _ _ _ (by simp only [at4]; omega)]
    simp only [zero_mul]

theorem dV_eq (h : Fin 8) (b : Fin 2048) (e : Fin 128) (j : Fin 4) :
    (∑ i : Fin 4, if j ≤ i then colV A LAM h (at4 j b) e i else 0) = dV A LAM h (at4 j b) e := by
  unfold dV
  rw [sum4]
  refine Finset.sum_congr rfl fun i _ => ?_
  by_cases hj : j ≤ i
  · rw [if_pos hj]; rfl
  · rw [if_neg hj]
    refine (Finset.sum_eq_zero fun a _ => ?_).symm
    have : i.val < j.val := not_le.1 hj
    unfold TV
    rw [EX_zero LAM _ _ _ _ _ (by simp only [at4]; omega)]
    simp only [zero_mul]

def gQ : FVec Ideal S8x8192x256 .f32 := fun j => dQ A LAM (j 0) (j 1) (j 2)
def gK : FVec Ideal S8x8192x256 .f32 := fun j => dK A LAM (j 0) (j 1) (j 2)
def gV : FVec Ideal S8x8192x128 .f32 := fun j => dV A LAM (j 0) (j 1) (j 2)

theorem end_Q : ∀ t : Fin grid0.N, moved cc0_transform_5 t = true → (posOf t.val).val = 9 := by decide +kernel
theorem end_K : ∀ t : Fin grid0.N, moved ixK t = true → (posOf t.val).val = 9 ∨ ∃ n' : Fin 10, n'.val = (posOf t.val).val + 1 ∧ KF n' ≠ KF (posOf t.val) := by decide +kernel
theorem last_Q : ∀ h : Fin 8, ∃ t : Fin grid0.N, moved cc0_transform_5 t = true ∧ t.val / 10 = h.val := by decide +kernel
theorem last_K : ∀ h : Fin 8, ∀ j : Fin 4, ∃ t : Fin grid0.N, moved ixK t = true ∧ t.val / 10 = h.val ∧ KF (posOf t.val) = j := by decide +kernel
theorem pt_ix5 : ∀ t : Fin grid0.N, ∀ a : Fin 3, cc0_transform_5 (grid0.coords t) a = (![t.val / 10, 0, 0] : Fin 3 → ℕ) a := by decide +kernel

theorem out5 (t : Fin (cfg (F := Ideal)).N) (b : Fin 8192) (e : Fin 256) :
    (((cfg (F := Ideal)).win 5).blk t).view.emb (ix3 0 b e) = (ix3 (headOf t.val t.isLt) b e : S8x8192x256.Idx) := by
  refine funext fun j => Fin.ext ?_
  refine (Window.rect_emb_val_off ((cfg (F := Ideal)).win 5) t (ix3 0 b e) j).trans ?_
  rw [show ((cfg (F := Ideal)).win 5).index t j = _ from pt_ix5 t j]
  fin_cases j
  · show t.val / 10 * 1 + 0 = t.val / 10; omega
  · show 0 * 8192 + b.val = b.val; omega
  · show 0 * 256 + e.val = e.val; omega

theorem out6 (t : Fin (cfg (F := Ideal)).N) (b : Fin 2048) (e : Fin 256) :
    (((cfg (F := Ideal)).win 6).blk t).view.emb (ix3 0 b e) = (ix3 (headOf t.val t.isLt) (at4 (KF (posOf t.val)) b) e : S8x8192x256.Idx) := by
  refine funext fun j => Fin.ext ?_
  refine (Window.rect_emb_val_off ((cfg (F := Ideal)).win 6) t (ix3 0 b e) j).trans ?_
  rw [show ((cfg (F := Ideal)).win 6).index t j = _ from congrFun (tr6 (F := Ideal) (grid0.coords t)) j]
  fin_cases j
  · show ixK (grid0.coords t) 0 * 1 + 0 = t.val / 10
    rw [(pt_ixK t).1]; omega
  · show ixK (grid0.coords t) 1 * 2048 + b.val = 2048 * (KF (posOf t.val)).val + b.val
    rw [(pt_ixK t).2]; omega
  · show 0 * 256 + e.val = e.val; omega

theorem out7 (t : Fin (cfg (F := Ideal)).N) (b : Fin 2048) (e : Fin 128) :
    (((cfg (F := Ideal)).win 7).blk t).view.emb (ix3 0 b e) = (ix3 (headOf t.val t.isLt) (at4 (KF (posOf t.val)) b) e : S8x8192x128.Idx) := by
  refine funext fun j => Fin.ext ?_
  refine (Window.rect_emb_val_off ((cfg (F := Ideal)).win 7) t (ix3 0 b e) j).trans ?_
  rw [show ((cfg (F := Ideal)).win 7).index t j = _ from congrFun (tr7 (F := Ideal) (grid0.coords t)) j]
  fin_cases j
  · show ixK (grid0.coords t) 0 * 1 + 0 = t.val / 10
    rw [(pt_ixK t).1]; omega
  · show ixK (grid0.coords t) 1 * 2048 + b.val = 2048 * (KF (posOf t.val)).val + b.val
    rw [(pt_ixK t).2]; omega
  · show 0 * 128 + e.val = e.val; omega

theorem row0 {n1 n2 : ℕ} (y : (⟨3, ![1, n1, n2]⟩ : Shape).Idx) : y = ix3 0 (y 1) (y 2) := by
  refine funext fun j => ?_
  fin_cases j
  · exact Subsingleton.elim (α := Fin 1) _ _
  · rfl
  · rfl

include hL

theorem fl5 (t : Fin (cfg (F := Ideal)).N) (hf : moved cc0_transform_5 t = true) (y : S1x8192x256.Idx) :
    (outs A t.val t.isLt).1 y = gQ A LAM ((((cfg (F := Ideal)).win 5).blk t).view.emb y) := by
  rw [row0 y]
  refine Eq.trans ?_ (congrArg (gQ A LAM) (out5 t (y 1) (y 2))).symm
  refine (oQ_eq A LAM hL t.val t.isLt (y 1) (y 2)).trans ?_
  rw [end_Q t hf]
  have hi : (y 1).val / 2048 < 4 := by have := (y 1).isLt; change (y 1).val < 8192 at this; omega
  refine Eq.trans (Finset.sum_congr rfl fun m _ => ?_) ((sum_tile_Q (rowQ A LAM (headOf t.val t.isLt) (y 1) (y 2)) ⟨(y 1).val / 2048, hi⟩).trans
    (dQ_eq A LAM (headOf t.val t.isLt) (y 1) (y 2) ⟨(y 1).val / 2048, hi⟩ rfl))
  have : (y 1).val / 2048 = (QF m).val ↔ QF m = ⟨(y 1).val / 2048, hi⟩ := ⟨fun h => Fin.ext h.symm, fun h => by rw [h]⟩
  simp only [this]

theorem arr5 : (dat A).arrAt 5 (cfg (F := Ideal)).N = gQ A LAM := by
  refine (dat A).arrAt_eq_of_cover 5 (gQ A LAM) (fun t hf => funext fun y => fl5 A LAM hL t hf y) fun i => ?_
  obtain ⟨t, ht, hh⟩ := last_Q (i 0)
  refine ⟨t, ht, ?_⟩
  have e : i = (((cfg (F := Ideal)).win 5).blk t).view.emb (ix3 0 (i 1) (i 2)) := by
    refine Eq.trans ?_ (out5 t (i 1) (i 2)).symm
    refine funext fun j => ?_
    fin_cases j
    · exact Fin.ext hh.symm
    · rfl
    · rfl
  rw [e]
  exact View.emb_mem_set _ _

theorem fl6 (t : Fin (cfg (F := Ideal)).N) (hf : moved ixK t = true) (y : S1x2048x256.Idx) :
    (outs A t.val t.isLt).2.1 y = gK A LAM ((((cfg (F := Ideal)).win 6).blk t).view.emb y) := by
  rw [row0 y]
  refine Eq.trans ?_ (congrArg (gK A LAM) (out6 t (y 1) (y 2))).symm
  refine (oK_eq A LAM hL t.val t.isLt (y 1) (y 2)).trans ?_
  exact (sum_tile_K (colK A LAM (headOf t.val t.isLt) (at4 (KF (posOf t.val)) (y 1)) (y 2)) (posOf t.val) (end_K t hf)).trans
    (dK_eq A LAM (headOf t.val t.isLt) (y 1) (y 2) (KF (posOf t.val)))

theorem arr6 : (dat A).arrAt 6 (cfg (F := Ideal)).N = gK A LAM := by
  refine (dat A).arrAt_eq_of_cover 6 (gK A LAM) (fun t hf => funext fun y => fl6 A LAM hL t ((flush6 t).symm.trans hf) y) fun i => ?_
  have hi : (i 1).val < 8192 := (i 1).isLt
  obtain ⟨t, ht, hh, hk⟩ := last_K (i 0) ⟨(i 1).val / 2048, by omega⟩
  refine ⟨t, (flush6 t).trans ht, ?_⟩
  have e : i = (((cfg (F := Ideal)).win 6).blk t).view.emb (ix3 0 ⟨(i 1).val % 2048, by omega⟩ (i 2)) := by
    refine Eq.trans ?_ (out6 t ⟨(i 1).val % 2048, by omega⟩ (i 2)).symm
    rw [hk]
    refine funext fun j => ?_
    fin_cases j
    · exact Fin.ext hh.symm
    · refine Fin.ext ?_
      show (i 1).val = 2048 * ((i 1).val / 2048) + (i 1).val % 2048
      omega
    · rfl
  rw [e]
  exact View.emb_mem_set _ _

theorem fl7 (t : Fin (cfg (F := Ideal)).N) (hf : moved ixK t = true) (y : S1x2048x128.Idx) :
    (outs A t.val t.isLt).2.2 y = gV A LAM ((((cfg (F := Ideal)).win 7).blk t).view.emb y) := by
  rw [row0 y]
  refine Eq.trans ?_ (congrArg (gV A LAM) (out7 t (y 1) (y 2))).symm
  refine (oV_eq A LAM hL t.val t.isLt (y 1) (y 2)).trans ?_
  exact (sum_tile_K (colV A LAM (headOf t.val t.isLt) (at4 (KF (posOf t.val)) (y 1)) (y 2)) (posOf t.val) (end_K t hf)).trans
    (dV_eq A LAM (headOf t.val t.isLt) (y 1) (y 2) (KF (posOf t.val)))

theorem arr7 : (dat A).arrAt 7 (cfg (F := Ideal)).N = gV A LAM := by
  refine (dat A).arrAt_eq_of_cover 7 (gV A LAM) (fun t hf => funext fun y => fl7 A LAM hL t ((flush7 t).symm.trans hf) y) fun i => ?_
  have hi : (i 1).val < 8192 := (i 1).isLt
  obtain ⟨t, ht, hh, hk⟩ := last_K (i 0) ⟨(i 1).val / 2048, by omega⟩
  refine ⟨t, (flush7 t).trans ht, ?_⟩
  have e : i = (((cfg (F := Ideal)).win 7).blk t).view.emb (ix3 0 ⟨(i 1).val % 2048, by omega⟩ (i 2)) := by
    refine Eq.trans ?_ (out7 t ⟨(i 1).val % 2048, by omega⟩ (i 2)).symm
    rw [hk]
    refine funext fun j => ?_
    fin_cases j
    · exact Fin.ext hh.symm
    · refine Fin.ext ?_
      show (i 1).val = 2048 * ((i 1).val / 2048) + (i 1).val % 2048
      omega
    · rfl
  rw [e]
  exact View.emb_mem_set _ _

end Cert.Flash
-- ==== Proof.Value.KVal.lean ====
/-
  The kernel's results on real inputs.
-/
module

public import proofs.«01_k».proof.Proof.Value.KAt
public import proofs.«01_k».proof.Proof.Value.RefVal
public import proofs.«01_k».proof.Proof.Value.Arrays

@[expose] public section

set_option maxRecDepth 16384

noncomputable section

namespace Cert.Flash

open Cert.RefAt Cert.Maths Cert.KernelIdeal Cert.KernelIdeal.Gen
open Idealize.ShloMosaic
open Idealize.ShloMosaic.TcCoe
open Idealize.SL.Sem

theorem two_word : Ideal.ofBits .f32 0x40000000#32 = ((2 : ℝ) : EReal) := by
  simp [Ideal.ofBits, Ideal.ieee, -EReal.coe_mul]; try norm_num

theorem minus_word : Ideal.ofBits .f32 0xBF800000#32 = ((-1 : ℝ) : EReal) := by
  simp [Ideal.ofBits, Ideal.ieee, -EReal.coe_mul]; try norm_num

theorem ln_of : kLn ix0 = ((Real.log 2 : ℝ) : EReal) := by
  rw [kLn_at, two_word]
  show Ideal.log ((2 : ℝ) : EReal) = _
  rw [Ideal.log_coe, if_neg (by norm_num)]

theorem scale_real : ∃ s : ℝ, Ideal.ofBits .f32 0x3D93CD3A#32 = (s : EReal) := by
  refine ⟨(Ideal.ofBits .f32 0x3D93CD3A#32).toReal, (EReal.coe_toReal ?_ ?_).symm⟩ <;> simp [Ideal.ofBits, Ideal.ieee, -EReal.coe_mul]

variable (q k : FVec Ideal S8x8192x192 .f32) (v o : FVec Ideal S8x8192x128 .f32)
  (Q K : Fin 8 → Fin 8192 → Fin 192 → ℝ) (V O : Fin 8 → Fin 8192 → Fin 128 → ℝ) (s : ℝ)
  (hs : Ideal.ofBits .f32 0x3D93CD3A#32 = (s : EReal))
  (hq : ∀ h a x, q (ix3 h a x) = ((Q h a x : ℝ) : EReal)) (hk : ∀ h a x, k (ix3 h a x) = ((K h a x : ℝ) : EReal))
  (hv : ∀ h a x, v (ix3 h a x) = ((V h a x : ℝ) : EReal)) (ho : ∀ h a x, o (ix3 h a x) = ((O h a x : ℝ) : EReal))

include hs hq hk in
theorem kExp_scaled (h : Fin 8) (a : Fin 8192) : ∃ t : ℝ, kTop (rLog q k) (ix2 h a) = (t : EReal) ∧ Scaled Q K s (kExp (rLog q k)) h a t := by
  have hl := log_of q k Q K s hs hq hk h a
  obtain ⟨t, ht⟩ := kTop_real (rLog q k) h a (fun b => log_ne_top _ _ _ (hl b)) a (log_ne_bot _ _ _ (hl a) (le_refl _))
  refine ⟨t, ht, fun b => ?_⟩
  rw [kExp_at, ht]
  exact exp_of (Q h) (K h) s _ a b (hl b) t

/-- The third window's entry: the denominator's base-2 logarithm. -/
def LA (h : Fin 8) (a : Fin 8192) : EReal := ((lam (Q h) (K h) s a : ℝ) : EReal)

include hs hq hk in
theorem lse_of (h : Fin 8) (a : Fin 8192) (x : Fin 128) : kLse (rLog q k) (kExp (rLog q k)) (ix3 h a x) = LA Q K s h a := by
  obtain ⟨t, ht, he⟩ := kExp_scaled q k Q K s hs hq hk h a
  rw [kLse_at, ht, ln_of, den_scaled Q K s _ h a t he]
  have hp : ¬ (W (Q h) (K h) s a * Real.exp (-t)) ≤ 0 := not_le.2 (mul_pos (W_pos _ _ _ a) (Real.exp_pos _))
  have e : FloatOps.log (F := Ideal) (φ := .f32) (((W (Q h) (K h) s a * Real.exp (-t) : ℝ) : EReal)) = ((Real.log (W (Q h) (K h) s a * Real.exp (-t)) : ℝ) : EReal) := by
    show Ideal.log _ = _
    rw [Ideal.log_coe, if_neg hp]
  rw [e, ← EReal.coe_add, div_of log_two, lam_of]; rfl

include hs hq hk hv ho in
theorem del_of (h : Fin 8) (a : Fin 8192) : kDel (kExp (rLog q k)) v o (ix3 h a 0) = ((dl (Q h) (K h) (V h) (O h) s a : ℝ) : EReal) := by
  obtain ⟨t, ht, he⟩ := kExp_scaled q k Q K s hs hq hk h a
  rw [kDel_at, sum_of _ (fun x => O h a x * ∑ b, P (Q h) (K h) s a b * V h b x) fun x => ?_, dl_eq]
  rw [kOut_at, ho, sum_of _ (fun b => P (Q h) (K h) s a b * V h b x) fun b => ?_, EReal.coe_mul]
  rw [weight_scaled Q K s _ h a b t he, hv, EReal.coe_mul]

include hs hq hk in
theorem EX_of (h : Fin 8) (a b : Fin 8192) : EX (kQ q) (kPad k) (LA Q K s) h a b = ((P (Q h) (K h) s a b : ℝ) : EReal) := by
  unfold EX
  by_cases hm : b.val / 64 ≤ a.val / 64
  · rw [if_pos hm]
    have e : ∑ x : Fin 256, kQ q (ix3 h a x) * kPad k (ix3 h b x) = ((∑ x, Q h a x * (s / Real.log 2) * K h b x : ℝ) : EReal) := by
      refine (sum_pad (n := 192) (k := 64) (fun x => ((Q h a x * (s / Real.log 2) * K h b x : ℝ) : EReal)) _ (fun x => ?_) fun x hx => ?_).trans (sum_coe _)
      · have hx := x.isLt
        rw [kQ_at, kPad_at, dif_pos hx, dif_pos hx, hs, ln_of, div_of log_two]
        simp only [Fin.eta]
        rw [hq, hk, EReal.coe_mul, EReal.coe_mul]
      · rw [kPad_at, dif_neg (not_lt.2 hx), mul_zero]
    rw [e]
    unfold LA
    rw [← EReal.coe_sub]
    show Ideal.exp2 _ = _
    rw [Ideal.exp2_coe, pow_of _ _ _ _ _ hm]
  · rw [if_neg hm, P_zero _ _ _ _ _ hm]; rfl

include hv ho in
theorem GAP_of (d : FVec Ideal S8x8192x1 .f32) (δ : ℝ) (h : Fin 8) (a b : Fin 8192) (hd : d (ix3 h a 0) = (δ : EReal)) :
    GAP (kV v) (kDo d o) h a b = ((D (V h) (O h) a b - δ : ℝ) : EReal) := by
  unfold GAP
  refine (sum_split (fun x => ((O h a x * V h b x : ℝ) : EReal)) ((δ * (-1) : ℝ) : EReal) _ (fun x => ?_) ?_ fun x hx => ?_).trans ?_
  · have hx := x.isLt
    rw [kDo_at, kV_at, dif_pos hx, dif_pos hx]
    simp only [Fin.eta]
    rw [ho, hv, EReal.coe_mul]
  · rw [kDo_at, kV_at, dif_neg (by simp), dif_neg (by simp), if_pos rfl, hd, minus_word, EReal.coe_mul]
  · have h1 : ¬ x.val < 128 := by omega
    have h2 : ¬ x.val = 128 := by omega
    rw [kDo_at, dif_neg h1, if_neg h2, hd, ← EReal.coe_sub, sub_self, EReal.coe_zero, ite_self, zero_mul]
  · rw [sum_coe, ← EReal.coe_add]
    refine congrArg _ ?_
    unfold D; ring

variable {c : Dev nD} (A : Arrs (F := Ideal) c)
  (h0 : A 0 = kQ q) (h1 : A 1 = kPad k) (h2 : A 2 = kV v) (h4 : A 4 = kDo (kDel (kExp (rLog q k)) v o) o)

include hs hq hk hv ho h0 h1 h2 h4

theorem dV_of (h : Fin 8) (b : Fin 8192) (x : Fin 128) : dV A (LA Q K s) h b x = ((∑ a, P (Q h) (K h) s a b * O h a x : ℝ) : EReal) := by
  unfold dV TV
  refine sum_of _ _ fun a => ?_
  show EX (A 0) (A 1) (LA Q K s) h a b * A 4 (ix3 h a ⟨x.val, _⟩) = _
  rw [h0, h1, h4, EX_of q k Q K s hs hq hk, kDo_at, dif_pos x.isLt]
  simp only [Fin.eta]
  rw [ho, EReal.coe_mul]

theorem dQ_of (h : Fin 8) (a : Fin 8192) (x : Fin 192) (hx : x.val < 256) : dQ A (LA Q K s) h a ⟨x.val, hx⟩
    = ((∑ b, P (Q h) (K h) s a b * (D (V h) (O h) a b - dl (Q h) (K h) (V h) (O h) s a) * K h b x : ℝ) : EReal) := by
  unfold dQ TQ
  refine sum_of _ _ fun b => ?_
  show EX (A 0) (A 1) (LA Q K s) h a b * GAP (A 2) (A 4) h a b * A 1 (ix3 h b _) = _
  rw [h0, h1, h2, h4, EX_of q k Q K s hs hq hk, GAP_of v o V O hv ho _ _ h a b (del_of q k v o Q K V O s hs hq hk hv ho h a), kPad_at, dif_pos x.isLt]
  simp only [Fin.eta]
  rw [hk, EReal.coe_mul, EReal.coe_mul]

theorem dK_of (h : Fin 8) (b : Fin 8192) (x : Fin 192) (hx : x.val < 256) : dK A (LA Q K s) h b ⟨x.val, hx⟩
    = ((∑ a, P (Q h) (K h) s a b * (D (V h) (O h) a b - dl (Q h) (K h) (V h) (O h) s a) * (Q h a x * (s / Real.log 2)) : ℝ) : EReal) := by
  unfold dK TK
  refine sum_of _ _ fun a => ?_
  show EX (A 0) (A 1) (LA Q K s) h a b * GAP (A 2) (A 4) h a b * A 0 (ix3 h a _) = _
  rw [h0, h1, h2, h4, EX_of q k Q K s hs hq hk, GAP_of v o V O hv ho _ _ h a b (del_of q k v o Q K V O s hs hq hk hv ho h a), kQ_at, dif_pos x.isLt, hs, ln_of, div_of log_two]
  simp only [Fin.eta]
  rw [hq, EReal.coe_mul, EReal.coe_mul, EReal.coe_mul]

end Cert.Flash
-- ==== Proof.Value.Finite.lean ====
/-
  The precondition read: every element of the four arguments is a real number.
-/
module

public import proofs.«01_k».proof.Proof.Gen.KernelIdeal
public import proofs.«01_k».proof.Proof.Gen.Pre_finite
public import proofs.«01_k».proof.Defs
public import Idealize.ShloMosaic.Lib.Pointwise

@[expose] public section

set_option maxRecDepth 16384

noncomputable section

namespace Cert.Finite

open Idealize.ShloMosaic
open Idealize.ShloMosaic.TcCoe
open Idealize.SL.Sem

theorem and_one : ∀ a b : BitVec 1, IntOp.andi a b = 1#1 → a = 1#1 ∧ b = 1#1 := by decide

theorem foldl_one {ι : Type} (x : ι → BitVec 1) : ∀ (l : List ι) (r : BitVec 1), l.foldl (fun r i => IntOp.andi r (x i)) r = 1#1 → r = 1#1 ∧ ∀ i ∈ l, x i = 1#1
  | [], r, h => ⟨h, by simp⟩
  | i :: l, r, h => by
    obtain ⟨h1, h2⟩ := foldl_one x l _ h
    obtain ⟨h3, h4⟩ := and_one _ _ h1
    refine ⟨h3, fun j hj => ?_⟩
    rcases List.mem_cons.1 hj with rfl | hj
    · exact h4
    · exact h2 j hj

theorem all_one {s t u : Shape} {axes : List (Fin s.rank)} (ht : Subsingleton t.Idx) (x : IVec s 1) (c : IVec u 1) (h : s.ReducesTo axes t) (hu : 0 < u.numel) (j : t.Idx)
    (hj : Host.reduce IntOp.andi x c h hu j = 1#1) (i : s.Idx) : x i = 1#1 := by
  rw [Host.reduce_eq_foldl] at hj
  refine (foldl_one x _ _ hj).2 i ?_
  refine List.mem_filter.2 ⟨List.mem_map.2 ⟨s.rowMajor i, List.mem_finRange _, by simp⟩, ?_⟩
  simpa using Subsingleton.elim (α := t.Idx) _ _

theorem real_of {s : Shape} (x y : FVec Ideal s .f32) (i : s.Idx) (hy : y i = Ideal.ofBits .f32 0x7F800000#32) (h : cmpf .olt (Host.absf x) y i = 1#1) : ∃ r : ℝ, x i = (r : EReal) := by
  have h1 : BitVec.ofBool (decide (max (x i : EReal) (-(x i : EReal)) < y i)) = 1#1 := h
  have ht : Ideal.ofBits .f32 0x7F800000#32 = (⊤ : EReal) := by simp [Ideal.ofBits, Ideal.ieee]
  rw [hy, ht] at h1
  have h2 : max (x i : EReal) (-(x i : EReal)) < ⊤ := by
    by_contra hc
    rw [decide_eq_false hc] at h1
    exact absurd h1 (by decide)
  have h3 : (x i : EReal) ≠ ⊤ := fun e => by rw [e] at h2; simp at h2
  have h4 : (x i : EReal) ≠ ⊥ := fun e => by rw [e] at h2; simp at h2
  exact ⟨_, (EReal.coe_toReal h3 h4).symm⟩

open Cert.Pre_finite Cert.Pre_finite.Gen

theorem scalar_idx : Subsingleton S_.Idx := ⟨fun a b => funext fun i => i.elim0⟩

theorem all_real (a0 a1 : FVec Ideal S8x8192x192 .f32) (a2 a3 : FVec Ideal S8x8192x128 .f32) (h : fn (F := Ideal) a0 a1 a2 a3 = fun _ => 1#1) :
    (∀ i, ∃ r : ℝ, a0 i = (r : EReal)) ∧ (∀ i, ∃ r : ℝ, a1 i = (r : EReal)) ∧ (∀ i, ∃ r : ℝ, a2 i = (r : EReal)) ∧ (∀ i, ∃ r : ℝ, a3 i = (r : EReal)) := by
  have h0 := congrFun h ix0
  obtain ⟨h13, h17⟩ := and_one _ _ h0
  obtain ⟨h8, h12⟩ := and_one _ _ h13
  obtain ⟨h3, h7⟩ := and_one _ _ h8
  beta_reduce at h3 h7 h12 h17
  refine ⟨fun i => ?_, fun i => ?_, fun i => ?_, fun i => ?_⟩
  · have t := all_one scalar_idx _ _ reducesTo_S8x8192x192_S_d0_1_2 h_S_ ix0 h3 i
    exact real_of a0 _ i (by rfl) t
  · have t := all_one scalar_idx _ _ reducesTo_S8x8192x192_S_d0_1_2 h_S_ ix0 h7 i
    exact real_of a1 _ i (by rfl) t
  · have t := all_one scalar_idx _ _ reducesTo_S8x8192x128_S_d0_1_2 h_S_ ix0 h12 i
    exact real_of a2 _ i (by rfl) t
  · have t := all_one scalar_idx _ _ reducesTo_S8x8192x128_S_d0_1_2 h_S_ ix0 h17 i
    exact real_of a3 _ i (by rfl) t

end Cert.Finite
-- ==== Proof.Value.Close.lean ====
/-
  On real inputs the kernel's three results are the reference's.
-/
module

public import proofs.«01_k».proof.Proof.Value.KVal
public import proofs.«01_k».proof.Proof.Value.Finite
public import proofs.«01_k».proof.Proof.Flash.Final
public import proofs.«01_k».proof.Proof.Gen.ReferenceIdeal.Run

@[expose] public section

set_option maxRecDepth 16384

noncomputable section

namespace Cert.Flash

open Cert.RefAt Cert.Maths Cert.KernelIdeal Cert.KernelIdeal.Gen
open Idealize.ShloMosaic
open Idealize.ShloMosaic.TcCoe
open Idealize.SL.Sem

theorem eq3 {n0 n1 n2 : ℕ} (i : (⟨3, ![n0, n1, n2]⟩ : Shape).Idx) : i = ix3 (i 0) (i 1) (i 2) := by
  refine funext fun j => ?_
  fin_cases j <;> rfl

theorem ext3 {n0 n1 n2 : ℕ} {f g : FVec Ideal (⟨3, ![n0, n1, n2]⟩ : Shape) .f32}
    (h : ∀ (a : Fin n0) (b : Fin n1) (e : Fin n2), f (ix3 a b e) = g (ix3 a b e)) : f = g := by
  refine funext fun i => ?_
  rw [eq3 i]
  exact h (i 0) (i 1) (i 2)

/-- The launch's logarithms of the sums, at real inputs. -/
theorem lse_arr {c : Dev nD} (A : Arrs (F := Ideal) c) (q k : FVec Ideal S8x8192x192 .f32) (Q K : Fin 8 → Fin 8192 → Fin 192 → ℝ) (s : ℝ)
    (hs : Ideal.ofBits .f32 0x3D93CD3A#32 = (s : EReal))
    (hq : ∀ h a x, q (ix3 h a x) = ((Q h a x : ℝ) : EReal)) (hk : ∀ h a x, k (ix3 h a x) = ((K h a x : ℝ) : EReal))
    (h3 : A 3 = kLse (rLog q k) (kExp (rLog q k))) (h : Fin 8) (R : Fin 8192) (x : Fin 128) : A 3 (ix3 h R x) = LA Q K s h R := by
  rw [h3]
  exact lse_of q k Q K s hs hq hk h R x

variable (m : (ℓ : Loc nD τ sig) → Buf (Elt Ideal) ℓ) (c : Dev nD)

theorem arr_0 : arrs m c 0 = kQ (mq m c) := at_q m c
theorem arr_1 : arrs m c 1 = kPad (mk m c) := at_k m c
theorem arr_2 : arrs m c 2 = kV (mv m c) := at_v m c
theorem arr_4 : arrs m c 4 = kDo (kDel (kExp (rLog (mq m c) (mk m c))) (mv m c) (mo m c)) (mo m c) := at_do m c
theorem arr_3 : arrs m c 3 = kLse (rLog (mq m c) (mk m c)) (kExp (rLog (mq m c) (mk m c))) := at_lse m c

variable (hq : ∀ i, ∃ r : ℝ, mq m c i = (r : EReal)) (hk : ∀ i, ∃ r : ℝ, mk m c i = (r : EReal))
  (hv : ∀ i, ∃ r : ℝ, mv m c i = (r : EReal)) (ho : ∀ i, ∃ r : ℝ, mo m c i = (r : EReal))

theorem choose3 {n : ℕ} (x : FVec Ideal (⟨3, ![8, 8192, n]⟩ : Shape) .f32) (h : ∀ i, ∃ r : ℝ, x i = (r : EReal)) :
    ∃ X : Fin 8 → Fin 8192 → Fin n → ℝ, ∀ a b e, x (ix3 a b e) = ((X a b e : ℝ) : EReal) := by
  choose X hX using h
  exact ⟨fun a b e => X (ix3 a b e), fun a b e => hX _⟩

include hq hk hv ho

/-- The gradient of v. -/
theorem same_v : resArr m c 7 = rDV (rExp (rLog (mq m c) (mk m c))) (mo m c) := by
  obtain ⟨Q, hQ⟩ := choose3 _ hq
  obtain ⟨K, hK⟩ := choose3 _ hk
  obtain ⟨V, hV⟩ := choose3 _ hv
  obtain ⟨O, hO⟩ := choose3 _ ho
  obtain ⟨s, hs⟩ := scale_real
  have hL := lse_arr (arrs m c) _ _ Q K s hs hQ hK (arr_3 m c)
  refine (arr7 (arrs m c) _ hL).trans (funext fun i => ?_)
  rw [eq3 i]
  exact (dV_of _ _ _ _ Q K V O s hs hQ hK hV hO (arrs m c) (arr_0 m c) (arr_1 m c) (arr_2 m c) (arr_4 m c) (i 0) (i 1) (i 2)).trans
    (DV_of _ _ _ _ Q K V O s hs hQ hK hV hO (i 0) (i 1) (i 2)).symm

/-- The gradient of q. -/
theorem same_q : kScaled (resArr m c 5) (constant S_ .f32 0x3D93CD3A#32) = rDQ (rDS (rExp (rLog (mq m c) (mk m c))) (rDP (mv m c) (mo m c))) (mk m c) := by
  obtain ⟨Q, hQ⟩ := choose3 _ hq
  obtain ⟨K, hK⟩ := choose3 _ hk
  obtain ⟨V, hV⟩ := choose3 _ hv
  obtain ⟨O, hO⟩ := choose3 _ ho
  obtain ⟨s, hs⟩ := scale_real
  have hL := lse_arr (arrs m c) _ _ Q K s hs hQ hK (arr_3 m c)
  have h5 : resArr m c 5 = gQ (arrs m c) (LA Q K s) := arr5 (arrs m c) _ hL
  rw [h5]
  refine ext3 fun h a e => ?_
  refine Eq.trans ?_ (DQ_of _ _ _ _ Q K V O s hs hQ hK hV hO h a e).symm
  refine (kScaled_at _ _ h a e).trans ?_
  refine (congrArg₂ (fun x y : EReal => x * y) (dQ_of _ _ _ _ Q K V O s hs hQ hK hV hO (arrs m c) (arr_0 m c) (arr_1 m c) (arr_2 m c) (arr_4 m c) h a e _) hs).trans ?_
  rw [← EReal.coe_mul]
  refine congrArg _ ?_
  rw [Finset.sum_mul]
  refine Finset.sum_congr rfl fun b _ => ?_
  ring

/-- The gradient of k. -/
theorem same_k : kScaled (resArr m c 6) kLn = rDK (rDS (rExp (rLog (mq m c) (mk m c))) (rDP (mv m c) (mo m c))) (mq m c) := by
  obtain ⟨Q, hQ⟩ := choose3 _ hq
  obtain ⟨K, hK⟩ := choose3 _ hk
  obtain ⟨V, hV⟩ := choose3 _ hv
  obtain ⟨O, hO⟩ := choose3 _ ho
  obtain ⟨s, hs⟩ := scale_real
  have hL := lse_arr (arrs m c) _ _ Q K s hs hQ hK (arr_3 m c)
  have h6 : resArr m c 6 = gK (arrs m c) (LA Q K s) := arr6 (arrs m c) _ hL
  rw [h6]
  refine ext3 fun h a e => ?_
  refine Eq.trans ?_ (DK_of _ _ _ _ Q K V O s hs hQ hK hV hO h a e).symm
  refine (kScaled_at _ _ h a e).trans ?_
  refine (congrArg₂ (fun x y : EReal => x * y) (dK_of _ _ _ _ Q K V O s hs hQ hK hV hO (arrs m c) (arr_0 m c) (arr_1 m c) (arr_2 m c) (arr_4 m c) h a e _) ln_of).trans ?_
  rw [← EReal.coe_mul]
  refine congrArg _ ?_
  rw [Finset.sum_mul]
  refine Finset.sum_congr rfl fun b _ => ?_
  have := log_two
  field_simp

end Cert.Flash
-- ==== Proof.Value.Results.lean ====
/-
  The two programs' results agree.
-/
module

public import proofs.«01_k».proof.Defs
public import proofs.«01_k».proof.Proof.Value.Close
public import proofs.«01_k».proof.Proof.Value.RefTerms
public import Idealize.ShloMosaic.Adequacy

@[expose] public section

set_option maxRecDepth 16384

noncomputable section

namespace Cert.Flash

open Cert.RefAt Cert.KernelIdeal Cert.KernelIdeal.Gen
open Idealize.ShloMosaic
open Idealize.ShloMosaic.TcCoe
open Idealize.SL.Sem

section
variable (m : (ℓ : Loc nD τ sig) → Buf (Elt Ideal) ℓ) (r : PUnit × MemSt nD τ sig (Elt Ideal)) (h : Post m r) (c : Dev nD)

include h

theorem res_v : r.2.mem ((c.tc : Thread nD τ).loc main_v46_2) = resArr m c 7 := arr_eq m r h c 7

theorem res_q : r.2.mem ((c.tc : Thread nD τ).loc main_v49) = kScaled (resArr m c 5) (constant S_ .f32 0x3D93CD3A#32) := by
  refine (rest_eq m r h c main_v49 rfl (by decide)).trans ((tail_q _).trans ?_)
  exact congrArg (fun x => kScaled x (constant S_ .f32 0x3D93CD3A#32))
    (Pipeline.withArrays_arr spec0 winFacts0.arr_inj c (atLaunch m c) (fun w => resArr m c w) 5)

theorem res_k : r.2.mem ((c.tc : Thread nD τ).loc main_v52) = kScaled (resArr m c 6) kLn := by
  refine (rest_eq m r h c main_v52 rfl (by decide)).trans ((tail_k _).trans ?_)
  exact congrArg₂ kScaled
    (Pipeline.withArrays_arr spec0 winFacts0.arr_inj c (atLaunch m c) (fun w => resArr m c w) 6)
    ((Pipeline.withArrays_of_ne spec0 c _ _ main_v0 (by decide)).trans (at_ln m c))

end

theorem algebraic : Cert.algebraic_KernelIdeal_ReferenceIdeal_pre_finite := by
  intro m g m' g' hpre hag
  refine ⟨fun c => Cert.ReferenceIdeal.Value.res_main_v59 m' c, fun c => Cert.ReferenceIdeal.Value.res_main_v58 m' c,
    fun c => Cert.ReferenceIdeal.Value.res_main_v41 m' c, ?_, Cert.ReferenceIdeal.Value.run (F := Ideal) m' g'⟩
  refine (θ_run Cert.KernelIdeal.defs _ _).mono (fun r h c => ?_) (run_main (F := Ideal) m g)
  obtain ⟨e0, e1, e2, e3⟩ := hag c
  obtain ⟨hq, hk, hv, ho⟩ := Cert.Finite.all_real _ _ _ _ (hpre c)
  have a0 : q0 m' c = mq m c := e0
  have a1 : k0 m' c = mk m c := e1
  have a2 : v0 m' c = mv m c := e2
  have a3 : o0 m' c = mo m c := e3
  refine ⟨(res_q m r h c).trans ((same_q m c hq hk hv ho).trans ?_), (res_k m r h c).trans ((same_k m c hq hk hv ho).trans ?_),
    (res_v m r h c).trans ((same_v m c hq hk hv ho).trans ?_), args_kept m r h c⟩
  · rw [← a0, ← a1, ← a2, ← a3]; exact (res59 m' c).symm
  · rw [← a0, ← a1, ← a2, ← a3]; exact (res58 m' c).symm
  · rw [← a0, ← a1, ← a3]; exact (res41 m' c).symm

end Cert.Flash
-- ==== Proof.Gate.Block.lean ====
/-
  The gradient of a gated feed-forward block: what one run of the body stores, read at an index.
-/
module

public import proofs.«01_k».proof.Proof.Gen.Kernel2Ideal.Value
public import Idealize.ShloMosaic.Lib.Pointwise
public import Idealize.ShloMosaic.Lib.Pipeline.ValueKit.Tiles

@[expose] public section

set_option maxRecDepth 16384

noncomputable section

namespace Cert.Gate

open Cert.Kernel2Ideal Cert.Kernel2Ideal.Gen
open Idealize.ShloMosaic
open Idealize.ShloMosaic.TcCoe
open Idealize.SL.Sem

theorem eq_ix2 {n0 n1 : ℕ} (i : (⟨2, ![n0, n1]⟩ : Shape).Idx) : i = ix2 (i 0) (i 1) := by
  refine funext fun j => ?_
  fin_cases j <;> rfl

abbrev half : EReal := Ideal.ofBits .f32 0x3F000000#32
abbrev one : EReal := Ideal.ofBits .f32 0x3F800000#32

/-- The gradient of the gate's entry `g`, from the product `s` of its row and column and the other factor `u`. -/
def gv (s g u : EReal) : EReal := half * s * u * (Ideal.logistic g + g * Ideal.logistic g * (one - Ideal.logistic g))

/-- The gradient of the other factor. -/
def uv (s g : EReal) : EReal := half * s * (g * Ideal.logistic g)

theorem gate_at (x : FVec Ideal S512x1024 .f32) (w : FVec Ideal S256x1024 .bf16) (g u : FVec Ideal S512x256 .bf16) (a : Fin 512) (e : Fin 256) :
    k0_pay6 (F := Ideal) (k0_pay8 x) w g u (ix2 a e) = gv (∑ j : Fin 1024, x (ix2 a j) * w (ix2 e j)) (g (ix2 a e)) (u (ix2 a e)) := by
  unfold gv half one
  pointwise [k0_pay6, k0_pay8, k0_pay2, k0_pay3, k0_pay4, k0_pay5]

theorem up_at (x : FVec Ideal S512x1024 .f32) (w : FVec Ideal S256x1024 .bf16) (g : FVec Ideal S512x256 .bf16) (a : Fin 512) (e : Fin 256) :
    k0_pay7 (F := Ideal) (k0_pay8 x) w g (ix2 a e) = uv (∑ j : Fin 1024, x (ix2 a j) * w (ix2 e j)) (g (ix2 a e)) := by
  unfold uv half
  pointwise [k0_pay7, k0_pay8, k0_pay2, k0_pay3, k0_pay4, k0_pay5]

variable (x0 : Vec Ideal S512x1024 .f32) (x1 x2 : Vec Ideal S512x2816 .bf16) (x3 : Vec Ideal S2816x1024 .bf16)

theorem ld_x : View.ld x0 r0_0 = x0 := View.ld_unit_zero (by funext a; fin_cases a <;> rfl) _ x0

theorem ld_w (o : ℕ) (inb : ∀ a, (![o, 0] : Fin 2 → ℕ) a + S256x1024.size a ≤ S2816x1024.size a) (e : Fin 2816) (q : Fin 256) (h : e.val = o + q.val) (j : Fin 1024) :
    View.ld x3 (Rect.unit (s := S2816x1024) ![o, 0] S256x1024.size inb) (ix2 q j) = x3 (ix2 e j) :=
  View.ld_unit_apply_of x3 _ _ inb (ix2 q j) (ix2 e j) (fun a => match a with | ⟨0, _⟩ => h | ⟨1, _⟩ => (Nat.zero_add _).symm)

theorem ld_e (x : Vec Ideal S512x2816 .bf16) (o : ℕ) (inb : ∀ a, (![0, o] : Fin 2 → ℕ) a + S512x256.size a ≤ S512x2816.size a) (a : Fin 512) (e : Fin 2816) (q : Fin 256) (h : e.val = o + q.val) :
    View.ld x (Rect.unit (s := S512x2816) ![0, o] S512x256.size inb) (ix2 a q) = x (ix2 a e) :=
  View.ld_unit_apply_of x _ _ inb (ix2 a q) (ix2 a e) (fun b => match b with | ⟨0, _⟩ => (Nat.zero_add _).symm | ⟨1, _⟩ => h)

theorem gate_piece (o : ℕ) (inb : ∀ a, (![0, o] : Fin 2 → ℕ) a + S512x256.size a ≤ S512x2816.size a)
    (inw : ∀ a, (![o, 0] : Fin 2 → ℕ) a + S256x1024.size a ≤ S2816x1024.size a) (a : Fin 512) (e : Fin 2816) :
    View.TileAt (S := S512x2816) (Val := Elt Ideal) (e := .bf16) (ix2 a e) ![0, o] S512x256.size
      (k0_pay6 (k0_pay8 (View.ld x0 r0_0)) (View.ld x3 (Rect.unit (s := S2816x1024) ![o, 0] S256x1024.size inw))
        (View.ld x1 (Rect.unit (s := S512x2816) ![0, o] S512x256.size inb)) (View.ld x2 (Rect.unit (s := S512x2816) ![0, o] S512x256.size inb)))
      (gv (∑ j : Fin 1024, x0 (ix2 a j) * x3 (ix2 e j)) (x1 (ix2 a e)) (x2 (ix2 a e))) := by
  intro x hx
  obtain ⟨p, q, rfl⟩ : ∃ (p : Fin 512) (q : Fin 256), x = ix2 p q := ⟨x 0, x 1, eq_ix2 x⟩
  obtain rfl : p = a := Fin.ext ((hx 0).trans (Nat.zero_add _)).symm
  have h : e.val = o + q.val := hx 1
  rw [gate_at, ld_e x1 o inb p e q h, ld_e x2 o inb p e q h, ld_x]
  simp only [ld_w x3 o inw e q h]

theorem up_piece (o : ℕ) (inb : ∀ a, (![0, o] : Fin 2 → ℕ) a + S512x256.size a ≤ S512x2816.size a)
    (inw : ∀ a, (![o, 0] : Fin 2 → ℕ) a + S256x1024.size a ≤ S2816x1024.size a) (a : Fin 512) (e : Fin 2816) :
    View.TileAt (S := S512x2816) (Val := Elt Ideal) (e := .bf16) (ix2 a e) ![0, o] S512x256.size
      (k0_pay7 (k0_pay8 (View.ld x0 r0_0)) (View.ld x3 (Rect.unit (s := S2816x1024) ![o, 0] S256x1024.size inw))
        (View.ld x1 (Rect.unit (s := S512x2816) ![0, o] S512x256.size inb)))
      (uv (∑ j : Fin 1024, x0 (ix2 a j) * x3 (ix2 e j)) (x1 (ix2 a e))) := by
  intro x hx
  obtain ⟨p, q, rfl⟩ : ∃ (p : Fin 512) (q : Fin 256), x = ix2 p q := ⟨x 0, x 1, eq_ix2 x⟩
  obtain rfl : p = a := Fin.ext ((hx 0).trans (Nat.zero_add _)).symm
  have h : e.val = o + q.val := hx 1
  rw [up_at, ld_e x1 o inb p e q h, ld_x]
  simp only [ld_w x3 o inw e q h]

theorem out4_at (a : Fin 512) (e : Fin 2816) :
    out0_4 x0 x1 x2 x3 (ix2 a e) = gv (∑ j : Fin 1024, x0 (ix2 a j) * x3 (ix2 e j)) (x1 (ix2 a e)) (x2 (ix2 a e)) := by
  unfold out0_4
  refine View.canon_eq_of_allAt _ _ _ (cover0_4 _ _ _ _ _ _ _ _ _ _ _ _) ?_
  refine View.allAt_cons_unit _ _ _ _ _ (gate_piece x0 x1 x2 x3 2560 _ _ a e) ?_
  refine View.allAt_cons_unit _ _ _ _ _ (gate_piece x0 x1 x2 x3 2304 _ _ a e) ?_
  refine View.allAt_cons_unit _ _ _ _ _ (gate_piece x0 x1 x2 x3 2048 _ _ a e) ?_
  refine View.allAt_cons_unit _ _ _ _ _ (gate_piece x0 x1 x2 x3 1792 _ _ a e) ?_
  refine View.allAt_cons_unit _ _ _ _ _ (gate_piece x0 x1 x2 x3 1536 _ _ a e) ?_
  refine View.allAt_cons_unit _ _ _ _ _ (gate_piece x0 x1 x2 x3 1280 _ _ a e) ?_
  refine View.allAt_cons_unit _ _ _ _ _ (gate_piece x0 x1 x2 x3 1024 _ _ a e) ?_
  refine View.allAt_cons_unit _ _ _ _ _ (gate_piece x0 x1 x2 x3 768 _ _ a e) ?_
  refine View.allAt_cons_unit _ _ _ _ _ (gate_piece x0 x1 x2 x3 512 _ _ a e) ?_
  refine View.allAt_cons_unit _ _ _ _ _ (gate_piece x0 x1 x2 x3 256 _ _ a e) ?_
  refine View.allAt_cons_unit _ _ _ _ _ (gate_piece x0 x1 x2 x3 0 _ _ a e) ?_
  exact View.allAt_nil _ _

theorem out5_at (a : Fin 512) (e : Fin 2816) :
    out0_5 x0 x1 x2 x3 (ix2 a e) = uv (∑ j : Fin 1024, x0 (ix2 a j) * x3 (ix2 e j)) (x1 (ix2 a e)) := by
  unfold out0_5
  refine View.canon_eq_of_allAt _ _ _ (cover0_5 _ _ _ _ _ _ _ _ _ _ _ _) ?_
  refine View.allAt_cons_unit _ _ _ _ _ (up_piece x0 x1 x3 2560 _ _ a e) ?_
  refine View.allAt_cons_unit _ _ _ _ _ (up_piece x0 x1 x3 2304 _ _ a e) ?_
  refine View.allAt_cons_unit _ _ _ _ _ (up_piece x0 x1 x3 2048 _ _ a e) ?_
  refine View.allAt_cons_unit _ _ _ _ _ (up_piece x0 x1 x3 1792 _ _ a e) ?_
  refine View.allAt_cons_unit _ _ _ _ _ (up_piece x0 x1 x3 1536 _ _ a e) ?_
  refine View.allAt_cons_unit _ _ _ _ _ (up_piece x0 x1 x3 1280 _ _ a e) ?_
  refine View.allAt_cons_unit _ _ _ _ _ (up_piece x0 x1 x3 1024 _ _ a e) ?_
  refine View.allAt_cons_unit _ _ _ _ _ (up_piece x0 x1 x3 768 _ _ a e) ?_
  refine View.allAt_cons_unit _ _ _ _ _ (up_piece x0 x1 x3 512 _ _ a e) ?_
  refine View.allAt_cons_unit _ _ _ _ _ (up_piece x0 x1 x3 256 _ _ a e) ?_
  refine View.allAt_cons_unit _ _ _ _ _ (up_piece x0 x1 x3 0 _ _ a e) ?_
  exact View.allAt_nil _ _

end Cert.Gate
-- ==== Proof.Gate.Scalar.lean ====
/-
  The gradient of a gated feed-forward block: one element of the call's results against one of the reference's,
  and the precondition read.
-/
module

public import proofs.«01_k».proof.Proof.Gate.Block
public import proofs.«01_k».proof.Proof.Gen.Reference2Ideal.Run
public import proofs.«01_k».proof.Proof.Gen.Pre_finite2
public import proofs.«01_k».proof.Proof.Value.Finite

@[expose] public section

set_option maxRecDepth 16384

noncomputable section

namespace Cert.Gate

open Idealize.ShloMosaic
open Idealize.ShloMosaic.TcCoe
open Idealize.SL.Sem

theorem one_eq : one = 1 := by
  unfold one; simp [Ideal.ofBits, Ideal.ieee, -EReal.coe_mul]; norm_num

theorem half_real : ∃ h : ℝ, half = (h : EReal) := ⟨1 / 2, by
  unfold half; simp [Ideal.ofBits, Ideal.ieee, -EReal.coe_mul]; norm_num⟩

theorem sum_coe {n : ℕ} (f : Fin n → ℝ) : ∑ i, ((f i : ℝ) : EReal) = ((∑ i, f i : ℝ) : EReal) :=
  (map_sum (⟨⟨fun x : ℝ => (x : EReal), EReal.coe_zero⟩, EReal.coe_add⟩ : ℝ →+ EReal) f Finset.univ).symm

/-- The reference's form of the gradient of the gate. -/
def gr (y g u : EReal) : EReal :=
  y * u * Ideal.logistic g + g * (y * u) * (Ideal.logistic g * (one - Ideal.logistic g))

theorem gate_form (y u : ℝ) (g : EReal) :
    (y : EReal) * u * (Ideal.logistic g + g * Ideal.logistic g * (one - Ideal.logistic g)) = gr y g u := by
  unfold gr
  rw [one_eq]
  have h11 : (1 : EReal) - 1 = 0 := by
    rw [← EReal.coe_one, ← EReal.coe_sub, sub_self, EReal.coe_zero]
  induction g with
  | bot => simp [Ideal.logistic_bot]
  | top => simp [Ideal.logistic_top, h11]
  | coe g =>
    rw [Ideal.logistic_coe]
    norm_cast
    ring

theorem half_sum {n : ℕ} (d w : Fin n → EReal) (hd : ∀ j, ∃ r : ℝ, d j = (r : EReal)) (hw : ∀ j, ∃ r : ℝ, w j = (r : EReal)) :
    ∃ y : ℝ, half * ∑ j, d j * w j = (y : EReal) ∧ ∑ j, half * d j * w j = (y : EReal) := by
  obtain ⟨h, hh⟩ := half_real
  choose d' hd using hd
  choose w' hw using hw
  refine ⟨h * ∑ j, d' j * w' j, ?_, ?_⟩
  · simp only [hh, hd, hw, ← EReal.coe_mul, sum_coe]
  · simp only [hh, hd, hw, ← EReal.coe_mul, sum_coe]
    rw [Finset.mul_sum]
    simp only [mul_assoc]

theorem gv_eq {n : ℕ} (d w : Fin n → EReal) (hd : ∀ j, ∃ r : ℝ, d j = (r : EReal)) (hw : ∀ j, ∃ r : ℝ, w j = (r : EReal)) (g u : EReal)
    (hu : ∃ r : ℝ, u = (r : EReal)) : gv (∑ j, d j * w j) g u = gr (∑ j, half * d j * w j) g u := by
  obtain ⟨y, h1, h2⟩ := half_sum d w hd hw
  obtain ⟨r, rfl⟩ := hu
  unfold gv
  rw [h1, h2, gate_form]

theorem uv_eq {n : ℕ} (d w : Fin n → EReal) (hd : ∀ j, ∃ r : ℝ, d j = (r : EReal)) (hw : ∀ j, ∃ r : ℝ, w j = (r : EReal)) (g : EReal) :
    uv (∑ j, d j * w j) g = g * Ideal.logistic g * ∑ j, half * d j * w j := by
  obtain ⟨y, h1, h2⟩ := half_sum d w hd hw
  unfold uv
  rw [h1, h2, mul_comm]

section

open Cert.Reference2Ideal

theorem logistic_of (g : EReal) : Ideal.div 1 (1 + Ideal.exp (-g)) = Ideal.logistic g := rfl

theorem ref_gate (hb : FTy.bits .bf16 < FTy.bits .f32) (ht : FTy.bits .bf16 < FTy.bits .f32) (h1 : S_.BroadcastsInDim S8192x1024 (![] : Fin 0 → Fin S8192x1024.rank))
    (h2 : S_.BroadcastsInDim S8192x2816 (![] : Fin 0 → Fin S8192x2816.rank))
    (d : FVec Ideal S8192x1024 .f32) (g u : FVec Ideal S8192x2816 .bf16) (w : FVec Ideal S2816x1024 .bf16) (p : Fin 8192) (q : Fin 2816) :
    (truncf .bf16 (addf (mulf (mulf (Host.dotGeneral (F := Ideal) dot_S8192x1024_S2816x1024_S8192x2816_1_1_0_0_n_n none (mulf (broadcastInDim S8192x1024 ![] h1 (constant S_ .f32 0x3F000000#32)) d) (extf .f32 w hb)) (extf .f32 u hb)) (Host.divf (broadcastInDim S8192x2816 ![] h2 (constant S_ .f32 0x3F800000#32)) (addf (broadcastInDim S8192x2816 ![] h2 (constant S_ .f32 0x3F800000#32)) (Host.exp (Host.negf (extf .f32 g hb)))))) (mulf (mulf (extf .f32 g hb) (mulf (Host.dotGeneral (F := Ideal) dot_S8192x1024_S2816x1024_S8192x2816_1_1_0_0_n_n none (mulf (broadcastInDim S8192x1024 ![] h1 (constant S_ .f32 0x3F000000#32)) d) (extf .f32 w hb)) (extf .f32 u hb))) (mulf (Host.divf (broadcastInDim S8192x2816 ![] h2 (constant S_ .f32 0x3F800000#32)) (addf (broadcastInDim S8192x2816 ![] h2 (constant S_ .f32 0x3F800000#32)) (Host.exp (Host.negf (extf .f32 g hb))))) (subf (broadcastInDim S8192x2816 ![] h2 (constant S_ .f32 0x3F800000#32)) (Host.divf (broadcastInDim S8192x2816 ![] h2 (constant S_ .f32 0x3F800000#32)) (addf (broadcastInDim S8192x2816 ![] h2 (constant S_ .f32 0x3F800000#32)) (Host.exp (Host.negf (extf .f32 g hb))))))))) ht : FVec Ideal S8192x2816 .bf16) (ix2 p q)
      = gr (∑ j : Fin 1024, half * d (ix2 p j) * w (ix2 q j)) (g (ix2 p q)) (u (ix2 p q)) := by
  unfold gr
  rw [← logistic_of, one_eq]
  unfold half
  pointwise

theorem ref_up (hb : FTy.bits .bf16 < FTy.bits .f32) (ht : FTy.bits .bf16 < FTy.bits .f32) (h1 : S_.BroadcastsInDim S8192x1024 (![] : Fin 0 → Fin S8192x1024.rank))
    (h2 : S_.BroadcastsInDim S8192x2816 (![] : Fin 0 → Fin S8192x2816.rank))
    (d : FVec Ideal S8192x1024 .f32) (g : FVec Ideal S8192x2816 .bf16) (w : FVec Ideal S2816x1024 .bf16) (p : Fin 8192) (q : Fin 2816) :
    (truncf .bf16 (mulf (mulf (extf .f32 g hb) (Host.divf (broadcastInDim S8192x2816 ![] h2 (constant S_ .f32 0x3F800000#32)) (addf (broadcastInDim S8192x2816 ![] h2 (constant S_ .f32 0x3F800000#32)) (Host.exp (Host.negf (extf .f32 g hb)))))) (Host.dotGeneral (F := Ideal) dot_S8192x1024_S2816x1024_S8192x2816_1_1_0_0_n_n none (mulf (broadcastInDim S8192x1024 ![] h1 (constant S_ .f32 0x3F000000#32)) d) (extf .f32 w hb))) ht : FVec Ideal S8192x2816 .bf16) (ix2 p q)
      = g (ix2 p q) * Ideal.logistic (g (ix2 p q)) * ∑ j : Fin 1024, half * d (ix2 p j) * w (ix2 q j) := by
  rw [← logistic_of]
  unfold half
  pointwise

end

section

open Cert.Pre_finite2 Cert.Pre_finite2.Gen Cert.Finite

theorem scalar_idx : Subsingleton S_.Idx := ⟨fun a b => funext fun i => i.elim0⟩

theorem all_real (a0 : FVec Ideal S8192x1024 .f32) (a1 a2 : FVec Ideal S8192x2816 .bf16) (a3 : FVec Ideal S2816x1024 .bf16) (h : fn (F := Ideal) a0 a1 a2 a3 = fun _ => 1#1) :
    (∀ i, ∃ r : ℝ, a0 i = (r : EReal)) ∧ (∀ i, ∃ r : ℝ, a2 i = (r : EReal)) ∧ (∀ i, ∃ r : ℝ, a3 i = (r : EReal)) := by
  have h0 := congrFun h ix0
  obtain ⟨h8, h12⟩ := and_one _ _ h0
  obtain ⟨h3, h7⟩ := and_one _ _ h8
  beta_reduce at h3 h7 h12
  refine ⟨fun i => ?_, fun i => ?_, fun i => ?_⟩
  · have t := all_one scalar_idx _ _ reducesTo_S8192x1024_S_d0_1 h_S_ ix0 h3 i
    exact real_of a0 _ i (by rfl) t
  · have t := all_one scalar_idx _ _ reducesTo_S8192x2816_S_d0_1 h_S_ ix0 h7 i
    exact real_of (extf .f32 a2 bitsLt_bf16_f32) _ i (by rfl) t
  · have t := all_one scalar_idx _ _ reducesTo_S2816x1024_S_d0_1 h_S_ ix0 h12 i
    exact real_of (extf .f32 a3 bitsLt_bf16_f32) _ i (by rfl) t

end

end Cert.Gate
-- ==== Proof.Gate.Value.lean ====
/-
  The gradient of a gated feed-forward block: the whole arrays the call leaves, and the claims.
-/
module

public import proofs.«01_k».proof.Defs
public import proofs.«01_k».proof.Proof.Gate.Scalar
public import Idealize.ShloMosaic.Adequacy

@[expose] public section

set_option maxRecDepth 16384

noncomputable section

namespace Cert.Gate

open Cert.Kernel2Ideal Cert.Kernel2Ideal.Gen
open Idealize.ShloMosaic
open Idealize.ShloMosaic.TcCoe
open Idealize.SL.Sem

variable (m : (ℓ : Loc nD τ sig) → Buf (Elt Ideal) ℓ) (c : Dev nD)

abbrev d0 : FVec Ideal S8192x1024 .f32 := m ((c.tc : Thread nD τ).loc main_arg0)
abbrev g0 : FVec Ideal S8192x2816 .bf16 := m ((c.tc : Thread nD τ).loc main_arg1)
abbrev u0 : FVec Ideal S8192x2816 .bf16 := m ((c.tc : Thread nD τ).loc main_arg2)
abbrev w0 : FVec Ideal S2816x1024 .bf16 := m ((c.tc : Thread nD τ).loc main_arg3)

theorem index0 : ∀ t : Fin cfg0.N, win0_0.index t = ![t.val, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![t.val, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![t.val, 0] := (by decide +kernel : ∀ t : Fin grid0.N, _)
theorem index5 : ∀ t : Fin cfg0.N, win0_5.index t = ![t.val, 0] := (by decide +kernel : ∀ t : Fin grid0.N, _)

/-- Row `a` of block `t`. -/
def row (t : Fin cfg0.N) (a : Fin 512) : Fin 8192 :=
  ⟨512 * t.val + a.val, by have := lt_of_lt_of_eq t.isLt N_0; omega⟩

theorem blk0_at (t : Fin cfg0.N) (a : Fin 512) (j : Fin 1024) : iblk m c 0 t (ix2 a j) = d0 m c (ix2 (row t a) j) := by
  show V m c main_arg0 (((cfg0.win 0).blk t).view.emb (ix2 a j)) = _
  rw [V_main_arg0]
  refine congrArg (d0 m c) (funext fun b => Fin.ext ?_)
  have h0 : win0_0.index t (0 : Fin 2) = t.val := congrFun (index0 t) 0
  have h1 : win0_0.index t (1 : Fin 2) = 0 := congrFun (index0 t) 1
  match b with
  | ⟨0, _⟩ => show win0_0.index t (0 : Fin 2) * 512 + 1 * a.val = 512 * t.val + a.val; rw [h0]; omega
  | ⟨1, _⟩ => show win0_0.index t (1 : Fin 2) * 1024 + 1 * j.val = j.val; rw [h1]; omega

theorem blk1_at (t : Fin cfg0.N) (a : Fin 512) (e : Fin 2816) : iblk m c 1 t (ix2 a e) = g0 m c (ix2 (row t a) e) := by
  show V m c main_arg1 (((cfg0.win 1).blk t).view.emb (ix2 a e)) = _
  rw [V_main_arg1]
  refine congrArg (g0 m c) (funext fun b => Fin.ext ?_)
  have h0 : win0_1.index t (0 : Fin 2) = t.val := congrFun (index1 t) 0
  have h1 : win0_1.index t (1 : Fin 2) = 0 := congrFun (index1 t) 1
  match b with
  | ⟨0, _⟩ => show win0_1.index t (0 : Fin 2) * 512 + 1 * a.val = 512 * t.val + a.val; rw [h0]; omega
  | ⟨1, _⟩ => show win0_1.index t (1 : Fin 2) * 2816 + 1 * e.val = e.val; rw [h1]; omega

theorem blk2_at (t : Fin cfg0.N) (a : Fin 512) (e : Fin 2816) : iblk m c 2 t (ix2 a e) = u0 m c (ix2 (row t a) e) := by
  show V m c main_arg2 (((cfg0.win 2).blk t).view.emb (ix2 a e)) = _
  rw [V_main_arg2]
  refine congrArg (u0 m c) (funext fun b => Fin.ext ?_)
  have h0 : win0_2.index t (0 : Fin 2) = t.val := congrFun (index2 t) 0
  have h1 : win0_2.index t (1 : Fin 2) = 0 := congrFun (index2 t) 1
  match b with
  | ⟨0, _⟩ => show win0_2.index t (0 : Fin 2) * 512 + 1 * a.val = 512 * t.val + a.val; rw [h0]; omega
  | ⟨1, _⟩ => show win0_2.index t (1 : Fin 2) * 2816 + 1 * e.val = e.val; rw [h1]; omega

theorem blk3_at (t : Fin cfg0.N) (e : Fin 2816) (j : Fin 1024) : iblk m c 3 t (ix2 e j) = w0 m c (ix2 e j) := by
  show V m c main_arg3 (((cfg0.win 3).blk t).view.emb (ix2 e j)) = _
  rw [V_main_arg3]
  refine congrArg (w0 m c) (funext fun b => Fin.ext ?_)
  have h0 : win0_3.index t (0 : Fin 2) = 0 := congrFun (index3 t) 0
  have h1 : win0_3.index t (1 : Fin 2) = 0 := congrFun (index3 t) 1
  match b with
  | ⟨0, _⟩ => show win0_3.index t (0 : Fin 2) * 2816 + 1 * e.val = e.val; rw [h0]; omega
  | ⟨1, _⟩ => show win0_3.index t (1 : Fin 2) * 1024 + 1 * j.val = j.val; rw [h1]; omega

/-- The product of row `p` of the incoming gradient and row `q` of the weight. -/
def dot (p : Fin 8192) (q : Fin 2816) : EReal := ∑ j : Fin 1024, d0 m c (ix2 p j) * w0 m c (ix2 q j)

def Gg : FVec Ideal S8192x2816 .bf16 := fun i => gv (dot m c (i 0) (i 1)) (g0 m c i) (u0 m c i)

def Gu : FVec Ideal S8192x2816 .bf16 := fun i => uv (dot m c (i 0) (i 1)) (g0 m c i)

theorem out4_blk (t : Fin cfg0.N) (a : Fin 512) (e : Fin 2816) :
    out0_4 (iblk m c 0 t) (iblk m c 1 t) (iblk m c 2 t) (iblk m c 3 t) (ix2 a e) = Gg m c (ix2 (row t a) e) := by
  refine (out4_at _ _ _ _ a e).trans ?_
  rw [blk1_at, blk2_at]
  refine congrArg (fun s => gv s _ _) (Finset.sum_congr rfl fun j _ => ?_)
  rw [blk0_at, blk3_at]
  rfl

theorem out5_blk (t : Fin cfg0.N) (a : Fin 512) (e : Fin 2816) :
    out0_5 (iblk m c 0 t) (iblk m c 1 t) (iblk m c 2 t) (iblk m c 3 t) (ix2 a e) = Gu m c (ix2 (row t a) e) := by
  refine (out5_at _ _ _ _ a e).trans ?_
  rw [blk1_at]
  refine congrArg (fun s => uv s _) (Finset.sum_congr rfl fun j _ => ?_)
  rw [blk0_at, blk3_at]
  rfl

theorem emb4 (t : Fin cfg0.N) (a : Fin 512) (e : Fin 2816) : ((cfg0.win 4).blk t).view.emb (ix2 a e) = (ix2 (row t a) e : S8192x2816.Idx) := by
  refine funext fun b => Fin.ext ?_
  have h0 : win0_4.index t (0 : Fin 2) = t.val := congrFun (index4 t) 0
  have h1 : win0_4.index t (1 : Fin 2) = 0 := congrFun (index4 t) 1
  match b with
  | ⟨0, _⟩ => show win0_4.index t (0 : Fin 2) * 512 + 1 * a.val = 512 * t.val + a.val; rw [h0]; omega
  | ⟨1, _⟩ => show win0_4.index t (1 : Fin 2) * 2816 + 1 * e.val = e.val; rw [h1]; omega

theorem emb5 (t : Fin cfg0.N) (a : Fin 512) (e : Fin 2816) : ((cfg0.win 5).blk t).view.emb (ix2 a e) = (ix2 (row t a) e : S8192x2816.Idx) := by
  refine funext fun b => Fin.ext ?_
  have h0 : win0_5.index t (0 : Fin 2) = t.val := congrFun (index5 t) 0
  have h1 : win0_5.index t (1 : Fin 2) = 0 := congrFun (index5 t) 1
  match b with
  | ⟨0, _⟩ => show win0_5.index t (0 : Fin 2) * 512 + 1 * a.val = 512 * t.val + a.val; rw [h0]; omega
  | ⟨1, _⟩ => show win0_5.index t (1 : Fin 2) * 2816 + 1 * e.val = e.val; rw [h1]; omega

theorem flushed4 (t : Fin cfg0.N) : (dats m 0 c).flushed 4 t = ((cfg0.win 4).blk t).view.read (Elt Ideal) (Gg m c) := by
  rw [Value.flushed4]
  funext y
  obtain ⟨a, e, rfl⟩ : ∃ (a : Fin 512) (e : Fin 2816), y = ix2 a e := ⟨y 0, y 1, eq_ix2 y⟩
  show out0_4 (iblk m c 0 t) (iblk m c 1 t) (iblk m c 2 t) (iblk m c 3 t) (ix2 a e) = Gg m c (((cfg0.win 4).blk t).view.emb (ix2 a e))
  rw [out4_blk, emb4]

theorem flushed5 (t : Fin cfg0.N) : (dats m 0 c).flushed 5 t = ((cfg0.win 5).blk t).view.read (Elt Ideal) (Gu m c) := by
  rw [Value.flushed5]
  funext y
  obtain ⟨a, e, rfl⟩ : ∃ (a : Fin 512) (e : Fin 2816), y = ix2 a e := ⟨y 0, y 1, eq_ix2 y⟩
  show out0_5 (iblk m c 0 t) (iblk m c 1 t) (iblk m c 2 t) (iblk m c 3 t) (ix2 a e) = Gu m c (((cfg0.win 5).blk t).view.emb (ix2 a e))
  rw [out5_blk, emb5]

theorem mem_blk4 (t : Fin cfg0.N) (i : S8192x2816.Idx) :
    i ∈ ((cfg0.win 4).blk t).view.set ↔ ∀ a : Fin 2, win0_4.index t a * S512x2816.size a ≤ (i a).val ∧ (i a).val < win0_4.index t a * S512x2816.size a + S512x2816.size a := by
  show i ∈ ((View.whole main_v0_0).slice (win0_4.rect t)).set ↔ _
  rw [View.set_slice_whole, Rect.mem_set_unit]
  exact Iff.rfl

theorem mem_blk5 (t : Fin cfg0.N) (i : S8192x2816.Idx) :
    i ∈ ((cfg0.win 5).blk t).view.set ↔ ∀ a : Fin 2, win0_5.index t a * S512x2816.size a ≤ (i a).val ∧ (i a).val < win0_5.index t a * S512x2816.size a + S512x2816.size a := by
  show i ∈ ((View.whole main_v0_1).slice (win0_5.rect t)).set ↔ _
  rw [View.set_slice_whole, Rect.mem_set_unit]
  exact Iff.rfl

theorem flush4 : ∀ t : Fin cfg0.N, (cfg0.win 4).flush t = true := (by decide +kernel : ∀ t : Fin grid0.N, _)
theorem flush5 : ∀ t : Fin cfg0.N, (cfg0.win 5).flush t = true := (by decide +kernel : ∀ t : Fin grid0.N, _)

theorem final4 : (dats m 0 c).arrAt 4 cfg0.N = Gg m c :=
  (dats m 0 c).arrAt_eq_of_cover 4 _ (fun t _ => flushed4 m c t) (fun i => by
    have h0 : (i 0).val < 8192 := (i 0).isLt
    have h1 : (i 1).val < 2816 := (i 1).isLt
    have hk : (i 0).val / 512 < cfg0.N := lt_of_lt_of_eq (by omega : (i 0).val / 512 < 16) N_0.symm
    refine ⟨⟨(i 0).val / 512, hk⟩, flush4 _, ?_⟩
    rw [mem_blk4]
    intro a
    have e0 : win0_4.index ⟨(i 0).val / 512, hk⟩ (0 : Fin 2) = (i 0).val / 512 := congrFun (index4 _) 0
    have e1 : win0_4.index ⟨(i 0).val / 512, hk⟩ (1 : Fin 2) = 0 := congrFun (index4 _) 1
    match a with
    | ⟨0, _⟩ => show win0_4.index _ (0 : Fin 2) * 512 ≤ (i 0).val ∧ (i 0).val < win0_4.index _ (0 : Fin 2) * 512 + 512; rw [e0]; omega
    | ⟨1, _⟩ => show win0_4.index _ (1 : Fin 2) * 2816 ≤ (i 1).val ∧ (i 1).val < win0_4.index _ (1 : Fin 2) * 2816 + 2816; rw [e1]; omega)

theorem final5 : (dats m 0 c).arrAt 5 cfg0.N = Gu m c :=
  (dats m 0 c).arrAt_eq_of_cover 5 _ (fun t _ => flushed5 m c t) (fun i => by
    have h0 : (i 0).val < 8192 := (i 0).isLt
    have h1 : (i 1).val < 2816 := (i 1).isLt
    have hk : (i 0).val / 512 < cfg0.N := lt_of_lt_of_eq (by omega : (i 0).val / 512 < 16) N_0.symm
    refine ⟨⟨(i 0).val / 512, hk⟩, flush5 _, ?_⟩
    rw [mem_blk5]
    intro a
    have e0 : win0_5.index ⟨(i 0).val / 512, hk⟩ (0 : Fin 2) = (i 0).val / 512 := congrFun (index5 _) 0
    have e1 : win0_5.index ⟨(i 0).val / 512, hk⟩ (1 : Fin 2) = 0 := congrFun (index5 _) 1
    match a with
    | ⟨0, _⟩ => show win0_5.index _ (0 : Fin 2) * 512 ≤ (i 0).val ∧ (i 0).val < win0_5.index _ (0 : Fin 2) * 512 + 512; rw [e0]; omega
    | ⟨1, _⟩ => show win0_5.index _ (1 : Fin 2) * 2816 ≤ (i 1).val ∧ (i 1).val < win0_5.index _ (1 : Fin 2) * 2816 + 2816; rw [e1]; omega)

theorem frame : Cert.quiescent_Kernel2Ideal := fun m ρ _ => Cert.Kernel2Ideal.Gen.frame m ρ

theorem frame_reference : Cert.quiescent_Reference2Ideal := fun m ρ _ =>
  (θ_run Cert.Reference2Ideal.defs _ _).mono (fun r h => ⟨fun c => (h c).2.2, Idealize.ShloMosaic.sem_eq_zero_of_no_sems (by decide) r.2⟩)
    (Cert.Reference2Ideal.Value.run (F := Ideal) m ρ)

theorem algebraic : Cert.algebraic_Kernel2Ideal_Reference2Ideal_pre_finite2 := by
  intro m g m' g' hpre hag
  refine ⟨fun c => Gg m c, fun c => Gu m c,
    (θ_run Cert.Kernel2Ideal.defs _ _).mono (fun r h c => ⟨(h c).1.trans (final4 m c), (h c).2.1.trans (final5 m c), (h c).2.2⟩) (Value.run_blocks (F := Ideal) m g),
    (θ_run Cert.Reference2Ideal.defs _ _).mono (fun r h c => ⟨(h c).1.trans ?_, (h c).2.1.trans ?_, (h c).2.2⟩) (Cert.Reference2Ideal.Value.run (F := Ideal) m' g')⟩
  · obtain ⟨hd, hu, hw⟩ := all_real (d0 m c) (g0 m c) (u0 m c) (w0 m c) (hpre c)
    rw [(hag c).1, (hag c).2.1, (hag c).2.2.1, (hag c).2.2.2]
    refine funext fun i => ?_
    obtain ⟨p, q, rfl⟩ : ∃ (p : Fin 8192) (q : Fin 2816), i = ix2 p q := ⟨i 0, i 1, eq_ix2 i⟩
    exact (ref_gate _ _ _ _ (d0 m c) (g0 m c) (u0 m c) (w0 m c) p q).trans
      (gv_eq (fun j : Fin 1024 => d0 m c (ix2 p j)) (fun j => w0 m c (ix2 q j)) (fun j => hd _) (fun j => hw _) _ _ (hu _)).symm
  · obtain ⟨hd, hu, hw⟩ := all_real (d0 m c) (g0 m c) (u0 m c) (w0 m c) (hpre c)
    rw [(hag c).1, (hag c).2.1, (hag c).2.2.2]
    refine funext fun i => ?_
    obtain ⟨p, q, rfl⟩ : ∃ (p : Fin 8192) (q : Fin 2816), i = ix2 p q := ⟨i 0, i 1, eq_ix2 i⟩
    exact (ref_up _ _ _ _ (d0 m c) (g0 m c) (w0 m c) p q).trans
      (uv_eq (fun j : Fin 1024 => d0 m c (ix2 p j)) (fun j => w0 m c (ix2 q j)) (fun j => hd _) (fun j => hw _) _).symm

end Cert.Gate
-- ==== Proof.Weight.Value.lean ====
/-
  The gradient of a square weight: the call's fold over the four blocks of rows is the sum over all the rows.
-/
module

public import proofs.«01_k».proof.Defs
public import proofs.«01_k».proof.Proof.Gen.Kernel3Ideal.Value
public import proofs.«01_k».proof.Proof.Gen.Reference3Ideal.Run
public import Idealize.ShloMosaic.Lib.Pointwise
public import Idealize.ShloMosaic.Adequacy

@[expose] public section

set_option maxRecDepth 16384

noncomputable section

namespace Cert.Weight

open Cert.Kernel3Ideal Cert.Kernel3Ideal.Gen
open Idealize.ShloMosaic
open Idealize.ShloMosaic.TcCoe
open Idealize.SL.Sem

theorem eq_ix2 {n0 n1 : ℕ} (i : (⟨2, ![n0, n1]⟩ : Shape).Idx) : i = ix2 (i 0) (i 1) := by
  refine funext fun j => ?_
  fin_cases j <;> rfl

/-- A sum over the rows, block by block. -/
theorem sum_blocks (f : Fin 8192 → EReal) :
    ∑ t, f t = ∑ s : Fin 4, ∑ j : Fin 2048, f ⟨2048 * s.val + j.val, by omega⟩ := by
  rw [← Fintype.sum_prod_type']
  refine (Fintype.sum_equiv (finProdFinEquiv (m := 4) (n := 2048)) _ _ fun x => congrArg f (Fin.ext ?_)).symm
  simp only [finProdFinEquiv_apply_val]
  omega

theorem zero_at (p q : Fin 1024) : k0_pay1 (F := Ideal) (ix2 p q) = 0 := by
  pointwise [k0_pay1]

theorem step_at (acc : FVec Ideal S1024x1024 .f32) (x y : FVec Ideal S2048x1024 .bf16) (p q : Fin 1024) :
    k0_pay2 acc x y (ix2 p q) = acc (ix2 p q) + ∑ j : Fin 2048, x (ix2 j p) * y (ix2 j q) := by
  pointwise [k0_pay2]

variable (m : (ℓ : Loc nD τ sig) → Buf (Elt Ideal) ℓ) (c : Dev nD)

abbrev x0 : FVec Ideal S8192x1024 .bf16 := m ((c.tc : Thread nD τ).loc main_arg0)
abbrev y0 : FVec Ideal S8192x1024 .bf16 := m ((c.tc : Thread nD τ).loc main_arg1)

theorem index0 : ∀ t : Fin cfg0.N, win0_0.index t = ![t.val, 0] := (by decide +kernel : ∀ t : Fin grid0.N, _)
theorem index1 : ∀ t : Fin cfg0.N, win0_1.index t = ![t.val, 0] := (by decide +kernel : ∀ t : Fin grid0.N, _)

theorem blk0_at (t : Fin cfg0.N) (ht : t.val < 4) (j : Fin 2048) (p : Fin 1024) :
    iblk m c 0 t (ix2 j p) = x0 m c (ix2 ⟨2048 * t.val + j.val, by omega⟩ p) := by
  show V m c main_arg0 (((cfg0.win 0).blk t).view.emb (ix2 j p)) = _
  rw [V_main_arg0]
  refine congrArg (x0 m c) (funext fun a => Fin.ext ?_)
  have h0 : win0_0.index t (0 : Fin 2) = t.val := congrFun (index0 t) 0
  have h1 : win0_0.index t (1 : Fin 2) = 0 := congrFun (index0 t) 1
  match a with
  | ⟨0, _⟩ => show win0_0.index t (0 : Fin 2) * 2048 + 1 * j.val = 2048 * t.val + j.val; rw [h0]; omega
  | ⟨1, _⟩ => show win0_0.index t (1 : Fin 2) * 1024 + 1 * p.val = p.val; rw [h1]; omega

theorem blk1_at (t : Fin cfg0.N) (ht : t.val < 4) (j : Fin 2048) (p : Fin 1024) :
    iblk m c 1 t (ix2 j p) = y0 m c (ix2 ⟨2048 * t.val + j.val, by omega⟩ p) := by
  show V m c main_arg1 (((cfg0.win 1).blk t).view.emb (ix2 j p)) = _
  rw [V_main_arg1]
  refine congrArg (y0 m c) (funext fun a => Fin.ext ?_)
  have h0 : win0_1.index t (0 : Fin 2) = t.val := congrFun (index1 t) 0
  have h1 : win0_1.index t (1 : Fin 2) = 0 := congrFun (index1 t) 1
  match a with
  | ⟨0, _⟩ => show win0_1.index t (0 : Fin 2) * 2048 + 1 * j.val = 2048 * t.val + j.val; rw [h0]; omega
  | ⟨1, _⟩ => show win0_1.index t (1 : Fin 2) * 1024 + 1 * p.val = p.val; rw [h1]; omega

/-- What point `n` adds. -/
def part (n : ℕ) (i : S1024x1024.Idx) : EReal :=
  ∑ j : Fin 2048, if h : 2048 * n + j.val < 8192 then
    x0 m c (ix2 (⟨2048 * n + j.val, h⟩ : Fin 8192) (i 0 : Fin 1024)) * y0 m c (ix2 (⟨2048 * n + j.val, h⟩ : Fin 8192) (i 1 : Fin 1024)) else 0

theorem part_at (n : ℕ) (h : n < cfg0.N) (acc : FVec Ideal S1024x1024 .f32) (i : S1024x1024.Idx) :
    k0_pay2 acc (iblk m c 0 ⟨n, h⟩) (iblk m c 1 ⟨n, h⟩) i = acc i + part m c n i := by
  have hn : n < 4 := lt_of_lt_of_eq h N_0
  obtain ⟨p, q, rfl⟩ : ∃ p q : Fin 1024, i = ix2 p q := ⟨i 0, i 1, eq_ix2 i⟩
  rw [step_at]
  refine congrArg₂ (fun x y : EReal => x + y) rfl (Finset.sum_congr rfl fun j _ => ?_)
  rw [blk0_at m c ⟨n, h⟩ hn, blk1_at m c ⟨n, h⟩ hn, dif_pos (by have := j.isLt; omega)]
  rfl

theorem fold_at (p q : Fin 1024) :
    Value.G2 m c (ix2 p q) = ∑ t : Fin 8192, x0 m c (ix2 t p) * y0 m c (ix2 t q) := by
  have hr : Value.run2Of (ix2 p q) = 0 := by
    show 1 * (p.val / 1024 - 0) + 1 * (q.val / 1024 - 0) = 0
    have := p.isLt; have := q.isLt; omega
  have hl : Value.loc2Of (ix2 p q) = ix2 p q := by
    funext a; apply Fin.ext
    match a with
    | ⟨0, _⟩ => exact Nat.mod_eq_of_lt p.isLt
    | ⟨1, _⟩ => exact Nat.mod_eq_of_lt q.isLt
  have hN : cfg0.N = 4 := N_0
  unfold Value.G2
  rw [dif_pos (by rw [hr, hN]; omega), hl]
  refine (Pipeline.accAt_add_apply (Value.reset2 m c) (Value.step2 m c) (fun _ => (0 : EReal)) (part m c) (4 * Value.run2Of (ix2 p q)) 3
    (fun h i => ?_) (fun n h acc i _ _ => part_at m c n h acc i) 3 le_rfl _ (ix2 p q)).trans ?_
  · refine (part_at m c _ h _ i).trans (congrArg₂ (fun x y : EReal => x + y) ?_ rfl)
    rw [eq_ix2 i]
    exact zero_at _ _
  · rw [zero_add, hr, sum_blocks, ← Fin.sum_univ_eq_sum_range (fun s => part m c (4 * 0 + s) (ix2 p q))]
    refine Finset.sum_congr rfl fun s _ => Finset.sum_congr rfl fun j _ => ?_
    have hs := s.isLt; have hj := j.isLt
    simp only [Nat.mul_zero, Nat.zero_add]
    rw [dif_pos (by omega)]
    rfl

theorem ref_at (hb : FTy.bits .bf16 < FTy.bits .f32) (hT : Cert.Reference3Ideal.S1024x1024.Transposes [1, 0] Cert.Reference3Ideal.S1024x1024) (x y : FVec Ideal S8192x1024 .bf16) (p q : Fin 1024) :
    transpose Cert.Reference3Ideal.S1024x1024 [1, 0] (Host.dotGeneral (F := Ideal) Cert.Reference3Ideal.dot_S8192x1024_S8192x1024_S1024x1024_0_0_1_1_n_n none
      (extf .f32 y hb) (extf .f32 x hb)) hT (ix2 p q)
      = ∑ t : Fin 8192, y (ix2 t q) * x (ix2 t p) := by
  pointwise

theorem frame : Cert.quiescent_Kernel3Ideal := fun m ρ _ => Cert.Kernel3Ideal.Gen.frame m ρ

theorem frame_reference : Cert.quiescent_Reference3Ideal := fun m ρ _ =>
  (θ_run Cert.Reference3Ideal.defs _ _).mono (fun r h => ⟨fun c => (h c).2, Idealize.ShloMosaic.sem_eq_zero_of_no_sems (by decide) r.2⟩)
    (Cert.Reference3Ideal.Value.run (F := Ideal) m ρ)

theorem algebraic : Cert.algebraic_Kernel3Ideal_Reference3Ideal := by
  intro m g m' g' _ hag
  refine ⟨fun c => Value.G2 m c, (θ_run Cert.Kernel3Ideal.defs _ _).mono (fun r h c => h c) (Value.run (F := Ideal) m g),
    (θ_run Cert.Reference3Ideal.defs _ _).mono (fun r h c => ⟨(h c).1.trans ?_, (h c).2⟩) (Cert.Reference3Ideal.Value.run (F := Ideal) m' g')⟩
  rw [(hag c).1, (hag c).2]
  refine funext fun i => ?_
  obtain ⟨p, q, rfl⟩ : ∃ p q : Fin 1024, i = ix2 p q := ⟨i 0, i 1, eq_ix2 i⟩
  refine (ref_at _ _ (x0 m c) (y0 m c) p q).trans (Eq.trans ?_ (fold_at m c p q).symm)
  exact Finset.sum_congr rfl fun t _ => mul_comm _ _

end Cert.Weight
-- ==== Proof.First.Run.lean ====
/-
  The gradient of a feed-forward block's first weight: the two calls run, the result array at what the second leaves.
-/
module

public import proofs.«01_k».proof.Proof.Gen.Kernel4Ideal.Frame

@[expose] public section

set_option maxRecDepth 16384

noncomputable section

namespace Cert.First

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

set_option backward.isDefEq.respectTransparency.types false in
/-- The run: the result array holds what the second call leaves in it, the arguments are as launched. -/
theorem run : θ_run defs (onTc (τ := τ) (main (F := F))) ⟨m, fun _ => 0, ρ⟩ (fun r => ∀ c : Dev nD,
      r.2.mem ((c.tc : Thread nD τ).loc main_v1) = (dat1 (V2 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ c =>
      ⟨(h c _ (mem_uc main_v1 (by decide))).trans (W3_arr m ρ c 2),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c)⟩)

end Cert.First
-- ==== Proof.First.Common.lean ====
/-
  The gradient of a feed-forward block's first weight: one product of the sum over the rows, and the rows in blocks.
-/
module

public import Idealize.ShloMosaic.Lib.Pointwise

@[expose] public section

noncomputable section

namespace Cert.First

open Idealize.ShloMosaic

/-- Row `r`'s product: column `p` of `x` and column `e` of `y`. -/
def term (x : FVec Ideal ⟨2, ![8192, 1024]⟩ .bf16) (y : FVec Ideal ⟨2, ![8192, 2816]⟩ .bf16) (r : ℕ) (p : Fin 1024) (e : ℕ) : EReal :=
  if h : r < 8192 ∧ e < 2816 then x (ix2 ⟨r, h.1⟩ p) * y (ix2 ⟨r, h.1⟩ ⟨e, h.2⟩) else 0

theorem term_of (x : FVec Ideal ⟨2, ![8192, 1024]⟩ .bf16) (y : FVec Ideal ⟨2, ![8192, 2816]⟩ .bf16) {r : ℕ} (hr : r < 8192) (p : Fin 1024) {e : ℕ} (he : e < 2816) :
    term x y r p e = x (ix2 ⟨r, hr⟩ p) * y (ix2 ⟨r, hr⟩ ⟨e, he⟩) := dif_pos ⟨hr, he⟩

/-- A sum over the rows, block by block. -/
theorem sum_blocks (f : ℕ → EReal) :
    ∑ t : Fin 8192, f t.val = ∑ s : Fin 4, ∑ j : Fin 2048, f (2048 * s.val + j.val) := by
  rw [← Fintype.sum_prod_type']
  refine (Fintype.sum_equiv (finProdFinEquiv (m := 4) (n := 2048)) _ _ fun x => congrArg f ?_).symm
  simp only [finProdFinEquiv_apply_val]
  omega

end Cert.First
-- ==== Proof.First.Region0.lean ====
/-
  The gradient of a feed-forward block's first weight: the first call, on the blocks it writes.
-/
module

public import proofs.«01_k».proof.Proof.First.Common
public import proofs.«01_k».proof.Proof.Gen.Kernel4Ideal.Frame
public import Idealize.ShloMosaic.Lib.Pointwise
public import Idealize.ShloMosaic.Lib.Pipeline.Value
public import Idealize.ShloMosaic.Lib.Pipeline.ValueKit.Tiles

@[expose] public section

set_option maxRecDepth 16384

noncomputable section

namespace Cert.First.R0

open Cert.First
open Cert.Kernel4Ideal Cert.Kernel4Ideal.Gen
open Idealize.ShloMosaic
open Idealize.ShloMosaic.TcCoe
open Idealize.SL.Sem
open Idealize.ShloMosaic.Pipeline (Dat)

theorem hz2 : (![0, 0] : Fin 2 → Nat) = fun _ => 0 := funext fun a => by fin_cases a <;> rfl
theorem hz3 : (![0, 0, 0] : Fin 3 → Nat) = fun _ => 0 := funext fun a => by fin_cases a <;> rfl

section

variable {F : FTy → Type} [FloatOps F]

theorem out_A_eq (c : Dev nD) (i : grid0.Coords) (arg3 : Memref sig .tc .vmem S2048x1024 .bf16) (harg3 : arg3.IsWhole) (arg4 : Memref sig .tc .vmem S2048x1408 .bf16) (harg4 : arg4.IsWhole) (arg5 : Memref sig .tc .vmem S1x1024x1408 .f32) (harg5 : arg5.IsWhole) (hc0 : cond0_0 i)
    (x0 : Vec F S2048x1024 .bf16) (x1 : Vec F S2048x1408 .bf16) :
    out0_A_2 c i arg3 harg3 arg4 harg4 arg5 harg5 hc0 x0 x1 = k0_pay2 (k0_pay1 (F := F)) x0 x1 := by
  unfold out0_A_2
  rw [View.read_writes_eq_canon _ _ _ (cover0_A_2 c i arg3 harg3 arg4 harg4 arg5 harg5 hc0 x0 x1)]
  unfold kernelRun0_A
  dsimp only
  try sl_unfold_words
  rw [View.canon_cons_unit_zero (S := S1x1024x1408) hz3, View.readCov_unit_zero (S := S1x1024x1408) _ hz3]
  simp only [View.readAt_eq_ld, harg3.read_unread, harg4.read_unread, harg5.read_unread, View.ld_unit_zero (S := S1x1024x1408) hz3, View.ld_unit_zero (S := S2048x1024) hz2, View.ld_unit_zero (S := S2048x1408) hz2, shapeCast_self]

theorem out_B_eq (c : Dev nD) (i : grid0.Coords) (arg3 : Memref sig .tc .vmem S2048x1024 .bf16) (harg3 : arg3.IsWhole) (arg4 : Memref sig .tc .vmem S2048x1408 .bf16) (harg4 : arg4.IsWhole) (arg5 : Memref sig .tc .vmem S1x1024x1408 .f32) (harg5 : arg5.IsWhole) (hc0 : ¬cond0_0 i)
    (x0 : Vec F S2048x1024 .bf16) (x1 : Vec F S2048x1408 .bf16) (xo2 : Vec F S1x1024x1408 .f32) :
    out0_B_2 c i arg3 harg3 arg4 harg4 arg5 harg5 hc0 x0 x1 xo2 = k0_pay2 xo2 x0 x1 := by
  unfold out0_B_2
  rw [View.read_writes_eq_canon _ _ _ (cover0_B_2 c i arg3 harg3 arg4 harg4 arg5 harg5 hc0 x0 x1 xo2)]
  unfold kernelRun0_B
  dsimp only
  try sl_unfold_words
  rw [View.canon_unit_zero hz3]
  simp only [View.readAt_eq_ld, harg3.read_unread, harg4.read_unread, harg5.read_unread, View.ld_unit_zero (S := S1x1024x1408) hz3, View.ld_unit_zero (S := S2048x1024) hz2, View.ld_unit_zero (S := S2048x1408) hz2, shapeCast_self]

end

theorem zero_at (p : Fin 1024) (q : Fin 1408) : k0_pay1 (F := Ideal) (ix3 0 p q) = 0 := by
  pointwise [k0_pay1]

theorem step_at (acc : FVec Ideal S1x1024x1408 .f32) (x : FVec Ideal S2048x1024 .bf16) (y : FVec Ideal S2048x1408 .bf16) (p : Fin 1024) (q : Fin 1408) :
    k0_pay2 acc x y (ix3 0 p q) = acc (ix3 0 p q) + ∑ j : Fin 2048, x (ix2 j p) * y (ix2 j q) := by
  pointwise [k0_pay2]

variable (V : (c : Dev nD) → (b : Ref sig .tc) → Buf (Elt Ideal) ((c : Thread nD τ).loc b)) (c : Dev nD)

abbrev x0 : FVec Ideal S8192x1024 .bf16 := V c main_arg0
abbrev y0 : FVec Ideal S8192x2816 .bf16 := V c main_arg1

theorem index0 : ∀ t : Fin cfg0.N, win0_0.index t = ![t.val % 4, 0] := (by decide +kernel : ∀ t : Fin grid0.N, _)
theorem index1 : ∀ t : Fin cfg0.N, win0_1.index t = ![t.val % 4, t.val / 4] := (by decide +kernel : ∀ t : Fin grid0.N, _)
theorem index2 : ∀ t : Fin cfg0.N, win0_2.index t = ![0 + t.val / 4, 0, 0] := (by decide +kernel : ∀ t : Fin grid0.N, _)

theorem blk0_at (t : Fin cfg0.N) (j : Fin 2048) (p : Fin 1024) (h : 2048 * (t.val % 4) + j.val < 8192) :
    iblk0 V c 0 t (ix2 j p) = x0 V c (ix2 ⟨2048 * (t.val % 4) + j.val, h⟩ p) := by
  show V c main_arg0 (((cfg0.win 0).blk t).view.emb (ix2 j p)) = _
  refine congrArg (x0 V c) (funext fun a => Fin.ext ?_)
  have h0 : win0_0.index t (0 : Fin 2) = t.val % 4 := congrFun (index0 t) 0
  have h1 : win0_0.index t (1 : Fin 2) = 0 := congrFun (index0 t) 1
  match a with
  | ⟨0, _⟩ => show win0_0.index t (0 : Fin 2) * 2048 + 1 * j.val = 2048 * (t.val % 4) + j.val; rw [h0]; omega
  | ⟨1, _⟩ => show win0_0.index t (1 : Fin 2) * 1024 + 1 * p.val = p.val; rw [h1]; omega

theorem blk1_at (t : Fin cfg0.N) (j : Fin 2048) (q : Fin 1408) (h : 2048 * (t.val % 4) + j.val < 8192) (h' : 1408 * (t.val / 4) + q.val < 2816) :
    iblk0 V c 1 t (ix2 j q) = y0 V c (ix2 ⟨2048 * (t.val % 4) + j.val, h⟩ ⟨1408 * (t.val / 4) + q.val, h'⟩) := by
  show V c main_arg1 (((cfg0.win 1).blk t).view.emb (ix2 j q)) = _
  refine congrArg (y0 V c) (funext fun a => Fin.ext ?_)
  have h0 : win0_1.index t (0 : Fin 2) = t.val % 4 := congrFun (index1 t) 0
  have h1 : win0_1.index t (1 : Fin 2) = t.val / 4 := congrFun (index1 t) 1
  match a with
  | ⟨0, _⟩ => show win0_1.index t (0 : Fin 2) * 2048 + 1 * j.val = 2048 * (t.val % 4) + j.val; rw [h0]; omega
  | ⟨1, _⟩ => show win0_1.index t (1 : Fin 2) * 1408 + 1 * q.val = 1408 * (t.val / 4) + q.val; rw [h1]; omega

/-- What point `n` adds. -/
def part (n : ℕ) (i : S1x1024x1408.Idx) : EReal :=
  ∑ j : Fin 2048, term (x0 V c) (y0 V c) (2048 * (n % 4) + j.val) (i 1) (1408 * (n / 4) + (i 2 : Fin 1408).val)

theorem eq_idx (i : S1x1024x1408.Idx) : i = ix3 0 (i 1) (i 2) := by
  refine funext fun j => ?_
  fin_cases j
  · exact Fin.ext (Nat.lt_one_iff.1 (i 0).isLt)
  · rfl
  · rfl

theorem part_at (n : ℕ) (h : n < cfg0.N) (acc : FVec Ideal S1x1024x1408 .f32) (i : S1x1024x1408.Idx) :
    k0_pay2 acc (iblk0 V c 0 ⟨n, h⟩) (iblk0 V c 1 ⟨n, h⟩) i = acc i + part V c n i := by
  have hn : n < 8 := lt_of_lt_of_eq h N_0
  obtain ⟨p, q, rfl⟩ : ∃ (p : Fin 1024) (q : Fin 1408), i = ix3 0 p q := ⟨i 1, i 2, eq_idx i⟩
  rw [step_at]
  refine congrArg₂ (fun x y : EReal => x + y) rfl (Finset.sum_congr rfl fun j _ => ?_)
  have hj := j.isLt; have hq := q.isLt
  have hr : 2048 * (n % 4) + j.val < 8192 := by omega
  have hs : 1408 * (n / 4) + q.val < 2816 := by omega
  rw [blk0_at V c ⟨n, h⟩ j p hr, blk1_at V c ⟨n, h⟩ j q hr hs]
  exact (term_of (x0 V c) (y0 V c) hr p hs).symm

def reset (n : ℕ) (h : n < cfg0.N) : Vec Ideal S1x1024x1408 .f32 :=
  k0_pay2 (k0_pay1 (F := Ideal)) (iblk0 V c 0 ⟨n, h⟩) (iblk0 V c 1 ⟨n, h⟩)

def step (n : ℕ) (h : n < cfg0.N) (acc : Vec Ideal S1x1024x1408 .f32) : Vec Ideal S1x1024x1408 .f32 :=
  k0_pay2 acc (iblk0 V c 0 ⟨n, h⟩) (iblk0 V c 1 ⟨n, h⟩)

theorem outs_eq (t : Fin cfg0.N) :
    outsAt0 V c t.val t.isLt = Pipeline.accAt (reset V c) (step V c) (4 * (t.val / 4)) (t.val % 4)
      (by have h1 := t.isLt; have h2 := Nat.div_add_mod t.val 4; omega) :=
  Pipeline.eq_accAt_of_mod (fun n h => outsAt0 V c n h) 4 (reset V c) (step V c)
    (fun n h hn => by rw [outsAt0_A V c ⟨n, h⟩ hn]; exact out_A_eq ..)
    (fun n h hn => by rw [outsAt0_B V c ⟨n + 1, h⟩ hn]; exact out_B_eq ..)
    (by decide) t.val t.isLt _

/-- After the fourth point of a block of columns its buffer holds the sums over all the rows. -/
theorem outs_at (t : Fin cfg0.N) (ht : t.val % 4 = 3) (p : Fin 1024) (q : Fin 1408) :
    outsAt0 V c t.val t.isLt (ix3 0 p q) = ∑ s : Fin 8192, term (x0 V c) (y0 V c) s.val p (1408 * (t.val / 4) + q.val) := by
  have hN : t.val < 8 := lt_of_lt_of_eq t.isLt N_0
  rw [outs_eq]
  refine (Pipeline.accAt_add_apply (reset V c) (step V c) (fun _ => (0 : EReal)) (part V c) (4 * (t.val / 4)) 3
    (fun h i => ?_) (fun n h acc i _ _ => part_at V c n h acc i) (t.val % 4) (by omega) _ (ix3 0 p q)).trans ?_
  · refine (part_at V c _ h _ i).trans (congrArg₂ (fun x y : EReal => x + y) ?_ rfl)
    rw [eq_idx i]
    exact zero_at _ _
  · rw [zero_add, ht, sum_blocks (fun s => term (x0 V c) (y0 V c) s p (1408 * (t.val / 4) + q.val)),
      ← Fin.sum_univ_eq_sum_range (fun s => part V c (4 * (t.val / 4) + s) (ix3 0 p q))]
    refine Finset.sum_congr rfl fun s _ => Finset.sum_congr rfl fun j _ => ?_
    have hs := s.isLt
    have e1 : (4 * (t.val / 4) + s.val) % 4 = s.val := by omega
    have e2 : (4 * (t.val / 4) + s.val) / 4 = t.val / 4 := by omega
    rw [e1, e2]
    rfl

/-- The array the region leaves, at an index of the blocks it writes. -/
def G : FVec Ideal S4x1024x1408 .f32 := fun i =>
  ∑ s : Fin 8192, term (x0 V c) (y0 V c) s.val (i 1) (1408 * ((i 0 : Fin 4).val - 0) + (i 2 : Fin 1408).val)

theorem flushed_eq (t : Fin cfg0.N) (hf : (cfg0.win 2).flush t = true) :
    (dat0 V c).flushed 2 t = ((cfg0.win 2).blk t).view.read (Elt Ideal) (G V c) := by
  show (cfg0.win 2).cut (grid0.coords t) ((dat0 V c).after 2 t) = _
  rw [after0_2]
  have ht : t.val % 4 = 3 := (flush0_2 t).mp hf
  funext y
  obtain ⟨p, q, rfl⟩ : ∃ (p : Fin 1024) (q : Fin 1408), y = ix3 0 p q := ⟨y 1, y 2, eq_idx y⟩
  show outsAt0 V c t.val t.isLt (ix3 0 p q) = G V c (((cfg0.win 2).blk t).view.emb (ix3 0 p q))
  rw [outs_at V c t ht]
  have h0 : win0_2.index t (0 : Fin 3) = 0 + t.val / 4 := congrFun (index2 t) 0
  have h1 : win0_2.index t (1 : Fin 3) = 0 := congrFun (index2 t) 1
  have h2 : win0_2.index t (2 : Fin 3) = 0 := congrFun (index2 t) 2
  have e0 : (((cfg0.win 2).blk t).view.emb (ix3 0 p q) (0 : Fin 3)).val = 0 + t.val / 4 := by
    show win0_2.index t (0 : Fin 3) * 1 + 1 * 0 = _; rw [h0]; omega
  have e1 : ((cfg0.win 2).blk t).view.emb (ix3 0 p q) (1 : Fin 3) = p := Fin.ext (by
    show win0_2.index t (1 : Fin 3) * 1024 + 1 * p.val = _; rw [h1]; omega)
  have e2 : (((cfg0.win 2).blk t).view.emb (ix3 0 p q) (2 : Fin 3)).val = q.val := by
    show win0_2.index t (2 : Fin 3) * 1408 + 1 * q.val = _; rw [h2]; omega
  refine Finset.sum_congr rfl fun s _ => ?_
  have e3 : 1408 * (t.val / 4) + q.val = 1408 * ((((cfg0.win 2).blk t).view.emb (ix3 0 p q) (0 : Fin 3)).val - 0) + (((cfg0.win 2).blk t).view.emb (ix3 0 p q) (2 : Fin 3)).val := by
    rw [e0, e2]; omega
  exact congrArg₂ (fun a b => term (x0 V c) (y0 V c) s.val a b) e1.symm e3

theorem mem_blk (t : Fin cfg0.N) (i : S4x1024x1408.Idx) :
    i ∈ ((cfg0.win 2).blk t).view.set ↔ ∀ a : Fin 3, win0_2.index t a * S1x1024x1408.size a ≤ (i a).val ∧ (i a).val < win0_2.index t a * S1x1024x1408.size a + S1x1024x1408.size a := by
  show i ∈ ((View.whole main_v0).slice (win0_2.rect t)).set ↔ _
  rw [View.set_slice_whole, Rect.mem_set_unit]
  exact Iff.rfl

theorem written (b : Fin 4) (hb : 0 ≤ b.val) (hb' : b.val < 0 + 2) (p : Fin 1024) (q : Fin 1408) :
    (dat0 V c).arrAt 2 cfg0.N (ix3 b p q) = G V c (ix3 b p q) := by
  have hp := p.isLt; have hq := q.isLt
  have hk : 4 * (b.val - 0) + 3 < cfg0.N := lt_of_lt_of_eq (by omega : 4 * (b.val - 0) + 3 < 8) N_0.symm
  refine (dat0 V c).arrAt_apply_of_mem 2 (G V c) (flushed_eq V c) cfg0.N ⟨4 * (b.val - 0) + 3, hk⟩ _ hk ((flush0_2 _).mpr ?_) ?_
  · show (4 * (b.val - 0) + 3) % 4 = 3
    omega
  · rw [mem_blk]
    intro a
    have h0 : win0_2.index ⟨4 * (b.val - 0) + 3, hk⟩ (0 : Fin 3) = 0 + (4 * (b.val - 0) + 3) / 4 := congrFun (index2 _) 0
    have h1 : win0_2.index ⟨4 * (b.val - 0) + 3, hk⟩ (1 : Fin 3) = 0 := congrFun (index2 _) 1
    have h2 : win0_2.index ⟨4 * (b.val - 0) + 3, hk⟩ (2 : Fin 3) = 0 := congrFun (index2 _) 2
    match a with
    | ⟨0, _⟩ => show win0_2.index _ (0 : Fin 3) * 1 ≤ b.val ∧ b.val < win0_2.index _ (0 : Fin 3) * 1 + 1; rw [h0]; omega
    | ⟨1, _⟩ => show win0_2.index _ (1 : Fin 3) * 1024 ≤ p.val ∧ p.val < win0_2.index _ (1 : Fin 3) * 1024 + 1024; rw [h1]; omega
    | ⟨2, _⟩ => show win0_2.index _ (2 : Fin 3) * 1408 ≤ q.val ∧ q.val < win0_2.index _ (2 : Fin 3) * 1408 + 1408; rw [h2]; omega

end Cert.First.R0
-- ==== Proof.First.Region1.lean ====
/-
  The gradient of a feed-forward block's first weight: the second call, on the blocks it writes.
-/
module

public import proofs.«01_k».proof.Proof.First.Common
public import proofs.«01_k».proof.Proof.Gen.Kernel4Ideal.Frame
public import Idealize.ShloMosaic.Lib.Pointwise
public import Idealize.ShloMosaic.Lib.Pipeline.Value
public import Idealize.ShloMosaic.Lib.Pipeline.ValueKit.Tiles

@[expose] public section

set_option maxRecDepth 16384

noncomputable section

namespace Cert.First.R1

open Cert.First
open Cert.Kernel4Ideal Cert.Kernel4Ideal.Gen
open Idealize.ShloMosaic
open Idealize.ShloMosaic.TcCoe
open Idealize.SL.Sem
open Idealize.ShloMosaic.Pipeline (Dat)

theorem hz2 : (![0, 0] : Fin 2 → Nat) = fun _ => 0 := funext fun a => by fin_cases a <;> rfl
theorem hz3 : (![0, 0, 0] : Fin 3 → Nat) = fun _ => 0 := funext fun a => by fin_cases a <;> rfl

section

variable {F : FTy → Type} [FloatOps F]

theorem out_A_eq (c : Dev nD) (i : grid1.Coords) (arg3 : Memref sig .tc .vmem S2048x1024 .bf16) (harg3 : arg3.IsWhole) (arg4 : Memref sig .tc .vmem S2048x1408 .bf16) (harg4 : arg4.IsWhole) (arg5 : Memref sig .tc .vmem S1x1024x1408 .f32) (harg5 : arg5.IsWhole) (hc0 : cond1_0 i)
    (x0 : Vec F S2048x1024 .bf16) (x1 : Vec F S2048x1408 .bf16) :
    out1_A_2 c i arg3 harg3 arg4 harg4 arg5 harg5 hc0 x0 x1 = k1_pay2 (k1_pay1 (F := F)) x0 x1 := by
  unfold out1_A_2
  rw [View.read_writes_eq_canon _ _ _ (cover1_A_2 c i arg3 harg3 arg4 harg4 arg5 harg5 hc0 x0 x1)]
  unfold kernelRun1_A
  dsimp only
  try sl_unfold_words
  rw [View.canon_cons_unit_zero (S := S1x1024x1408) hz3, View.readCov_unit_zero (S := S1x1024x1408) _ hz3]
  simp only [View.readAt_eq_ld, harg3.read_unread, harg4.read_unread, harg5.read_unread, View.ld_unit_zero (S := S1x1024x1408) hz3, View.ld_unit_zero (S := S2048x1024) hz2, View.ld_unit_zero (S := S2048x1408) hz2, shapeCast_self]

theorem out_B_eq (c : Dev nD) (i : grid1.Coords) (arg3 : Memref sig .tc .vmem S2048x1024 .bf16) (harg3 : arg3.IsWhole) (arg4 : Memref sig .tc .vmem S2048x1408 .bf16) (harg4 : arg4.IsWhole) (arg5 : Memref sig .tc .vmem S1x1024x1408 .f32) (harg5 : arg5.IsWhole) (hc0 : ¬cond1_0 i)
    (x0 : Vec F S2048x1024 .bf16) (x1 : Vec F S2048x1408 .bf16) (xo2 : Vec F S1x1024x1408 .f32) :
    out1_B_2 c i arg3 harg3 arg4 harg4 arg5 harg5 hc0 x0 x1 xo2 = k1_pay2 xo2 x0 x1 := by
  unfold out1_B_2
  rw [View.read_writes_eq_canon _ _ _ (cover1_B_2 c i arg3 harg3 arg4 harg4 arg5 harg5 hc0 x0 x1 xo2)]
  unfold kernelRun1_B
  dsimp only
  try sl_unfold_words
  rw [View.canon_unit_zero hz3]
  simp only [View.readAt_eq_ld, harg3.read_unread, harg4.read_unread, harg5.read_unread, View.ld_unit_zero (S := S1x1024x1408) hz3, View.ld_unit_zero (S := S2048x1024) hz2, View.ld_unit_zero (S := S2048x1408) hz2, shapeCast_self]

end

theorem zero_at (p : Fin 1024) (q : Fin 1408) : k1_pay1 (F := Ideal) (ix3 0 p q) = 0 := by
  pointwise [k1_pay1]

theorem step_at (acc : FVec Ideal S1x1024x1408 .f32) (x : FVec Ideal S2048x1024 .bf16) (y : FVec Ideal S2048x1408 .bf16) (p : Fin 1024) (q : Fin 1408) :
    k1_pay2 acc x y (ix3 0 p q) = acc (ix3 0 p q) + ∑ j : Fin 2048, x (ix2 j p) * y (ix2 j q) := by
  pointwise [k1_pay2]

variable (V : (c : Dev nD) → (b : Ref sig .tc) → Buf (Elt Ideal) ((c : Thread nD τ).loc b)) (c : Dev nD)

abbrev x0 : FVec Ideal S8192x1024 .bf16 := V c main_arg0
abbrev y0 : FVec Ideal S8192x2816 .bf16 := V c main_arg2

theorem index0 : ∀ t : Fin cfg1.N, win1_0.index t = ![t.val % 4, 0] := (by decide +kernel : ∀ t : Fin grid1.N, _)
theorem index1 : ∀ t : Fin cfg1.N, win1_1.index t = ![t.val % 4, t.val / 4] := (by decide +kernel : ∀ t : Fin grid1.N, _)
theorem index2 : ∀ t : Fin cfg1.N, win1_2.index t = ![2 + t.val / 4, 0, 0] := (by decide +kernel : ∀ t : Fin grid1.N, _)

theorem blk0_at (t : Fin cfg1.N) (j : Fin 2048) (p : Fin 1024) (h : 2048 * (t.val % 4) + j.val < 8192) :
    iblk1 V c 0 t (ix2 j p) = x0 V c (ix2 ⟨2048 * (t.val % 4) + j.val, h⟩ p) := by
  show V c main_arg0 (((cfg1.win 0).blk t).view.emb (ix2 j p)) = _
  refine congrArg (x0 V c) (funext fun a => Fin.ext ?_)
  have h0 : win1_0.index t (0 : Fin 2) = t.val % 4 := congrFun (index0 t) 0
  have h1 : win1_0.index t (1 : Fin 2) = 0 := congrFun (index0 t) 1
  match a with
  | ⟨0, _⟩ => show win1_0.index t (0 : Fin 2) * 2048 + 1 * j.val = 2048 * (t.val % 4) + j.val; rw [h0]; omega
  | ⟨1, _⟩ => show win1_0.index t (1 : Fin 2) * 1024 + 1 * p.val = p.val; rw [h1]; omega

theorem blk1_at (t : Fin cfg1.N) (j : Fin 2048) (q : Fin 1408) (h : 2048 * (t.val % 4) + j.val < 8192) (h' : 1408 * (t.val / 4) + q.val < 2816) :
    iblk1 V c 1 t (ix2 j q) = y0 V c (ix2 ⟨2048 * (t.val % 4) + j.val, h⟩ ⟨1408 * (t.val / 4) + q.val, h'⟩) := by
  show V c main_arg2 (((cfg1.win 1).blk t).view.emb (ix2 j q)) = _
  refine congrArg (y0 V c) (funext fun a => Fin.ext ?_)
  have h0 : win1_1.index t (0 : Fin 2) = t.val % 4 := congrFun (index1 t) 0
  have h1 : win1_1.index t (1 : Fin 2) = t.val / 4 := congrFun (index1 t) 1
  match a with
  | ⟨0, _⟩ => show win1_1.index t (0 : Fin 2) * 2048 + 1 * j.val = 2048 * (t.val % 4) + j.val; rw [h0]; omega
  | ⟨1, _⟩ => show win1_1.index t (1 : Fin 2) * 1408 + 1 * q.val = 1408 * (t.val / 4) + q.val; rw [h1]; omega

/-- What point `n` adds. -/
def part (n : ℕ) (i : S1x1024x1408.Idx) : EReal :=
  ∑ j : Fin 2048, term (x0 V c) (y0 V c) (2048 * (n % 4) + j.val) (i 1) (1408 * (n / 4) + (i 2 : Fin 1408).val)

theorem eq_idx (i : S1x1024x1408.Idx) : i = ix3 0 (i 1) (i 2) := by
  refine funext fun j => ?_
  fin_cases j
  · exact Fin.ext (Nat.lt_one_iff.1 (i 0).isLt)
  · rfl
  · rfl

theorem part_at (n : ℕ) (h : n < cfg1.N) (acc : FVec Ideal S1x1024x1408 .f32) (i : S1x1024x1408.Idx) :
    k1_pay2 acc (iblk1 V c 0 ⟨n, h⟩) (iblk1 V c 1 ⟨n, h⟩) i = acc i + part V c n i := by
  have hn : n < 8 := lt_of_lt_of_eq h N_1
  obtain ⟨p, q, rfl⟩ : ∃ (p : Fin 1024) (q : Fin 1408), i = ix3 0 p q := ⟨i 1, i 2, eq_idx i⟩
  rw [step_at]
  refine congrArg₂ (fun x y : EReal => x + y) rfl (Finset.sum_congr rfl fun j _ => ?_)
  have hj := j.isLt; have hq := q.isLt
  have hr : 2048 * (n % 4) + j.val < 8192 := by omega
  have hs : 1408 * (n / 4) + q.val < 2816 := by omega
  rw [blk0_at V c ⟨n, h⟩ j p hr, blk1_at V c ⟨n, h⟩ j q hr hs]
  exact (term_of (x0 V c) (y0 V c) hr p hs).symm

def reset (n : ℕ) (h : n < cfg1.N) : Vec Ideal S1x1024x1408 .f32 :=
  k1_pay2 (k1_pay1 (F := Ideal)) (iblk1 V c 0 ⟨n, h⟩) (iblk1 V c 1 ⟨n, h⟩)

def step (n : ℕ) (h : n < cfg1.N) (acc : Vec Ideal S1x1024x1408 .f32) : Vec Ideal S1x1024x1408 .f32 :=
  k1_pay2 acc (iblk1 V c 0 ⟨n, h⟩) (iblk1 V c 1 ⟨n, h⟩)

theorem outs_eq (t : Fin cfg1.N) :
    outsAt1 V c t.val t.isLt = Pipeline.accAt (reset V c) (step V c) (4 * (t.val / 4)) (t.val % 4)
      (by have h1 := t.isLt; have h2 := Nat.div_add_mod t.val 4; omega) :=
  Pipeline.eq_accAt_of_mod (fun n h => outsAt1 V c n h) 4 (reset V c) (step V c)
    (fun n h hn => by rw [outsAt1_A V c ⟨n, h⟩ hn]; exact out_A_eq ..)
    (fun n h hn => by rw [outsAt1_B V c ⟨n + 1, h⟩ hn]; exact out_B_eq ..)
    (by decide) t.val t.isLt _

/-- After the fourth point of a block of columns its buffer holds the sums over all the rows. -/
theorem outs_at (t : Fin cfg1.N) (ht : t.val % 4 = 3) (p : Fin 1024) (q : Fin 1408) :
    outsAt1 V c t.val t.isLt (ix3 0 p q) = ∑ s : Fin 8192, term (x0 V c) (y0 V c) s.val p (1408 * (t.val / 4) + q.val) := by
  have hN : t.val < 8 := lt_of_lt_of_eq t.isLt N_1
  rw [outs_eq]
  refine (Pipeline.accAt_add_apply (reset V c) (step V c) (fun _ => (0 : EReal)) (part V c) (4 * (t.val / 4)) 3
    (fun h i => ?_) (fun n h acc i _ _ => part_at V c n h acc i) (t.val % 4) (by omega) _ (ix3 0 p q)).trans ?_
  · refine (part_at V c _ h _ i).trans (congrArg₂ (fun x y : EReal => x + y) ?_ rfl)
    rw [eq_idx i]
    exact zero_at _ _
  · rw [zero_add, ht, sum_blocks (fun s => term (x0 V c) (y0 V c) s p (1408 * (t.val / 4) + q.val)),
      ← Fin.sum_univ_eq_sum_range (fun s => part V c (4 * (t.val / 4) + s) (ix3 0 p q))]
    refine Finset.sum_congr rfl fun s _ => Finset.sum_congr rfl fun j _ => ?_
    have hs := s.isLt
    have e1 : (4 * (t.val / 4) + s.val) % 4 = s.val := by omega
    have e2 : (4 * (t.val / 4) + s.val) / 4 = t.val / 4 := by omega
    rw [e1, e2]
    rfl

/-- The array the region leaves, at an index of the blocks it writes. -/
def G : FVec Ideal S4x1024x1408 .f32 := fun i =>
  ∑ s : Fin 8192, term (x0 V c) (y0 V c) s.val (i 1) (1408 * ((i 0 : Fin 4).val - 2) + (i 2 : Fin 1408).val)

theorem flushed_eq (t : Fin cfg1.N) (hf : (cfg1.win 2).flush t = true) :
    (dat1 V c).flushed 2 t = ((cfg1.win 2).blk t).view.read (Elt Ideal) (G V c) := by
  show (cfg1.win 2).cut (grid1.coords t) ((dat1 V c).after 2 t) = _
  rw [after1_2]
  have ht : t.val % 4 = 3 := (flush1_2 t).mp hf
  funext y
  obtain ⟨p, q, rfl⟩ : ∃ (p : Fin 1024) (q : Fin 1408), y = ix3 0 p q := ⟨y 1, y 2, eq_idx y⟩
  show outsAt1 V c t.val t.isLt (ix3 0 p q) = G V c (((cfg1.win 2).blk t).view.emb (ix3 0 p q))
  rw [outs_at V c t ht]
  have h0 : win1_2.index t (0 : Fin 3) = 2 + t.val / 4 := congrFun (index2 t) 0
  have h1 : win1_2.index t (1 : Fin 3) = 0 := congrFun (index2 t) 1
  have h2 : win1_2.index t (2 : Fin 3) = 0 := congrFun (index2 t) 2
  have e0 : (((cfg1.win 2).blk t).view.emb (ix3 0 p q) (0 : Fin 3)).val = 2 + t.val / 4 := by
    show win1_2.index t (0 : Fin 3) * 1 + 1 * 0 = _; rw [h0]; omega
  have e1 : ((cfg1.win 2).blk t).view.emb (ix3 0 p q) (1 : Fin 3) = p := Fin.ext (by
    show win1_2.index t (1 : Fin 3) * 1024 + 1 * p.val = _; rw [h1]; omega)
  have e2 : (((cfg1.win 2).blk t).view.emb (ix3 0 p q) (2 : Fin 3)).val = q.val := by
    show win1_2.index t (2 : Fin 3) * 1408 + 1 * q.val = _; rw [h2]; omega
  refine Finset.sum_congr rfl fun s _ => ?_
  have e3 : 1408 * (t.val / 4) + q.val = 1408 * ((((cfg1.win 2).blk t).view.emb (ix3 0 p q) (0 : Fin 3)).val - 2) + (((cfg1.win 2).blk t).view.emb (ix3 0 p q) (2 : Fin 3)).val := by
    rw [e0, e2]; omega
  exact congrArg₂ (fun a b => term (x0 V c) (y0 V c) s.val a b) e1.symm e3

theorem mem_blk (t : Fin cfg1.N) (i : S4x1024x1408.Idx) :
    i ∈ ((cfg1.win 2).blk t).view.set ↔ ∀ a : Fin 3, win1_2.index t a * S1x1024x1408.size a ≤ (i a).val ∧ (i a).val < win1_2.index t a * S1x1024x1408.size a + S1x1024x1408.size a := by
  show i ∈ ((View.whole main_v1).slice (win1_2.rect t)).set ↔ _
  rw [View.set_slice_whole, Rect.mem_set_unit]
  exact Iff.rfl

theorem written (b : Fin 4) (hb : 2 ≤ b.val) (hb' : b.val < 2 + 2) (p : Fin 1024) (q : Fin 1408) :
    (dat1 V c).arrAt 2 cfg1.N (ix3 b p q) = G V c (ix3 b p q) := by
  have hp := p.isLt; have hq := q.isLt
  have hk : 4 * (b.val - 2) + 3 < cfg1.N := lt_of_lt_of_eq (by omega : 4 * (b.val - 2) + 3 < 8) N_1.symm
  refine (dat1 V c).arrAt_apply_of_mem 2 (G V c) (flushed_eq V c) cfg1.N ⟨4 * (b.val - 2) + 3, hk⟩ _ hk ((flush1_2 _).mpr ?_) ?_
  · show (4 * (b.val - 2) + 3) % 4 = 3
    omega
  · rw [mem_blk]
    intro a
    have h0 : win1_2.index ⟨4 * (b.val - 2) + 3, hk⟩ (0 : Fin 3) = 2 + (4 * (b.val - 2) + 3) / 4 := congrFun (index2 _) 0
    have h1 : win1_2.index ⟨4 * (b.val - 2) + 3, hk⟩ (1 : Fin 3) = 0 := congrFun (index2 _) 1
    have h2 : win1_2.index ⟨4 * (b.val - 2) + 3, hk⟩ (2 : Fin 3) = 0 := congrFun (index2 _) 2
    match a with
    | ⟨0, _⟩ => show win1_2.index _ (0 : Fin 3) * 1 ≤ b.val ∧ b.val < win1_2.index _ (0 : Fin 3) * 1 + 1; rw [h0]; omega
    | ⟨1, _⟩ => show win1_2.index _ (1 : Fin 3) * 1024 ≤ p.val ∧ p.val < win1_2.index _ (1 : Fin 3) * 1024 + 1024; rw [h1]; omega
    | ⟨2, _⟩ => show win1_2.index _ (2 : Fin 3) * 1408 ≤ q.val ∧ q.val < win1_2.index _ (2 : Fin 3) * 1408 + 1408; rw [h2]; omega

/-- The blocks it does not write keep what they held. -/
theorem kept (b : Fin 4) (hb : b.val < 2) (p : Fin 1024) (q : Fin 1408) :
    (dat1 V c).arrAt 2 cfg1.N (ix3 b p q) = V c main_v1 (ix3 b p q) := by
  rw [(dat1 V c).arrAt_apply_of_forall_not_mem 2 cfg1.N (ix3 b p q) (fun t _ hf hi => ?_), A_eq1]
  have h0 : win1_2.index t (0 : Fin 3) = 2 + t.val / 4 := congrFun (index2 t) 0
  have h : win1_2.index t (0 : Fin 3) * 1 ≤ b.val := ((mem_blk t _).1 hi 0).1
  omega

end Cert.First.R1
-- ==== Proof.First.Ref.lean ====
/-
  The gradient of a feed-forward block's first weight: the reference read at an index.
-/
module

public import proofs.«01_k».proof.Proof.First.Common
public import proofs.«01_k».proof.Proof.Gen.Reference4Ideal.Run
public import Idealize.ShloMosaic.Lib.Pointwise

@[expose] public section

set_option maxRecDepth 16384

noncomputable section

namespace Cert.First

open Cert.Reference4Ideal
open Idealize.ShloMosaic
open Idealize.ShloMosaic.TcCoe
open Idealize.SL.Sem

theorem ref_dot (hb : FTy.bits .bf16 < FTy.bits .f32) (hT : S2816x1024.Transposes [1, 0] S1024x2816) (x : FVec Ideal S8192x1024 .bf16) (y : FVec Ideal S8192x2816 .bf16) (p : Fin 1024) (e : Fin 2816) :
    transpose S1024x2816 [1, 0] (Host.dotGeneral (F := Ideal) dot_S8192x2816_S8192x1024_S2816x1024_0_0_1_1_n_n none (extf .f32 y hb) (extf .f32 x hb)) hT (ix2 p e)
      = ∑ t : Fin 8192, y (ix2 t e) * x (ix2 t p) := by
  pointwise

theorem ref_half (hC : S1024x2816.ShapeCasts S1024x2x1408) (hT : S1024x2x1408.Transposes [1, 0, 2] S2x1024x1408) (z : FVec Ideal S1024x2816 .f32) (b : Fin 2) (p : Fin 1024) (q : Fin 1408) :
    transpose S2x1024x1408 [1, 0, 2] (shapeCast S1024x2x1408 z hC) hT (ix3 b p q) = z (ix2 p ⟨b.val * 1408 + q.val, by omega⟩) := by
  pointwise

theorem ref_low (h : Shape.Concatenates [S2x1024x1408, S2x1024x1408] S4x1024x1408 0) (u v : FVec Ideal S2x1024x1408 .f32) (b : Fin 4) (hb : b.val < 2) (p : Fin 1024) (q : Fin 1408) :
    concatenate S4x1024x1408 0 [⟨S2x1024x1408, u⟩, ⟨S2x1024x1408, v⟩] h (ix3 b p q) = u (ix3 ⟨b.val, hb⟩ p q) := by
  pointwise
  rw [dif_pos hb]

theorem ref_high (h : Shape.Concatenates [S2x1024x1408, S2x1024x1408] S4x1024x1408 0) (u v : FVec Ideal S2x1024x1408 .f32) (b : Fin 4) (hb : ¬b.val < 2) (p : Fin 1024) (q : Fin 1408) :
    concatenate S4x1024x1408 0 [⟨S2x1024x1408, u⟩, ⟨S2x1024x1408, v⟩] h (ix3 b p q) = v (ix3 ⟨b.val - 2, by omega⟩ p q) := by
  pointwise
  rw [dif_neg hb]

/-- One half's gradient, block `b` of its two. -/
theorem ref_at (hb : FTy.bits .bf16 < FTy.bits .f32) (h1 : S2816x1024.Transposes [1, 0] S1024x2816) (hC : S1024x2816.ShapeCasts S1024x2x1408) (h2 : S1024x2x1408.Transposes [1, 0, 2] S2x1024x1408)
    (x : FVec Ideal S8192x1024 .bf16) (y : FVec Ideal S8192x2816 .bf16) (b : Fin 2) (p : Fin 1024) (q : Fin 1408) (k : ℕ) (hk : k = b.val) :
    transpose S2x1024x1408 [1, 0, 2] (shapeCast S1024x2x1408 (transpose S1024x2816 [1, 0] (Host.dotGeneral (F := Ideal) dot_S8192x2816_S8192x1024_S2816x1024_0_0_1_1_n_n none (extf .f32 y hb) (extf .f32 x hb)) h1) hC) h2 (ix3 b p q)
      = ∑ s : Fin 8192, term x y s.val p (1408 * k + q.val) := by
  subst hk
  rw [ref_half, ref_dot]
  refine Finset.sum_congr rfl fun s _ => ?_
  have he : 1408 * b.val + q.val < 2816 := by omega
  rw [term_of x y s.isLt p he, mul_comm]
  exact congrArg (fun e => x (ix2 s p) * y (ix2 s e)) (Fin.ext (by show b.val * 1408 + q.val = 1408 * b.val + q.val; omega))

end Cert.First
-- ==== Proof.First.Value.lean ====
/-
  The gradient of a feed-forward block's first weight: the four blocks of the result, and the claims.
-/
module

public import proofs.«01_k».proof.Defs
public import proofs.«01_k».proof.Proof.First.Run
public import proofs.«01_k».proof.Proof.First.Region0
public import proofs.«01_k».proof.Proof.First.Region1
public import proofs.«01_k».proof.Proof.First.Ref
public import Idealize.ShloMosaic.Adequacy

@[expose] public section

set_option maxRecDepth 16384

noncomputable section

namespace Cert.First

open Cert.Kernel4Ideal Cert.Kernel4Ideal.Gen
open Idealize.ShloMosaic Idealize.ShloMosaic.TcCoe
open Idealize.SL.Sem

section

variable (m : (ℓ : Loc nD τ sig) → Buf (Elt Ideal) ℓ) (ρ : Dev nD → PrngReg) (c : Dev nD)

abbrev n0 : FVec Ideal S8192x1024 .bf16 := m ((c.tc : Thread nD τ).loc main_arg0)
abbrev g0 : FVec Ideal S8192x2816 .bf16 := m ((c.tc : Thread nD τ).loc main_arg1)
abbrev u0 : FVec Ideal S8192x2816 .bf16 := m ((c.tc : Thread nD τ).loc main_arg2)

/-- The second call finds in its array what the first left. -/
theorem handed : V2 m ρ c main_v1 = (dat0 (V0 m ρ) c).arrAt 2 cfg0.N := by
  refine Eq.trans ?_ (W1_arr m ρ c 2)
  show StableHlo.after hostOps1 (W1 m ρ c) (Proc.devRef .tc main_v1) = _
  simp only [hostOps1]
  after_results_simp
  rfl

theorem entry_n : R1.x0 (V2 m ρ) c = n0 m c := W2_args m ρ c main_arg0 (by decide)
theorem entry_u : R1.y0 (V2 m ρ) c = u0 m c := W2_args m ρ c main_arg2 (by decide)

theorem low (b : Fin 4) (hb : b.val < 2) (p : Fin 1024) (q : Fin 1408) :
    (dat1 (V2 m ρ) c).arrAt 2 cfg1.N (ix3 b p q) = ∑ s : Fin 8192, term (n0 m c) (g0 m c) s.val p (1408 * b.val + q.val) := by
  rw [R1.kept (V2 m ρ) c b hb p q, handed]
  exact R0.written (V0 m ρ) c b (Nat.zero_le _) (by omega) p q

theorem high (b : Fin 4) (hb : ¬b.val < 2) (p : Fin 1024) (q : Fin 1408) :
    (dat1 (V2 m ρ) c).arrAt 2 cfg1.N (ix3 b p q) = ∑ s : Fin 8192, term (n0 m c) (u0 m c) s.val p (1408 * (b.val - 2) + q.val) := by
  rw [R1.written (V2 m ρ) c b (by omega) (by omega) p q, ← entry_n m ρ c, ← entry_u m ρ c]
  rfl

end

theorem eq_ix3 {n0 n1 n2 : ℕ} (i : (⟨3, ![n0, n1, n2]⟩ : Shape).Idx) : i = ix3 (i 0) (i 1) (i 2) := by
  refine funext fun j => ?_
  fin_cases j <;> rfl

theorem frame : Cert.quiescent_Kernel4Ideal := fun m ρ _ => Cert.Kernel4Ideal.Gen.frame m ρ

theorem frame_reference : Cert.quiescent_Reference4Ideal := fun m ρ _ =>
  (θ_run Cert.Reference4Ideal.defs _ _).mono (fun r h => ⟨fun c => (h c).2, Idealize.ShloMosaic.sem_eq_zero_of_no_sems (by decide) r.2⟩)
    (Cert.Reference4Ideal.Value.run (F := Ideal) m ρ)

theorem algebraic : Cert.algebraic_Kernel4Ideal_Reference4Ideal := by
  intro m g m' g' _ hag
  refine ⟨fun c => (dat1 (V2 m g) c).arrAt 2 cfg1.N, run (F := Ideal) m g,
    (θ_run Cert.Reference4Ideal.defs _ _).mono (fun r h c => ⟨(h c).1.trans ?_, (h c).2⟩) (Cert.Reference4Ideal.Value.run (F := Ideal) m' g')⟩
  rw [(hag c).1, (hag c).2.1, (hag c).2.2]
  refine funext fun i => ?_
  obtain ⟨b, p, q, rfl⟩ : ∃ (b : Fin 4) (p : Fin 1024) (q : Fin 1408), i = ix3 b p q := ⟨i 0, i 1, i 2, eq_ix3 i⟩
  by_cases hb : b.val < 2
  · exact (ref_low _ _ _ b hb p q).trans ((ref_at _ _ _ _ (n0 m c) (g0 m c) ⟨b.val, hb⟩ p q b.val rfl).trans (low m g c b hb p q).symm)
  · exact (ref_high _ _ _ b hb p q).trans ((ref_at _ _ _ _ (n0 m c) (u0 m c) ⟨b.val - 2, by omega⟩ p q (b.val - 2) rfl).trans (high m g c b hb p q).symm)

end Cert.First
-- ==== Proof.Project.Inputs.lean ====
/-
  The projection of the gated recurrence's four inputs: the product with the weight's first 4096 columns.
-/
module

public import proofs.«01_k».proof.Defs
public import proofs.«01_k».proof.Proof.Gen.Kernel5Ideal.Value
public import proofs.«01_k».proof.Proof.Gen.Reference5Ideal.Run
public import Idealize.ShloMosaic.Lib.Pointwise
public import Idealize.ShloMosaic.Lib.Pipeline.ValueKit.Tiles
public import Idealize.ShloMosaic.Adequacy

@[expose] public section

set_option maxRecDepth 16384

noncomputable section

namespace Cert.Inputs

open Idealize.ShloMosaic
open Idealize.ShloMosaic.TcCoe
open Idealize.SL.Sem

/-- Column `e` of the whole weight. -/
def col (e : Fin 4096) : Fin 4800 := ⟨e.val, by omega⟩

section

open Cert.Reference5Ideal

theorem ref_at (hb ht : FTy.bits .bf16 < FTy.bits .f32) (hs : S8192x4800.Slices ![0, 0] S8192x4096) (x : FVec Ideal S8192x1024 .bf16) (w : FVec Ideal S1024x4800 .bf16) (p : Fin 8192) (q : Fin 4096) :
    (truncf .bf16 (extractStridedSlice S8192x4096 ![0, 0] (Host.dotGeneral (F := Ideal) dot_S8192x1024_S1024x4800_S8192x4800_1_0_0_1_n_n none (extf .f32 x hb) (extf .f32 w hb)) hs) ht : FVec Ideal S8192x4096 .bf16) (ix2 p q)
      = ∑ j : Fin 1024, x (ix2 p j) * w (ix2 j (col q)) := by
  unfold col
  pointwise

end

open Cert.Kernel5Ideal Cert.Kernel5Ideal.Gen

theorem eq_ix2 {n0 n1 : ℕ} (i : (⟨2, ![n0, n1]⟩ : Shape).Idx) : i = ix2 (i 0) (i 1) := by
  refine funext fun j => ?_
  fin_cases j <;> rfl

section

variable (x0 : Vec Ideal S512x1024 .bf16) (x1 : Vec Ideal S1024x4096 .bf16)

theorem ld_x : View.ld x0 r0_0 = x0 := View.ld_unit_zero (by funext a; fin_cases a <;> rfl) _ x0

theorem ld_w (o : ℕ) (inb : ∀ a, (![0, o] : Fin 2 → ℕ) a + S1024x512.size a ≤ S1024x4096.size a) (e : Fin 4096) (q : Fin 512) (h : e.val = o + q.val) (j : Fin 1024) :
    View.ld x1 (Rect.unit (s := S1024x4096) ![0, o] S1024x512.size inb) (ix2 j q) = x1 (ix2 j e) :=
  View.ld_unit_apply_of x1 _ _ inb (ix2 j q) (ix2 j e) (fun a => match a with | ⟨0, _⟩ => (Nat.zero_add _).symm | ⟨1, _⟩ => h)

/-- A stored block of 512 columns, from a payload that is the product. -/
theorem piece (pay : Vec Ideal S512x1024 .bf16 → Vec Ideal S1024x512 .bf16 → FVec Ideal S512x512 .bf16)
    (hpay : ∀ (x : FVec Ideal S512x1024 .bf16) (w : FVec Ideal S1024x512 .bf16) (a e : Fin 512), pay x w (ix2 a e) = ∑ j : Fin 1024, x (ix2 a j) * w (ix2 j e))
    (o : ℕ) (inw : ∀ a, (![0, o] : Fin 2 → ℕ) a + S1024x512.size a ≤ S1024x4096.size a) (a : Fin 512) (e : Fin 4096) :
    View.TileAt (S := S512x4096) (Val := Elt Ideal) (e := .bf16) (ix2 a e) ![0, o] S512x512.size
      (pay (View.ld x0 r0_0) (View.ld x1 (Rect.unit (s := S1024x4096) ![0, o] S1024x512.size inw)))
      (∑ j : Fin 1024, x0 (ix2 a j) * x1 (ix2 j e)) := by
  intro x hx
  obtain ⟨p, q, rfl⟩ : ∃ (p q : Fin 512), x = ix2 p q := ⟨x 0, x 1, eq_ix2 x⟩
  obtain rfl : p = a := Fin.ext ((hx 0).trans (Nat.zero_add _)).symm
  have h : e.val = o + q.val := hx 1
  rw [hpay, ld_x]
  simp only [ld_w x1 o inw e q h]

theorem pay1_at (x : FVec Ideal S512x1024 .bf16) (w : FVec Ideal S1024x512 .bf16) (a e : Fin 512) :
    k0_pay1 (F := Ideal) x w (ix2 a e) = ∑ j : Fin 1024, x (ix2 a j) * w (ix2 j e) := by
  pointwise [k0_pay1]

theorem pay2_at (x : FVec Ideal S512x1024 .bf16) (w : FVec Ideal S1024x512 .bf16) (a e : Fin 512) :
    k0_pay2 (F := Ideal) x w (ix2 a e) = ∑ j : Fin 1024, x (ix2 a j) * w (ix2 j e) := by
  pointwise [k0_pay2]

theorem pay3_at (x : FVec Ideal S512x1024 .bf16) (w : FVec Ideal S1024x512 .bf16) (a e : Fin 512) :
    k0_pay3 (F := Ideal) x w (ix2 a e) = ∑ j : Fin 1024, x (ix2 a j) * w (ix2 j e) := by
  pointwise [k0_pay3]

theorem pay4_at (x : FVec Ideal S512x1024 .bf16) (w : FVec Ideal S1024x512 .bf16) (a e : Fin 512) :
    k0_pay4 (F := Ideal) x w (ix2 a e) = ∑ j : Fin 1024, x (ix2 a j) * w (ix2 j e) := by
  pointwise [k0_pay4]

theorem pay5_at (x : FVec Ideal S512x1024 .bf16) (w : FVec Ideal S1024x512 .bf16) (a e : Fin 512) :
    k0_pay5 (F := Ideal) x w (ix2 a e) = ∑ j : Fin 1024, x (ix2 a j) * w (ix2 j e) := by
  pointwise [k0_pay5]

theorem pay6_at (x : FVec Ideal S512x1024 .bf16) (w : FVec Ideal S1024x512 .bf16) (a e : Fin 512) :
    k0_pay6 (F := Ideal) x w (ix2 a e) = ∑ j : Fin 1024, x (ix2 a j) * w (ix2 j e) := by
  pointwise [k0_pay6]

theorem pay7_at (x : FVec Ideal S512x1024 .bf16) (w : FVec Ideal S1024x512 .bf16) (a e : Fin 512) :
    k0_pay7 (F := Ideal) x w (ix2 a e) = ∑ j : Fin 1024, x (ix2 a j) * w (ix2 j e) := by
  pointwise [k0_pay7]

theorem pay8_at (x : FVec Ideal S512x1024 .bf16) (w : FVec Ideal S1024x512 .bf16) (a e : Fin 512) :
    k0_pay8 (F := Ideal) x w (ix2 a e) = ∑ j : Fin 1024, x (ix2 a j) * w (ix2 j e) := by
  pointwise [k0_pay8]

theorem out_at (a : Fin 512) (e : Fin 4096) : out0_2 x0 x1 (ix2 a e) = ∑ j : Fin 1024, x0 (ix2 a j) * x1 (ix2 j e) := by
  unfold out0_2
  refine View.canon_eq_of_allAt _ _ _ (cover0_2 _ _ _ _ _ _ _ _ _ ) ?_
  refine View.allAt_cons_unit _ _ _ _ _ (piece x0 x1 (k0_pay3 (F := Ideal)) pay3_at 3584 _ a e) ?_
  refine View.allAt_cons_unit _ _ _ _ _ (piece x0 x1 (k0_pay2 (F := Ideal)) pay2_at 3072 _ a e) ?_
  refine View.allAt_cons_unit _ _ _ _ _ (piece x0 x1 (k0_pay1 (F := Ideal)) pay1_at 2560 _ a e) ?_
  refine View.allAt_cons_unit _ _ _ _ _ (piece x0 x1 (k0_pay8 (F := Ideal)) pay8_at 2048 _ a e) ?_
  refine View.allAt_cons_unit _ _ _ _ _ (piece x0 x1 (k0_pay7 (F := Ideal)) pay7_at 1536 _ a e) ?_
  refine View.allAt_cons_unit _ _ _ _ _ (piece x0 x1 (k0_pay6 (F := Ideal)) pay6_at 1024 _ a e) ?_
  refine View.allAt_cons_unit _ _ _ _ _ (piece x0 x1 (k0_pay5 (F := Ideal)) pay5_at 512 _ a e) ?_
  refine View.allAt_cons_unit _ _ _ _ _ (piece x0 x1 (k0_pay4 (F := Ideal)) pay4_at 0 _ a e) ?_
  exact View.allAt_nil _ _

end

variable (m : (ℓ : Loc nD τ sig) → Buf (Elt Ideal) ℓ) (c : Dev nD)

abbrev u0 : FVec Ideal S8192x1024 .bf16 := m ((c.tc : Thread nD τ).loc main_arg0)
abbrev w0 : FVec Ideal S1024x4800 .bf16 := m ((c.tc : Thread nD τ).loc main_arg1)

theorem index0 : ∀ t : Fin cfg0.N, win0_0.index t = ![t.val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![t.val, 0] := (by decide +kernel : ∀ t : Fin grid0.N, _)

/-- Row `a` of block `t`. -/
def row (t : Fin cfg0.N) (a : Fin 512) : Fin 8192 :=
  ⟨512 * t.val + a.val, by have := lt_of_lt_of_eq t.isLt N_0; omega⟩

theorem blk0_at (t : Fin cfg0.N) (a : Fin 512) (j : Fin 1024) : iblk m c 0 t (ix2 a j) = u0 m c (ix2 (row t a) j) := by
  show V m c main_arg0 (((cfg0.win 0).blk t).view.emb (ix2 a j)) = _
  rw [V_main_arg0]
  refine congrArg (u0 m c) (funext fun b => Fin.ext ?_)
  have h0 : win0_0.index t (0 : Fin 2) = t.val := congrFun (index0 t) 0
  have h1 : win0_0.index t (1 : Fin 2) = 0 := congrFun (index0 t) 1
  match b with
  | ⟨0, _⟩ => show win0_0.index t (0 : Fin 2) * 512 + 1 * a.val = 512 * t.val + a.val; rw [h0]; omega
  | ⟨1, _⟩ => show win0_0.index t (1 : Fin 2) * 1024 + 1 * j.val = j.val; rw [h1]; omega

/-- The weight's first 4096 columns. -/
theorem entry_w : V m c main_v0 = extractStridedSlice S1024x4096 ![0, 0] (w0 m c) slices_S1024x4800_S1024x4096_0_0 := by
  show StableHlo.after hostOps0 (fun b => m (c, b)) (Proc.devRef .tc main_v0) = _
  simp only [hostOps0]
  after_results_simp

theorem entry_at (j : Fin 1024) (e : Fin 4096) : (V m c main_v0 : FVec Ideal S1024x4096 .bf16) (ix2 j e) = w0 m c (ix2 j (col e)) := by
  rw [entry_w]
  unfold col
  pointwise

theorem blk1_at (t : Fin cfg0.N) (e : Fin 4096) (j : Fin 1024) : iblk m c 1 t (ix2 j e) = w0 m c (ix2 j (col e)) := by
  show V m c main_v0 (((cfg0.win 1).blk t).view.emb (ix2 j e)) = _
  refine Eq.trans ?_ (entry_at m c j e)
  refine congrArg (V m c main_v0 : FVec Ideal S1024x4096 .bf16) (funext fun b => Fin.ext ?_)
  have h0 : win0_1.index t (0 : Fin 2) = 0 := congrFun (index1 t) 0
  have h1 : win0_1.index t (1 : Fin 2) = 0 := congrFun (index1 t) 1
  match b with
  | ⟨0, _⟩ => show win0_1.index t (0 : Fin 2) * 1024 + 1 * j.val = j.val; rw [h0]; omega
  | ⟨1, _⟩ => show win0_1.index t (1 : Fin 2) * 4096 + 1 * e.val = e.val; rw [h1]; omega

/-- The product of the two arguments at a row and a column. -/
def dot (p : Fin 8192) (q : Fin 4096) : EReal := ∑ j : Fin 1024, u0 m c (ix2 p j) * w0 m c (ix2 j (col q))

def G : FVec Ideal S8192x4096 .bf16 := fun i => dot m c (i 0) (i 1)

theorem out_blk (t : Fin cfg0.N) (a : Fin 512) (e : Fin 4096) :
    out0_2 (iblk m c 0 t) (iblk m c 1 t) (ix2 a e) = G m c (ix2 (row t a) e) := by
  refine (out_at _ _ a e).trans ?_
  show _ = ∑ j : Fin 1024, u0 m c (ix2 (row t a) j) * w0 m c (ix2 j (col e))
  refine Finset.sum_congr rfl fun j _ => ?_
  rw [blk0_at, blk1_at]

theorem emb (t : Fin cfg0.N) (a : Fin 512) (e : Fin 4096) : ((cfg0.win 2).blk t).view.emb (ix2 a e) = (ix2 (row t a) e : S8192x4096.Idx) := by
  refine funext fun b => Fin.ext ?_
  have h0 : win0_2.index t (0 : Fin 2) = t.val := congrFun (index2 t) 0
  have h1 : win0_2.index t (1 : Fin 2) = 0 := congrFun (index2 t) 1
  match b with
  | ⟨0, _⟩ => show win0_2.index t (0 : Fin 2) * 512 + 1 * a.val = 512 * t.val + a.val; rw [h0]; omega
  | ⟨1, _⟩ => show win0_2.index t (1 : Fin 2) * 4096 + 1 * e.val = e.val; rw [h1]; omega

theorem flushed (t : Fin cfg0.N) : (dats m 0 c).flushed 2 t = ((cfg0.win 2).blk t).view.read (Elt Ideal) (G m c) := by
  rw [Value.flushed2]
  funext y
  obtain ⟨a, e, rfl⟩ : ∃ (a : Fin 512) (e : Fin 4096), y = ix2 a e := ⟨y 0, y 1, eq_ix2 y⟩
  show out0_2 (iblk m c 0 t) (iblk m c 1 t) (ix2 a e) = G m c (((cfg0.win 2).blk t).view.emb (ix2 a e))
  rw [out_blk, emb]

theorem mem_blk (t : Fin cfg0.N) (i : S8192x4096.Idx) :
    i ∈ ((cfg0.win 2).blk t).view.set ↔ ∀ a : Fin 2, win0_2.index t a * S512x4096.size a ≤ (i a).val ∧ (i a).val < win0_2.index t a * S512x4096.size a + S512x4096.size a := by
  show i ∈ ((View.whole main_v1).slice (win0_2.rect t)).set ↔ _
  rw [View.set_slice_whole, Rect.mem_set_unit]
  exact Iff.rfl

theorem flush : ∀ t : Fin cfg0.N, (cfg0.win 2).flush t = true := (by decide +kernel : ∀ t : Fin grid0.N, _)

theorem final : (dats m 0 c).arrAt 2 cfg0.N = G m c :=
  (dats m 0 c).arrAt_eq_of_cover 2 _ (fun t _ => flushed m c t) (fun i => by
    have h0 : (i 0).val < 8192 := (i 0).isLt
    have h1 : (i 1).val < 4096 := (i 1).isLt
    have hk : (i 0).val / 512 < cfg0.N := lt_of_lt_of_eq (by omega : (i 0).val / 512 < 16) N_0.symm
    refine ⟨⟨(i 0).val / 512, hk⟩, flush _, ?_⟩
    rw [mem_blk]
    intro a
    have e0 : win0_2.index ⟨(i 0).val / 512, hk⟩ (0 : Fin 2) = (i 0).val / 512 := congrFun (index2 _) 0
    have e1 : win0_2.index ⟨(i 0).val / 512, hk⟩ (1 : Fin 2) = 0 := congrFun (index2 _) 1
    match a with
    | ⟨0, _⟩ => show win0_2.index _ (0 : Fin 2) * 512 ≤ (i 0).val ∧ (i 0).val < win0_2.index _ (0 : Fin 2) * 512 + 512; rw [e0]; omega
    | ⟨1, _⟩ => show win0_2.index _ (1 : Fin 2) * 4096 ≤ (i 1).val ∧ (i 1).val < win0_2.index _ (1 : Fin 2) * 4096 + 4096; rw [e1]; omega)

theorem frame : Cert.quiescent_Kernel5Ideal := fun m ρ _ => Cert.Kernel5Ideal.Gen.frame m ρ

theorem frame_reference : Cert.quiescent_Reference5Ideal := fun m ρ _ =>
  (θ_run Cert.Reference5Ideal.defs _ _).mono (fun r h => ⟨fun c => (h c).2, Idealize.ShloMosaic.sem_eq_zero_of_no_sems (by decide) r.2⟩)
    (Cert.Reference5Ideal.Value.run (F := Ideal) m ρ)

theorem algebraic : Cert.algebraic_Kernel5Ideal_Reference5Ideal := by
  intro m g m' g' _ hag
  refine ⟨fun c => G m c,
    (θ_run Cert.Kernel5Ideal.defs _ _).mono (fun r h c => ⟨(h c).1.trans (final m c), (h c).2⟩) (Value.run_blocks (F := Ideal) m g),
    (θ_run Cert.Reference5Ideal.defs _ _).mono (fun r h c => ⟨(h c).1.trans ?_, (h c).2⟩) (Cert.Reference5Ideal.Value.run (F := Ideal) m' g')⟩
  rw [(hag c).1, (hag c).2]
  refine funext fun i => ?_
  obtain ⟨p, q, rfl⟩ : ∃ (p : Fin 8192) (q : Fin 4096), i = ix2 p q := ⟨i 0, i 1, eq_ix2 i⟩
  exact ref_at _ _ _ (u0 m c) (w0 m c) p q

end Cert.Inputs
-- ==== Proof.Project.Branch.lean ====
/-
  The product with a square weight that ends a branch.
-/
module

public import proofs.«01_k».proof.Defs
public import proofs.«01_k».proof.Proof.Gen.Kernel6Ideal.Value
public import proofs.«01_k».proof.Proof.Gen.Reference6Ideal.Run
public import Idealize.ShloMosaic.Lib.Pointwise
public import Idealize.ShloMosaic.Lib.Pipeline.ValueKit.Tiles
public import Idealize.ShloMosaic.Adequacy

@[expose] public section

set_option maxRecDepth 16384

noncomputable section

namespace Cert.Branch

open Idealize.ShloMosaic
open Idealize.ShloMosaic.TcCoe
open Idealize.SL.Sem

section

open Cert.Reference6Ideal

theorem ref_at (hb ht : FTy.bits .bf16 < FTy.bits .f32) (x : FVec Ideal S8192x1024 .bf16) (w : FVec Ideal S1024x1024 .bf16) (p : Fin 8192) (q : Fin 1024) :
    (truncf .bf16 (Host.dotGeneral (F := Ideal) dot_S8192x1024_S1024x1024_S8192x1024_1_0_0_1_n_n none (extf .f32 x hb) (extf .f32 w hb)) ht : FVec Ideal S8192x1024 .bf16) (ix2 p q)
      = ∑ j : Fin 1024, x (ix2 p j) * w (ix2 j q) := by
  pointwise

end

open Cert.Kernel6Ideal Cert.Kernel6Ideal.Gen

theorem eq_ix2 {n0 n1 : ℕ} (i : (⟨2, ![n0, n1]⟩ : Shape).Idx) : i = ix2 (i 0) (i 1) := by
  refine funext fun j => ?_
  fin_cases j <;> rfl

section

variable (x0 : Vec Ideal S512x1024 .bf16) (x1 : Vec Ideal S1024x1024 .bf16)

theorem ld_x : View.ld x0 r0_0 = x0 := View.ld_unit_zero (by funext a; fin_cases a <;> rfl) _ x0

theorem ld_w (o : ℕ) (inb : ∀ a, (![0, o] : Fin 2 → ℕ) a + S1024x512.size a ≤ S1024x1024.size a) (e : Fin 1024) (q : Fin 512) (h : e.val = o + q.val) (j : Fin 1024) :
    View.ld x1 (Rect.unit (s := S1024x1024) ![0, o] S1024x512.size inb) (ix2 j q) = x1 (ix2 j e) :=
  View.ld_unit_apply_of x1 _ _ inb (ix2 j q) (ix2 j e) (fun a => match a with | ⟨0, _⟩ => (Nat.zero_add _).symm | ⟨1, _⟩ => h)

/-- A stored block of 512 columns, from a payload that is the product. -/
theorem piece (pay : Vec Ideal S512x1024 .bf16 → Vec Ideal S1024x512 .bf16 → FVec Ideal S512x512 .bf16)
    (hpay : ∀ (x : FVec Ideal S512x1024 .bf16) (w : FVec Ideal S1024x512 .bf16) (a e : Fin 512), pay x w (ix2 a e) = ∑ j : Fin 1024, x (ix2 a j) * w (ix2 j e))
    (o : ℕ) (inw : ∀ a, (![0, o] : Fin 2 → ℕ) a + S1024x512.size a ≤ S1024x1024.size a) (a : Fin 512) (e : Fin 1024) :
    View.TileAt (S := S512x1024) (Val := Elt Ideal) (e := .bf16) (ix2 a e) ![0, o] S512x512.size
      (pay (View.ld x0 r0_0) (View.ld x1 (Rect.unit (s := S1024x1024) ![0, o] S1024x512.size inw)))
      (∑ j : Fin 1024, x0 (ix2 a j) * x1 (ix2 j e)) := by
  intro x hx
  obtain ⟨p, q, rfl⟩ : ∃ (p q : Fin 512), x = ix2 p q := ⟨x 0, x 1, eq_ix2 x⟩
  obtain rfl : p = a := Fin.ext ((hx 0).trans (Nat.zero_add _)).symm
  have h : e.val = o + q.val := hx 1
  rw [hpay, ld_x]
  simp only [ld_w x1 o inw e q h]

theorem pay1_at (x : FVec Ideal S512x1024 .bf16) (w : FVec Ideal S1024x512 .bf16) (a e : Fin 512) :
    k0_pay1 (F := Ideal) x w (ix2 a e) = ∑ j : Fin 1024, x (ix2 a j) * w (ix2 j e) := by
  pointwise [k0_pay1]

theorem pay2_at (x : FVec Ideal S512x1024 .bf16) (w : FVec Ideal S1024x512 .bf16) (a e : Fin 512) :
    k0_pay2 (F := Ideal) x w (ix2 a e) = ∑ j : Fin 1024, x (ix2 a j) * w (ix2 j e) := by
  pointwise [k0_pay2]

theorem out_at (a : Fin 512) (e : Fin 1024) : out0_2 x0 x1 (ix2 a e) = ∑ j : Fin 1024, x0 (ix2 a j) * x1 (ix2 j e) := by
  unfold out0_2
  refine View.canon_eq_of_allAt _ _ _ (cover0_2 _ _ _ ) ?_
  refine View.allAt_cons_unit _ _ _ _ _ (piece x0 x1 (k0_pay2 (F := Ideal)) pay2_at 512 _ a e) ?_
  refine View.allAt_cons_unit _ _ _ _ _ (piece x0 x1 (k0_pay1 (F := Ideal)) pay1_at 0 _ a e) ?_
  exact View.allAt_nil _ _

end

variable (m : (ℓ : Loc nD τ sig) → Buf (Elt Ideal) ℓ) (c : Dev nD)

abbrev u0 : FVec Ideal S8192x1024 .bf16 := m ((c.tc : Thread nD τ).loc main_arg0)
abbrev w0 : FVec Ideal S1024x1024 .bf16 := m ((c.tc : Thread nD τ).loc main_arg1)

theorem index0 : ∀ t : Fin cfg0.N, win0_0.index t = ![t.val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![t.val, 0] := (by decide +kernel : ∀ t : Fin grid0.N, _)

/-- Row `a` of block `t`. -/
def row (t : Fin cfg0.N) (a : Fin 512) : Fin 8192 :=
  ⟨512 * t.val + a.val, by have := lt_of_lt_of_eq t.isLt N_0; omega⟩

theorem blk0_at (t : Fin cfg0.N) (a : Fin 512) (j : Fin 1024) : iblk m c 0 t (ix2 a j) = u0 m c (ix2 (row t a) j) := by
  show V m c main_arg0 (((cfg0.win 0).blk t).view.emb (ix2 a j)) = _
  rw [V_main_arg0]
  refine congrArg (u0 m c) (funext fun b => Fin.ext ?_)
  have h0 : win0_0.index t (0 : Fin 2) = t.val := congrFun (index0 t) 0
  have h1 : win0_0.index t (1 : Fin 2) = 0 := congrFun (index0 t) 1
  match b with
  | ⟨0, _⟩ => show win0_0.index t (0 : Fin 2) * 512 + 1 * a.val = 512 * t.val + a.val; rw [h0]; omega
  | ⟨1, _⟩ => show win0_0.index t (1 : Fin 2) * 1024 + 1 * j.val = j.val; rw [h1]; omega

theorem blk1_at (t : Fin cfg0.N) (e : Fin 1024) (j : Fin 1024) : iblk m c 1 t (ix2 j e) = w0 m c (ix2 j e) := by
  show V m c main_arg1 (((cfg0.win 1).blk t).view.emb (ix2 j e)) = _
  rw [V_main_arg1]
  refine congrArg (w0 m c) (funext fun b => Fin.ext ?_)
  have h0 : win0_1.index t (0 : Fin 2) = 0 := congrFun (index1 t) 0
  have h1 : win0_1.index t (1 : Fin 2) = 0 := congrFun (index1 t) 1
  match b with
  | ⟨0, _⟩ => show win0_1.index t (0 : Fin 2) * 1024 + 1 * j.val = j.val; rw [h0]; omega
  | ⟨1, _⟩ => show win0_1.index t (1 : Fin 2) * 1024 + 1 * e.val = e.val; rw [h1]; omega

/-- The product of the two arguments at a row and a column. -/
def dot (p : Fin 8192) (q : Fin 1024) : EReal := ∑ j : Fin 1024, u0 m c (ix2 p j) * w0 m c (ix2 j q)

def G : FVec Ideal S8192x1024 .bf16 := fun i => dot m c (i 0) (i 1)

theorem out_blk (t : Fin cfg0.N) (a : Fin 512) (e : Fin 1024) :
    out0_2 (iblk m c 0 t) (iblk m c 1 t) (ix2 a e) = G m c (ix2 (row t a) e) := by
  refine (out_at _ _ a e).trans ?_
  show _ = ∑ j : Fin 1024, u0 m c (ix2 (row t a) j) * w0 m c (ix2 j e)
  refine Finset.sum_congr rfl fun j _ => ?_
  rw [blk0_at, blk1_at]

theorem emb (t : Fin cfg0.N) (a : Fin 512) (e : Fin 1024) : ((cfg0.win 2).blk t).view.emb (ix2 a e) = (ix2 (row t a) e : S8192x1024.Idx) := by
  refine funext fun b => Fin.ext ?_
  have h0 : win0_2.index t (0 : Fin 2) = t.val := congrFun (index2 t) 0
  have h1 : win0_2.index t (1 : Fin 2) = 0 := congrFun (index2 t) 1
  match b with
  | ⟨0, _⟩ => show win0_2.index t (0 : Fin 2) * 512 + 1 * a.val = 512 * t.val + a.val; rw [h0]; omega
  | ⟨1, _⟩ => show win0_2.index t (1 : Fin 2) * 1024 + 1 * e.val = e.val; rw [h1]; omega

theorem flushed (t : Fin cfg0.N) : (dats m 0 c).flushed 2 t = ((cfg0.win 2).blk t).view.read (Elt Ideal) (G m c) := by
  rw [Value.flushed2]
  funext y
  obtain ⟨a, e, rfl⟩ : ∃ (a : Fin 512) (e : Fin 1024), y = ix2 a e := ⟨y 0, y 1, eq_ix2 y⟩
  show out0_2 (iblk m c 0 t) (iblk m c 1 t) (ix2 a e) = G m c (((cfg0.win 2).blk t).view.emb (ix2 a e))
  rw [out_blk, emb]

theorem mem_blk (t : Fin cfg0.N) (i : S8192x1024.Idx) :
    i ∈ ((cfg0.win 2).blk t).view.set ↔ ∀ a : Fin 2, win0_2.index t a * S512x1024.size a ≤ (i a).val ∧ (i a).val < win0_2.index t a * S512x1024.size a + S512x1024.size a := by
  show i ∈ ((View.whole main_v0).slice (win0_2.rect t)).set ↔ _
  rw [View.set_slice_whole, Rect.mem_set_unit]
  exact Iff.rfl

theorem flush : ∀ t : Fin cfg0.N, (cfg0.win 2).flush t = true := (by decide +kernel : ∀ t : Fin grid0.N, _)

theorem final : (dats m 0 c).arrAt 2 cfg0.N = G m c :=
  (dats m 0 c).arrAt_eq_of_cover 2 _ (fun t _ => flushed m c t) (fun i => by
    have h0 : (i 0).val < 8192 := (i 0).isLt
    have h1 : (i 1).val < 1024 := (i 1).isLt
    have hk : (i 0).val / 512 < cfg0.N := lt_of_lt_of_eq (by omega : (i 0).val / 512 < 16) N_0.symm
    refine ⟨⟨(i 0).val / 512, hk⟩, flush _, ?_⟩
    rw [mem_blk]
    intro a
    have e0 : win0_2.index ⟨(i 0).val / 512, hk⟩ (0 : Fin 2) = (i 0).val / 512 := congrFun (index2 _) 0
    have e1 : win0_2.index ⟨(i 0).val / 512, hk⟩ (1 : Fin 2) = 0 := congrFun (index2 _) 1
    match a with
    | ⟨0, _⟩ => show win0_2.index _ (0 : Fin 2) * 512 ≤ (i 0).val ∧ (i 0).val < win0_2.index _ (0 : Fin 2) * 512 + 512; rw [e0]; omega
    | ⟨1, _⟩ => show win0_2.index _ (1 : Fin 2) * 1024 ≤ (i 1).val ∧ (i 1).val < win0_2.index _ (1 : Fin 2) * 1024 + 1024; rw [e1]; omega)

theorem frame : Cert.quiescent_Kernel6Ideal := fun m ρ _ => Cert.Kernel6Ideal.Gen.frame m ρ

theorem frame_reference : Cert.quiescent_Reference6Ideal := fun m ρ _ =>
  (θ_run Cert.Reference6Ideal.defs _ _).mono (fun r h => ⟨fun c => (h c).2, Idealize.ShloMosaic.sem_eq_zero_of_no_sems (by decide) r.2⟩)
    (Cert.Reference6Ideal.Value.run (F := Ideal) m ρ)

theorem algebraic : Cert.algebraic_Kernel6Ideal_Reference6Ideal := by
  intro m g m' g' _ hag
  refine ⟨fun c => G m c,
    (θ_run Cert.Kernel6Ideal.defs _ _).mono (fun r h c => ⟨(h c).1.trans (final m c), (h c).2⟩) (Value.run_blocks (F := Ideal) m g),
    (θ_run Cert.Reference6Ideal.defs _ _).mono (fun r h c => ⟨(h c).1.trans ?_, (h c).2⟩) (Cert.Reference6Ideal.Value.run (F := Ideal) m' g')⟩
  rw [(hag c).1, (hag c).2]
  refine funext fun i => ?_
  obtain ⟨p, q, rfl⟩ : ∃ (p : Fin 8192) (q : Fin 1024), i = ix2 p q := ⟨i 0, i 1, eq_ix2 i⟩
  exact ref_at _ _ (u0 m c) (w0 m c) p q

end Cert.Branch
-- ==== Proof.Project.BranchGrad.lean ====
/-
  The gradient of the product with a square weight, with respect to its left factor.
-/
module

public import proofs.«01_k».proof.Defs
public import proofs.«01_k».proof.Proof.Gen.Kernel7Ideal.Value
public import proofs.«01_k».proof.Proof.Gen.Reference7Ideal.Run
public import Idealize.ShloMosaic.Lib.Pointwise
public import Idealize.ShloMosaic.Lib.Pipeline.ValueKit.Tiles
public import Idealize.ShloMosaic.Adequacy

@[expose] public section

set_option maxRecDepth 16384

noncomputable section

namespace Cert.BranchGrad

open Idealize.ShloMosaic
open Idealize.ShloMosaic.TcCoe
open Idealize.SL.Sem

section

open Cert.Reference7Ideal

theorem ref_at (hb ht : FTy.bits .bf16 < FTy.bits .f32) (x : FVec Ideal S8192x1024 .bf16) (w : FVec Ideal S1024x1024 .bf16) (p : Fin 8192) (q : Fin 1024) :
    (truncf .bf16 (Host.dotGeneral (F := Ideal) dot_S8192x1024_S1024x1024_S8192x1024_1_1_0_0_n_n none (extf .f32 x hb) (extf .f32 w hb)) ht : FVec Ideal S8192x1024 .bf16) (ix2 p q)
      = ∑ j : Fin 1024, x (ix2 p j) * w (ix2 q j) := by
  pointwise

end

open Cert.Kernel7Ideal Cert.Kernel7Ideal.Gen

theorem eq_ix2 {n0 n1 : ℕ} (i : (⟨2, ![n0, n1]⟩ : Shape).Idx) : i = ix2 (i 0) (i 1) := by
  refine funext fun j => ?_
  fin_cases j <;> rfl

section

variable (x0 : Vec Ideal S512x1024 .bf16) (x1 : Vec Ideal S1024x1024 .bf16)

theorem ld_x : View.ld x0 r0_0 = x0 := View.ld_unit_zero (by funext a; fin_cases a <;> rfl) _ x0

theorem ld_w (o : ℕ) (inb : ∀ a, (![o, 0] : Fin 2 → ℕ) a + S512x1024.size a ≤ S1024x1024.size a) (e : Fin 1024) (q : Fin 512) (h : e.val = o + q.val) (j : Fin 1024) :
    View.ld x1 (Rect.unit (s := S1024x1024) ![o, 0] S512x1024.size inb) (ix2 q j) = x1 (ix2 e j) :=
  View.ld_unit_apply_of x1 _ _ inb (ix2 q j) (ix2 e j) (fun a => match a with | ⟨0, _⟩ => h | ⟨1, _⟩ => (Nat.zero_add _).symm)

/-- A stored block of 512 columns, from a payload that is the product. -/
theorem piece (pay : Vec Ideal S512x1024 .bf16 → Vec Ideal S512x1024 .bf16 → FVec Ideal S512x512 .bf16)
    (hpay : ∀ (x : FVec Ideal S512x1024 .bf16) (w : FVec Ideal S512x1024 .bf16) (a e : Fin 512), pay x w (ix2 a e) = ∑ j : Fin 1024, x (ix2 a j) * w (ix2 e j))
    (o : ℕ) (inw : ∀ a, (![o, 0] : Fin 2 → ℕ) a + S512x1024.size a ≤ S1024x1024.size a) (a : Fin 512) (e : Fin 1024) :
    View.TileAt (S := S512x1024) (Val := Elt Ideal) (e := .bf16) (ix2 a e) ![0, o] S512x512.size
      (pay (View.ld x0 r0_0) (View.ld x1 (Rect.unit (s := S1024x1024) ![o, 0] S512x1024.size inw)))
      (∑ j : Fin 1024, x0 (ix2 a j) * x1 (ix2 e j)) := by
  intro x hx
  obtain ⟨p, q, rfl⟩ : ∃ (p q : Fin 512), x = ix2 p q := ⟨x 0, x 1, eq_ix2 x⟩
  obtain rfl : p = a := Fin.ext ((hx 0).trans (Nat.zero_add _)).symm
  have h : e.val = o + q.val := hx 1
  rw [hpay, ld_x]
  simp only [ld_w x1 o inw e q h]

theorem pay1_at (x : FVec Ideal S512x1024 .bf16) (w : FVec Ideal S512x1024 .bf16) (a e : Fin 512) :
    k0_pay1 (F := Ideal) x w (ix2 a e) = ∑ j : Fin 1024, x (ix2 a j) * w (ix2 e j) := by
  pointwise [k0_pay1]

theorem pay2_at (x : FVec Ideal S512x1024 .bf16) (w : FVec Ideal S512x1024 .bf16) (a e : Fin 512) :
    k0_pay2 (F := Ideal) x w (ix2 a e) = ∑ j : Fin 1024, x (ix2 a j) * w (ix2 e j) := by
  pointwise [k0_pay2]

theorem out_at (a : Fin 512) (e : Fin 1024) : out0_2 x0 x1 (ix2 a e) = ∑ j : Fin 1024, x0 (ix2 a j) * x1 (ix2 e j) := by
  unfold out0_2
  refine View.canon_eq_of_allAt _ _ _ (cover0_2 _ _ _ ) ?_
  refine View.allAt_cons_unit _ _ _ _ _ (piece x0 x1 (k0_pay2 (F := Ideal)) pay2_at 512 _ a e) ?_
  refine View.allAt_cons_unit _ _ _ _ _ (piece x0 x1 (k0_pay1 (F := Ideal)) pay1_at 0 _ a e) ?_
  exact View.allAt_nil _ _

end

variable (m : (ℓ : Loc nD τ sig) → Buf (Elt Ideal) ℓ) (c : Dev nD)

abbrev u0 : FVec Ideal S8192x1024 .bf16 := m ((c.tc : Thread nD τ).loc main_arg0)
abbrev w0 : FVec Ideal S1024x1024 .bf16 := m ((c.tc : Thread nD τ).loc main_arg1)

theorem index0 : ∀ t : Fin cfg0.N, win0_0.index t = ![t.val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![t.val, 0] := (by decide +kernel : ∀ t : Fin grid0.N, _)

/-- Row `a` of block `t`. -/
def row (t : Fin cfg0.N) (a : Fin 512) : Fin 8192 :=
  ⟨512 * t.val + a.val, by have := lt_of_lt_of_eq t.isLt N_0; omega⟩

theorem blk0_at (t : Fin cfg0.N) (a : Fin 512) (j : Fin 1024) : iblk m c 0 t (ix2 a j) = u0 m c (ix2 (row t a) j) := by
  show V m c main_arg0 (((cfg0.win 0).blk t).view.emb (ix2 a j)) = _
  rw [V_main_arg0]
  refine congrArg (u0 m c) (funext fun b => Fin.ext ?_)
  have h0 : win0_0.index t (0 : Fin 2) = t.val := congrFun (index0 t) 0
  have h1 : win0_0.index t (1 : Fin 2) = 0 := congrFun (index0 t) 1
  match b with
  | ⟨0, _⟩ => show win0_0.index t (0 : Fin 2) * 512 + 1 * a.val = 512 * t.val + a.val; rw [h0]; omega
  | ⟨1, _⟩ => show win0_0.index t (1 : Fin 2) * 1024 + 1 * j.val = j.val; rw [h1]; omega

theorem blk1_at (t : Fin cfg0.N) (e : Fin 1024) (j : Fin 1024) : iblk m c 1 t (ix2 e j) = w0 m c (ix2 e j) := by
  show V m c main_arg1 (((cfg0.win 1).blk t).view.emb (ix2 e j)) = _
  rw [V_main_arg1]
  refine congrArg (w0 m c) (funext fun b => Fin.ext ?_)
  have h0 : win0_1.index t (0 : Fin 2) = 0 := congrFun (index1 t) 0
  have h1 : win0_1.index t (1 : Fin 2) = 0 := congrFun (index1 t) 1
  match b with
  | ⟨0, _⟩ => show win0_1.index t (0 : Fin 2) * 1024 + 1 * e.val = e.val; rw [h0]; omega
  | ⟨1, _⟩ => show win0_1.index t (1 : Fin 2) * 1024 + 1 * j.val = j.val; rw [h1]; omega

/-- The product of the two arguments at a row and a column. -/
def dot (p : Fin 8192) (q : Fin 1024) : EReal := ∑ j : Fin 1024, u0 m c (ix2 p j) * w0 m c (ix2 q j)

def G : FVec Ideal S8192x1024 .bf16 := fun i => dot m c (i 0) (i 1)

theorem out_blk (t : Fin cfg0.N) (a : Fin 512) (e : Fin 1024) :
    out0_2 (iblk m c 0 t) (iblk m c 1 t) (ix2 a e) = G m c (ix2 (row t a) e) := by
  refine (out_at _ _ a e).trans ?_
  show _ = ∑ j : Fin 1024, u0 m c (ix2 (row t a) j) * w0 m c (ix2 e j)
  refine Finset.sum_congr rfl fun j _ => ?_
  rw [blk0_at, blk1_at]

theorem emb (t : Fin cfg0.N) (a : Fin 512) (e : Fin 1024) : ((cfg0.win 2).blk t).view.emb (ix2 a e) = (ix2 (row t a) e : S8192x1024.Idx) := by
  refine funext fun b => Fin.ext ?_
  have h0 : win0_2.index t (0 : Fin 2) = t.val := congrFun (index2 t) 0
  have h1 : win0_2.index t (1 : Fin 2) = 0 := congrFun (index2 t) 1
  match b with
  | ⟨0, _⟩ => show win0_2.index t (0 : Fin 2) * 512 + 1 * a.val = 512 * t.val + a.val; rw [h0]; omega
  | ⟨1, _⟩ => show win0_2.index t (1 : Fin 2) * 1024 + 1 * e.val = e.val; rw [h1]; omega

theorem flushed (t : Fin cfg0.N) : (dats m 0 c).flushed 2 t = ((cfg0.win 2).blk t).view.read (Elt Ideal) (G m c) := by
  rw [Value.flushed2]
  funext y
  obtain ⟨a, e, rfl⟩ : ∃ (a : Fin 512) (e : Fin 1024), y = ix2 a e := ⟨y 0, y 1, eq_ix2 y⟩
  show out0_2 (iblk m c 0 t) (iblk m c 1 t) (ix2 a e) = G m c (((cfg0.win 2).blk t).view.emb (ix2 a e))
  rw [out_blk, emb]

theorem mem_blk (t : Fin cfg0.N) (i : S8192x1024.Idx) :
    i ∈ ((cfg0.win 2).blk t).view.set ↔ ∀ a : Fin 2, win0_2.index t a * S512x1024.size a ≤ (i a).val ∧ (i a).val < win0_2.index t a * S512x1024.size a + S512x1024.size a := by
  show i ∈ ((View.whole main_v0).slice (win0_2.rect t)).set ↔ _
  rw [View.set_slice_whole, Rect.mem_set_unit]
  exact Iff.rfl

theorem flush : ∀ t : Fin cfg0.N, (cfg0.win 2).flush t = true := (by decide +kernel : ∀ t : Fin grid0.N, _)

theorem final : (dats m 0 c).arrAt 2 cfg0.N = G m c :=
  (dats m 0 c).arrAt_eq_of_cover 2 _ (fun t _ => flushed m c t) (fun i => by
    have h0 : (i 0).val < 8192 := (i 0).isLt
    have h1 : (i 1).val < 1024 := (i 1).isLt
    have hk : (i 0).val / 512 < cfg0.N := lt_of_lt_of_eq (by omega : (i 0).val / 512 < 16) N_0.symm
    refine ⟨⟨(i 0).val / 512, hk⟩, flush _, ?_⟩
    rw [mem_blk]
    intro a
    have e0 : win0_2.index ⟨(i 0).val / 512, hk⟩ (0 : Fin 2) = (i 0).val / 512 := congrFun (index2 _) 0
    have e1 : win0_2.index ⟨(i 0).val / 512, hk⟩ (1 : Fin 2) = 0 := congrFun (index2 _) 1
    match a with
    | ⟨0, _⟩ => show win0_2.index _ (0 : Fin 2) * 512 ≤ (i 0).val ∧ (i 0).val < win0_2.index _ (0 : Fin 2) * 512 + 512; rw [e0]; omega
    | ⟨1, _⟩ => show win0_2.index _ (1 : Fin 2) * 1024 ≤ (i 1).val ∧ (i 1).val < win0_2.index _ (1 : Fin 2) * 1024 + 1024; rw [e1]; omega)

theorem frame : Cert.quiescent_Kernel7Ideal := fun m ρ _ => Cert.Kernel7Ideal.Gen.frame m ρ

theorem frame_reference : Cert.quiescent_Reference7Ideal := fun m ρ _ =>
  (θ_run Cert.Reference7Ideal.defs _ _).mono (fun r h => ⟨fun c => (h c).2, Idealize.ShloMosaic.sem_eq_zero_of_no_sems (by decide) r.2⟩)
    (Cert.Reference7Ideal.Value.run (F := Ideal) m ρ)

theorem algebraic : Cert.algebraic_Kernel7Ideal_Reference7Ideal := by
  intro m g m' g' _ hag
  refine ⟨fun c => G m c,
    (θ_run Cert.Kernel7Ideal.defs _ _).mono (fun r h c => ⟨(h c).1.trans (final m c), (h c).2⟩) (Value.run_blocks (F := Ideal) m g),
    (θ_run Cert.Reference7Ideal.defs _ _).mono (fun r h c => ⟨(h c).1.trans ?_, (h c).2⟩) (Cert.Reference7Ideal.Value.run (F := Ideal) m' g')⟩
  rw [(hag c).1, (hag c).2]
  refine funext fun i => ?_
  obtain ⟨p, q, rfl⟩ : ∃ (p : Fin 8192) (q : Fin 1024), i = ix2 p q := ⟨i 0, i 1, eq_ix2 i⟩
  exact ref_at _ _ (u0 m c) (w0 m c) p q

end Cert.BranchGrad
-- ==== Proof.Block.Outward.lean ====
/-
  The call after a feed-forward block's gate: the second product, half of it added to the input, and the norm of the sum.
-/
module

public import proofs.«01_k».proof.Defs
public import proofs.«01_k».proof.Proof.Gen.Kernel9Ideal.Value
public import proofs.«01_k».proof.Proof.Gen.Reference9Ideal.Run
public import Idealize.ShloMosaic.Lib.Pointwise
public import Idealize.ShloMosaic.Lib.Pipeline.ValueKit.Tiles
public import Idealize.ShloMosaic.Adequacy

@[expose] public section

set_option maxRecDepth 16384

noncomputable section

namespace Cert.Outward

open Idealize.ShloMosaic
open Idealize.ShloMosaic.TcCoe
open Idealize.SL.Sem

theorem eq_ix2 {n0 n1 : ℕ} (i : (⟨2, ![n0, n1]⟩ : Shape).Idx) : i = ix2 (i 0) (i 1) := by
  refine funext fun j => ?_
  fin_cases j <;> rfl

/-- A row's sum. -/
def sumv (h : Fin 1024 → EReal) (x : Fin 2816 → EReal) (w : Fin 2816 → Fin 1024 → EReal) (e : Fin 1024) : EReal :=
  h e + Ideal.ofBits .f32 0x3F000000#32 * ∑ j, x j * w j e

/-- The norm of a row `v`, times the gain `g`. -/
def normv (v g : Fin 1024 → EReal) (e : Fin 1024) : EReal :=
  v e * Ideal.rsqrt (Ideal.div (∑ k, v k * v k) (Ideal.ofBits .f32 0x44800000#32) + Ideal.ofBits .f32 0x358637BD#32) * g e

section

open Cert.Reference9Ideal Cert.Reference9Ideal.Gen

theorem ref_sum (x : FVec Ideal S8192x2816 .bf16) (h : FVec Ideal S8192x1024 .f32) (w : FVec Ideal S2816x1024 .bf16) (p : Fin 8192) (q : Fin 1024) :
    (addf h (mulf (broadcastInDim S8192x1024 ![] bcast_S_S8192x1024 (constant S_ .f32 0x3F000000#32)) (Host.dotGeneral dot_S8192x2816_S2816x1024_S8192x1024_1_0_0_1_n_n none (extf .f32 x bitsLt_bf16_f32) (extf .f32 w bitsLt_bf16_f32))) : FVec Ideal S8192x1024 .f32) (ix2 p q)
      = sumv (fun k : Fin 1024 => h (ix2 p k)) (fun j : Fin 2816 => x (ix2 p j)) (fun (j : Fin 2816) (k : Fin 1024) => w (ix2 j k)) q := by
  unfold sumv
  pointwise

theorem ref_norm (x : FVec Ideal S8192x2816 .bf16) (h : FVec Ideal S8192x1024 .f32) (w : FVec Ideal S2816x1024 .bf16) (g : FVec Ideal S1x1024 .f32) (p : Fin 8192) (q : Fin 1024) :
    (truncf .bf16 (mulf (mulf (addf h (mulf (broadcastInDim S8192x1024 ![] bcast_S_S8192x1024 (constant S_ .f32 0x3F000000#32)) (Host.dotGeneral dot_S8192x2816_S2816x1024_S8192x1024_1_0_0_1_n_n none (extf .f32 x bitsLt_bf16_f32) (extf .f32 w bitsLt_bf16_f32)))) (broadcastInDim S8192x1024 ![0, 1] bcast_S8192x1_S8192x1024_0_1 (Host.rsqrt (addf (Host.divf (broadcastInDim S8192x1 ![0] bcast_S8192_S8192x1_0 (Host.reduceAdd (mulf (addf h (mulf (broadcastInDim S8192x1024 ![] bcast_S_S8192x1024 (constant S_ .f32 0x3F000000#32)) (Host.dotGeneral dot_S8192x2816_S2816x1024_S8192x1024_1_0_0_1_n_n none (extf .f32 x bitsLt_bf16_f32) (extf .f32 w bitsLt_bf16_f32)))) (addf h (mulf (broadcastInDim S8192x1024 ![] bcast_S_S8192x1024 (constant S_ .f32 0x3F000000#32)) (Host.dotGeneral dot_S8192x2816_S2816x1024_S8192x1024_1_0_0_1_n_n none (extf .f32 x bitsLt_bf16_f32) (extf .f32 w bitsLt_bf16_f32))))) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 g)) bitsLt_bf16_f32 : FVec Ideal S8192x1024 .bf16) (ix2 p q)
      = normv (sumv (fun k : Fin 1024 => h (ix2 p k)) (fun j : Fin 2816 => x (ix2 p j)) (fun (j : Fin 2816) (k : Fin 1024) => w (ix2 j k))) (fun k : Fin 1024 => g (ix2 0 k)) q := by
  unfold normv sumv
  pointwise

end

open Cert.Kernel9Ideal Cert.Kernel9Ideal.Gen

section

theorem pay1_at (h : FVec Ideal S512x1024 .f32) (x : FVec Ideal S512x2816 .bf16) (w : FVec Ideal S2816x1024 .bf16) (a : Fin 512) (e : Fin 1024) :
    k0_pay1 (F := Ideal) h x w (ix2 a e) = sumv (fun k : Fin 1024 => h (ix2 a k)) (fun j : Fin 2816 => x (ix2 a j)) (fun (j : Fin 2816) (k : Fin 1024) => w (ix2 j k)) e := by
  unfold sumv
  pointwise [k0_pay1]

theorem pay2_at (h : FVec Ideal S512x1024 .f32) (x : FVec Ideal S512x2816 .bf16) (w : FVec Ideal S2816x1024 .bf16) (g : FVec Ideal S1x1024 .f32) (a : Fin 512) (e : Fin 1024) :
    k0_pay2 (F := Ideal) h x w g (ix2 a e) = normv (sumv (fun k : Fin 1024 => h (ix2 a k)) (fun j : Fin 2816 => x (ix2 a j)) (fun (j : Fin 2816) (k : Fin 1024) => w (ix2 j k))) (fun k : Fin 1024 => g (ix2 0 k)) e := by
  unfold normv sumv
  pointwise [k0_pay2, k0_pay1]

variable (x0 : Vec Ideal S512x2816 .bf16) (x1 : Vec Ideal S512x1024 .f32) (x2 : Vec Ideal S2816x1024 .bf16) (x3 : Vec Ideal S1x1024 .f32)

theorem ld_x : View.ld x0 r0_1 = x0 := View.ld_unit_zero (by funext a; fin_cases a <;> rfl) _ x0
theorem ld_h : View.ld x1 r0_0 = x1 := View.ld_unit_zero (by funext a; fin_cases a <;> rfl) _ x1
theorem ld_w : View.ld x2 r0_2 = x2 := View.ld_unit_zero (by funext a; fin_cases a <;> rfl) _ x2
theorem ld_g : View.ld x3 r0_3 = x3 := View.ld_unit_zero (by funext a; fin_cases a <;> rfl) _ x3

theorem out4_at (a : Fin 512) (e : Fin 1024) : out0_4 x0 x1 x2 x3 (ix2 a e) = sumv (fun k : Fin 1024 => x1 (ix2 a k)) (fun j : Fin 2816 => x0 (ix2 a j)) (fun (j : Fin 2816) (k : Fin 1024) => x2 (ix2 j k)) e := by
  unfold out0_4
  refine View.canon_eq_of_allAt _ _ _ (cover0_4 _ _) ?_
  refine View.allAt_cons_unit _ _ _ _ _ ?_ (View.allAt_nil _ _)
  intro x hx
  obtain ⟨p, q, rfl⟩ : ∃ (p : Fin 512) (q : Fin 1024), x = ix2 p q := ⟨x 0, x 1, eq_ix2 x⟩
  obtain rfl : p = a := Fin.ext ((hx 0).trans (Nat.zero_add _)).symm
  obtain rfl : q = e := Fin.ext ((hx 1).trans (Nat.zero_add _)).symm
  rw [pay1_at, ld_h, ld_x, ld_w]

theorem out5_at (a : Fin 512) (e : Fin 1024) : out0_5 x0 x1 x2 x3 (ix2 a e) = normv (sumv (fun k : Fin 1024 => x1 (ix2 a k)) (fun j : Fin 2816 => x0 (ix2 a j)) (fun (j : Fin 2816) (k : Fin 1024) => x2 (ix2 j k))) (fun k : Fin 1024 => x3 (ix2 0 k)) e := by
  unfold out0_5
  refine View.canon_eq_of_allAt _ _ _ (cover0_5 _ _) ?_
  refine View.allAt_cons_unit _ _ _ _ _ ?_ (View.allAt_nil _ _)
  intro x hx
  obtain ⟨p, q, rfl⟩ : ∃ (p : Fin 512) (q : Fin 1024), x = ix2 p q := ⟨x 0, x 1, eq_ix2 x⟩
  obtain rfl : p = a := Fin.ext ((hx 0).trans (Nat.zero_add _)).symm
  obtain rfl : q = e := Fin.ext ((hx 1).trans (Nat.zero_add _)).symm
  rw [pay2_at, ld_h, ld_x, ld_w, ld_g]

end

variable (m : (ℓ : Loc nD τ sig) → Buf (Elt Ideal) ℓ) (c : Dev nD)

abbrev x0 : FVec Ideal S8192x2816 .bf16 := m ((c.tc : Thread nD τ).loc main_arg0)
abbrev h0 : FVec Ideal S8192x1024 .f32 := m ((c.tc : Thread nD τ).loc main_arg1)
abbrev w0 : FVec Ideal S2816x1024 .bf16 := m ((c.tc : Thread nD τ).loc main_arg2)
abbrev g0 : FVec Ideal S1x1024 .f32 := m ((c.tc : Thread nD τ).loc main_arg3)

theorem index0 : ∀ t : Fin cfg0.N, win0_0.index t = ![t.val, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![t.val, 0] := (by decide +kernel : ∀ t : Fin grid0.N, _)
theorem index5 : ∀ t : Fin cfg0.N, win0_5.index t = ![t.val, 0] := (by decide +kernel : ∀ t : Fin grid0.N, _)

/-- Row `a` of block `t`. -/
def row (t : Fin cfg0.N) (a : Fin 512) : Fin 8192 :=
  ⟨512 * t.val + a.val, by have := lt_of_lt_of_eq t.isLt N_0; omega⟩

theorem blk0_at (t : Fin cfg0.N) (a : Fin 512) (j : Fin 2816) : iblk m c 0 t (ix2 a j) = x0 m c (ix2 (row t a) j) := by
  show V m c main_arg0 (((cfg0.win 0).blk t).view.emb (ix2 a j)) = _
  rw [V_main_arg0]
  refine congrArg (x0 m c) (funext fun b => Fin.ext ?_)
  have h0 : win0_0.index t (0 : Fin 2) = t.val := congrFun (index0 t) 0
  have h1 : win0_0.index t (1 : Fin 2) = 0 := congrFun (index0 t) 1
  match b with
  | ⟨0, _⟩ => show win0_0.index t (0 : Fin 2) * 512 + 1 * a.val = 512 * t.val + a.val; rw [h0]; omega
  | ⟨1, _⟩ => show win0_0.index t (1 : Fin 2) * 2816 + 1 * j.val = j.val; rw [h1]; omega

theorem blk1_at (t : Fin cfg0.N) (a : Fin 512) (j : Fin 1024) : iblk m c 1 t (ix2 a j) = h0 m c (ix2 (row t a) j) := by
  show V m c main_arg1 (((cfg0.win 1).blk t).view.emb (ix2 a j)) = _
  rw [V_main_arg1]
  refine congrArg (h0 m c) (funext fun b => Fin.ext ?_)
  have h0 : win0_1.index t (0 : Fin 2) = t.val := congrFun (index1 t) 0
  have h1 : win0_1.index t (1 : Fin 2) = 0 := congrFun (index1 t) 1
  match b with
  | ⟨0, _⟩ => show win0_1.index t (0 : Fin 2) * 512 + 1 * a.val = 512 * t.val + a.val; rw [h0]; omega
  | ⟨1, _⟩ => show win0_1.index t (1 : Fin 2) * 1024 + 1 * j.val = j.val; rw [h1]; omega

theorem blk2_at (t : Fin cfg0.N) (a : Fin 2816) (j : Fin 1024) : iblk m c 2 t (ix2 a j) = w0 m c (ix2 a j) := by
  show V m c main_arg2 (((cfg0.win 2).blk t).view.emb (ix2 a j)) = _
  rw [V_main_arg2]
  refine congrArg (w0 m c) (funext fun b => Fin.ext ?_)
  have h0 : win0_2.index t (0 : Fin 2) = 0 := congrFun (index2 t) 0
  have h1 : win0_2.index t (1 : Fin 2) = 0 := congrFun (index2 t) 1
  match b with
  | ⟨0, _⟩ => show win0_2.index t (0 : Fin 2) * 2816 + 1 * a.val = a.val; rw [h0]; omega
  | ⟨1, _⟩ => show win0_2.index t (1 : Fin 2) * 1024 + 1 * j.val = j.val; rw [h1]; omega

theorem blk3_at (t : Fin cfg0.N) (a : Fin 1) (j : Fin 1024) : iblk m c 3 t (ix2 a j) = g0 m c (ix2 a j) := by
  show V m c main_arg3 (((cfg0.win 3).blk t).view.emb (ix2 a j)) = _
  rw [V_main_arg3]
  refine congrArg (g0 m c) (funext fun b => Fin.ext ?_)
  have h0 : win0_3.index t (0 : Fin 2) = 0 := congrFun (index3 t) 0
  have h1 : win0_3.index t (1 : Fin 2) = 0 := congrFun (index3 t) 1
  match b with
  | ⟨0, _⟩ => show win0_3.index t (0 : Fin 2) * 1 + 1 * a.val = a.val; rw [h0]; omega
  | ⟨1, _⟩ => show win0_3.index t (1 : Fin 2) * 1024 + 1 * j.val = j.val; rw [h1]; omega

def G4 : FVec Ideal S8192x1024 .f32 := fun i => sumv (fun k : Fin 1024 => (h0 m c) (ix2 (i 0) k)) (fun j : Fin 2816 => (x0 m c) (ix2 (i 0) j)) (fun (j : Fin 2816) (k : Fin 1024) => (w0 m c) (ix2 j k)) (i 1)

theorem out4_blk (t : Fin cfg0.N) (a : Fin 512) (e : Fin 1024) :
    out0_4 (iblk m c 0 t) (iblk m c 1 t) (iblk m c 2 t) (iblk m c 3 t) (ix2 a e) = G4 m c (ix2 (row t a) e) := by
  refine (out4_at _ _ _ _ a e).trans ?_
  show _ = sumv (fun k : Fin 1024 => (h0 m c) (ix2 (row t a) k)) (fun j : Fin 2816 => (x0 m c) (ix2 (row t a) j)) (fun (j : Fin 2816) (k : Fin 1024) => (w0 m c) (ix2 j k)) e
  simp only [blk0_at, blk1_at, blk2_at, blk3_at]

theorem emb4 (t : Fin cfg0.N) (a : Fin 512) (e : Fin 1024) : ((cfg0.win 4).blk t).view.emb (ix2 a e) = (ix2 (row t a) e : S8192x1024.Idx) := by
  refine funext fun b => Fin.ext ?_
  have h0 : win0_4.index t (0 : Fin 2) = t.val := congrFun (index4 t) 0
  have h1 : win0_4.index t (1 : Fin 2) = 0 := congrFun (index4 t) 1
  match b with
  | ⟨0, _⟩ => show win0_4.index t (0 : Fin 2) * 512 + 1 * a.val = 512 * t.val + a.val; rw [h0]; omega
  | ⟨1, _⟩ => show win0_4.index t (1 : Fin 2) * 1024 + 1 * e.val = e.val; rw [h1]; omega

theorem flushed4 (t : Fin cfg0.N) : (dats m 0 c).flushed 4 t = ((cfg0.win 4).blk t).view.read (Elt Ideal) (G4 m c) := by
  rw [Value.flushed4]
  funext y
  obtain ⟨a, e, rfl⟩ : ∃ (a : Fin 512) (e : Fin 1024), y = ix2 a e := ⟨y 0, y 1, eq_ix2 y⟩
  show out0_4 (iblk m c 0 t) (iblk m c 1 t) (iblk m c 2 t) (iblk m c 3 t) (ix2 a e) = G4 m c (((cfg0.win 4).blk t).view.emb (ix2 a e))
  rw [out4_blk, emb4]

theorem mem_blk4 (t : Fin cfg0.N) (i : S8192x1024.Idx) :
    i ∈ ((cfg0.win 4).blk t).view.set ↔ ∀ a : Fin 2, win0_4.index t a * S512x1024.size a ≤ (i a).val ∧ (i a).val < win0_4.index t a * S512x1024.size a + S512x1024.size a := by
  show i ∈ ((View.whole main_v0_0).slice (win0_4.rect t)).set ↔ _
  rw [View.set_slice_whole, Rect.mem_set_unit]
  exact Iff.rfl

theorem flush4 : ∀ t : Fin cfg0.N, (cfg0.win 4).flush t = true := (by decide +kernel : ∀ t : Fin grid0.N, _)

theorem final4 : (dats m 0 c).arrAt 4 cfg0.N = G4 m c :=
  (dats m 0 c).arrAt_eq_of_cover 4 _ (fun t _ => flushed4 m c t) (fun i => by
    have h0 : (i 0).val < 8192 := (i 0).isLt
    have h1 : (i 1).val < 1024 := (i 1).isLt
    have hk : (i 0).val / 512 < cfg0.N := lt_of_lt_of_eq (by omega : (i 0).val / 512 < 16) N_0.symm
    refine ⟨⟨(i 0).val / 512, hk⟩, flush4 _, ?_⟩
    rw [mem_blk4]
    intro a
    have e0 : win0_4.index ⟨(i 0).val / 512, hk⟩ (0 : Fin 2) = (i 0).val / 512 := congrFun (index4 _) 0
    have e1 : win0_4.index ⟨(i 0).val / 512, hk⟩ (1 : Fin 2) = 0 := congrFun (index4 _) 1
    match a with
    | ⟨0, _⟩ => show win0_4.index _ (0 : Fin 2) * 512 ≤ (i 0).val ∧ (i 0).val < win0_4.index _ (0 : Fin 2) * 512 + 512; rw [e0]; omega
    | ⟨1, _⟩ => show win0_4.index _ (1 : Fin 2) * 1024 ≤ (i 1).val ∧ (i 1).val < win0_4.index _ (1 : Fin 2) * 1024 + 1024; rw [e1]; omega)

def G5 : FVec Ideal S8192x1024 .bf16 := fun i => normv (sumv (fun k : Fin 1024 => (h0 m c) (ix2 (i 0) k)) (fun j : Fin 2816 => (x0 m c) (ix2 (i 0) j)) (fun (j : Fin 2816) (k : Fin 1024) => (w0 m c) (ix2 j k))) (fun k : Fin 1024 => (g0 m c) (ix2 0 k)) (i 1)

theorem out5_blk (t : Fin cfg0.N) (a : Fin 512) (e : Fin 1024) :
    out0_5 (iblk m c 0 t) (iblk m c 1 t) (iblk m c 2 t) (iblk m c 3 t) (ix2 a e) = G5 m c (ix2 (row t a) e) := by
  refine (out5_at _ _ _ _ a e).trans ?_
  show _ = normv (sumv (fun k : Fin 1024 => (h0 m c) (ix2 (row t a) k)) (fun j : Fin 2816 => (x0 m c) (ix2 (row t a) j)) (fun (j : Fin 2816) (k : Fin 1024) => (w0 m c) (ix2 j k))) (fun k : Fin 1024 => (g0 m c) (ix2 0 k)) e
  simp only [blk0_at, blk1_at, blk2_at, blk3_at]

theorem emb5 (t : Fin cfg0.N) (a : Fin 512) (e : Fin 1024) : ((cfg0.win 5).blk t).view.emb (ix2 a e) = (ix2 (row t a) e : S8192x1024.Idx) := by
  refine funext fun b => Fin.ext ?_
  have h0 : win0_5.index t (0 : Fin 2) = t.val := congrFun (index5 t) 0
  have h1 : win0_5.index t (1 : Fin 2) = 0 := congrFun (index5 t) 1
  match b with
  | ⟨0, _⟩ => show win0_5.index t (0 : Fin 2) * 512 + 1 * a.val = 512 * t.val + a.val; rw [h0]; omega
  | ⟨1, _⟩ => show win0_5.index t (1 : Fin 2) * 1024 + 1 * e.val = e.val; rw [h1]; omega

theorem flushed5 (t : Fin cfg0.N) : (dats m 0 c).flushed 5 t = ((cfg0.win 5).blk t).view.read (Elt Ideal) (G5 m c) := by
  rw [Value.flushed5]
  funext y
  obtain ⟨a, e, rfl⟩ : ∃ (a : Fin 512) (e : Fin 1024), y = ix2 a e := ⟨y 0, y 1, eq_ix2 y⟩
  show out0_5 (iblk m c 0 t) (iblk m c 1 t) (iblk m c 2 t) (iblk m c 3 t) (ix2 a e) = G5 m c (((cfg0.win 5).blk t).view.emb (ix2 a e))
  rw [out5_blk, emb5]

theorem mem_blk5 (t : Fin cfg0.N) (i : S8192x1024.Idx) :
    i ∈ ((cfg0.win 5).blk t).view.set ↔ ∀ a : Fin 2, win0_5.index t a * S512x1024.size a ≤ (i a).val ∧ (i a).val < win0_5.index t a * S512x1024.size a + S512x1024.size a := by
  show i ∈ ((View.whole main_v0_1).slice (win0_5.rect t)).set ↔ _
  rw [View.set_slice_whole, Rect.mem_set_unit]
  exact Iff.rfl

theorem flush5 : ∀ t : Fin cfg0.N, (cfg0.win 5).flush t = true := (by decide +kernel : ∀ t : Fin grid0.N, _)

theorem final5 : (dats m 0 c).arrAt 5 cfg0.N = G5 m c :=
  (dats m 0 c).arrAt_eq_of_cover 5 _ (fun t _ => flushed5 m c t) (fun i => by
    have h0 : (i 0).val < 8192 := (i 0).isLt
    have h1 : (i 1).val < 1024 := (i 1).isLt
    have hk : (i 0).val / 512 < cfg0.N := lt_of_lt_of_eq (by omega : (i 0).val / 512 < 16) N_0.symm
    refine ⟨⟨(i 0).val / 512, hk⟩, flush5 _, ?_⟩
    rw [mem_blk5]
    intro a
    have e0 : win0_5.index ⟨(i 0).val / 512, hk⟩ (0 : Fin 2) = (i 0).val / 512 := congrFun (index5 _) 0
    have e1 : win0_5.index ⟨(i 0).val / 512, hk⟩ (1 : Fin 2) = 0 := congrFun (index5 _) 1
    match a with
    | ⟨0, _⟩ => show win0_5.index _ (0 : Fin 2) * 512 ≤ (i 0).val ∧ (i 0).val < win0_5.index _ (0 : Fin 2) * 512 + 512; rw [e0]; omega
    | ⟨1, _⟩ => show win0_5.index _ (1 : Fin 2) * 1024 ≤ (i 1).val ∧ (i 1).val < win0_5.index _ (1 : Fin 2) * 1024 + 1024; rw [e1]; omega)

theorem frame : Cert.quiescent_Kernel9Ideal := fun m ρ _ => Cert.Kernel9Ideal.Gen.frame m ρ

theorem frame_reference : Cert.quiescent_Reference9Ideal := fun m ρ _ =>
  (θ_run Cert.Reference9Ideal.defs _ _).mono (fun r h => ⟨fun c => (h c).2.2, Idealize.ShloMosaic.sem_eq_zero_of_no_sems (by decide) r.2⟩)
    (Cert.Reference9Ideal.Value.run (F := Ideal) m ρ)

theorem algebraic : Cert.algebraic_Kernel9Ideal_Reference9Ideal := by
  intro m g m' g' _ hag
  refine ⟨fun c => G4 m c, fun c => G5 m c,
    (θ_run Cert.Kernel9Ideal.defs _ _).mono (fun r h c => ⟨(h c).1.trans (final4 m c), (h c).2.1.trans (final5 m c), (h c).2.2⟩) (Value.run_blocks (F := Ideal) m g),
    (θ_run Cert.Reference9Ideal.defs _ _).mono (fun r h c => ⟨(h c).1.trans ?_, (h c).2.1.trans ?_, (h c).2.2⟩) (Cert.Reference9Ideal.Value.run (F := Ideal) m' g')⟩
  · rw [(hag c).1, (hag c).2.1, (hag c).2.2.1]
    refine funext fun i => ?_
    obtain ⟨p, q, rfl⟩ : ∃ (p : Fin 8192) (q : Fin 1024), i = ix2 p q := ⟨i 0, i 1, eq_ix2 i⟩
    exact ref_sum (x0 m c) (h0 m c) (w0 m c) p q
  · rw [(hag c).1, (hag c).2.1, (hag c).2.2.1, (hag c).2.2.2]
    refine funext fun i => ?_
    obtain ⟨p, q, rfl⟩ : ∃ (p : Fin 8192) (q : Fin 1024), i = ix2 p q := ⟨i 0, i 1, eq_ix2 i⟩
    exact ref_norm (x0 m c) (h0 m c) (w0 m c) (g0 m c) p q

end Cert.Outward
-- ==== Proof.Block.Merge.lean ====
/-
  The gates of the mixer's two branches, and the gated sum.
-/
module

public import proofs.«01_k».proof.Defs
public import proofs.«01_k».proof.Proof.Gen.Kernel10Ideal.Value
public import proofs.«01_k».proof.Proof.Gen.Reference10Ideal.Run
public import Idealize.ShloMosaic.Lib.Pointwise
public import Idealize.ShloMosaic.Lib.Pipeline.ValueKit.Tiles
public import Idealize.ShloMosaic.Adequacy

@[expose] public section

set_option maxRecDepth 16384

noncomputable section

namespace Cert.Merge

open Idealize.ShloMosaic
open Idealize.ShloMosaic.TcCoe
open Idealize.SL.Sem

theorem eq_ix2 {n0 n1 : ℕ} (i : (⟨2, ![n0, n1]⟩ : Shape).Idx) : i = ix2 (i 0) (i 1) := by
  refine funext fun j => ?_
  fin_cases j <;> rfl

/-- A gate, from a row, a column of the weight and the column's bias. -/
def gate (x w : Fin 1024 → EReal) (b : EReal) : EReal := Ideal.logistic (∑ j, x j * w j + b)

/-- Column `e` of the weight's left half. -/
def lo (e : Fin 1024) : Fin 2048 := ⟨e.val, by omega⟩

/-- Column `e` of the weight's right half. -/
def hi (e : Fin 1024) : Fin 2048 := ⟨1024 + e.val, by omega⟩

theorem one_eq : Ideal.ofBits .f32 0x3F800000#32 = 1 := by
  simp [Ideal.ofBits, Ideal.ieee, -EReal.coe_mul]; norm_num

theorem logistic_of (g : EReal) : Ideal.div 1 (1 + Ideal.exp (-g)) = Ideal.logistic g := rfl

section

open Cert.Reference10Ideal Cert.Reference10Ideal.Gen

theorem ref_mix (x : FVec Ideal S8192x1024 .bf16) (w : FVec Ideal S1024x2048 .bf16) (b : FVec Ideal S1x2048 .f32) (y z : FVec Ideal S8192x1024 .bf16) (p : Fin 8192) (q : Fin 1024) :
    (truncf .bf16 (addf (mulf (extractStridedSlice S8192x1024 ![0, 0] (Host.divf (broadcastInDim S8192x2048 ![] bcast_S_S8192x2048 (constant S_ .f32 0x3F800000#32)) (addf (broadcastInDim S8192x2048 ![] bcast_S_S8192x2048 (constant S_ .f32 0x3F800000#32)) (Host.exp (Host.negf (addf (Host.dotGeneral dot_S8192x1024_S1024x2048_S8192x2048_1_0_0_1_n_n none (extf .f32 x bitsLt_bf16_f32) (extf .f32 w bitsLt_bf16_f32)) (broadcastInDim S8192x2048 ![0, 1] bcast_S1x2048_S8192x2048_0_1 b)))))) slices_S8192x2048_S8192x1024_0_0) (extf .f32 y bitsLt_bf16_f32)) (mulf (extractStridedSlice S8192x1024 ![0, 1024] (Host.divf (broadcastInDim S8192x2048 ![] bcast_S_S8192x2048 (constant S_ .f32 0x3F800000#32)) (addf (broadcastInDim S8192x2048 ![] bcast_S_S8192x2048 (constant S_ .f32 0x3F800000#32)) (Host.exp (Host.negf (addf (Host.dotGeneral dot_S8192x1024_S1024x2048_S8192x2048_1_0_0_1_n_n none (extf .f32 x bitsLt_bf16_f32) (extf .f32 w bitsLt_bf16_f32)) (broadcastInDim S8192x2048 ![0, 1] bcast_S1x2048_S8192x2048_0_1 b)))))) slices_S8192x2048_S8192x1024_0_1024) (extf .f32 z bitsLt_bf16_f32))) bitsLt_bf16_f32 : FVec Ideal S8192x1024 .bf16) (ix2 p q)
      = gate (fun j : Fin 1024 => x (ix2 p j)) (fun j : Fin 1024 => w (ix2 j (lo q))) (b (ix2 0 (lo q))) * y (ix2 p q) + gate (fun j : Fin 1024 => x (ix2 p j)) (fun j : Fin 1024 => w (ix2 j (hi q))) (b (ix2 0 (hi q))) * z (ix2 p q) := by
  unfold gate lo hi
  simp only [← logistic_of, ← one_eq]
  pointwise

theorem ref_lo (x : FVec Ideal S8192x1024 .bf16) (w : FVec Ideal S1024x2048 .bf16) (b : FVec Ideal S1x2048 .f32) (p : Fin 8192) (q : Fin 1024) :
    (truncf .bf16 (extractStridedSlice S8192x1024 ![0, 0] (Host.divf (broadcastInDim S8192x2048 ![] bcast_S_S8192x2048 (constant S_ .f32 0x3F800000#32)) (addf (broadcastInDim S8192x2048 ![] bcast_S_S8192x2048 (constant S_ .f32 0x3F800000#32)) (Host.exp (Host.negf (addf (Host.dotGeneral dot_S8192x1024_S1024x2048_S8192x2048_1_0_0_1_n_n none (extf .f32 x bitsLt_bf16_f32) (extf .f32 w bitsLt_bf16_f32)) (broadcastInDim S8192x2048 ![0, 1] bcast_S1x2048_S8192x2048_0_1 b)))))) slices_S8192x2048_S8192x1024_0_0) bitsLt_bf16_f32 : FVec Ideal S8192x1024 .bf16) (ix2 p q)
      = gate (fun j : Fin 1024 => x (ix2 p j)) (fun j : Fin 1024 => w (ix2 j (lo q))) (b (ix2 0 (lo q))) := by
  unfold gate lo
  simp only [← logistic_of, ← one_eq]
  pointwise

theorem ref_hi (x : FVec Ideal S8192x1024 .bf16) (w : FVec Ideal S1024x2048 .bf16) (b : FVec Ideal S1x2048 .f32) (p : Fin 8192) (q : Fin 1024) :
    (truncf .bf16 (extractStridedSlice S8192x1024 ![0, 1024] (Host.divf (broadcastInDim S8192x2048 ![] bcast_S_S8192x2048 (constant S_ .f32 0x3F800000#32)) (addf (broadcastInDim S8192x2048 ![] bcast_S_S8192x2048 (constant S_ .f32 0x3F800000#32)) (Host.exp (Host.negf (addf (Host.dotGeneral dot_S8192x1024_S1024x2048_S8192x2048_1_0_0_1_n_n none (extf .f32 x bitsLt_bf16_f32) (extf .f32 w bitsLt_bf16_f32)) (broadcastInDim S8192x2048 ![0, 1] bcast_S1x2048_S8192x2048_0_1 b)))))) slices_S8192x2048_S8192x1024_0_1024) bitsLt_bf16_f32 : FVec Ideal S8192x1024 .bf16) (ix2 p q)
      = gate (fun j : Fin 1024 => x (ix2 p j)) (fun j : Fin 1024 => w (ix2 j (hi q))) (b (ix2 0 (hi q))) := by
  unfold gate hi
  simp only [← logistic_of, ← one_eq]
  pointwise

end

open Cert.Kernel10Ideal Cert.Kernel10Ideal.Gen

section

variable (x0 x1 x2 : Vec Ideal S512x1024 .bf16) (x3 : Vec Ideal S1024x2048 .bf16) (x4 : Vec Ideal S1x2048 .f32)

theorem ld_x : View.ld x0 r0_0 = x0 := View.ld_unit_zero (by funext a; fin_cases a <;> rfl) _ x0

theorem ld_y (o : ℕ) (inb : ∀ a, (![0, o] : Fin 2 → ℕ) a + S512x512.size a ≤ S512x1024.size a) (a : Fin 512) (e : Fin 1024) (q : Fin 512) (h : e.val = o + q.val) :
    View.ld x1 (Rect.unit (s := S512x1024) ![0, o] S512x512.size inb) (ix2 a q) = x1 (ix2 a e) :=
  View.ld_unit_apply_of x1 _ _ inb (ix2 a q) (ix2 a e) (fun b => match b with | ⟨0, _⟩ => (Nat.zero_add _).symm | ⟨1, _⟩ => h)

theorem ld_w (o : ℕ) (inb : ∀ a, (![0, o] : Fin 2 → ℕ) a + S1024x512.size a ≤ S1024x2048.size a) (j : Fin 1024) (e : Fin 2048) (q : Fin 512) (h : e.val = o + q.val) :
    View.ld x3 (Rect.unit (s := S1024x2048) ![0, o] S1024x512.size inb) (ix2 j q) = x3 (ix2 j e) :=
  View.ld_unit_apply_of x3 _ _ inb (ix2 j q) (ix2 j e) (fun b => match b with | ⟨0, _⟩ => (Nat.zero_add _).symm | ⟨1, _⟩ => h)

theorem ld_b (o : ℕ) (inb : ∀ a, (![0, o] : Fin 2 → ℕ) a + S1x512.size a ≤ S1x2048.size a) (e : Fin 2048) (q : Fin 512) (h : e.val = o + q.val) :
    View.ld x4 (Rect.unit (s := S1x2048) ![0, o] S1x512.size inb) (ix2 0 q) = x4 (ix2 0 e) :=
  View.ld_unit_apply_of x4 _ _ inb (ix2 0 q) (ix2 0 e) (fun b => match b with | ⟨0, _⟩ => (Nat.zero_add _).symm | ⟨1, _⟩ => h)

theorem pay9_at (x : FVec Ideal S512x1024 .bf16) (w : FVec Ideal S1024x512 .bf16) (b : FVec Ideal S1x512 .f32) (a e : Fin 512) : k0_pay9 (F := Ideal) x w b (ix2 a e) = gate (fun j : Fin 1024 => x (ix2 a j)) (fun j : Fin 1024 => w (ix2 j e)) (b (ix2 0 e)) := by
  unfold gate
  pointwise [k0_pay9, k0_pay6]

theorem pay10_at (x : FVec Ideal S512x1024 .bf16) (w : FVec Ideal S1024x512 .bf16) (b : FVec Ideal S1x512 .f32) (a e : Fin 512) : k0_pay10 (F := Ideal) x w b (ix2 a e) = gate (fun j : Fin 1024 => x (ix2 a j)) (fun j : Fin 1024 => w (ix2 j e)) (b (ix2 0 e)) := by
  unfold gate
  pointwise [k0_pay10, k0_pay7]

theorem pay5_at (x : FVec Ideal S512x1024 .bf16) (w : FVec Ideal S1024x512 .bf16) (b : FVec Ideal S1x512 .f32) (a e : Fin 512) : k0_pay5 (F := Ideal) x w b (ix2 a e) = gate (fun j : Fin 1024 => x (ix2 a j)) (fun j : Fin 1024 => w (ix2 j e)) (b (ix2 0 e)) := by
  unfold gate
  pointwise [k0_pay5, k0_pay2]

theorem pay4_at (x : FVec Ideal S512x1024 .bf16) (w : FVec Ideal S1024x512 .bf16) (b : FVec Ideal S1x512 .f32) (a e : Fin 512) : k0_pay4 (F := Ideal) (k0_pay11 x w) b (ix2 a e) = gate (fun j : Fin 1024 => x (ix2 a j)) (fun j : Fin 1024 => w (ix2 j e)) (b (ix2 0 e)) := by
  unfold gate
  pointwise [k0_pay4, k0_pay1, k0_pay11]

theorem pay8_at (x : FVec Ideal S512x1024 .bf16) (w v : FVec Ideal S1024x512 .bf16) (y z : FVec Ideal S512x512 .bf16) (b d : FVec Ideal S1x512 .f32) (a e : Fin 512) : k0_pay8 (F := Ideal) x w v y z b d (ix2 a e) = gate (fun j : Fin 1024 => x (ix2 a j)) (fun j : Fin 1024 => w (ix2 j e)) (b (ix2 0 e)) * y (ix2 a e) + gate (fun j : Fin 1024 => x (ix2 a j)) (fun j : Fin 1024 => v (ix2 j e)) (d (ix2 0 e)) * z (ix2 a e) := by
  unfold gate
  pointwise [k0_pay8, k0_pay6, k0_pay7]

theorem pay3_at (x : FVec Ideal S512x1024 .bf16) (w v : FVec Ideal S1024x512 .bf16) (y z : FVec Ideal S512x512 .bf16) (b d : FVec Ideal S1x512 .f32) (a e : Fin 512) : k0_pay3 (F := Ideal) x (k0_pay11 x w) v y z b d (ix2 a e) = gate (fun j : Fin 1024 => x (ix2 a j)) (fun j : Fin 1024 => w (ix2 j e)) (b (ix2 0 e)) * y (ix2 a e) + gate (fun j : Fin 1024 => x (ix2 a j)) (fun j : Fin 1024 => v (ix2 j e)) (d (ix2 0 e)) * z (ix2 a e) := by
  unfold gate
  pointwise [k0_pay3, k0_pay1, k0_pay2, k0_pay11]

theorem gate_piece (pay : Vec Ideal S512x1024 .bf16 → Vec Ideal S1024x512 .bf16 → Vec Ideal S1x512 .f32 → FVec Ideal S512x512 .bf16)
    (hpay : ∀ (x : FVec Ideal S512x1024 .bf16) (w : FVec Ideal S1024x512 .bf16) (b : FVec Ideal S1x512 .f32) (a e : Fin 512), pay x w b (ix2 a e) = gate (fun j : Fin 1024 => x (ix2 a j)) (fun j : Fin 1024 => w (ix2 j e)) (b (ix2 0 e)))
    (o o' : ℕ) (inw : ∀ a, (![0, o'] : Fin 2 → ℕ) a + S1024x512.size a ≤ S1024x2048.size a) (inb : ∀ a, (![0, o'] : Fin 2 → ℕ) a + S1x512.size a ≤ S1x2048.size a)
    (a : Fin 512) (e : Fin 1024) (e' : Fin 2048) (he : o + e'.val = o' + e.val) :
    View.TileAt (S := S512x1024) (Val := Elt Ideal) (e := .bf16) (ix2 a e) ![0, o] S512x512.size
      (pay (View.ld x0 r0_0) (View.ld x3 (Rect.unit (s := S1024x2048) ![0, o'] S1024x512.size inw)) (View.ld x4 (Rect.unit (s := S1x2048) ![0, o'] S1x512.size inb))) (gate (fun j : Fin 1024 => x0 (ix2 a j)) (fun j : Fin 1024 => x3 (ix2 j e')) (x4 (ix2 0 e'))) := by
  intro x hx
  obtain ⟨p, q, rfl⟩ : ∃ (p q : Fin 512), x = ix2 p q := ⟨x 0, x 1, eq_ix2 x⟩
  obtain rfl : p = a := Fin.ext ((hx 0).trans (Nat.zero_add _)).symm
  have h : e.val = o + q.val := hx 1
  have h' : e'.val = o' + q.val := by omega
  rw [hpay, ld_x, ld_b x4 o' inb e' q h']
  simp only [ld_w x3 o' inw _ e' q h']

theorem mix_piece (pay : Vec Ideal S512x1024 .bf16 → Vec Ideal S1024x512 .bf16 → Vec Ideal S1024x512 .bf16 → Vec Ideal S512x512 .bf16 → Vec Ideal S512x512 .bf16 → Vec Ideal S1x512 .f32 → Vec Ideal S1x512 .f32 → FVec Ideal S512x512 .bf16)
    (hpay : ∀ (x : FVec Ideal S512x1024 .bf16) (w v : FVec Ideal S1024x512 .bf16) (y z : FVec Ideal S512x512 .bf16) (b d : FVec Ideal S1x512 .f32) (a e : Fin 512), pay x w v y z b d (ix2 a e) = gate (fun j : Fin 1024 => x (ix2 a j)) (fun j : Fin 1024 => w (ix2 j e)) (b (ix2 0 e)) * y (ix2 a e) + gate (fun j : Fin 1024 => x (ix2 a j)) (fun j : Fin 1024 => v (ix2 j e)) (d (ix2 0 e)) * z (ix2 a e))
    (o o' : ℕ) (ho : o' = 1024 + o) (inw : ∀ a, (![0, o] : Fin 2 → ℕ) a + S1024x512.size a ≤ S1024x2048.size a) (inb : ∀ a, (![0, o] : Fin 2 → ℕ) a + S1x512.size a ≤ S1x2048.size a) (inw2 : ∀ a, (![0, o'] : Fin 2 → ℕ) a + S1024x512.size a ≤ S1024x2048.size a) (inb2 : ∀ a, (![0, o'] : Fin 2 → ℕ) a + S1x512.size a ≤ S1x2048.size a)
    (iny : ∀ a, (![0, o] : Fin 2 → ℕ) a + S512x512.size a ≤ S512x1024.size a) (a : Fin 512) (e : Fin 1024) :
    View.TileAt (S := S512x1024) (Val := Elt Ideal) (e := .bf16) (ix2 a e) ![0, o] S512x512.size
      (pay (View.ld x0 r0_0) (View.ld x3 (Rect.unit (s := S1024x2048) ![0, o] S1024x512.size inw)) (View.ld x3 (Rect.unit (s := S1024x2048) ![0, o'] S1024x512.size inw2)) (View.ld x1 (Rect.unit (s := S512x1024) ![0, o] S512x512.size iny)) (View.ld x2 (Rect.unit (s := S512x1024) ![0, o] S512x512.size iny)) (View.ld x4 (Rect.unit (s := S1x2048) ![0, o] S1x512.size inb)) (View.ld x4 (Rect.unit (s := S1x2048) ![0, o'] S1x512.size inb2))) (gate (fun j : Fin 1024 => x0 (ix2 a j)) (fun j : Fin 1024 => x3 (ix2 j (lo e))) (x4 (ix2 0 (lo e))) * x1 (ix2 a e) + gate (fun j : Fin 1024 => x0 (ix2 a j)) (fun j : Fin 1024 => x3 (ix2 j (hi e))) (x4 (ix2 0 (hi e))) * x2 (ix2 a e)) := by
  intro x hx
  obtain ⟨p, q, rfl⟩ : ∃ (p q : Fin 512), x = ix2 p q := ⟨x 0, x 1, eq_ix2 x⟩
  obtain rfl : p = a := Fin.ext ((hx 0).trans (Nat.zero_add _)).symm
  have h : e.val = o + q.val := hx 1
  have hl : (lo e).val = o + q.val := h
  have hh : (hi e).val = o' + q.val := by show 1024 + e.val = o' + q.val; omega
  rw [hpay, ld_x, ld_b x4 o inb (lo e) q hl, ld_b x4 o' inb2 (hi e) q hh, ld_y x1 o iny p e q h, ld_y x2 o iny p e q h]
  simp only [ld_w x3 o inw _ (lo e) q hl, ld_w x3 o' inw2 _ (hi e) q hh]

theorem out5_at (a : Fin 512) (e : Fin 1024) : out0_5 x0 x1 x2 x3 x4 (ix2 a e) = gate (fun j : Fin 1024 => x0 (ix2 a j)) (fun j : Fin 1024 => x3 (ix2 j (lo e))) (x4 (ix2 0 (lo e))) * x1 (ix2 a e) + gate (fun j : Fin 1024 => x0 (ix2 a j)) (fun j : Fin 1024 => x3 (ix2 j (hi e))) (x4 (ix2 0 (hi e))) * x2 (ix2 a e) := by
  unfold out0_5 k0_pay12
  refine View.canon_eq_of_allAt _ _ _ (cover0_5 _ _ _) ?_
  refine View.allAt_cons_unit _ _ _ _ _ (mix_piece x0 x1 x2 x3 x4 (fun x w v y z b d => k0_pay3 (F := Ideal) x (k0_pay11 x w) v y z b d) pay3_at 512 1536 rfl _ _ _ _ _ a e) ?_
  refine View.allAt_cons_unit _ _ _ _ _ (mix_piece x0 x1 x2 x3 x4 (k0_pay8 (F := Ideal)) pay8_at 0 1024 rfl _ _ _ _ _ a e) ?_
  exact View.allAt_nil _ _

theorem out6_at (a : Fin 512) (e : Fin 1024) : out0_6 x0 x1 x2 x3 x4 (ix2 a e) = gate (fun j : Fin 1024 => x0 (ix2 a j)) (fun j : Fin 1024 => x3 (ix2 j (lo e))) (x4 (ix2 0 (lo e))) := by
  unfold out0_6 k0_pay12
  refine View.canon_eq_of_allAt _ _ _ (cover0_6 _ _ _) ?_
  refine View.allAt_cons_unit _ _ _ _ _ (gate_piece x0 x3 x4 (fun x w b => k0_pay4 (F := Ideal) (k0_pay11 x w) b) pay4_at 512 512 _ _ a e (lo e) rfl) ?_
  refine View.allAt_cons_unit _ _ _ _ _ (gate_piece x0 x3 x4 (k0_pay9 (F := Ideal)) pay9_at 0 0 _ _ a e (lo e) rfl) ?_
  exact View.allAt_nil _ _

theorem out7_at (a : Fin 512) (e : Fin 1024) : out0_7 x0 x1 x2 x3 x4 (ix2 a e) = gate (fun j : Fin 1024 => x0 (ix2 a j)) (fun j : Fin 1024 => x3 (ix2 j (hi e))) (x4 (ix2 0 (hi e))) := by
  unfold out0_7
  refine View.canon_eq_of_allAt _ _ _ (cover0_7 _ _ _) ?_
  refine View.allAt_cons_unit _ _ _ _ _ (gate_piece x0 x3 x4 (k0_pay5 (F := Ideal)) pay5_at 512 1536 _ _ a e (hi e) (by show 512 + (1024 + e.val) = 1536 + e.val; omega)) ?_
  refine View.allAt_cons_unit _ _ _ _ _ (gate_piece x0 x3 x4 (k0_pay10 (F := Ideal)) pay10_at 0 1024 _ _ a e (hi e) (by show 0 + (1024 + e.val) = 1024 + e.val; omega)) ?_
  exact View.allAt_nil _ _

end

variable (m : (ℓ : Loc nD τ sig) → Buf (Elt Ideal) ℓ) (c : Dev nD)

abbrev x0 : FVec Ideal S8192x1024 .bf16 := m ((c.tc : Thread nD τ).loc main_arg0)
abbrev y0 : FVec Ideal S8192x1024 .bf16 := m ((c.tc : Thread nD τ).loc main_arg3)
abbrev z0 : FVec Ideal S8192x1024 .bf16 := m ((c.tc : Thread nD τ).loc main_arg4)
abbrev w0 : FVec Ideal S1024x2048 .bf16 := m ((c.tc : Thread nD τ).loc main_arg1)
abbrev b0 : FVec Ideal S1x2048 .f32 := m ((c.tc : Thread nD τ).loc main_arg2)

theorem index0 : ∀ t : Fin cfg0.N, win0_0.index t = ![t.val, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![t.val, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![t.val, 0] := (by decide +kernel : ∀ t : Fin grid0.N, _)
theorem index6 : ∀ t : Fin cfg0.N, win0_6.index t = ![t.val, 0] := (by decide +kernel : ∀ t : Fin grid0.N, _)
theorem index7 : ∀ t : Fin cfg0.N, win0_7.index t = ![t.val, 0] := (by decide +kernel : ∀ t : Fin grid0.N, _)

/-- Row `a` of block `t`. -/
def row (t : Fin cfg0.N) (a : Fin 512) : Fin 8192 :=
  ⟨512 * t.val + a.val, by have := lt_of_lt_of_eq t.isLt N_0; omega⟩

theorem blk0_at (t : Fin cfg0.N) (a : Fin 512) (j : Fin 1024) : iblk m c 0 t (ix2 a j) = x0 m c (ix2 (row t a) j) := by
  show V m c main_arg0 (((cfg0.win 0).blk t).view.emb (ix2 a j)) = _
  rw [V_main_arg0]
  refine congrArg (x0 m c) (funext fun b => Fin.ext ?_)
  have h0 : win0_0.index t (0 : Fin 2) = t.val := congrFun (index0 t) 0
  have h1 : win0_0.index t (1 : Fin 2) = 0 := congrFun (index0 t) 1
  match b with
  | ⟨0, _⟩ => show win0_0.index t (0 : Fin 2) * 512 + 1 * a.val = 512 * t.val + a.val; rw [h0]; omega
  | ⟨1, _⟩ => show win0_0.index t (1 : Fin 2) * 1024 + 1 * j.val = j.val; rw [h1]; omega

theorem blk1_at (t : Fin cfg0.N) (a : Fin 512) (j : Fin 1024) : iblk m c 1 t (ix2 a j) = y0 m c (ix2 (row t a) j) := by
  show V m c main_arg3 (((cfg0.win 1).blk t).view.emb (ix2 a j)) = _
  rw [V_main_arg3]
  refine congrArg (y0 m c) (funext fun b => Fin.ext ?_)
  have h0 : win0_1.index t (0 : Fin 2) = t.val := congrFun (index1 t) 0
  have h1 : win0_1.index t (1 : Fin 2) = 0 := congrFun (index1 t) 1
  match b with
  | ⟨0, _⟩ => show win0_1.index t (0 : Fin 2) * 512 + 1 * a.val = 512 * t.val + a.val; rw [h0]; omega
  | ⟨1, _⟩ => show win0_1.index t (1 : Fin 2) * 1024 + 1 * j.val = j.val; rw [h1]; omega

theorem blk2_at (t : Fin cfg0.N) (a : Fin 512) (j : Fin 1024) : iblk m c 2 t (ix2 a j) = z0 m c (ix2 (row t a) j) := by
  show V m c main_arg4 (((cfg0.win 2).blk t).view.emb (ix2 a j)) = _
  rw [V_main_arg4]
  refine congrArg (z0 m c) (funext fun b => Fin.ext ?_)
  have h0 : win0_2.index t (0 : Fin 2) = t.val := congrFun (index2 t) 0
  have h1 : win0_2.index t (1 : Fin 2) = 0 := congrFun (index2 t) 1
  match b with
  | ⟨0, _⟩ => show win0_2.index t (0 : Fin 2) * 512 + 1 * a.val = 512 * t.val + a.val; rw [h0]; omega
  | ⟨1, _⟩ => show win0_2.index t (1 : Fin 2) * 1024 + 1 * j.val = j.val; rw [h1]; omega

theorem blk3_at (t : Fin cfg0.N) (a : Fin 1024) (j : Fin 2048) : iblk m c 3 t (ix2 a j) = w0 m c (ix2 a j) := by
  show V m c main_arg1 (((cfg0.win 3).blk t).view.emb (ix2 a j)) = _
  rw [V_main_arg1]
  refine congrArg (w0 m c) (funext fun b => Fin.ext ?_)
  have h0 : win0_3.index t (0 : Fin 2) = 0 := congrFun (index3 t) 0
  have h1 : win0_3.index t (1 : Fin 2) = 0 := congrFun (index3 t) 1
  match b with
  | ⟨0, _⟩ => show win0_3.index t (0 : Fin 2) * 1024 + 1 * a.val = a.val; rw [h0]; omega
  | ⟨1, _⟩ => show win0_3.index t (1 : Fin 2) * 2048 + 1 * j.val = j.val; rw [h1]; omega

theorem blk4_at (t : Fin cfg0.N) (a : Fin 1) (j : Fin 2048) : iblk m c 4 t (ix2 a j) = b0 m c (ix2 a j) := by
  show V m c main_arg2 (((cfg0.win 4).blk t).view.emb (ix2 a j)) = _
  rw [V_main_arg2]
  refine congrArg (b0 m c) (funext fun b => Fin.ext ?_)
  have h0 : win0_4.index t (0 : Fin 2) = 0 := congrFun (index4 t) 0
  have h1 : win0_4.index t (1 : Fin 2) = 0 := congrFun (index4 t) 1
  match b with
  | ⟨0, _⟩ => show win0_4.index t (0 : Fin 2) * 1 + 1 * a.val = a.val; rw [h0]; omega
  | ⟨1, _⟩ => show win0_4.index t (1 : Fin 2) * 2048 + 1 * j.val = j.val; rw [h1]; omega

def G5 : FVec Ideal S8192x1024 .bf16 := fun i => gate (fun j : Fin 1024 => (x0 m c) (ix2 (i 0) j)) (fun j : Fin 1024 => (w0 m c) (ix2 j (lo (i 1)))) ((b0 m c) (ix2 0 (lo (i 1)))) * (y0 m c) (ix2 (i 0) (i 1)) + gate (fun j : Fin 1024 => (x0 m c) (ix2 (i 0) j)) (fun j : Fin 1024 => (w0 m c) (ix2 j (hi (i 1)))) ((b0 m c) (ix2 0 (hi (i 1)))) * (z0 m c) (ix2 (i 0) (i 1))

theorem out5_blk (t : Fin cfg0.N) (a : Fin 512) (e : Fin 1024) :
    out0_5 (iblk m c 0 t) (iblk m c 1 t) (iblk m c 2 t) (iblk m c 3 t) (iblk m c 4 t) (ix2 a e) = G5 m c (ix2 (row t a) e) := by
  refine (out5_at _ _ _ _ _ a e).trans ?_
  show _ = gate (fun j : Fin 1024 => (x0 m c) (ix2 (row t a) j)) (fun j : Fin 1024 => (w0 m c) (ix2 j (lo e))) ((b0 m c) (ix2 0 (lo e))) * (y0 m c) (ix2 (row t a) e) + gate (fun j : Fin 1024 => (x0 m c) (ix2 (row t a) j)) (fun j : Fin 1024 => (w0 m c) (ix2 j (hi e))) ((b0 m c) (ix2 0 (hi e))) * (z0 m c) (ix2 (row t a) e)
  simp only [blk0_at, blk1_at, blk2_at, blk3_at, blk4_at]

theorem emb5 (t : Fin cfg0.N) (a : Fin 512) (e : Fin 1024) : ((cfg0.win 5).blk t).view.emb (ix2 a e) = (ix2 (row t a) e : S8192x1024.Idx) := by
  refine funext fun b => Fin.ext ?_
  have h0 : win0_5.index t (0 : Fin 2) = t.val := congrFun (index5 t) 0
  have h1 : win0_5.index t (1 : Fin 2) = 0 := congrFun (index5 t) 1
  match b with
  | ⟨0, _⟩ => show win0_5.index t (0 : Fin 2) * 512 + 1 * a.val = 512 * t.val + a.val; rw [h0]; omega
  | ⟨1, _⟩ => show win0_5.index t (1 : Fin 2) * 1024 + 1 * e.val = e.val; rw [h1]; omega

theorem flushed5 (t : Fin cfg0.N) : (dats m 0 c).flushed 5 t = ((cfg0.win 5).blk t).view.read (Elt Ideal) (G5 m c) := by
  rw [Value.flushed5]
  funext y
  obtain ⟨a, e, rfl⟩ : ∃ (a : Fin 512) (e : Fin 1024), y = ix2 a e := ⟨y 0, y 1, eq_ix2 y⟩
  show out0_5 (iblk m c 0 t) (iblk m c 1 t) (iblk m c 2 t) (iblk m c 3 t) (iblk m c 4 t) (ix2 a e) = G5 m c (((cfg0.win 5).blk t).view.emb (ix2 a e))
  rw [out5_blk, emb5]

theorem mem_blk5 (t : Fin cfg0.N) (i : S8192x1024.Idx) :
    i ∈ ((cfg0.win 5).blk t).view.set ↔ ∀ a : Fin 2, win0_5.index t a * S512x1024.size a ≤ (i a).val ∧ (i a).val < win0_5.index t a * S512x1024.size a + S512x1024.size a := by
  show i ∈ ((View.whole main_v0_0).slice (win0_5.rect t)).set ↔ _
  rw [View.set_slice_whole, Rect.mem_set_unit]
  exact Iff.rfl

theorem flush5 : ∀ t : Fin cfg0.N, (cfg0.win 5).flush t = true := (by decide +kernel : ∀ t : Fin grid0.N, _)

theorem final5 : (dats m 0 c).arrAt 5 cfg0.N = G5 m c :=
  (dats m 0 c).arrAt_eq_of_cover 5 _ (fun t _ => flushed5 m c t) (fun i => by
    have h0 : (i 0).val < 8192 := (i 0).isLt
    have h1 : (i 1).val < 1024 := (i 1).isLt
    have hk : (i 0).val / 512 < cfg0.N := lt_of_lt_of_eq (by omega : (i 0).val / 512 < 16) N_0.symm
    refine ⟨⟨(i 0).val / 512, hk⟩, flush5 _, ?_⟩
    rw [mem_blk5]
    intro a
    have e0 : win0_5.index ⟨(i 0).val / 512, hk⟩ (0 : Fin 2) = (i 0).val / 512 := congrFun (index5 _) 0
    have e1 : win0_5.index ⟨(i 0).val / 512, hk⟩ (1 : Fin 2) = 0 := congrFun (index5 _) 1
    match a with
    | ⟨0, _⟩ => show win0_5.index _ (0 : Fin 2) * 512 ≤ (i 0).val ∧ (i 0).val < win0_5.index _ (0 : Fin 2) * 512 + 512; rw [e0]; omega
    | ⟨1, _⟩ => show win0_5.index _ (1 : Fin 2) * 1024 ≤ (i 1).val ∧ (i 1).val < win0_5.index _ (1 : Fin 2) * 1024 + 1024; rw [e1]; omega)

def G6 : FVec Ideal S8192x1024 .bf16 := fun i => gate (fun j : Fin 1024 => (x0 m c) (ix2 (i 0) j)) (fun j : Fin 1024 => (w0 m c) (ix2 j (lo (i 1)))) ((b0 m c) (ix2 0 (lo (i 1))))

theorem out6_blk (t : Fin cfg0.N) (a : Fin 512) (e : Fin 1024) :
    out0_6 (iblk m c 0 t) (iblk m c 1 t) (iblk m c 2 t) (iblk m c 3 t) (iblk m c 4 t) (ix2 a e) = G6 m c (ix2 (row t a) e) := by
  refine (out6_at _ _ _ _ _ a e).trans ?_
  show _ = gate (fun j : Fin 1024 => (x0 m c) (ix2 (row t a) j)) (fun j : Fin 1024 => (w0 m c) (ix2 j (lo e))) ((b0 m c) (ix2 0 (lo e)))
  simp only [blk0_at, blk1_at, blk2_at, blk3_at, blk4_at]

theorem emb6 (t : Fin cfg0.N) (a : Fin 512) (e : Fin 1024) : ((cfg0.win 6).blk t).view.emb (ix2 a e) = (ix2 (row t a) e : S8192x1024.Idx) := by
  refine funext fun b => Fin.ext ?_
  have h0 : win0_6.index t (0 : Fin 2) = t.val := congrFun (index6 t) 0
  have h1 : win0_6.index t (1 : Fin 2) = 0 := congrFun (index6 t) 1
  match b with
  | ⟨0, _⟩ => show win0_6.index t (0 : Fin 2) * 512 + 1 * a.val = 512 * t.val + a.val; rw [h0]; omega
  | ⟨1, _⟩ => show win0_6.index t (1 : Fin 2) * 1024 + 1 * e.val = e.val; rw [h1]; omega

theorem flushed6 (t : Fin cfg0.N) : (dats m 0 c).flushed 6 t = ((cfg0.win 6).blk t).view.read (Elt Ideal) (G6 m c) := by
  rw [Value.flushed6]
  funext y
  obtain ⟨a, e, rfl⟩ : ∃ (a : Fin 512) (e : Fin 1024), y = ix2 a e := ⟨y 0, y 1, eq_ix2 y⟩
  show out0_6 (iblk m c 0 t) (iblk m c 1 t) (iblk m c 2 t) (iblk m c 3 t) (iblk m c 4 t) (ix2 a e) = G6 m c (((cfg0.win 6).blk t).view.emb (ix2 a e))
  rw [out6_blk, emb6]

theorem mem_blk6 (t : Fin cfg0.N) (i : S8192x1024.Idx) :
    i ∈ ((cfg0.win 6).blk t).view.set ↔ ∀ a : Fin 2, win0_6.index t a * S512x1024.size a ≤ (i a).val ∧ (i a).val < win0_6.index t a * S512x1024.size a + S512x1024.size a := by
  show i ∈ ((View.whole main_v0_1).slice (win0_6.rect t)).set ↔ _
  rw [View.set_slice_whole, Rect.mem_set_unit]
  exact Iff.rfl

theorem flush6 : ∀ t : Fin cfg0.N, (cfg0.win 6).flush t = true := (by decide +kernel : ∀ t : Fin grid0.N, _)

theorem final6 : (dats m 0 c).arrAt 6 cfg0.N = G6 m c :=
  (dats m 0 c).arrAt_eq_of_cover 6 _ (fun t _ => flushed6 m c t) (fun i => by
    have h0 : (i 0).val < 8192 := (i 0).isLt
    have h1 : (i 1).val < 1024 := (i 1).isLt
    have hk : (i 0).val / 512 < cfg0.N := lt_of_lt_of_eq (by omega : (i 0).val / 512 < 16) N_0.symm
    refine ⟨⟨(i 0).val / 512, hk⟩, flush6 _, ?_⟩
    rw [mem_blk6]
    intro a
    have e0 : win0_6.index ⟨(i 0).val / 512, hk⟩ (0 : Fin 2) = (i 0).val / 512 := congrFun (index6 _) 0
    have e1 : win0_6.index ⟨(i 0).val / 512, hk⟩ (1 : Fin 2) = 0 := congrFun (index6 _) 1
    match a with
    | ⟨0, _⟩ => show win0_6.index _ (0 : Fin 2) * 512 ≤ (i 0).val ∧ (i 0).val < win0_6.index _ (0 : Fin 2) * 512 + 512; rw [e0]; omega
    | ⟨1, _⟩ => show win0_6.index _ (1 : Fin 2) * 1024 ≤ (i 1).val ∧ (i 1).val < win0_6.index _ (1 : Fin 2) * 1024 + 1024; rw [e1]; omega)

def G7 : FVec Ideal S8192x1024 .bf16 := fun i => gate (fun j : Fin 1024 => (x0 m c) (ix2 (i 0) j)) (fun j : Fin 1024 => (w0 m c) (ix2 j (hi (i 1)))) ((b0 m c) (ix2 0 (hi (i 1))))

theorem out7_blk (t : Fin cfg0.N) (a : Fin 512) (e : Fin 1024) :
    out0_7 (iblk m c 0 t) (iblk m c 1 t) (iblk m c 2 t) (iblk m c 3 t) (iblk m c 4 t) (ix2 a e) = G7 m c (ix2 (row t a) e) := by
  refine (out7_at _ _ _ _ _ a e).trans ?_
  show _ = gate (fun j : Fin 1024 => (x0 m c) (ix2 (row t a) j)) (fun j : Fin 1024 => (w0 m c) (ix2 j (hi e))) ((b0 m c) (ix2 0 (hi e)))
  simp only [blk0_at, blk1_at, blk2_at, blk3_at, blk4_at]

theorem emb7 (t : Fin cfg0.N) (a : Fin 512) (e : Fin 1024) : ((cfg0.win 7).blk t).view.emb (ix2 a e) = (ix2 (row t a) e : S8192x1024.Idx) := by
  refine funext fun b => Fin.ext ?_
  have h0 : win0_7.index t (0 : Fin 2) = t.val := congrFun (index7 t) 0
  have h1 : win0_7.index t (1 : Fin 2) = 0 := congrFun (index7 t) 1
  match b with
  | ⟨0, _⟩ => show win0_7.index t (0 : Fin 2) * 512 + 1 * a.val = 512 * t.val + a.val; rw [h0]; omega
  | ⟨1, _⟩ => show win0_7.index t (1 : Fin 2) * 1024 + 1 * e.val = e.val; rw [h1]; omega

theorem flushed7 (t : Fin cfg0.N) : (dats m 0 c).flushed 7 t = ((cfg0.win 7).blk t).view.read (Elt Ideal) (G7 m c) := by
  rw [Value.flushed7]
  funext y
  obtain ⟨a, e, rfl⟩ : ∃ (a : Fin 512) (e : Fin 1024), y = ix2 a e := ⟨y 0, y 1, eq_ix2 y⟩
  show out0_7 (iblk m c 0 t) (iblk m c 1 t) (iblk m c 2 t) (iblk m c 3 t) (iblk m c 4 t) (ix2 a e) = G7 m c (((cfg0.win 7).blk t).view.emb (ix2 a e))
  rw [out7_blk, emb7]

theorem mem_blk7 (t : Fin cfg0.N) (i : S8192x1024.Idx) :
    i ∈ ((cfg0.win 7).blk t).view.set ↔ ∀ a : Fin 2, win0_7.index t a * S512x1024.size a ≤ (i a).val ∧ (i a).val < win0_7.index t a * S512x1024.size a + S512x1024.size a := by
  show i ∈ ((View.whole main_v0_2).slice (win0_7.rect t)).set ↔ _
  rw [View.set_slice_whole, Rect.mem_set_unit]
  exact Iff.rfl

theorem flush7 : ∀ t : Fin cfg0.N, (cfg0.win 7).flush t = true := (by decide +kernel : ∀ t : Fin grid0.N, _)

theorem final7 : (dats m 0 c).arrAt 7 cfg0.N = G7 m c :=
  (dats m 0 c).arrAt_eq_of_cover 7 _ (fun t _ => flushed7 m c t) (fun i => by
    have h0 : (i 0).val < 8192 := (i 0).isLt
    have h1 : (i 1).val < 1024 := (i 1).isLt
    have hk : (i 0).val / 512 < cfg0.N := lt_of_lt_of_eq (by omega : (i 0).val / 512 < 16) N_0.symm
    refine ⟨⟨(i 0).val / 512, hk⟩, flush7 _, ?_⟩
    rw [mem_blk7]
    intro a
    have e0 : win0_7.index ⟨(i 0).val / 512, hk⟩ (0 : Fin 2) = (i 0).val / 512 := congrFun (index7 _) 0
    have e1 : win0_7.index ⟨(i 0).val / 512, hk⟩ (1 : Fin 2) = 0 := congrFun (index7 _) 1
    match a with
    | ⟨0, _⟩ => show win0_7.index _ (0 : Fin 2) * 512 ≤ (i 0).val ∧ (i 0).val < win0_7.index _ (0 : Fin 2) * 512 + 512; rw [e0]; omega
    | ⟨1, _⟩ => show win0_7.index _ (1 : Fin 2) * 1024 ≤ (i 1).val ∧ (i 1).val < win0_7.index _ (1 : Fin 2) * 1024 + 1024; rw [e1]; omega)

theorem frame : Cert.quiescent_Kernel10Ideal := fun m ρ _ => Cert.Kernel10Ideal.Gen.frame m ρ

theorem frame_reference : Cert.quiescent_Reference10Ideal := fun m ρ _ =>
  (θ_run Cert.Reference10Ideal.defs _ _).mono (fun r h => ⟨fun c => (h c).2.2.2, Idealize.ShloMosaic.sem_eq_zero_of_no_sems (by decide) r.2⟩)
    (Cert.Reference10Ideal.Value.run (F := Ideal) m ρ)

theorem algebraic : Cert.algebraic_Kernel10Ideal_Reference10Ideal := by
  intro m g m' g' _ hag
  refine ⟨fun c => G5 m c, fun c => G6 m c, fun c => G7 m c,
    (θ_run Cert.Kernel10Ideal.defs _ _).mono (fun r h c => ⟨(h c).1.trans (final5 m c), (h c).2.1.trans (final6 m c), (h c).2.2.1.trans (final7 m c), (h c).2.2.2⟩) (Value.run_blocks (F := Ideal) m g),
    (θ_run Cert.Reference10Ideal.defs _ _).mono (fun r h c => ⟨(h c).1.trans ?_, (h c).2.1.trans ?_, (h c).2.2.1.trans ?_, (h c).2.2.2⟩) (Cert.Reference10Ideal.Value.run (F := Ideal) m' g')⟩
  · rw [(hag c).1, (hag c).2.1, (hag c).2.2.1, (hag c).2.2.2.1, (hag c).2.2.2.2]
    refine funext fun i => ?_
    obtain ⟨p, q, rfl⟩ : ∃ (p : Fin 8192) (q : Fin 1024), i = ix2 p q := ⟨i 0, i 1, eq_ix2 i⟩
    exact ref_mix (x0 m c) (w0 m c) (b0 m c) (y0 m c) (z0 m c) p q
  · rw [(hag c).1, (hag c).2.1, (hag c).2.2.1]
    refine funext fun i => ?_
    obtain ⟨p, q, rfl⟩ : ∃ (p : Fin 8192) (q : Fin 1024), i = ix2 p q := ⟨i 0, i 1, eq_ix2 i⟩
    exact ref_lo (x0 m c) (w0 m c) (b0 m c) p q
  · rw [(hag c).1, (hag c).2.1, (hag c).2.2.1]
    refine funext fun i => ?_
    obtain ⟨p, q, rfl⟩ : ∃ (p : Fin 8192) (q : Fin 1024), i = ix2 p q := ⟨i 0, i 1, eq_ix2 i⟩
    exact ref_hi (x0 m c) (w0 m c) (b0 m c) p q

end Cert.Merge
-- ==== Proof.Block.Ending.lean ====
/-
  The product that ends the mixer, added to the input.
-/
module

public import proofs.«01_k».proof.Defs
public import proofs.«01_k».proof.Proof.Gen.Kernel11Ideal.Value
public import proofs.«01_k».proof.Proof.Gen.Reference11Ideal.Run
public import Idealize.ShloMosaic.Lib.Pointwise
public import Idealize.ShloMosaic.Lib.Pipeline.ValueKit.Tiles
public import Idealize.ShloMosaic.Adequacy

@[expose] public section

set_option maxRecDepth 16384

noncomputable section

namespace Cert.Ending

open Idealize.ShloMosaic
open Idealize.ShloMosaic.TcCoe
open Idealize.SL.Sem

theorem eq_ix2 {n0 n1 : ℕ} (i : (⟨2, ![n0, n1]⟩ : Shape).Idx) : i = ix2 (i 0) (i 1) := by
  refine funext fun j => ?_
  fin_cases j <;> rfl

section

open Cert.Reference11Ideal Cert.Reference11Ideal.Gen

theorem ref_at (x : FVec Ideal S8192x1024 .bf16) (h : FVec Ideal S8192x1024 .f32) (w : FVec Ideal S1024x1024 .bf16) (p : Fin 8192) (q : Fin 1024) :
    (addf h (Host.dotGeneral dot_S8192x1024_S1024x1024_S8192x1024_1_0_0_1_n_n none (extf .f32 x bitsLt_bf16_f32) (extf .f32 w bitsLt_bf16_f32)) : FVec Ideal S8192x1024 .f32) (ix2 p q)
      = h (ix2 p q) + ∑ j : Fin 1024, x (ix2 p j) * w (ix2 j q) := by
  pointwise

end

open Cert.Kernel11Ideal Cert.Kernel11Ideal.Gen

section

theorem pay1_at (x : FVec Ideal S512x1024 .bf16) (w : FVec Ideal S1024x512 .bf16) (h : FVec Ideal S512x512 .f32) (a e : Fin 512) :
    k0_pay1 (F := Ideal) x w h (ix2 a e) = h (ix2 a e) + ∑ j : Fin 1024, x (ix2 a j) * w (ix2 j e) := by
  pointwise [k0_pay1]

theorem pay2_at (x : FVec Ideal S512x1024 .bf16) (w : FVec Ideal S1024x512 .bf16) (h : FVec Ideal S512x512 .f32) (a e : Fin 512) :
    k0_pay2 (F := Ideal) x w h (ix2 a e) = h (ix2 a e) + ∑ j : Fin 1024, x (ix2 a j) * w (ix2 j e) := by
  pointwise [k0_pay2]

variable (x0 : Vec Ideal S512x1024 .bf16) (x1 : Vec Ideal S512x1024 .f32) (x2 : Vec Ideal S1024x1024 .bf16)

theorem ld_x : View.ld x0 r0_0 = x0 := View.ld_unit_zero (by funext a; fin_cases a <;> rfl) _ x0

theorem ld_h (o : ℕ) (inb : ∀ a, (![0, o] : Fin 2 → ℕ) a + S512x512.size a ≤ S512x1024.size a) (a : Fin 512) (e : Fin 1024) (q : Fin 512) (h : e.val = o + q.val) :
    View.ld x1 (Rect.unit (s := S512x1024) ![0, o] S512x512.size inb) (ix2 a q) = x1 (ix2 a e) :=
  View.ld_unit_apply_of x1 _ _ inb (ix2 a q) (ix2 a e) (fun b => match b with | ⟨0, _⟩ => (Nat.zero_add _).symm | ⟨1, _⟩ => h)

theorem ld_w (o : ℕ) (inb : ∀ a, (![0, o] : Fin 2 → ℕ) a + S1024x512.size a ≤ S1024x1024.size a) (j : Fin 1024) (e : Fin 1024) (q : Fin 512) (h : e.val = o + q.val) :
    View.ld x2 (Rect.unit (s := S1024x1024) ![0, o] S1024x512.size inb) (ix2 j q) = x2 (ix2 j e) :=
  View.ld_unit_apply_of x2 _ _ inb (ix2 j q) (ix2 j e) (fun b => match b with | ⟨0, _⟩ => (Nat.zero_add _).symm | ⟨1, _⟩ => h)

theorem piece (pay : Vec Ideal S512x1024 .bf16 → Vec Ideal S1024x512 .bf16 → Vec Ideal S512x512 .f32 → FVec Ideal S512x512 .f32)
    (hpay : ∀ (x : FVec Ideal S512x1024 .bf16) (w : FVec Ideal S1024x512 .bf16) (h : FVec Ideal S512x512 .f32) (a e : Fin 512), pay x w h (ix2 a e) = h (ix2 a e) + ∑ j : Fin 1024, x (ix2 a j) * w (ix2 j e))
    (o : ℕ) (inh : ∀ a, (![0, o] : Fin 2 → ℕ) a + S512x512.size a ≤ S512x1024.size a) (inw : ∀ a, (![0, o] : Fin 2 → ℕ) a + S1024x512.size a ≤ S1024x1024.size a) (a : Fin 512) (e : Fin 1024) :
    View.TileAt (S := S512x1024) (Val := Elt Ideal) (e := .f32) (ix2 a e) ![0, o] S512x512.size
      (pay (View.ld x0 r0_0) (View.ld x2 (Rect.unit (s := S1024x1024) ![0, o] S1024x512.size inw)) (View.ld x1 (Rect.unit (s := S512x1024) ![0, o] S512x512.size inh)))
      (x1 (ix2 a e) + ∑ j : Fin 1024, x0 (ix2 a j) * x2 (ix2 j e)) := by
  intro x hx
  obtain ⟨p, q, rfl⟩ : ∃ (p q : Fin 512), x = ix2 p q := ⟨x 0, x 1, eq_ix2 x⟩
  obtain rfl : p = a := Fin.ext ((hx 0).trans (Nat.zero_add _)).symm
  have h : e.val = o + q.val := hx 1
  rw [hpay, ld_x, ld_h x1 o inh p e q h]
  simp only [ld_w x2 o inw _ e q h]

theorem out3_at (a : Fin 512) (e : Fin 1024) : out0_3 x0 x1 x2 (ix2 a e) = x1 (ix2 a e) + ∑ j : Fin 1024, x0 (ix2 a j) * x2 (ix2 j e) := by
  unfold out0_3
  refine View.canon_eq_of_allAt _ _ _ (cover0_3 _ _ _) ?_
  refine View.allAt_cons_unit _ _ _ _ _ (piece x0 x1 x2 (k0_pay2 (F := Ideal)) pay2_at 512 _ _ a e) ?_
  refine View.allAt_cons_unit _ _ _ _ _ (piece x0 x1 x2 (k0_pay1 (F := Ideal)) pay1_at 0 _ _ a e) ?_
  exact View.allAt_nil _ _

end

variable (m : (ℓ : Loc nD τ sig) → Buf (Elt Ideal) ℓ) (c : Dev nD)

abbrev x0 : FVec Ideal S8192x1024 .bf16 := m ((c.tc : Thread nD τ).loc main_arg0)
abbrev h0 : FVec Ideal S8192x1024 .f32 := m ((c.tc : Thread nD τ).loc main_arg1)
abbrev w0 : FVec Ideal S1024x1024 .bf16 := m ((c.tc : Thread nD τ).loc main_arg2)

theorem index0 : ∀ t : Fin cfg0.N, win0_0.index t = ![t.val, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![t.val, 0] := (by decide +kernel : ∀ t : Fin grid0.N, _)

/-- Row `a` of block `t`. -/
def row (t : Fin cfg0.N) (a : Fin 512) : Fin 8192 :=
  ⟨512 * t.val + a.val, by have := lt_of_lt_of_eq t.isLt N_0; omega⟩

theorem blk0_at (t : Fin cfg0.N) (a : Fin 512) (j : Fin 1024) : iblk m c 0 t (ix2 a j) = x0 m c (ix2 (row t a) j) := by
  show V m c main_arg0 (((cfg0.win 0).blk t).view.emb (ix2 a j)) = _
  rw [V_main_arg0]
  refine congrArg (x0 m c) (funext fun b => Fin.ext ?_)
  have h0 : win0_0.index t (0 : Fin 2) = t.val := congrFun (index0 t) 0
  have h1 : win0_0.index t (1 : Fin 2) = 0 := congrFun (index0 t) 1
  match b with
  | ⟨0, _⟩ => show win0_0.index t (0 : Fin 2) * 512 + 1 * a.val = 512 * t.val + a.val; rw [h0]; omega
  | ⟨1, _⟩ => show win0_0.index t (1 : Fin 2) * 1024 + 1 * j.val = j.val; rw [h1]; omega

theorem blk1_at (t : Fin cfg0.N) (a : Fin 512) (j : Fin 1024) : iblk m c 1 t (ix2 a j) = h0 m c (ix2 (row t a) j) := by
  show V m c main_arg1 (((cfg0.win 1).blk t).view.emb (ix2 a j)) = _
  rw [V_main_arg1]
  refine congrArg (h0 m c) (funext fun b => Fin.ext ?_)
  have h0 : win0_1.index t (0 : Fin 2) = t.val := congrFun (index1 t) 0
  have h1 : win0_1.index t (1 : Fin 2) = 0 := congrFun (index1 t) 1
  match b with
  | ⟨0, _⟩ => show win0_1.index t (0 : Fin 2) * 512 + 1 * a.val = 512 * t.val + a.val; rw [h0]; omega
  | ⟨1, _⟩ => show win0_1.index t (1 : Fin 2) * 1024 + 1 * j.val = j.val; rw [h1]; omega

theorem blk2_at (t : Fin cfg0.N) (a : Fin 1024) (j : Fin 1024) : iblk m c 2 t (ix2 a j) = w0 m c (ix2 a j) := by
  show V m c main_arg2 (((cfg0.win 2).blk t).view.emb (ix2 a j)) = _
  rw [V_main_arg2]
  refine congrArg (w0 m c) (funext fun b => Fin.ext ?_)
  have h0 : win0_2.index t (0 : Fin 2) = 0 := congrFun (index2 t) 0
  have h1 : win0_2.index t (1 : Fin 2) = 0 := congrFun (index2 t) 1
  match b with
  | ⟨0, _⟩ => show win0_2.index t (0 : Fin 2) * 1024 + 1 * a.val = a.val; rw [h0]; omega
  | ⟨1, _⟩ => show win0_2.index t (1 : Fin 2) * 1024 + 1 * j.val = j.val; rw [h1]; omega

def G3 : FVec Ideal S8192x1024 .f32 := fun i => (h0 m c) (ix2 (i 0) (i 1)) + ∑ j : Fin 1024, (x0 m c) (ix2 (i 0) j) * (w0 m c) (ix2 j (i 1))

theorem out3_blk (t : Fin cfg0.N) (a : Fin 512) (e : Fin 1024) :
    out0_3 (iblk m c 0 t) (iblk m c 1 t) (iblk m c 2 t) (ix2 a e) = G3 m c (ix2 (row t a) e) := by
  refine (out3_at _ _ _ a e).trans ?_
  show _ = (h0 m c) (ix2 (row t a) e) + ∑ j : Fin 1024, (x0 m c) (ix2 (row t a) j) * (w0 m c) (ix2 j e)
  simp only [blk0_at, blk1_at, blk2_at]

theorem emb3 (t : Fin cfg0.N) (a : Fin 512) (e : Fin 1024) : ((cfg0.win 3).blk t).view.emb (ix2 a e) = (ix2 (row t a) e : S8192x1024.Idx) := by
  refine funext fun b => Fin.ext ?_
  have h0 : win0_3.index t (0 : Fin 2) = t.val := congrFun (index3 t) 0
  have h1 : win0_3.index t (1 : Fin 2) = 0 := congrFun (index3 t) 1
  match b with
  | ⟨0, _⟩ => show win0_3.index t (0 : Fin 2) * 512 + 1 * a.val = 512 * t.val + a.val; rw [h0]; omega
  | ⟨1, _⟩ => show win0_3.index t (1 : Fin 2) * 1024 + 1 * e.val = e.val; rw [h1]; omega

theorem flushed3 (t : Fin cfg0.N) : (dats m 0 c).flushed 3 t = ((cfg0.win 3).blk t).view.read (Elt Ideal) (G3 m c) := by
  rw [Value.flushed3]
  funext y
  obtain ⟨a, e, rfl⟩ : ∃ (a : Fin 512) (e : Fin 1024), y = ix2 a e := ⟨y 0, y 1, eq_ix2 y⟩
  show out0_3 (iblk m c 0 t) (iblk m c 1 t) (iblk m c 2 t) (ix2 a e) = G3 m c (((cfg0.win 3).blk t).view.emb (ix2 a e))
  rw [out3_blk, emb3]

theorem mem_blk3 (t : Fin cfg0.N) (i : S8192x1024.Idx) :
    i ∈ ((cfg0.win 3).blk t).view.set ↔ ∀ a : Fin 2, win0_3.index t a * S512x1024.size a ≤ (i a).val ∧ (i a).val < win0_3.index t a * S512x1024.size a + S512x1024.size a := by
  show i ∈ ((View.whole main_v0).slice (win0_3.rect t)).set ↔ _
  rw [View.set_slice_whole, Rect.mem_set_unit]
  exact Iff.rfl

theorem flush3 : ∀ t : Fin cfg0.N, (cfg0.win 3).flush t = true := (by decide +kernel : ∀ t : Fin grid0.N, _)

theorem final3 : (dats m 0 c).arrAt 3 cfg0.N = G3 m c :=
  (dats m 0 c).arrAt_eq_of_cover 3 _ (fun t _ => flushed3 m c t) (fun i => by
    have h0 : (i 0).val < 8192 := (i 0).isLt
    have h1 : (i 1).val < 1024 := (i 1).isLt
    have hk : (i 0).val / 512 < cfg0.N := lt_of_lt_of_eq (by omega : (i 0).val / 512 < 16) N_0.symm
    refine ⟨⟨(i 0).val / 512, hk⟩, flush3 _, ?_⟩
    rw [mem_blk3]
    intro a
    have e0 : win0_3.index ⟨(i 0).val / 512, hk⟩ (0 : Fin 2) = (i 0).val / 512 := congrFun (index3 _) 0
    have e1 : win0_3.index ⟨(i 0).val / 512, hk⟩ (1 : Fin 2) = 0 := congrFun (index3 _) 1
    match a with
    | ⟨0, _⟩ => show win0_3.index _ (0 : Fin 2) * 512 ≤ (i 0).val ∧ (i 0).val < win0_3.index _ (0 : Fin 2) * 512 + 512; rw [e0]; omega
    | ⟨1, _⟩ => show win0_3.index _ (1 : Fin 2) * 1024 ≤ (i 1).val ∧ (i 1).val < win0_3.index _ (1 : Fin 2) * 1024 + 1024; rw [e1]; omega)

theorem frame : Cert.quiescent_Kernel11Ideal := fun m ρ _ => Cert.Kernel11Ideal.Gen.frame m ρ

theorem frame_reference : Cert.quiescent_Reference11Ideal := fun m ρ _ =>
  (θ_run Cert.Reference11Ideal.defs _ _).mono (fun r h => ⟨fun c => (h c).2, Idealize.ShloMosaic.sem_eq_zero_of_no_sems (by decide) r.2⟩)
    (Cert.Reference11Ideal.Value.run (F := Ideal) m ρ)

theorem algebraic : Cert.algebraic_Kernel11Ideal_Reference11Ideal := by
  intro m g m' g' _ hag
  refine ⟨fun c => G3 m c,
    (θ_run Cert.Kernel11Ideal.defs _ _).mono (fun r h c => ⟨(h c).1.trans (final3 m c), (h c).2⟩) (Value.run_blocks (F := Ideal) m g),
    (θ_run Cert.Reference11Ideal.defs _ _).mono (fun r h c => ⟨(h c).1.trans ?_, (h c).2⟩) (Cert.Reference11Ideal.Value.run (F := Ideal) m' g')⟩
  · rw [(hag c).1, (hag c).2.1, (hag c).2.2]
    refine funext fun i => ?_
    obtain ⟨p, q, rfl⟩ : ∃ (p : Fin 8192) (q : Fin 1024), i = ix2 p q := ⟨i 0, i 1, eq_ix2 i⟩
    exact ref_at (x0 m c) (h0 m c) (w0 m c) p q

end Cert.Ending
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Gen.Pre_finite
public import proofs.«01_k».proof.Proof.Gen.ReferenceIdeal.Run
public import proofs.«01_k».proof.Proof.Gen.Pre_finite2
public import proofs.«01_k».proof.Proof.Gen.Kernel3
public import proofs.«01_k».proof.Proof.Gen.Kernel3.Skeleton
public import proofs.«01_k».proof.Proof.Gen.Kernel3.Launch
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.FlashP.Final
public import proofs.«01_k».proof.Proof.Flash.Final
public import proofs.«01_k».proof.Proof.Value.Results
public import proofs.«01_k».proof.Proof.Gate.Value
public import proofs.«01_k».proof.Proof.Weight.Value
public import proofs.«01_k».proof.Proof.First.Value
public import proofs.«01_k».proof.Proof.Project.Inputs
public import proofs.«01_k».proof.Proof.Project.Branch
public import proofs.«01_k».proof.Proof.Project.BranchGrad
public import proofs.«01_k».proof.Proof.Block.Outward
public import proofs.«01_k».proof.Proof.Block.Merge
public import proofs.«01_k».proof.Proof.Block.Ending
public import proofs.«01_k».proof.Proof.Gen.Kernel5
public import proofs.«01_k».proof.Proof.Gen.Kernel5.Skeleton
public import proofs.«01_k».proof.Proof.Gen.Kernel5.Launch
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel9
public import proofs.«01_k».proof.Proof.Gen.Kernel9.Skeleton
public import proofs.«01_k».proof.Proof.Gen.Kernel9.Launch
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10.Skeleton
public import proofs.«01_k».proof.Proof.Gen.Kernel10.Launch
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Kernel11
public import proofs.«01_k».proof.Proof.Gen.Kernel11.Skeleton
public import proofs.«01_k».proof.Proof.Gen.Kernel11.Launch
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Frame
public import proofs.«01_k».proof.Proof.Gen.Reference4Ideal
public import proofs.«01_k».proof.Proof.Gen.Reference4Ideal.Run
public import Idealize.ShloMosaic.Adequacy
public import Idealize.ShloMosaic.Init

@[expose] public section

noncomputable section

namespace Cert.Proof

open Idealize.ShloMosaic Idealize.SL.Sem Cert.Kernel

theorem frame_kernel : Cert.quiescent_Kernel := fun m ρ _ =>
  (θ_run Cert.Kernel.defs _ _).mono (fun r h => ⟨fun c => Cert.FlashP.args_kept m r h c, h.2⟩) (Cert.FlashP.run_main (F := Bits) m ρ)

theorem frame_kernelIdeal : Cert.quiescent_KernelIdeal := fun m ρ _ =>
  (θ_run Cert.KernelIdeal.defs _ _).mono (fun r h => ⟨fun c => Cert.Flash.args_kept m r h c, h.2⟩) (Cert.Flash.run_main (F := Ideal) m ρ)

theorem frame_reference : Cert.quiescent_ReferenceIdeal := fun m ρ _ =>
  (θ_run Cert.ReferenceIdeal.defs _ _).mono (fun r h => ⟨fun c => (h c).2.2.2, Idealize.ShloMosaic.sem_eq_zero_of_no_sems (by decide) r.2⟩)
    (Cert.ReferenceIdeal.Value.run (F := Ideal) m ρ)

theorem claim : Cert.Claim := ⟨Cert.Kernel.Gen.facts, Cert.KernelIdeal.Gen.facts, Cert.ReferenceIdeal.Gen.facts, Cert.Kernel2.Gen.facts, Cert.Kernel2Ideal.Gen.facts,
  Cert.Reference2Ideal.Gen.facts, Cert.Kernel3.Gen.facts, Cert.Kernel3Ideal.Gen.facts, Cert.Reference3Ideal.Gen.facts,
  Cert.Kernel4.Gen.facts, Cert.Kernel4Ideal.Gen.facts, Cert.Reference4Ideal.Gen.facts, Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Pre_finite.Gen.facts, Cert.Pre_finite2.Gen.facts,
  frame_kernel, frame_kernelIdeal, fun m ρ _ => frame_kernelIdeal m ρ trivial, frame_reference, fun m ρ _ => frame_reference m ρ trivial,
  fun m ρ _ => Cert.Kernel2.Gen.frame m ρ, Cert.Gate.frame, fun m ρ _ => Cert.Gate.frame m ρ trivial, Cert.Gate.frame_reference, fun m ρ _ => Cert.Gate.frame_reference m ρ trivial,
  fun m ρ _ => Cert.Kernel3.Gen.frame m ρ, Cert.Weight.frame, Cert.Weight.frame_reference,
  fun m ρ _ => Cert.Kernel4.Gen.frame m ρ, Cert.First.frame, Cert.First.frame_reference,
  fun m ρ _ => Cert.Kernel5.Gen.frame m ρ, Cert.Inputs.frame, Cert.Inputs.frame_reference,
  fun m ρ _ => Cert.Kernel6.Gen.frame m ρ, Cert.Branch.frame, Cert.Branch.frame_reference,
  fun m ρ _ => Cert.Kernel7.Gen.frame m ρ, Cert.BranchGrad.frame, Cert.BranchGrad.frame_reference,
  fun m ρ _ => Cert.Kernel9.Gen.frame m ρ, Cert.Outward.frame, Cert.Outward.frame_reference,
  fun m ρ _ => Cert.Kernel10.Gen.frame m ρ, Cert.Merge.frame, Cert.Merge.frame_reference,
  fun m ρ _ => Cert.Kernel11.Gen.frame m ρ, Cert.Ending.frame, Cert.Ending.frame_reference,
  trivial, Cert.Flash.algebraic, trivial, Cert.Gate.algebraic, trivial, Cert.Weight.algebraic, trivial, Cert.First.algebraic,
  trivial, Cert.Inputs.algebraic, trivial, Cert.Branch.algebraic, trivial, Cert.BranchGrad.algebraic,
  trivial, Cert.Outward.algebraic, trivial, Cert.Merge.algebraic, trivial, Cert.Ending.algebraic⟩

end Cert.Proof

end
